-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mix [hPre_finite_mix : Cert.Pre_finite_mix.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mix [hPre_finite_mix : Cert.Pre_finite_mix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attn [hPre_finite_attn : Cert.Pre_finite_attn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attn [hPre_finite_attn : Cert.Pre_finite_attn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mlp [hPre_finite_mlp : Cert.Pre_finite_mlp.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mlp [hPre_finite_mlp : Cert.Pre_finite_mlp.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inp [hPre_finite_inp : Cert.Pre_finite_inp.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.2.1 = (fun _ => 1#1)
    ∧ (Cert.Pre_finite_inp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inp [hPre_finite_inp : Cert.Pre_finite_inp.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.2.1 = (fun _ => 1#1)
    ∧ (Cert.Pre_finite_inp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_mix [hKernelIdeal : Cert.KernelIdeal.Facts] [hPre_finite_mix : Cert.Pre_finite_mix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_mix [hReferenceIdeal : Cert.ReferenceIdeal.Facts] [hPre_finite_mix : Cert.Pre_finite_mix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_attn [hKernel2Ideal : Cert.Kernel2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_attn [hReference2Ideal : Cert.Reference2Ideal.Facts] [hPre_finite_attn : Cert.Pre_finite_attn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_mlp [hKernel3Ideal : Cert.Kernel3Ideal.Facts] [hPre_finite_mlp : Cert.Pre_finite_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mlp m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_mlp [hReference3Ideal : Cert.Reference3Ideal.Facts] [hPre_finite_mlp : Cert.Pre_finite_mlp.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mlp m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite_inp [hKernel4Ideal : Cert.Kernel4Ideal.Facts] [hPre_finite_inp : Cert.Pre_finite_inp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inp m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite_inp [hReference4Ideal : Cert.Reference4Ideal.Facts] [hPre_finite_inp : Cert.Pre_finite_inp.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inp m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite_mix [hKernelIdeal : Cert.KernelIdeal.Facts] [hReferenceIdeal : Cert.ReferenceIdeal.Facts] [hPre_finite_mix : Cert.Pre_finite_mix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)) (v6 : (c : Dev Cert.KernelIdeal.nD) → Buf (Elt Ideal) ((c.tc : Thread Cert.KernelIdeal.nD Cert.KernelIdeal.τ).loc Cert.KernelIdeal.main_v11_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_v11_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_v141) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  IdealRules.named_const.Statement Cert.Kernel2Ideal.κ "mask" .f32 0xF149F2CA#32 ⊥

def algebraic_Kernel2Ideal_Reference2Ideal_pre_finite_attn [hKernel2Ideal : Cert.Kernel2Ideal.Facts] [hReference2Ideal : Cert.Reference2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v85_0)) (v1 : (c : Dev Cert.Kernel2Ideal.nD) → Buf (Elt Ideal) ((c.tc : Thread Cert.Kernel2Ideal.nD Cert.Kernel2Ideal.τ).loc Cert.Kernel2Ideal.main_v85_1)) (v2 : (c : Dev Cert.Kernel2Ideal.nD) → Buf (Elt Ideal) ((c.tc : Thread Cert.Kernel2Ideal.nD Cert.Kernel2Ideal.τ).loc Cert.Kernel2Ideal.main_v85_2)) (v3 : (c : Dev Cert.Kernel2Ideal.nD) → Buf (Elt Ideal) ((c.tc : Thread Cert.Kernel2Ideal.nD Cert.Kernel2Ideal.τ).loc Cert.Kernel2Ideal.main_v85_3)) (v4 : (c : Dev Cert.Kernel2Ideal.nD) → Buf (Elt Ideal) ((c.tc : Thread Cert.Kernel2Ideal.nD Cert.Kernel2Ideal.τ).loc Cert.Kernel2Ideal.main_v85_4)) (v5 : (c : Dev Cert.Kernel2Ideal.nD) → Buf (Elt Ideal) ((c.tc : Thread Cert.Kernel2Ideal.nD Cert.Kernel2Ideal.τ).loc Cert.Kernel2Ideal.main_v85_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v85_0) = v0 c
          ∧ r.2.mem ((c.tc : Thread Cert.Kernel2Ideal.nD Cert.Kernel2Ideal.τ).loc Cert.Kernel2Ideal.main_v85_1) = v1 c
          ∧ r.2.mem ((c.tc : Thread Cert.Kernel2Ideal.nD Cert.Kernel2Ideal.τ).loc Cert.Kernel2Ideal.main_v85_2) = v2 c
          ∧ r.2.mem ((c.tc : Thread Cert.Kernel2Ideal.nD Cert.Kernel2Ideal.τ).loc Cert.Kernel2Ideal.main_v85_3) = v3 c
          ∧ r.2.mem ((c.tc : Thread Cert.Kernel2Ideal.nD Cert.Kernel2Ideal.τ).loc Cert.Kernel2Ideal.main_v85_4) = v4 c
          ∧ r.2.mem ((c.tc : Thread Cert.Kernel2Ideal.nD Cert.Kernel2Ideal.τ).loc Cert.Kernel2Ideal.main_v85_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v138) = v0 c
          ∧ r.2.mem ((c.tc : Thread Cert.Reference2Ideal.nD Cert.Reference2Ideal.τ).loc Cert.Reference2Ideal.main_v142) = v1 c
          ∧ r.2.mem ((c.tc : Thread Cert.Reference2Ideal.nD Cert.Reference2Ideal.τ).loc Cert.Reference2Ideal.main_v146) = v2 c
          ∧ r.2.mem ((c.tc : Thread Cert.Reference2Ideal.nD Cert.Reference2Ideal.τ).loc Cert.Reference2Ideal.main_v150) = v3 c
          ∧ r.2.mem ((c.tc : Thread Cert.Reference2Ideal.nD Cert.Reference2Ideal.τ).loc Cert.Reference2Ideal.main_v154) = v4 c
          ∧ r.2.mem ((c.tc : Thread Cert.Reference2Ideal.nD Cert.Reference2Ideal.τ).loc Cert.Reference2Ideal.main_v156) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_mlp [hKernel3Ideal : Cert.Kernel3Ideal.Facts] [hReference3Ideal : Cert.Reference3Ideal.Facts] [hPre_finite_mlp : Cert.Pre_finite_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mlp m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)) (v5 : (c : Dev Cert.Kernel3Ideal.nD) → Buf (Elt Ideal) ((c.tc : Thread Cert.Kernel3Ideal.nD Cert.Kernel3Ideal.τ).loc Cert.Kernel3Ideal.main_v9_5)) (v6 : (c : Dev Cert.Kernel3Ideal.nD) → Buf (Elt Ideal) ((c.tc : Thread Cert.Kernel3Ideal.nD Cert.Kernel3Ideal.τ).loc Cert.Kernel3Ideal.main_v9_6)) (v7 : (c : Dev Cert.Kernel3Ideal.nD) → Buf (Elt Ideal) ((c.tc : Thread Cert.Kernel3Ideal.nD Cert.Kernel3Ideal.τ).loc Cert.Kernel3Ideal.main_v9_7)) (v8 : (c : Dev Cert.Kernel3Ideal.nD) → Buf (Elt Ideal) ((c.tc : Thread Cert.Kernel3Ideal.nD Cert.Kernel3Ideal.τ).loc Cert.Kernel3Ideal.main_v9_8)) (v9 : (c : Dev Cert.Kernel3Ideal.nD) → Buf (Elt Ideal) ((c.tc : Thread Cert.Kernel3Ideal.nD Cert.Kernel3Ideal.τ).loc Cert.Kernel3Ideal.main_v9_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_v9_5) = v5 c
          ∧ r.2.mem ((c.tc : Thread Cert.Kernel3Ideal.nD Cert.Kernel3Ideal.τ).loc Cert.Kernel3Ideal.main_v9_6) = v6 c
          ∧ r.2.mem ((c.tc : Thread Cert.Kernel3Ideal.nD Cert.Kernel3Ideal.τ).loc Cert.Kernel3Ideal.main_v9_7) = v7 c
          ∧ r.2.mem ((c.tc : Thread Cert.Kernel3Ideal.nD Cert.Kernel3Ideal.τ).loc Cert.Kernel3Ideal.main_v9_8) = v8 c
          ∧ r.2.mem ((c.tc : Thread Cert.Kernel3Ideal.nD Cert.Kernel3Ideal.τ).loc Cert.Kernel3Ideal.main_v9_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v148) = v0 c
          ∧ r.2.mem ((c.tc : Thread Cert.Reference3Ideal.nD Cert.Reference3Ideal.τ).loc Cert.Reference3Ideal.main_v149) = v1 c
          ∧ r.2.mem ((c.tc : Thread Cert.Reference3Ideal.nD Cert.Reference3Ideal.τ).loc Cert.Reference3Ideal.main_v150) = v2 c
          ∧ r.2.mem ((c.tc : Thread Cert.Reference3Ideal.nD Cert.Reference3Ideal.τ).loc Cert.Reference3Ideal.main_v151) = v3 c
          ∧ r.2.mem ((c.tc : Thread Cert.Reference3Ideal.nD Cert.Reference3Ideal.τ).loc Cert.Reference3Ideal.main_v152) = v4 c
          ∧ r.2.mem ((c.tc : Thread Cert.Reference3Ideal.nD Cert.Reference3Ideal.τ).loc Cert.Reference3Ideal.main_v153) = v5 c
          ∧ r.2.mem ((c.tc : Thread Cert.Reference3Ideal.nD Cert.Reference3Ideal.τ).loc Cert.Reference3Ideal.main_v155) = v6 c
          ∧ r.2.mem ((c.tc : Thread Cert.Reference3Ideal.nD Cert.Reference3Ideal.τ).loc Cert.Reference3Ideal.main_v97) = v7 c
          ∧ r.2.mem ((c.tc : Thread Cert.Reference3Ideal.nD Cert.Reference3Ideal.τ).loc Cert.Reference3Ideal.main_v125) = v8 c
          ∧ r.2.mem ((c.tc : Thread Cert.Reference3Ideal.nD Cert.Reference3Ideal.τ).loc Cert.Reference3Ideal.main_v147) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_inp [hKernel4Ideal : Cert.Kernel4Ideal.Facts] [hReference4Ideal : Cert.Reference4Ideal.Facts] [hPre_finite_inp : Cert.Pre_finite_inp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inp m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v66_0)) (v1 : (c : Dev Cert.Kernel4Ideal.nD) → Buf (Elt Ideal) ((c.tc : Thread Cert.Kernel4Ideal.nD Cert.Kernel4Ideal.τ).loc Cert.Kernel4Ideal.main_v66_1)) (v2 : (c : Dev Cert.Kernel4Ideal.nD) → Buf (Elt Ideal) ((c.tc : Thread Cert.Kernel4Ideal.nD Cert.Kernel4Ideal.τ).loc Cert.Kernel4Ideal.main_v66_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v66_0) = v0 c
          ∧ r.2.mem ((c.tc : Thread Cert.Kernel4Ideal.nD Cert.Kernel4Ideal.τ).loc Cert.Kernel4Ideal.main_v66_1) = v1 c
          ∧ r.2.mem ((c.tc : Thread Cert.Kernel4Ideal.nD Cert.Kernel4Ideal.τ).loc Cert.Kernel4Ideal.main_v66_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v190) = v0 c
          ∧ r.2.mem ((c.tc : Thread Cert.Reference4Ideal.nD Cert.Reference4Ideal.τ).loc Cert.Reference4Ideal.main_v191) = v1 c
          ∧ r.2.mem ((c.tc : Thread Cert.Reference4Ideal.nD Cert.Reference4Ideal.τ).loc Cert.Reference4Ideal.main_v189) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_mix : Cert.Pre_finite_mix.Facts) (hPre_finite_attn : Cert.Pre_finite_attn.Facts) (hPre_finite_mlp : Cert.Pre_finite_mlp.Facts) (hPre_finite_inp : Cert.Pre_finite_inp.Facts),
    quiescent_Kernel (hKernel := hKernel)
    ∧ quiescent_KernelIdeal (hKernelIdeal := hKernelIdeal)
    ∧ quiescent_KernelIdeal_pre_finite_mix (hKernelIdeal := hKernelIdeal) (hPre_finite_mix := hPre_finite_mix)
    ∧ quiescent_ReferenceIdeal (hReferenceIdeal := hReferenceIdeal)
    ∧ quiescent_ReferenceIdeal_pre_finite_mix (hReferenceIdeal := hReferenceIdeal) (hPre_finite_mix := hPre_finite_mix)
    ∧ quiescent_Kernel2 (hKernel2 := hKernel2)
    ∧ quiescent_Kernel2Ideal (hKernel2Ideal := hKernel2Ideal)
    ∧ quiescent_Kernel2Ideal_pre_finite_attn (hKernel2Ideal := hKernel2Ideal) (hPre_finite_attn := hPre_finite_attn)
    ∧ quiescent_Reference2Ideal (hReference2Ideal := hReference2Ideal)
    ∧ quiescent_Reference2Ideal_pre_finite_attn (hReference2Ideal := hReference2Ideal) (hPre_finite_attn := hPre_finite_attn)
    ∧ quiescent_Kernel3 (hKernel3 := hKernel3)
    ∧ quiescent_Kernel3Ideal (hKernel3Ideal := hKernel3Ideal)
    ∧ quiescent_Kernel3Ideal_pre_finite_mlp (hKernel3Ideal := hKernel3Ideal) (hPre_finite_mlp := hPre_finite_mlp)
    ∧ quiescent_Reference3Ideal (hReference3Ideal := hReference3Ideal)
    ∧ quiescent_Reference3Ideal_pre_finite_mlp (hReference3Ideal := hReference3Ideal) (hPre_finite_mlp := hPre_finite_mlp)
    ∧ quiescent_Kernel4 (hKernel4 := hKernel4)
    ∧ quiescent_Kernel4Ideal (hKernel4Ideal := hKernel4Ideal)
    ∧ quiescent_Kernel4Ideal_pre_finite_inp (hKernel4Ideal := hKernel4Ideal) (hPre_finite_inp := hPre_finite_inp)
    ∧ quiescent_Reference4Ideal (hReference4Ideal := hReference4Ideal)
    ∧ quiescent_Reference4Ideal_pre_finite_inp (hReference4Ideal := hReference4Ideal) (hPre_finite_inp := hPre_finite_inp)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_mix (hKernelIdeal := hKernelIdeal) (hReferenceIdeal := hReferenceIdeal) (hPre_finite_mix := hPre_finite_mix)
    ∧ preserves_Kernel2_Kernel2Ideal
    ∧ algebraic_Kernel2Ideal_Reference2Ideal_pre_finite_attn (hKernel2Ideal := hKernel2Ideal) (hReference2Ideal := hReference2Ideal) (hPre_finite_attn := hPre_finite_attn)
    ∧ preserves_Kernel3_Kernel3Ideal
    ∧ algebraic_Kernel3Ideal_Reference3Ideal_pre_finite_mlp (hKernel3Ideal := hKernel3Ideal) (hReference3Ideal := hReference3Ideal) (hPre_finite_mlp := hPre_finite_mlp)
    ∧ preserves_Kernel4_Kernel4Ideal
    ∧ algebraic_Kernel4Ideal_Reference4Ideal_pre_finite_inp (hKernel4Ideal := hKernel4Ideal) (hReference4Ideal := hReference4Ideal) (hPre_finite_inp := hPre_finite_inp)
    ∧ preserves_Kernel5_Kernel5Ideal
    ∧ algebraic_Kernel5Ideal_Reference5Ideal (hKernel5Ideal := hKernel5Ideal) (hReference5Ideal := hReference5Ideal)
-- ==== Pre_finite_attn.lean ====
abbrev S8192x512 : Shape := ⟨2, ![8192, 512]⟩
abbrev S8192x128 : Shape := ⟨2, ![8192, 128]⟩
abbrev S1x8 : Shape := ⟨2, ![1, 8]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S1x8 : S_.BroadcastsInDim S1x8 (![] : Fin 0 → Fin S1x8.rank)

variable [Facts]

def fn {F : FTy → Type} [FloatOps F] (main_arg0 : FVec F S8192x512 .f32) (main_arg1 : FVec F S8192x512 .f32) (main_arg2 : FVec F S8192x128 .f32) (main_arg3 : FVec F S8192x128 .f32) (main_arg4 : FVec F S1x8 .f32) : IVec S8192x512 1 × IVec S8192x512 1 × IVec S8192x128 1 × IVec S8192x128 1 × IVec S1x8 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_v12 : FVec F S1x8 .f32 := Host.absf main_arg4
  let main_cst_3 : FVec F S_ .f32 := constant S_ .f32 0x7F800000#32
  let main_v13 : FVec F S1x8 .f32 := broadcastInDim S1x8 ![] bcast_S_S1x8 main_cst_3
  let main_v14 : IVec S1x8 1 := cmpf .olt main_v12 main_v13
  (main_v2, main_v5, main_v8, main_v11, main_v14)
-- ==== Pre_finite_inp.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S1x1024x2304 : Shape := ⟨3, ![1, 1024, 2304]⟩
abbrev S1x3x512 : Shape := ⟨3, ![1, 3, 512]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x2304 : S_.BroadcastsInDim S1x1024x2304 (![] : Fin 0 → Fin S1x1024x2304.rank)
  bcast_S_S1x3x512 : S_.BroadcastsInDim S1x3x512 (![] : Fin 0 → Fin S1x3x512.rank)

variable [Facts]

def fn_part1 {F : FTy → Type} [FloatOps F] (main_arg6 : FVec F S8192x1024 .f32) (main_arg7 : FVec F S1x1024 .f32) (main_arg8 : FVec F S1x1024x2304 .f32) (main_arg9 : FVec F S1x3x512 .f32) (main_v2 : IVec S8192x512 1) (main_v5 : IVec S8192x128 1) (main_v8 : IVec S8192x128 1) (main_v11 : IVec S8192x512 1) (main_v14 : IVec S8192x512 1) (main_v17 : IVec S8192x1024 1) : IVec S8192x512 1 × IVec S8192x128 1 × IVec S8192x128 1 × IVec S8192x512 1 × IVec S8192x512 1 × IVec S8192x1024 1 × IVec S8192x1024 1 × IVec S1x1024 1 × IVec S1x1024x2304 1 × IVec S1x3x512 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024x2304 .f32 := Host.absf main_arg8
  let main_cst_7 : FVec F S_ .f32 := constant S_ .f32 0x7F800000#32
  let main_v25 : FVec F S1x1024x2304 .f32 := broadcastInDim S1x1024x2304 ![] bcast_S_S1x1024x2304 main_cst_7
  let main_v26 : IVec S1x1024x2304 1 := cmpf .olt main_v24 main_v25
  let main_v27 : FVec F S1x3x512 .f32 := Host.absf main_arg9
  let main_cst_8 : FVec F S_ .f32 := constant S_ .f32 0x7F800000#32
  let main_v28 : FVec F S1x3x512 .f32 := broadcastInDim S1x3x512 ![] bcast_S_S1x3x512 main_cst_8
  let main_v29 : IVec S1x3x512 1 := cmpf .olt main_v27 main_v28
  (main_v2, main_v5, main_v8, main_v11, main_v14, main_v17, main_v20, main_v23, main_v26, main_v29)

def fn {F : FTy → Type} [FloatOps F] (main_arg0 : FVec F S8192x512 .f32) (main_arg1 : FVec F S8192x128 .f32) (main_arg2 : FVec F S8192x128 .f32) (main_arg3 : FVec F S8192x512 .f32) (main_arg4 : FVec F S8192x512 .f32) (main_arg5 : FVec F S8192x1024 .f32) (main_arg6 : FVec F S8192x1024 .f32) (main_arg7 : FVec F S1x1024 .f32) (main_arg8 : FVec F S1x1024x2304 .f32) (main_arg9 : FVec F S1x3x512 .f32) : IVec S8192x512 1 × IVec S8192x128 1 × IVec S8192x128 1 × IVec S8192x512 1 × IVec S8192x512 1 × IVec S8192x1024 1 × IVec S8192x1024 1 × IVec S1x1024 1 × IVec S1x1024x2304 1 × IVec S1x3x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_arg7 main_arg8 main_arg9 main_v2 main_v5 main_v8 main_v11 main_v14 main_v17
-- ==== Pre_finite_mix.lean ====
abbrev S8192x1024 : Shape := ⟨2, ![8192, 1024]⟩
abbrev S8192x512 : Shape := ⟨2, ![8192, 512]⟩
abbrev S1x3x512 : Shape := ⟨3, ![1, 3, 512]⟩
abbrev S1x512 : Shape := ⟨2, ![1, 512]⟩
abbrev S1x1024x1024 : Shape := ⟨3, ![1, 1024, 1024]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1x3x512 : S_.BroadcastsInDim S1x3x512 (![] : Fin 0 → Fin S1x3x512.rank)
  bcast_S_S1x512 : S_.BroadcastsInDim S1x512 (![] : Fin 0 → Fin S1x512.rank)
  bcast_S_S1x1024x1024 : S_.BroadcastsInDim S1x1024x1024 (![] : Fin 0 → Fin S1x1024x1024.rank)

variable [Facts]

def fn_part1 {F : FTy → Type} [FloatOps F] (main_arg6 : FVec F S1x512 .f32) (main_arg7 : FVec F S1x512 .f32) (main_arg8 : FVec F S1x1024x1024 .f32) (main_v2 : IVec S8192x1024 1) (main_v5 : IVec S8192x512 1) (main_v8 : IVec S8192x512 1) (main_v11 : IVec S8192x512 1) (main_v14 : IVec S8192x512 1) (main_v17 : IVec S1x3x512 1) : IVec S8192x1024 1 × IVec S8192x512 1 × IVec S8192x512 1 × IVec S8192x512 1 × IVec S8192x512 1 × IVec S1x3x512 1 × IVec S1x512 1 × IVec S1x512 1 × IVec S1x1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x1024x1024 .f32 := Host.absf main_arg8
  let main_cst_7 : FVec F S_ .f32 := constant S_ .f32 0x7F800000#32
  let main_v25 : FVec F S1x1024x1024 .f32 := broadcastInDim S1x1024x1024 ![] bcast_S_S1x1024x1024 main_cst_7
  let main_v26 : IVec S1x1024x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x512 .f32) (main_arg2 : FVec F S8192x512 .f32) (main_arg3 : FVec F S8192x512 .f32) (main_arg4 : FVec F S8192x512 .f32) (main_arg5 : FVec F S1x3x512 .f32) (main_arg6 : FVec F S1x512 .f32) (main_arg7 : FVec F S1x512 .f32) (main_arg8 : FVec F S1x1024x1024 .f32) (main_arg9 : FVec F S8192x4096 .f32) (main_arg10 : FVec F S8192x1024 .f32) : IVec S8192x1024 1 × IVec S8192x512 1 × IVec S8192x512 1 × IVec S8192x512 1 × IVec S8192x512 1 × IVec S1x3x512 1 × IVec S1x512 1 × IVec S1x512 1 × IVec S1x1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S1x3x512 .f32 := Host.absf main_arg5
  let main_cst_4 : FVec F S_ .f32 := constant S_ .f32 0x7F800000#32
  let main_v16 : FVec F S1x3x512 .f32 := broadcastInDim S1x3x512 ![] bcast_S_S1x3x512 main_cst_4
  let main_v17 : IVec S1x3x512 1 := cmpf .olt main_v15 main_v16
  fn_part1 (F := F) main_arg6 main_arg7 main_arg8 main_v2 main_v5 main_v8 main_v11 main_v14 main_v17
-- ==== Pre_finite_mlp.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn_part1 {F : FTy → Type} [FloatOps F] (main_arg6 : FVec F S1x1024x4096 .f32) (main_arg7 : FVec F S1x4096x1024 .f32) (main_v2 : IVec S8192x1024 1) (main_v5 : IVec S8192x1024 1) (main_v8 : IVec S8192x1024 1) (main_v11 : IVec S1x1024 1) (main_v14 : IVec S1x1024 1) (main_v17 : IVec S1x1024 1) : IVec S8192x1024 1 × IVec S8192x1024 1 × IVec S8192x1024 1 × IVec S1x1024 1 × IVec S1x1024 1 × IVec S1x1024 1 × IVec S1x1024x4096 1 × IVec S1x4096x1024 1 :=
  let main_v18 : FVec F S1x1024x4096 .f32 := Host.absf main_arg6
  let main_cst_5 : FVec F S_ .f32 := constant S_ .f32 0x7F800000#32
  let main_v19 : FVec F S1x1024x4096 .f32 := broadcastInDim S1x1024x4096 ![] bcast_S_S1x1024x4096 main_cst_5
  let main_v20 : IVec S1x1024x4096 1 := cmpf .olt main_v18 main_v19
  let main_v21 : FVec F S1x4096x1024 .f32 := Host.absf main_arg7
  let main_cst_6 : FVec F S_ .f32 := constant S_ .f32 0x7F800000#32
  let main_v22 : FVec F S1x4096x1024 .f32 := broadcastInDim S1x4096x1024 ![] bcast_S_S1x4096x1024 main_cst_6
  let main_v23 : IVec S1x4096x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) (main_arg5 : FVec F S1x1024 .f32) (main_arg6 : FVec F S1x1024x4096 .f32) (main_arg7 : FVec F S1x4096x1024 .f32) : IVec S8192x1024 1 × IVec S8192x1024 1 × IVec S8192x1024 1 × IVec S1x1024 1 × IVec S1x1024 1 × IVec S1x1024 1 × IVec S1x1024x4096 1 × IVec S1x4096x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Kernel.lean ====
abbrev S8192x1024 : Shape := ⟨2, ![8192, 1024]⟩
abbrev S8192x512 : Shape := ⟨2, ![8192, 512]⟩
abbrev S1x3x512 : Shape := ⟨3, ![1, 3, 512]⟩
abbrev S1x512 : Shape := ⟨2, ![1, 512]⟩
abbrev S1x1024x1024 : Shape := ⟨3, ![1, 1024, 1024]⟩
abbrev S8192x4096 : Shape := ⟨2, ![8192, 4096]⟩
abbrev S3x512 : Shape := ⟨2, ![3, 512]⟩
abbrev S1024x1024 : Shape := ⟨2, ![1024, 1024]⟩
abbrev S8x128x1024 : Shape := ⟨3, ![8, 128, 1024]⟩
abbrev S4x2x512x1024 : Shape := ⟨4, ![4, 2, 512, 1024]⟩
abbrev S2048x1024 : Shape := ⟨2, ![2048, 1024]⟩
abbrev S512x1024 : Shape := ⟨2, ![512, 1024]⟩
abbrev S512x512 : Shape := ⟨2, ![512, 512]⟩
abbrev S16x512 : Shape := ⟨2, ![16, 512]⟩
abbrev S1x2x512x1024 : Shape := ⟨4, ![1, 2, 512, 1024]⟩
abbrev S512 : Shape := ⟨1, ![512]⟩
abbrev S512x1 : Shape := ⟨2, ![512, 1]⟩
abbrev S528x512 : Shape := ⟨2, ![528, 512]⟩

abbrev nBuf : Space → Nat
  | .hbm => 29
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3x512, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S8192x4096, .f32⟩
  | .hbm, ⟨10, _⟩ => ⟨S8192x1024, .f32⟩
  | .hbm, ⟨11, _⟩ => ⟨S3x512, .f32⟩
  | .hbm, ⟨12, _⟩ => ⟨S1024x1024, .f32⟩
  | .hbm, ⟨13, _⟩ => ⟨S1024x1024, .bf16⟩
  | .hbm, ⟨14, _⟩ => ⟨S8x128x1024, .bf16⟩
  | .hbm, ⟨15, _⟩ => ⟨S8192x4096, .bf16⟩
  | .hbm, ⟨16, _⟩ => ⟨S8192x1024, .bf16⟩
  | .hbm, ⟨17, _⟩ => ⟨S8192x1024, .bf16⟩
  | .hbm, ⟨18, _⟩ => ⟨S8192x512, .bf16⟩
  | .hbm, ⟨19, _⟩ => ⟨S8192x512, .bf16⟩
  | .hbm, ⟨20, _⟩ => ⟨S8192x512, .bf16⟩
  | .hbm, ⟨21, _⟩ => ⟨S8192x512, .bf16⟩
  | .hbm, ⟨22, _⟩ => ⟨S4x2x512x1024, .f32⟩
  | .hbm, ⟨23, _⟩ => ⟨S8192x512, .bf16⟩
  | .hbm, ⟨24, _⟩ => ⟨S8192x512, .bf16⟩
  | .hbm, ⟨25, _⟩ => ⟨S8192x512, .bf16⟩
  | .hbm, ⟨26, _⟩ => ⟨S1x512, .f32⟩
  | .hbm, ⟨27, _⟩ => ⟨S1x512, .f32⟩
  | .hbm, ⟨28, _⟩ => ⟨S3x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S3x512, .f32⟩
  | .local _ .vmem, ⟨19, _⟩ => ⟨S1x512, .f32⟩
  | .local _ .vmem, ⟨20, _⟩ => ⟨S1x512, .f32⟩
  | .local _ .vmem, ⟨21, _⟩ => ⟨S8x128x1024, .bf16⟩
  | .local _ .vmem, ⟨22, _⟩ => ⟨S1x2x512x1024, .f32⟩
  | .local _ .vmem, ⟨23, _⟩ => ⟨S1x2x512x1024, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S1x512, .f32⟩
  | .local _ .vmem, ⟨31, _⟩ => ⟨S1x512, .f32⟩
  | .local _ .vmem, ⟨32, _⟩ => ⟨S3x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x2x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S3x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== ReferenceIdeal.lean ====
abbrev S8192x1024 : Shape := ⟨2, ![8192, 1024]⟩
abbrev S8192x512 : Shape := ⟨2, ![8192, 512]⟩
abbrev S1x3x512 : Shape := ⟨3, ![1, 3, 512]⟩
abbrev S1x512 : Shape := ⟨2, ![1, 512]⟩
abbrev S1x1024x1024 : Shape := ⟨3, ![1, 1024, 1024]⟩
abbrev S8192x4096 : Shape := ⟨2, ![8192, 4096]⟩
abbrev S3x512 : Shape := ⟨2, ![3, 512]⟩
abbrev S_ : Shape := ⟨0, ![]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S1024x1024 : Shape := ⟨2, ![1024, 1024]⟩
abbrev S4096x1024 : Shape := ⟨2, ![4096, 1024]⟩
abbrev S1024x4096 : Shape := ⟨2, ![1024, 4096]⟩
abbrev S4x2x512x1024 : Shape := ⟨4, ![4, 2, 512, 1024]⟩

abbrev nBuf : Space → Nat
  | .hbm => 183
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S1x3x512, .f32⟩
  | 6 => ⟨S1x512, .f32⟩
  | 7 => ⟨S1x512, .f32⟩
  | 8 => ⟨S1x1024x1024, .f32⟩
  | 9 => ⟨S8192x4096, .f32⟩
  | 10 => ⟨S8192x1024, .f32⟩
  | 11 => ⟨S8192x512, .f32⟩
  | 12 => ⟨S3x512, .f32⟩
  | 13 => ⟨S_, .f32⟩
  | 14 => ⟨S2x512, .f32⟩
  | 15 => ⟨S8194x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S1x512, .f32⟩
  | 27 => ⟨S512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S512, .f32⟩
  | 41 => ⟨S8192x512, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x512, .f32⟩
  | 57 => ⟨S8192x512, .f32⟩
  | 58 => ⟨S1x512, .f32⟩
  | 59 => ⟨S8192x512, .f32⟩
  | 60 => ⟨S8192x512, .f32⟩
  | 61 => ⟨S512, .f32⟩
  | 62 => ⟨S8192x512, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x512, .f32⟩
  | 78 => ⟨S8192x512, .f32⟩
  | 79 => ⟨S1x512, .f32⟩
  | 80 => ⟨S8192x512, .f32⟩
  | 81 => ⟨S8192x512, .f32⟩
  | 82 => ⟨S8192x1024, .f32⟩
  | 83 => ⟨S1024x1024, .f32⟩
  | 84 => ⟨S8192x1024, .f32⟩
  | 85 => ⟨S8192x1024, .f32⟩
  | 86 => ⟨S8192x512, .f32⟩
  | 87 => ⟨S8192x512, .f32⟩
  | 88 => ⟨S8192x512, .f32⟩
  | 89 => ⟨S_, .f32⟩
  | 90 => ⟨S512, .f32⟩
  | 91 => ⟨S1x512, .f32⟩
  | 92 => ⟨S8192x512, .f32⟩
  | 93 => ⟨S8192x512, .f32⟩
  | 94 => ⟨S_, .f32⟩
  | 95 => ⟨S512, .f32⟩
  | 96 => ⟨S8192x512, .f32⟩
  | 97 => ⟨S_, .f32⟩
  | 98 => ⟨S8192, .f32⟩
  | 99 => ⟨S8192x1, .f32⟩
  | 100 => ⟨S8192x512, .f32⟩
  | 101 => ⟨S8192x512, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S1x512, .f32⟩
  | 114 => ⟨S8192x512, .f32⟩
  | 115 => ⟨S_, .f32⟩
  | 116 => ⟨S512, .f32⟩
  | 117 => ⟨S1x512, .f32⟩
  | 118 => ⟨S8192x512, .f32⟩
  | 119 => ⟨S8192x512, .f32⟩
  | 120 => ⟨S_, .f32⟩
  | 121 => ⟨S512, .f32⟩
  | 122 => ⟨S8192x512, .f32⟩
  | 123 => ⟨S_, .f32⟩
  | 124 => ⟨S8192, .f32⟩
  | 125 => ⟨S8192x1, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S8192x512, .f32⟩
  | 15 => ⟨S_, .f32⟩
  | 16 => ⟨S512, .f32⟩
  | 17 => ⟨S1x512, .f32⟩
  | 18 => ⟨S_, .f32⟩
  | 19 => ⟨S512, .f32⟩
  | 20 => ⟨S1x512, .f32⟩
  | 21 => ⟨S_, .f32⟩
  | 22 => ⟨S3x512, .f32⟩
  | 23 => ⟨S8192x512, .f32⟩
  | 24 => ⟨S_, .f32⟩
  | 25 => ⟨S512, .f32⟩
  | 26 => ⟨S1x512, .f32⟩
  | 27 => ⟨S_, .f32⟩
  | 28 => ⟨S512, .f32⟩
  | 29 => ⟨S1x512, .f32⟩
  | 30 => ⟨S_, .f32⟩
  | 31 => ⟨S3x512, .f32⟩
  | 32 => ⟨S3x512, .f32⟩
  | 33 => ⟨S8192x512, .f32⟩
  | 34 => ⟨S_, .f32⟩
  | 35 => ⟨S512, .f32⟩
  | 36 => ⟨S1x512, .f32⟩
  | 37 => ⟨S_, .f32⟩
  | 38 => ⟨S512, .f32⟩
  | 39 => ⟨S1x512, .f32⟩
  | 40 => ⟨S_, .f32⟩
  | 41 => ⟨S3x512, .f32⟩
  | 42 => ⟨S3x512, .f32⟩
  | 43 => ⟨S1x3x512, .f32⟩
  | 44 => ⟨S_, .f32⟩
  | 45 => ⟨S4096x1024, .f32⟩
  | 46 => ⟨S8192x4096, .f32⟩
  | 47 => ⟨S8192x1024, .f32⟩
  | 48 => ⟨S1024x4096, .f32⟩
  | 49 => ⟨S4096x1024, .f32⟩
  | 50 => ⟨S4x2x512x1024, .f32⟩
  | 51 => ⟨S8192x512, .bf16⟩
  | 52 => ⟨S8192x512, .bf16⟩
  | 53 => ⟨S8192x512, .bf16⟩
  | 54 => ⟨S3x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_cst_16 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_17 : Ref sig .tc := ⟨.hbm, 129, rfl⟩
abbrev main_v100 : Ref sig .tc := ⟨.hbm, 130, rfl⟩
abbrev main_v101 : Ref sig .tc := ⟨.hbm, 131, rfl⟩
abbrev main_cst_18 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_19 : Ref sig .tc := ⟨.hbm, 143, rfl⟩
abbrev main_v112 : Ref sig .tc := ⟨.hbm, 144, rfl⟩
abbrev main_v113 : Ref sig .tc := ⟨.hbm, 145, rfl⟩
abbrev main_cst_20 : Ref sig .tc := ⟨.hbm, 146, rfl⟩
abbrev main_v114 : Ref sig .tc := ⟨.hbm, 147, rfl⟩
abbrev main_v115 : Ref sig .tc := ⟨.hbm, 148, rfl⟩
abbrev main_cst_21 : Ref sig .tc := ⟨.hbm, 149, rfl⟩
abbrev main_v116 : Ref sig .tc := ⟨.hbm, 150, rfl⟩
abbrev main_v117 : Ref sig .tc := ⟨.hbm, 151, rfl⟩
abbrev main_cst_22 : Ref sig .tc := ⟨.hbm, 152, rfl⟩
abbrev main_v118 : Ref sig .tc := ⟨.hbm, 153, rfl⟩
abbrev main_v119 : Ref sig .tc := ⟨.hbm, 154, rfl⟩
abbrev main_cst_23 : Ref sig .tc := ⟨.hbm, 155, rfl⟩
abbrev main_v120 : Ref sig .tc := ⟨.hbm, 156, rfl⟩
abbrev main_v121 : Ref sig .tc := ⟨.hbm, 157, rfl⟩
abbrev main_cst_24 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_25 : Ref sig .tc := ⟨.hbm, 162, rfl⟩
abbrev main_v125 : Ref sig .tc := ⟨.hbm, 163, rfl⟩
abbrev main_v126 : Ref sig .tc := ⟨.hbm, 164, rfl⟩
abbrev main_cst_26 : Ref sig .tc := ⟨.hbm, 165, rfl⟩
abbrev main_v127 : Ref sig .tc := ⟨.hbm, 166, rfl⟩
abbrev main_v128 : Ref sig .tc := ⟨.hbm, 167, rfl⟩
abbrev main_cst_27 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_28 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩

abbrev nD : Nat := 1
abbrev τ : Topo := Topo.v7x

variable {F : FTy → Type} [FloatOps F]
-- ==== Kernel2.lean ====
abbrev S8192x512 : Shape := ⟨2, ![8192, 512]⟩
abbrev S8192x128 : Shape := ⟨2, ![8192, 128]⟩
abbrev S1x8 : Shape := ⟨2, ![1, 8]⟩
abbrev S8 : Shape := ⟨1, ![8]⟩
abbrev S64x128x2x4x64 : Shape := ⟨5, ![64, 128, 2, 4, 64]⟩
abbrev S64x128x2x64 : Shape := ⟨4, ![64, 128, 2, 64]⟩
abbrev S_ : Shape := ⟨0, ![]⟩
abbrev S1x128x2x64 : Shape := ⟨4, ![1, 128, 2, 64]⟩
abbrev S65x128x2x64 : Shape := ⟨4, ![65, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩
abbrev S8192x64 : Shape := ⟨2, ![8192, 64]⟩
abbrev S1x128 : Shape := ⟨2, ![1, 128]⟩
abbrev S256x512 : Shape := ⟨2, ![256, 512]⟩
abbrev S512x256 : Shape := ⟨2, ![512, 256]⟩
abbrev S128x128 : Shape := ⟨2, ![128, 128]⟩
abbrev S256x128 : Shape := ⟨2, ![256, 128]⟩
abbrev S512x128 : Shape := ⟨2, ![512, 128]⟩
abbrev S512x1 : Shape := ⟨2, ![512, 1]⟩
abbrev S1x1 : Shape := ⟨2, ![1, 1]⟩
abbrev S512 : Shape := ⟨1, ![512]⟩
abbrev S1 : Shape := ⟨1, ![1]⟩

abbrev nBuf : Space → Nat
  | .hbm => 113
  | .vmem => 17
  | .smem => 1
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x128, .f32⟩
  | .hbm, ⟨3, _⟩ => ⟨S8192x128, .f32⟩
  | .hbm, ⟨4, _⟩ => ⟨S1x8, .f32⟩
  | .hbm, ⟨5, _⟩ => ⟨S8, .f32⟩
  | .hbm, ⟨6, _⟩ => ⟨S64x128x2x4x64, .f32⟩
  | .hbm, ⟨7, _⟩ => ⟨S64x128x2x64, .f32⟩
  | .hbm, ⟨8, _⟩ => ⟨S_, .f32⟩
  | .hbm, ⟨9, _⟩ => ⟨S1x128x2x64, .f32⟩
  | .hbm, ⟨10, _⟩ => ⟨S65x128x2x64, .f32⟩
  | .hbm, ⟨11, _⟩ => ⟨S64x128x2x64, .f32⟩
  | .hbm, ⟨12, _⟩ => ⟨S64x128x2x64, .f32⟩
  | .hbm, ⟨13, _⟩ => ⟨S64x256x2x64, .f32⟩
  | .hbm, ⟨14, _⟩ => ⟨S64x128x2x64, .f32⟩
  | .hbm, ⟨15, _⟩ => ⟨S_, .f32⟩
  | .hbm, ⟨16, _⟩ => ⟨S1x128x2x64, .f32⟩
  | .hbm, ⟨17, _⟩ => ⟨S65x128x2x64, .f32⟩
  | .hbm, ⟨18, _⟩ => ⟨S64x128x2x64, .f32⟩
  | .hbm, ⟨19, _⟩ => ⟨S64x128x2x64, .f32⟩
  | .hbm, ⟨20, _⟩ => ⟨S64x256x2x64, .f32⟩
  | .hbm, ⟨21, _⟩ => ⟨S64x2x256x128x4, .f32⟩
  | .hbm, ⟨22, _⟩ => ⟨S64x2x4x128x256, .f32⟩
  | .hbm, ⟨23, _⟩ => ⟨S_, .f32⟩
  | .hbm, ⟨24, _⟩ => ⟨S64x2x4x128x256, .f32⟩
  | .hbm, ⟨25, _⟩ => ⟨S64x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S64, .i32⟩
  | .hbm, ⟨44, _⟩ => ⟨S64x1x1, .i32⟩
  | .hbm, ⟨45, _⟩ => ⟨S_, .i32⟩
  | .hbm, ⟨46, _⟩ => ⟨S64x1x1, .i32⟩
  | .hbm, ⟨47, _⟩ => ⟨S64x1x1, .i32⟩
  | .hbm, ⟨48, _⟩ => ⟨S_, .i32⟩
  | .hbm, ⟨49, _⟩ => ⟨S64x1x1, .i32⟩
  | .hbm, ⟨50, _⟩ => ⟨S64x1x1, .i32⟩
  | .hbm, ⟨51, _⟩ => ⟨S1x1x256, .i32⟩
  | .hbm, ⟨52, _⟩ => ⟨S64x1x256, .i32⟩
  | .hbm, ⟨53, _⟩ => ⟨S64x1x256, .i32⟩
  | .hbm, ⟨54, _⟩ => ⟨S64x1x256, .i32⟩
  | .hbm, ⟨55, _⟩ => ⟨S1x128x256, .i1⟩
  | .hbm, ⟨56, _⟩ => ⟨S_, .i32⟩
  | .hbm, ⟨57, _⟩ => ⟨S64x1x256, .i32⟩
  | .hbm, ⟨58, _⟩ => ⟨S64x1x256, .i1⟩
  | .hbm, ⟨59, _⟩ => ⟨S64x128x256, .i1⟩
  | .hbm, ⟨60, _⟩ => ⟨S64x128x256, .i1⟩
  | .hbm, ⟨61, _⟩ => ⟨S64x128x256, .i1⟩
  | .hbm, ⟨62, _⟩ => ⟨S64x1x1x128x256, .i1⟩
  | .hbm, ⟨63, _⟩ => ⟨S_, .f32⟩
  | .hbm, ⟨64, _⟩ => ⟨S_, .f32⟩
  | .hbm, ⟨65, _⟩ => ⟨S64x2x4x128x256, .i1⟩
  | .hbm, ⟨66, _⟩ => ⟨S64x2x4x128x256, .f32⟩
  | .hbm, ⟨67, _⟩ => ⟨S64x2x4x128x256, .f32⟩
  | .hbm, ⟨68, _⟩ => ⟨S1x2x4x1x1, .f32⟩
  | .hbm, ⟨69, _⟩ => ⟨S64x2x4x128x1, .f32⟩
  | .hbm, ⟨70, _⟩ => ⟨S64x2x4x128x257, .f32⟩
  | .hbm, ⟨71, _⟩ => ⟨S_, .f32⟩
  | .hbm, ⟨72, _⟩ => ⟨S64x2x4x128, .f32⟩
  | .hbm, ⟨73, _⟩ => ⟨S_, .f32⟩
  | .hbm, ⟨74, _⟩ => ⟨S64x2x4x128, .f32⟩
  | .hbm, ⟨75, _⟩ => ⟨S64x2x4x128, .f32⟩
  | .hbm, ⟨76, _⟩ => ⟨S64x2x4x128x1, .f32⟩
  | .hbm, ⟨77, _⟩ => ⟨S64x2x4x128x257, .f32⟩
  | .hbm, ⟨78, _⟩ => ⟨S64x2x4x128x257, .f32⟩
  | .hbm, ⟨79, _⟩ => ⟨S64x2x4x128x257, .f32⟩
  | .hbm, ⟨80, _⟩ => ⟨S_, .f32⟩
  | .hbm, ⟨81, _⟩ => ⟨S64x2x4x128, .f32⟩
  | .hbm, ⟨82, _⟩ => ⟨S64x2x4x128x1, .f32⟩
  | .hbm, ⟨83, _⟩ => ⟨S64x2x4x128x257, .f32⟩
  | .hbm, ⟨84, _⟩ => ⟨S64x2x4x128x257, .f32⟩
  | .hbm, ⟨85, _⟩ => ⟨S64x2x4x128x256, .f32⟩
  | .hbm, ⟨86, _⟩ => ⟨S64x2x64x4x128, .f32⟩
  | .hbm, ⟨87, _⟩ => ⟨S64x128x2x4x64, .f32⟩
  | .hbm, ⟨88, _⟩ => ⟨S8192x512, .f32⟩
  | .hbm, ⟨89, _⟩ => ⟨S_, .f32⟩
  | .hbm, ⟨90, _⟩ => ⟨S8192x512, .f32⟩
  | .hbm, ⟨91, _⟩ => ⟨S8192x512, .f32⟩
  | .hbm, ⟨92, _⟩ => ⟨S8192x512, .bf16⟩
  | .hbm, ⟨93, _⟩ => ⟨S8192x512, .bf16⟩
  | .hbm, ⟨94, _⟩ => ⟨S8192x512, .bf16⟩
  | .hbm, ⟨95, _⟩ => ⟨S8192x64, .f32⟩
  | .hbm, ⟨96, _⟩ => ⟨S8192x128, .f32⟩
  | .hbm, ⟨97, _⟩ => ⟨S8192x128, .bf16⟩
  | .hbm, ⟨98, _⟩ => ⟨S8192x64, .f32⟩
  | .hbm, ⟨99, _⟩ => ⟨S8192x128, .f32⟩
  | .hbm, ⟨100, _⟩ => ⟨S8192x128, .bf16⟩
  | .hbm, ⟨101, _⟩ => ⟨S8192x64, .f32⟩
  | .hbm, ⟨102, _⟩ => ⟨S8192x128, .f32⟩
  | .hbm, ⟨103, _⟩ => ⟨S8192x128, .bf16⟩
  | .hbm, ⟨104, _⟩ => ⟨S8192x64, .f32⟩
  | .hbm, ⟨105, _⟩ => ⟨S8192x128, .f32⟩
  | .hbm, ⟨106, _⟩ => ⟨S8192x128, .bf16⟩
  | .hbm, ⟨107, _⟩ => ⟨S8192x512, .bf16⟩
  | .hbm, ⟨108, _⟩ => ⟨S8192x128, .f32⟩
  | .hbm, ⟨109, _⟩ => ⟨S8192x128, .f32⟩
  | .hbm, ⟨110, _⟩ => ⟨S8192x128, .f32⟩
  | .hbm, ⟨111, _⟩ => ⟨S8192x128, .f32⟩
  | .hbm, ⟨112, _⟩ => ⟨S1x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S256x512, .bf16⟩
  | .local _ .vmem, ⟨11, _⟩ => ⟨S256x512, .bf16⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S1x128, .f32⟩
  | .local _ .smem, ⟨0, _⟩ => ⟨S1x8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85_0 : Ref sig .tc := ⟨.hbm, 107, rfl⟩
abbrev main_v85_1 : Ref sig .tc := ⟨.hbm, 108, rfl⟩
abbrev main_v85_2 : Ref sig .tc := ⟨.hbm, 109, rfl⟩
abbrev main_v85_3 : Ref sig .tc := ⟨.hbm, 110, rfl⟩
abbrev main_v85_4 : Ref sig .tc := ⟨.hbm, 111, rfl⟩
abbrev main_v85_5 : Ref sig .tc := ⟨.hbm, 112, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c1_i32 : BitVec 32 := 1#32
  let v22 : BitVec 32 := Scalar.subi v6 c1_i32
  let c0_i32_4 : BitVec 32 := 0#32
  let v23 : BitVec 32 := Scalar.maxsi v22 c0_i32_4
  let c128_i32_5 : BitVec 32 := 128#32
  let v24 : BitVec 32 := Scalar.muli v23 c128_i32_5
  v24
def k0_mult2 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c128_i32_6 : BitVec 32 := 128#32
  let v26 : BitVec 32 := Scalar.muli v6 c128_i32_6
  v26
def k0_off1 (i : grid0.Coords) (c0_i32_1 : BitVec 32) : Fin 2 → Nat :=
  let arg0 : BitVec 32 := BitVec.ofNat 32 (i 0).val
  let c2_i32 : BitVec 32 := 2#32
  let v5 : BitVec 32 := Scalar.muli arg0 c2_i32
  let v6 : BitVec 32 := Scalar.addi v5 c0_i32_1
  let c1_i32 : BitVec 32 := 1#32
  let v22 : BitVec 32 := Scalar.subi v6 c1_i32
  let c0_i32_4 : BitVec 32 := 0#32
  let v23 : BitVec 32 := Scalar.maxsi v22 c0_i32_4
  let c128_i32_5 : BitVec 32 := 128#32
  let v24 : BitVec 32 := Scalar.muli v23 c128_i32_5
  let v25 : BitVec 32 := v24
  let v28 : Index := Scalar.indexCast v25
  let c0 : Index := 0#32
  ![v28.toNat, 0]
def k0_off2 (i : grid0.Coords) (c0_i32_1 : BitVec 32) : Fin 2 → Nat :=
  let arg0 : BitVec 32 := BitVec.ofNat 32 (i 0).val
  let c2_i32 : BitVec 32 := 2#32
  let v5 : BitVec 32 := Scalar.muli arg0 c2_i32
  let v6 : BitVec 32 := Scalar.addi v5 c0_i32_1
  let c128_i32_6 : BitVec 32 := 128#32
  let v26 : BitVec 32 := Scalar.muli v6 c128_i32_6
  let v27 : BitVec 32 := v26
  let v31 : Index := Scalar.indexCast v27
  let c0_7 : Index := 0#32
  ![v31.toNat, 0]
def k0_mult3 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c1_i32_8 : BitVec 32 := 1#32
  let v35 : BitVec 32 := Scalar.subi v6 c1_i32_8
  let c0_i32_9 : BitVec 32 := 0#32
  let v36 : BitVec 32 := Scalar.maxsi v35 c0_i32_9
  let c128_i32_10 : BitVec 32 := 128#32
  let v37 : BitVec 32 := Scalar.muli v36 c128_i32_10
  v37
def k0_mult4 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c128_i32_11 : BitVec 32 := 128#32
  let v39 : BitVec 32 := Scalar.muli v6 c128_i32_11
  v39
def k0_mult5 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c1_i32_73 : BitVec 32 := 1#32
  let v226 : BitVec 32 := Scalar.subi v6 c1_i32_73
  let c0_i32_74 : BitVec 32 := 0#32
  let v227 : BitVec 32 := Scalar.maxsi v226 c0_i32_74
  let c128_i32_75 : BitVec 32 := 128#32
  let v228 : BitVec 32 := Scalar.muli v227 c128_i32_75
  v228
def k0_mult6 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c128_i32_76 : BitVec 32 := 128#32
  let v230 : BitVec 32 := Scalar.muli v6 c128_i32_76
  v230
def k0_mult7 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c1_i32_79 : BitVec 32 := 1#32
  let v239 : BitVec 32 := Scalar.subi v6 c1_i32_79
  let c0_i32_80 : BitVec 32 := 0#32
  let v240 : BitVec 32 := Scalar.maxsi v239 c0_i32_80
  let c128_i32_81 : BitVec 32 := 128#32
  let v241 : BitVec 32 := Scalar.muli v240 c128_i32_81
  v241
def k0_mult8 (i : grid0.Coords) : BitVec 32 :=
  let arg0 : BitVec 32 := BitVec.ofNat 32 (i 0).val
  let c2_i32 : BitVec 32 := 2#32
  let v5 : BitVec 32 := Scalar.muli arg0 c2_i32
  let c0_i32_1 : BitVec 32 := 0#32
  let v6 : BitVec 32 := Scalar.addi v5 c0_i32_1
  let c128_i32_82 : BitVec 32 := 128#32
  let v243 : BitVec 32 := Scalar.muli v6 c128_i32_82
  v243
def k0_mult9 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c1_i32_148 : BitVec 32 := 1#32
  let v447 : BitVec 32 := Scalar.subi v431 c1_i32_148
  let c0_i32_149 : BitVec 32 := 0#32
  let v448 : BitVec 32 := Scalar.maxsi v447 c0_i32_149
  let c128_i32_150 : BitVec 32 := 128#32
  let v449 : BitVec 32 := Scalar.muli v448 c128_i32_150
  v449
def k0_mult10 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c128_i32_151 : BitVec 32 := 128#32
  let v451 : BitVec 32 := Scalar.muli v431 c128_i32_151
  v451
def k0_mult11 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c1_i32_154 : BitVec 32 := 1#32
  let v460 : BitVec 32 := Scalar.subi v431 c1_i32_154
  let c0_i32_155 : BitVec 32 := 0#32
  let v461 : BitVec 32 := Scalar.maxsi v460 c0_i32_155
  let c128_i32_156 : BitVec 32 := 128#32
  let v462 : BitVec 32 := Scalar.muli v461 c128_i32_156
  v462
def k0_mult12 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c128_i32_157 : BitVec 32 := 128#32
  let v464 : BitVec 32 := Scalar.muli v431 c128_i32_157
  v464
def k0_mult13 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c1_i32_227 : BitVec 32 := 1#32
  let v651 : BitVec 32 := Scalar.subi v431 c1_i32_227
  let c0_i32_228 : BitVec 32 := 0#32
  let v652 : BitVec 32 := Scalar.maxsi v651 c0_i32_228
  let c128_i32_229 : BitVec 32 := 128#32
  let v653 : BitVec 32 := Scalar.muli v652 c128_i32_229
  v653
def k0_mult14 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c128_i32_230 : BitVec 32 := 128#32
  let v655 : BitVec 32 := Scalar.muli v431 c128_i32_230
  v655
def k0_mult15 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c1_i32_233 : BitVec 32 := 1#32
  let v664 : BitVec 32 := Scalar.subi v431 c1_i32_233
  let c0_i32_234 : BitVec 32 := 0#32
  let v665 : BitVec 32 := Scalar.maxsi v664 c0_i32_234
  let c128_i32_235 : BitVec 32 := 128#32
  let v666 : BitVec 32 := Scalar.muli v665 c128_i32_235
  v666
def k0_mult16 (i : grid0.Coords) : BitVec 32 :=
  let arg0 : BitVec 32 := BitVec.ofNat 32 (i 0).val
  let c2_i32_142 : BitVec 32 := 2#32
  let v430 : BitVec 32 := Scalar.muli arg0 c2_i32_142
  let c1_i32_143 : BitVec 32 := 1#32
  let v431 : BitVec 32 := Scalar.addi v430 c1_i32_143
  let c128_i32_236 : BitVec 32 := 128#32
  let v668 : BitVec 32 := Scalar.muli v431 c128_i32_236
  v668
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8192x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8192x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S8192x512 : Shape := ⟨2, ![8192, 512]⟩
abbrev S8192x128 : Shape := ⟨2, ![8192, 128]⟩
abbrev S1x8 : Shape := ⟨2, ![1, 8]⟩
abbrev S8 : Shape := ⟨1, ![8]⟩
abbrev S64x128x2x4x64 : Shape := ⟨5, ![64, 128, 2, 4, 64]⟩
abbrev S64x128x2x64 : Shape := ⟨4, ![64, 128, 2, 64]⟩
abbrev S_ : Shape := ⟨0, ![]⟩
abbrev S1x128x2x64 : Shape := ⟨4, ![1, 128, 2, 64]⟩
abbrev S65x128x2x64 : Shape := ⟨4, ![65, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩
abbrev S64x2x64x256 : Shape := ⟨4, ![64, 2, 64, 256]⟩
abbrev S2x4 : Shape := ⟨2, ![2, 4]⟩
abbrev S64x2x128x4x64 : Shape := ⟨5, ![64, 2, 128, 4, 64]⟩
abbrev S64x2x256x64 : Shape := ⟨4, ![64, 2, 256, 64]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1x120 : Shape := ⟨2, ![1, 120]⟩
abbrev S1x128 : Shape := ⟨2, ![1, 128]⟩

abbrev nBuf : Space → Nat
  | .hbm => 202
  | .vmem => 0
  | .smem => 0
  | _ => 0

abbrev hbmTy0_0 (i : Nat) : BufTy := match i % 128 with
  | 0 => ⟨S8192x512, .f32⟩
  | 1 => ⟨S8192x512, .f32⟩
  | 2 => ⟨S8192x128, .f32⟩
  | 3 => ⟨S8192x128, .f32⟩
  | 4 => ⟨S1x8, .f32⟩
  | 5 => ⟨S8, .f32⟩
  | 6 => ⟨S64x128x2x4x64, .f32⟩
  | 7 => ⟨S64x128x2x64, .f32⟩
  | 8 => ⟨S_, .f32⟩
  | 9 => ⟨S1x128x2x64, .f32⟩
  | 10 => ⟨S65x128x2x64, .f32⟩
  | 11 => ⟨S_, .f32⟩
  | 12 => ⟨S1x128x2x64, .f32⟩
  | 13 => ⟨S64x128x2x64, .f32⟩
  | 14 => ⟨S64x128x2x64, .f32⟩
  | 15 => ⟨S64x256x2x64, .f32⟩
  | 16 => ⟨S64x128x2x64, .f32⟩
  | 17 => ⟨S_, .f32⟩
  | 18 => ⟨S1x128x2x64, .f32⟩
  | 19 => ⟨S65x128x2x64, .f32⟩
  | 20 => ⟨S_, .f32⟩
  | 21 => ⟨S1x128x2x64, .f32⟩
  | 22 => ⟨S64x128x2x64, .f32⟩
  | 23 => ⟨S64x128x2x64, .f32⟩
  | 24 => ⟨S64x256x2x64, .f32⟩
  | 25 => ⟨S64x2x256x128x4, .f32⟩
  | 26 => ⟨S64x2x4x128x256, .f32⟩
  | 27 => ⟨S_, .f32⟩
  | 28 => ⟨S64x2x4x128x256, .f32⟩
  | 29 => ⟨S64x2x4x128x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S64, .i32⟩
  | 48 => ⟨S64x1x1, .i32⟩
  | 49 => ⟨S_, .i32⟩
  | 50 => ⟨S64x1x1, .i32⟩
  | 51 => ⟨S64x1x1, .i32⟩
  | 52 => ⟨S_, .i32⟩
  | 53 => ⟨S64x1x1, .i32⟩
  | 54 => ⟨S64x1x1, .i32⟩
  | 55 => ⟨S1x1x256, .i32⟩
  | 56 => ⟨S64x1x256, .i32⟩
  | 57 => ⟨S64x1x256, .i32⟩
  | 58 => ⟨S64x1x256, .i32⟩
  | 59 => ⟨S1x128x256, .i1⟩
  | 60 => ⟨S_, .i32⟩
  | 61 => ⟨S64x1x256, .i32⟩
  | 62 => ⟨S64x1x256, .i1⟩
  | 63 => ⟨S64x128x256, .i1⟩
  | 64 => ⟨S64x128x256, .i1⟩
  | 65 => ⟨S64x128x256, .i1⟩
  | 66 => ⟨S64x1x1x128x256, .i1⟩
  | 67 => ⟨S_, .f32⟩
  | 68 => ⟨S_, .f32⟩
  | 69 => ⟨S64x2x4x128x256, .i1⟩
  | 70 => ⟨S64x2x4x128x256, .f32⟩
  | 71 => ⟨S64x2x4x128x256, .f32⟩
  | 72 => ⟨S_, .f32⟩
  | 73 => ⟨S64x2x4x128x256, .f32⟩
  | 74 => ⟨S1x2x4x1x1, .f32⟩
  | 75 => ⟨S64x2x4x128x1, .f32⟩
  | 76 => ⟨S64x2x4x128x257, .f32⟩
  | 77 => ⟨S_, .f32⟩
  | 78 => ⟨S64x2x4x128, .f32⟩
  | 79 => ⟨S64x2x4x128x1, .f32⟩
  | 80 => ⟨S64x2x4x128x257, .f32⟩
  | 81 => ⟨S64x2x4x128x257, .i1⟩
  | 82 => ⟨S64x2x4x128x257, .f32⟩
  | 83 => ⟨S_, .f32⟩
  | 84 => ⟨S64x2x4x128, .f32⟩
  | 85 => ⟨S_, .f32⟩
  | 86 => ⟨S64x2x4x128, .f32⟩
  | 87 => ⟨S64x2x4x128, .f32⟩
  | 88 => ⟨S_, .f32⟩
  | 89 => ⟨S64x2x4x128, .f32⟩
  | 90 => ⟨S64x2x4x128, .i1⟩
  | 91 => ⟨S_, .f32⟩
  | 92 => ⟨S64x2x4x128, .f32⟩
  | 93 => ⟨S64x2x4x128, .i1⟩
  | 94 => ⟨S_, .f32⟩
  | 95 => ⟨S64x2x4x128, .f32⟩
  | 96 => ⟨S_, .f32⟩
  | 97 => ⟨S64x2x4x128, .f32⟩
  | 98 => ⟨S_, .f32⟩
  | 99 => ⟨S64x2x4x128, .f32⟩
  | 100 => ⟨S64x2x4x128, .f32⟩
  | 101 => ⟨S64x2x4x128, .f32⟩
  | 102 => ⟨S64x2x4x128x1, .f32⟩
  | 103 => ⟨S64x2x4x128x257, .f32⟩
  | 104 => ⟨S64x2x4x128x257, .f32⟩
  | 105 => ⟨S64x2x4x128x257, .f32⟩
  | 106 => ⟨S_, .f32⟩
  | 107 => ⟨S64x2x4x128, .f32⟩
  | 108 => ⟨S64x2x4x128x1, .f32⟩
  | 109 => ⟨S64x2x4x128x257, .f32⟩
  | 110 => ⟨S64x2x4x128x257, .f32⟩
  | 111 => ⟨S64x2x4x128x1, .f32⟩
  | 112 => ⟨S_, .f32⟩
  | 113 => ⟨S64x2x4x128x1, .f32⟩
  | 114 => ⟨S64x2x4x128x1, .f32⟩
  | 115 => ⟨S64x2x4x128x256, .f32⟩
  | 116 => ⟨S64x2x64x4x128, .f32⟩
  | 117 => ⟨S64x128x2x4x64, .f32⟩
  | 118 => ⟨S8192x512, .f32⟩
  | 119 => ⟨S64x128x2x4x64, .f32⟩
  | 120 => ⟨S64x2x64x4x128, .f32⟩
  | 121 => ⟨S64x2x4x128x256, .f32⟩
  | 122 => ⟨S64x2x64x256, .f32⟩
  | 123 => ⟨S64x256x2x64, .f32⟩
  | 124 => ⟨S_, .f32⟩
  | 125 => ⟨S64x2x4x128x257, .f32⟩
  | 126 => ⟨S64x2x4x128x257, .f32⟩
  | 127 => ⟨S64x2x4x128x257, .f32⟩
  | _ => ⟨S8192x512, .f32⟩

abbrev hbmTy0_1 (i : Nat) : BufTy := match i % 128 with
  | 0 => ⟨S64x2x4x128x257, .f32⟩
  | 1 => ⟨S_, .f32⟩
  | 2 => ⟨S64x2x4x128, .f32⟩
  | 3 => ⟨S64x2x4x128x1, .f32⟩
  | 4 => ⟨S64x2x4x128x1, .f32⟩
  | 5 => ⟨S64x2x4x128x257, .f32⟩
  | 6 => ⟨S64x2x4x128x257, .f32⟩
  | 7 => ⟨S_, .f32⟩
  | 8 => ⟨S64x2x4x128, .f32⟩
  | 9 => ⟨S64x2x4x128x257, .f32⟩
  | 10 => ⟨S64x2x4x128x257, .f32⟩
  | 11 => ⟨S64x2x4x128x257, .f32⟩
  | 12 => ⟨S64x2x4x128x256, .f32⟩
  | 13 => ⟨S64x2x4x128x1, .f32⟩
  | 14 => ⟨S_, .f32⟩
  | 15 => ⟨S2x4, .f32⟩
  | 16 => ⟨S1x2x4x1x1, .f32⟩
  | 17 => ⟨S8, .f32⟩
  | 18 => ⟨S_, .f32⟩
  | 19 => ⟨S64x2x4x128x256, .f32⟩
  | 20 => ⟨S64x2x4x128x256, .f32⟩
  | 21 => ⟨S_, .f32⟩
  | 22 => ⟨S64x2x4x128x256, .f32⟩
  | 23 => ⟨S64x2x4x128x256, .f32⟩
  | 24 => ⟨S64x2x256x128x4, .f32⟩
  | 25 => ⟨S64x2x128x4x64, .f32⟩
  | 26 => ⟨S64x128x2x4x64, .f32⟩
  | 27 => ⟨S64x2x256x64, .f32⟩
  | 28 => ⟨S64x256x2x64, .f32⟩
  | 29 => ⟨S64x128x2x64, .f32⟩
  | 30 => ⟨S64x128x2x64, .f32⟩
  | 31 => ⟨S_, .f32⟩
  | 32 => ⟨S65x128x2x64, .f32⟩
  | 33 => ⟨S_, .f32⟩
  | 34 => ⟨S65x128x2x64, .f32⟩
  | 35 => ⟨S65x128x2x64, .f32⟩
  | 36 => ⟨S1x128x2x64, .f32⟩
  | 37 => ⟨S64x128x2x64, .f32⟩
  | 38 => ⟨S8192x128, .f32⟩
  | 39 => ⟨S64x128x2x64, .f32⟩
  | 40 => ⟨S64x128x2x64, .f32⟩
  | 41 => ⟨S_, .f32⟩
  | 42 => ⟨S65x128x2x64, .f32⟩
  | 43 => ⟨S_, .f32⟩
  | 44 => ⟨S65x128x2x64, .f32⟩
  | 45 => ⟨S65x128x2x64, .f32⟩
  | 46 => ⟨S1x128x2x64, .f32⟩
  | 47 => ⟨S64x128x2x64, .f32⟩
  | 48 => ⟨S8192x128, .f32⟩
  | 49 => ⟨S8192x512, .f32⟩
  | 50 => ⟨S1x8, .f32⟩
  | 51 => ⟨S_, .f32⟩
  | 52 => ⟨S8192x512, .f32⟩
  | 53 => ⟨S8192x512, .f32⟩
  | 54 => ⟨S8192x512, .bf16⟩
  | 55 => ⟨S8192x64, .f32⟩
  | 56 => ⟨S1x8192x1x64, .f32⟩
  | 57 => ⟨S1x8192x2x64, .f32⟩
  | 58 => ⟨S8192x128, .f32⟩
  | 59 => ⟨S8192x64, .f32⟩
  | 60 => ⟨S1x8192x1x64, .f32⟩
  | 61 => ⟨S1x8192x2x64, .f32⟩
  | 62 => ⟨S8192x128, .f32⟩
  | 63 => ⟨S8192x64, .f32⟩
  | 64 => ⟨S1x8192x1x64, .f32⟩
  | 65 => ⟨S1x8192x2x64, .f32⟩
  | 66 => ⟨S8192x128, .f32⟩
  | 67 => ⟨S8192x64, .f32⟩
  | 68 => ⟨S1x8192x1x64, .f32⟩
  | 69 => ⟨S1x8192x2x64, .f32⟩
  | 70 => ⟨S8192x128, .f32⟩
  | 71 => ⟨S_, .f32⟩
  | 72 => ⟨S1x120, .f32⟩
  | 73 => ⟨S1x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_call0_v0 : Ref sig .tc := ⟨.hbm, 68, rfl⟩
abbrev main_v51_1 : Ref sig .tc := ⟨.hbm, 69, rfl⟩
abbrev main_call0_v2 : Ref sig .tc := ⟨.hbm, 70, rfl⟩
abbrev main_v51_0 : Ref sig .tc := ⟨.hbm, 71, rfl⟩
abbrev main_call0_cst : Ref sig .tc := ⟨.hbm, 72, rfl⟩
abbrev main_v51_2 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_call1_cst : Ref sig .tc := ⟨.hbm, 146, rfl⟩
abbrev main_call1_v0 : Ref sig .tc := ⟨.hbm, 147, rfl⟩
abbrev main_v110 : Ref sig .tc := ⟨.hbm, 148, rfl⟩
abbrev main_cst_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_25 : Ref sig .tc := ⟨.hbm, 159, rfl⟩
abbrev main_v120 : Ref sig .tc := ⟨.hbm, 160, rfl⟩
abbrev main_cst_26 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_27 : Ref sig .tc := ⟨.hbm, 169, rfl⟩
abbrev main_v128 : Ref sig .tc := ⟨.hbm, 170, rfl⟩
abbrev main_cst_28 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_29 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_30 : Ref sig .tc := ⟨.hbm, 199, rfl⟩
abbrev main_v155 : Ref sig .tc := ⟨.hbm, 200, rfl⟩
abbrev main_v156 : Ref sig .tc := ⟨.hbm, 201, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8x512x1024 : Shape := ⟨3, ![8, 512, 1024]⟩
abbrev S4096x1024 : Shape := ⟨2, ![4096, 1024]⟩
abbrev S8192x4096 : Shape := ⟨2, ![8192, 4096]⟩
abbrev S1x1 : Shape := ⟨2, ![1, 1]⟩
abbrev S512x1024 : Shape := ⟨2, ![512, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S2x512x1024 : Shape := ⟨3, ![2, 512, 1024]⟩
abbrev S1024x1024 : Shape := ⟨2, ![1024, 1024]⟩
abbrev S1 : Shape := ⟨1, ![1]⟩
abbrev S1024 : Shape := ⟨1, ![1024]⟩

abbrev nBuf : Space → Nat
  | .hbm => 27
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | .hbm, ⟨12, _⟩ => ⟨S8x512x1024, .bf16⟩
  | .hbm, ⟨13, _⟩ => ⟨S4096x1024, .f32⟩
  | .hbm, ⟨14, _⟩ => ⟨S4096x1024, .bf16⟩
  | .hbm, ⟨15, _⟩ => ⟨S8x512x1024, .bf16⟩
  | .hbm, ⟨16, _⟩ => ⟨S8192x1024, .bf16⟩
  | .hbm, ⟨17, _⟩ => ⟨S8192x4096, .bf16⟩
  | .hbm, ⟨18, _⟩ => ⟨S8192x1024, .bf16⟩
  | .hbm, ⟨19, _⟩ => ⟨S8192x1024, .bf16⟩
  | .hbm, ⟨20, _⟩ => ⟨S8192x4096, .bf16⟩
  | .hbm, ⟨21, _⟩ => ⟨S8192x1024, .bf16⟩
  | .hbm, ⟨22, _⟩ => ⟨S8192x1024, .bf16⟩
  | .hbm, ⟨23, _⟩ => ⟨S1x1, .f32⟩
  | .hbm, ⟨24, _⟩ => ⟨S1x1024, .f32⟩
  | .hbm, ⟨25, _⟩ => ⟨S1x1024, .f32⟩
  | .hbm, ⟨26, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S8x512x1024, .bf16⟩
  | .local _ .vmem, ⟨10, _⟩ => ⟨S8x512x1024, .bf16⟩
  | .local _ .vmem, ⟨11, _⟩ => ⟨S512x4096, .bf16⟩
  | .local _ .vmem, ⟨12, _⟩ => ⟨S512x4096, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x4096, .bf16⟩
  | .local _ .vmem, ⟨18, _⟩ => ⟨S512x4096, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1x1, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_v9_8 : Ref sig .tc := ⟨.hbm, 25, rfl⟩
abbrev main_v9_9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S4096x1024 : Shape := ⟨2, ![4096, 1024]⟩
abbrev S1x1 : Shape := ⟨2, ![1, 1]⟩

abbrev nBuf : Space → Nat
  | .hbm => 205
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1x1024, .f32⟩
  | 5 => ⟨S1x1024, .f32⟩
  | 6 => ⟨S1x1024x4096, .f32⟩
  | 7 => ⟨S1x4096x1024, .f32⟩
  | 8 => ⟨S1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x1024, .f32⟩
  | 30 => ⟨S1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S1024x4096, .f32⟩
  | 52 => ⟨S8192x4096, .f32⟩
  | 53 => ⟨S_, .f32⟩
  | 54 => ⟨S8192x4096, .f32⟩
  | 55 => ⟨S8192x4096, .f32⟩
  | 56 => ⟨S_, .f32⟩
  | 57 => ⟨S8192x4096, .f32⟩
  | 58 => ⟨S8192x4096, .i1⟩
  | 59 => ⟨S_, .f32⟩
  | 60 => ⟨S8192x4096, .f32⟩
  | 61 => ⟨S8192x4096, .f32⟩
  | 62 => ⟨S4096x1024, .f32⟩
  | 63 => ⟨S8192x1024, .f32⟩
  | 64 => ⟨S1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1024, .f32⟩
  | 81 => ⟨S8192x1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192, .f32⟩
  | 93 => ⟨S_, .f32⟩
  | 94 => ⟨S8192, .f32⟩
  | 95 => ⟨S8192, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S8192, .f32⟩
  | 104 => ⟨S_, .f32⟩
  | 105 => ⟨S8192, .f32⟩
  | 106 => ⟨S8192, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S_, .f32⟩
  | 116 => ⟨S1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S1x1024, .f32⟩
  | 7 => ⟨S8192x4096, .f32⟩
  | 8 => ⟨S8192x4096, .f32⟩
  | 9 => ⟨S8192x4096, .f32⟩
  | 10 => ⟨S8192x4096, .f32⟩
  | 11 => ⟨S_, .f32⟩
  | 12 => ⟨S8192x4096, .f32⟩
  | 13 => ⟨S8192x4096, .f32⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S_, .f32⟩
  | 22 => ⟨S1024, .f32⟩
  | 23 => ⟨S8192x1024, .f32⟩
  | 24 => ⟨S_, .f32⟩
  | 25 => ⟨S8192, .f32⟩
  | 26 => ⟨S8192x1, .f32⟩
  | 27 => ⟨S8192x1024, .f32⟩
  | 28 => ⟨S8192x1024, .f32⟩
  | 29 => ⟨S8192x1, .f32⟩
  | 30 => ⟨S_, .f32⟩
  | 31 => ⟨S8192x1, .f32⟩
  | 32 => ⟨S8192x1, .f32⟩
  | 33 => ⟨S_, .f32⟩
  | 34 => ⟨S8192, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S_, .f32⟩
  | 44 => ⟨S1024, .f32⟩
  | 45 => ⟨S1x1024, .f32⟩
  | 46 => ⟨S8192x1024, .f32⟩
  | 47 => ⟨S8192x1024, .f32⟩
  | 48 => ⟨S_, .f32⟩
  | 49 => ⟨S1024, .f32⟩
  | 50 => ⟨S8192x1024, .f32⟩
  | 51 => ⟨S_, .f32⟩
  | 52 => ⟨S8192, .f32⟩
  | 53 => ⟨S8192x1, .f32⟩
  | 54 => ⟨S8192x1024, .f32⟩
  | 55 => ⟨S8192x1024, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S1x1024, .f32⟩
  | 68 => ⟨S8192x4096, .bf16⟩
  | 69 => ⟨S8192x1024, .bf16⟩
  | 70 => ⟨S8192x1024, .bf16⟩
  | 71 => ⟨S8192x4096, .bf16⟩
  | 72 => ⟨S8192x1024, .bf16⟩
  | 73 => ⟨S8192x1024, .bf16⟩
  | 74 => ⟨S_, .f32⟩
  | 75 => ⟨S_, .f32⟩
  | 76 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_cst_18 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_cst_20 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_cst_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_24 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_26 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_27 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_28 : Ref sig .tc := ⟨.hbm, 149, rfl⟩
abbrev main_v110 : Ref sig .tc := ⟨.hbm, 150, rfl⟩
abbrev main_v111 : Ref sig .tc := ⟨.hbm, 151, rfl⟩
abbrev main_cst_29 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_30 : Ref sig .tc := ⟨.hbm, 158, rfl⟩
abbrev main_v117 : Ref sig .tc := ⟨.hbm, 159, rfl⟩
abbrev main_v118 : Ref sig .tc := ⟨.hbm, 160, rfl⟩
abbrev main_cst_31 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_32 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_33 : Ref sig .tc := ⟨.hbm, 176, rfl⟩
abbrev main_v132 : Ref sig .tc := ⟨.hbm, 177, rfl⟩
abbrev main_v133 : Ref sig .tc := ⟨.hbm, 178, rfl⟩
abbrev main_cst_34 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_35 : Ref sig .tc := ⟨.hbm, 185, rfl⟩
abbrev main_v139 : Ref sig .tc := ⟨.hbm, 186, rfl⟩
abbrev main_v140 : Ref sig .tc := ⟨.hbm, 187, rfl⟩
abbrev main_cst_36 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_37 : Ref sig .tc := ⟨.hbm, 202, rfl⟩
abbrev main_v154 : Ref sig .tc := ⟨.hbm, 203, rfl⟩
abbrev main_v155 : Ref sig .tc := ⟨.hbm, 204, rfl⟩

abbrev nD : Nat := 1
abbrev τ : Topo := Topo.v7x

variable {F : FTy → Type} [FloatOps F]
-- ==== Kernel4.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S1x1024x2304 : Shape := ⟨3, ![1, 1024, 2304]⟩
abbrev S1x3x512 : Shape := ⟨3, ![1, 3, 512]⟩
abbrev S48x384 : Shape := ⟨2, ![48, 384]⟩
abbrev S1x384 : Shape := ⟨2, ![1, 384]⟩
abbrev S_ : Shape := ⟨0, ![]⟩
abbrev S8192 : Shape := ⟨1, ![8192]⟩
abbrev S8192x1 : Shape := ⟨2, ![8192, 1]⟩
abbrev S1024x2304 : Shape := ⟨2, ![1024, 2304]⟩
abbrev S1024x1024 : Shape := ⟨2, ![1024, 1024]⟩
abbrev S8192x64 : Shape := ⟨2, ![8192, 64]⟩
abbrev S3x512 : Shape := ⟨2, ![3, 512]⟩
abbrev S2304x1024 : Shape := ⟨2, ![2304, 1024]⟩
abbrev S8x288x1024 : Shape := ⟨3, ![8, 288, 1024]⟩
abbrev S8 : Shape := ⟨1, ![8]⟩
abbrev S1x8 : Shape := ⟨2, ![1, 8]⟩
abbrev S8192x8 : Shape := ⟨2, ![8192, 8]⟩
abbrev S8192x16 : Shape := ⟨2, ![8192, 16]⟩
abbrev S8192x48 : Shape := ⟨2, ![8192, 48]⟩
abbrev S8192x2304 : Shape := ⟨2, ![8192, 2304]⟩
abbrev S1024x512 : Shape := ⟨2, ![1024, 512]⟩
abbrev S1024x128 : Shape := ⟨2, ![1024, 128]⟩
abbrev S16x512 : Shape := ⟨2, ![16, 512]⟩
abbrev S1024x48 : Shape := ⟨2, ![1024, 48]⟩
abbrev S1040x512 : Shape := ⟨2, ![1040, 512]⟩
abbrev S1x512 : Shape := ⟨2, ![1, 512]⟩
abbrev S512x128 : Shape := ⟨2, ![512, 128]⟩
abbrev S512x48 : Shape := ⟨2, ![512, 48]⟩
abbrev S512x384 : Shape := ⟨2, ![512, 384]⟩
abbrev S512x512 : Shape := ⟨2, ![512, 512]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 89
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024x2304, .f32⟩
  | .hbm, ⟨9, _⟩ => ⟨S1x3x512, .f32⟩
  | .hbm, ⟨10, _⟩ => ⟨S48x384, .bf16⟩
  | .hbm, ⟨11, _⟩ => ⟨S1x384, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x2304, .f32⟩
  | .hbm, ⟨28, _⟩ => ⟨S1024x1024, .f32⟩
  | .hbm, ⟨29, _⟩ => ⟨S8192x1024, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .bf16⟩
  | .hbm, ⟨34, _⟩ => ⟨S8192x64, .f32⟩
  | .hbm, ⟨35, _⟩ => ⟨S8192x128, .f32⟩
  | .hbm, ⟨36, _⟩ => ⟨S8192x64, .f32⟩
  | .hbm, ⟨37, _⟩ => ⟨S8192x128, .f32⟩
  | .hbm, ⟨38, _⟩ => ⟨S8192x64, .f32⟩
  | .hbm, ⟨39, _⟩ => ⟨S8192x128, .f32⟩
  | .hbm, ⟨40, _⟩ => ⟨S8192x64, .f32⟩
  | .hbm, ⟨41, _⟩ => ⟨S8192x128, .f32⟩
  | .hbm, ⟨42, _⟩ => ⟨S8192x512, .bf16⟩
  | .hbm, ⟨43, _⟩ => ⟨S8192x512, .bf16⟩
  | .hbm, ⟨44, _⟩ => ⟨S8192x512, .f32⟩
  | .hbm, ⟨45, _⟩ => ⟨S8192x512, .bf16⟩
  | .hbm, ⟨46, _⟩ => ⟨S8192x512, .f32⟩
  | .hbm, ⟨47, _⟩ => ⟨S8192x512, .bf16⟩
  | .hbm, ⟨48, _⟩ => ⟨S3x512, .f32⟩
  | .hbm, ⟨49, _⟩ => ⟨S8192x1024, .bf16⟩
  | .hbm, ⟨50, _⟩ => ⟨S1024x2304, .f32⟩
  | .hbm, ⟨51, _⟩ => ⟨S2304x1024, .f32⟩
  | .hbm, ⟨52, _⟩ => ⟨S2304x1024, .bf16⟩
  | .hbm, ⟨53, _⟩ => ⟨S8x288x1024, .bf16⟩
  | .hbm, ⟨54, _⟩ => ⟨S8192, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S8192x1, .f32⟩
  | .hbm, ⟨70, _⟩ => ⟨S1x8, .f32⟩
  | .hbm, ⟨71, _⟩ => ⟨S8192x8, .f32⟩
  | .hbm, ⟨72, _⟩ => ⟨S8192x8, .f32⟩
  | .hbm, ⟨73, _⟩ => ⟨S8192x8, .f32⟩
  | .hbm, ⟨74, _⟩ => ⟨S8192x8, .f32⟩
  | .hbm, ⟨75, _⟩ => ⟨S8192x8, .f32⟩
  | .hbm, ⟨76, _⟩ => ⟨S8192x16, .f32⟩
  | .hbm, ⟨77, _⟩ => ⟨S8192x16, .bf16⟩
  | .hbm, ⟨78, _⟩ => ⟨S8192x16, .f32⟩
  | .hbm, ⟨79, _⟩ => ⟨S8192x16, .f32⟩
  | .hbm, ⟨80, _⟩ => ⟨S8192x16, .bf16⟩
  | .hbm, ⟨81, _⟩ => ⟨S8192x16, .f32⟩
  | .hbm, ⟨82, _⟩ => ⟨S8192x16, .f32⟩
  | .hbm, ⟨83, _⟩ => ⟨S8192x16, .f32⟩
  | .hbm, ⟨84, _⟩ => ⟨S8192x48, .f32⟩
  | .hbm, ⟨85, _⟩ => ⟨S8192x48, .bf16⟩
  | .hbm, ⟨86, _⟩ => ⟨S8192x2304, .bf16⟩
  | .hbm, ⟨87, _⟩ => ⟨S8192x1024, .f32⟩
  | .hbm, ⟨88, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S16x512, .bf16⟩
  | .local _ .vmem, ⟨15, _⟩ => ⟨S16x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S3x512, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S8x288x1024, .bf16⟩
  | .local _ .vmem, ⟨27, _⟩ => ⟨S1024x48, .bf16⟩
  | .local _ .vmem, ⟨28, _⟩ => ⟨S1024x48, .bf16⟩
  | .local _ .vmem, ⟨29, _⟩ => ⟨S48x384, .bf16⟩
  | .local _ .vmem, ⟨30, _⟩ => ⟨S1x384, .f32⟩
  | .local _ .vmem, ⟨31, _⟩ => ⟨S1024x2304, .bf16⟩
  | .local _ .vmem, ⟨32, _⟩ => ⟨S1024x2304, .bf16⟩
  | .local _ .vmem, ⟨33, _⟩ => ⟨S1024x1024, .f32⟩
  | .local _ .vmem, ⟨34, _⟩ => ⟨S1024x1024, .f32⟩
  | .local _ .vmem, ⟨35, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66_0 : Ref sig .tc := ⟨.hbm, 86, rfl⟩
abbrev main_v66_1 : Ref sig .tc := ⟨.hbm, 87, rfl⟩
abbrev main_v66_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x288x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x48 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S48x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x2304 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S1x1024x2304 : Shape := ⟨3, ![1, 1024, 2304]⟩
abbrev S1x3x512 : Shape := ⟨3, ![1, 3, 512]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S1024 : Shape := ⟨1, ![1024]⟩
abbrev S1024x2304 : Shape := ⟨2, ![1024, 2304]⟩
abbrev S8192x2304 : Shape := ⟨2, ![8192, 2304]⟩
abbrev S8192x8x64 : Shape := ⟨3, ![8192, 8, 64]⟩
abbrev S8192x8x8 : Shape := ⟨3, ![8192, 8, 8]⟩
abbrev S8192x8x16 : Shape := ⟨3, ![8192, 8, 16]⟩
abbrev S8192x8x48 : Shape := ⟨3, ![8192, 8, 48]⟩
abbrev S8192x2x64 : Shape := ⟨3, ![8192, 2, 64]⟩
abbrev S8192x2x8 : Shape := ⟨3, ![8192, 2, 8]⟩
abbrev S8192x2x16 : Shape := ⟨3, ![8192, 2, 16]⟩
abbrev S8192x2x48 : Shape := ⟨3, ![8192, 2, 48]⟩
abbrev S3x512 : Shape := ⟨2, ![3, 512]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩

abbrev nBuf : Space → Nat
  | .hbm => 227
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8192x512, .f32⟩
  | 4 => ⟨S8192x512, .f32⟩
  | 5 => ⟨S8192x1024, .f32⟩
  | 6 => ⟨S8192x1024, .f32⟩
  | 7 => ⟨S1x1024, .f32⟩
  | 8 => ⟨S1x1024x2304, .f32⟩
  | 9 => ⟨S1x3x512, .f32⟩
  | 10 => ⟨S8192, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S8192x1, .f32⟩
  | 26 => ⟨S1x8, .f32⟩
  | 27 => ⟨S8192x8, .f32⟩
  | 28 => ⟨S8192x8, .f32⟩
  | 29 => ⟨S8192x8, .f32⟩
  | 30 => ⟨S8192x8, .f32⟩
  | 31 => ⟨S8192x1x8, .f32⟩
  | 32 => ⟨S8192x8, .f32⟩
  | 33 => ⟨S8192x1x8, .f32⟩
  | 34 => ⟨S1024, .f32⟩
  | 35 => ⟨S8192x1024, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S1024x2304, .f32⟩
  | 56 => ⟨S8192x2304, .f32⟩
  | 57 => ⟨S8192x512, .f32⟩
  | 58 => ⟨S8192x128, .f32⟩
  | 59 => ⟨S8192x128, .f32⟩
  | 60 => ⟨S8192x512, .f32⟩
  | 61 => ⟨S8192x512, .f32⟩
  | 62 => ⟨S8192x512, .f32⟩
  | 63 => ⟨S8192x8x64, .f32⟩
  | 64 => ⟨S8192x8x8, .f32⟩
  | 65 => ⟨S8192x8x8, .f32⟩
  | 66 => ⟨S8192x8x8, .f32⟩
  | 67 => ⟨S8192x8x8, .f32⟩
  | 68 => ⟨S8192x8x8, .f32⟩
  | 69 => ⟨S8192x8x8, .f32⟩
  | 70 => ⟨S8192x8x8, .f32⟩
  | 71 => ⟨S8192x8x8, .f32⟩
  | 72 => ⟨S8192x8x8, .f32⟩
  | 73 => ⟨S8192x8x8, .f32⟩
  | 74 => ⟨S8192x8x8, .f32⟩
  | 75 => ⟨S8192x8x8, .f32⟩
  | 76 => ⟨S8192x8x16, .f32⟩
  | 77 => ⟨S8192x8x48, .f32⟩
  | 78 => ⟨S8192x8x64, .f32⟩
  | 79 => ⟨S8192x512, .f32⟩
  | 80 => ⟨S8192x2x64, .f32⟩
  | 81 => ⟨S8192x2x8, .f32⟩
  | 82 => ⟨S8192x2x8, .f32⟩
  | 83 => ⟨S8192x2x8, .f32⟩
  | 84 => ⟨S8192x2x8, .f32⟩
  | 85 => ⟨S8192x2x8, .f32⟩
  | 86 => ⟨S8192x2x8, .f32⟩
  | 87 => ⟨S8192x2x8, .f32⟩
  | 88 => ⟨S8192x2x8, .f32⟩
  | 89 => ⟨S8192x2x8, .f32⟩
  | 90 => ⟨S8192x2x8, .f32⟩
  | 91 => ⟨S8192x2x8, .f32⟩
  | 92 => ⟨S8192x2x8, .f32⟩
  | 93 => ⟨S8192x2x16, .f32⟩
  | 94 => ⟨S8192x2x48, .f32⟩
  | 95 => ⟨S8192x2x64, .f32⟩
  | 96 => ⟨S8192x128, .f32⟩
  | 97 => ⟨S8192x512, .f32⟩
  | 98 => ⟨S3x512, .f32⟩
  | 99 => ⟨S_, .f32⟩
  | 100 => ⟨S2x512, .f32⟩
  | 101 => ⟨S8194x512, .f32⟩
  | 102 => ⟨S_, .f32⟩
  | 103 => ⟨S2x512, .f32⟩
  | 104 => ⟨S8192x512, .f32⟩
  | 105 => ⟨S1x512, .f32⟩
  | 106 => ⟨S512, .f32⟩
  | 107 => ⟨S1x512, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192x512, .f32⟩
  | 114 => ⟨S1x512, .f32⟩
  | 115 => ⟨S512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S1x512, .f32⟩
  | 122 => ⟨S512, .f32⟩
  | 123 => ⟨S1x512, .f32⟩
  | 124 => ⟨S8192x512, .f32⟩
  | 125 => ⟨S8192x512, .f32⟩
  | 126 => ⟨S8192x512, .f32⟩
  | 127 => ⟨S8192x512, .f32⟩
  | _ => ⟨S8192x512, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8194x512, .f32⟩
  | 5 => ⟨S8192x512, .f32⟩
  | 6 => ⟨S8192x512, .f32⟩
  | 7 => ⟨S_, .f32⟩
  | 8 => ⟨S8194x512, .f32⟩
  | 9 => ⟨S8194x512, .f32⟩
  | 10 => ⟨S8192x512, .f32⟩
  | 11 => ⟨S8192x512, .f32⟩
  | 12 => ⟨S_, .f32⟩
  | 13 => ⟨S8194x512, .f32⟩
  | 14 => ⟨S8194x512, .f32⟩
  | 15 => ⟨S2x512, .f32⟩
  | 16 => ⟨S8192x512, .f32⟩
  | 17 => ⟨S8192x512, .f32⟩
  | 18 => ⟨S8192x512, .f32⟩
  | 19 => ⟨S8192x2x64, .f32⟩
  | 20 => ⟨S8192x2x16, .f32⟩
  | 21 => ⟨S8192x2x48, .f32⟩
  | 22 => ⟨S_, .f32⟩
  | 23 => ⟨S8192x2x64, .f32⟩
  | 24 => ⟨S8192x2x8, .f32⟩
  | 25 => ⟨S8192x2x8, .f32⟩
  | 26 => ⟨S8192x2x8, .f32⟩
  | 27 => ⟨S8192x2x8, .f32⟩
  | 28 => ⟨S8192x2x8, .f32⟩
  | 29 => ⟨S8192x2x8, .f32⟩
  | 30 => ⟨S8192x2x8, .f32⟩
  | 31 => ⟨S8192x2x8, .f32⟩
  | 32 => ⟨S8192x2x8, .f32⟩
  | 33 => ⟨S8192x2x8, .f32⟩
  | 34 => ⟨S8192x2x8, .f32⟩
  | 35 => ⟨S8192x2x8, .f32⟩
  | 36 => ⟨S8192x2x8, .f32⟩
  | 37 => ⟨S_, .f32⟩
  | 38 => ⟨S8192x2x64, .f32⟩
  | 39 => ⟨S8192x2x64, .f32⟩
  | 40 => ⟨S_, .f32⟩
  | 41 => ⟨S8192x2x64, .f32⟩
  | 42 => ⟨S8192x2x64, .f32⟩
  | 43 => ⟨S8192x128, .f32⟩
  | 44 => ⟨S8192x8x64, .f32⟩
  | 45 => ⟨S8192x8x16, .f32⟩
  | 46 => ⟨S8192x8x48, .f32⟩
  | 47 => ⟨S_, .f32⟩
  | 48 => ⟨S8192x8x64, .f32⟩
  | 49 => ⟨S8192x8x8, .f32⟩
  | 50 => ⟨S8192x8x8, .f32⟩
  | 51 => ⟨S8192x8x8, .f32⟩
  | 52 => ⟨S8192x8x8, .f32⟩
  | 53 => ⟨S8192x8x8, .f32⟩
  | 54 => ⟨S8192x8x8, .f32⟩
  | 55 => ⟨S8192x8x8, .f32⟩
  | 56 => ⟨S8192x8x8, .f32⟩
  | 57 => ⟨S8192x8x8, .f32⟩
  | 58 => ⟨S8192x8x8, .f32⟩
  | 59 => ⟨S8192x8x8, .f32⟩
  | 60 => ⟨S8192x8x8, .f32⟩
  | 61 => ⟨S8192x8x8, .f32⟩
  | 62 => ⟨S_, .f32⟩
  | 63 => ⟨S8192x8x64, .f32⟩
  | 64 => ⟨S8192x8x64, .f32⟩
  | 65 => ⟨S_, .f32⟩
  | 66 => ⟨S8192x8x64, .f32⟩
  | 67 => ⟨S8192x8x64, .f32⟩
  | 68 => ⟨S8192x512, .f32⟩
  | 69 => ⟨S8192x2304, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S8192x1024, .f32⟩
  | 76 => ⟨S8192x1024, .f32⟩
  | 77 => ⟨S_, .f32⟩
  | 78 => ⟨S1024, .f32⟩
  | 79 => ⟨S8192x1024, .f32⟩
  | 80 => ⟨S_, .f32⟩
  | 81 => ⟨S8192, .f32⟩
  | 82 => ⟨S8192x1, .f32⟩
  | 83 => ⟨S8192x1024, .f32⟩
  | 84 => ⟨S8192x1024, .f32⟩
  | 85 => ⟨S8192x1, .f32⟩
  | 86 => ⟨S_, .f32⟩
  | 87 => ⟨S8192x1, .f32⟩
  | 88 => ⟨S8192x1, .f32⟩
  | 89 => ⟨S_, .f32⟩
  | 90 => ⟨S8192, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S1x1024, .f32⟩
  | 97 => ⟨S8192x2304, .bf16⟩
  | 98 => ⟨S8192x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_7 : Ref sig .tc := ⟨.hbm, 99, rfl⟩
abbrev main_v81 : Ref sig .tc := ⟨.hbm, 100, rfl⟩
abbrev main_v82 : Ref sig .tc := ⟨.hbm, 101, rfl⟩
abbrev main_cst_8 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_9 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_10 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_11 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_12 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_13 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_14 : Ref sig .tc := ⟨.hbm, 165, rfl⟩
abbrev main_v140 : Ref sig .tc := ⟨.hbm, 166, rfl⟩
abbrev main_v141 : Ref sig .tc := ⟨.hbm, 167, rfl⟩
abbrev main_cst_15 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_cst_16 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_17 : Ref sig .tc := ⟨.hbm, 190, rfl⟩
abbrev main_v162 : Ref sig .tc := ⟨.hbm, 191, rfl⟩
abbrev main_v163 : Ref sig .tc := ⟨.hbm, 192, rfl⟩
abbrev main_cst_18 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_cst_19 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_cst_20 : Ref sig .tc := ⟨.hbm, 205, rfl⟩
abbrev main_v174 : Ref sig .tc := ⟨.hbm, 206, rfl⟩
abbrev main_v175 : Ref sig .tc := ⟨.hbm, 207, rfl⟩
abbrev main_cst_21 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_cst_22 : Ref sig .tc := ⟨.hbm, 214, rfl⟩
abbrev main_v181 : Ref sig .tc := ⟨.hbm, 215, rfl⟩
abbrev main_v182 : Ref sig .tc := ⟨.hbm, 216, rfl⟩
abbrev main_cst_23 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩

abbrev nD : Nat := 1
abbrev τ : Topo := Topo.v7x

variable {F : FTy → Type} [FloatOps F]
-- ==== Kernel5.lean ====
abbrev S8192x512 : Shape := ⟨2, ![8192, 512]⟩
abbrev S1x3x512 : Shape := ⟨3, ![1, 3, 512]⟩
abbrev S1x512 : Shape := ⟨2, ![1, 512]⟩
abbrev S1x1024x1024 : Shape := ⟨3, ![1, 1024, 1024]⟩
abbrev S3x512 : Shape := ⟨2, ![3, 512]⟩
abbrev S1024x1024 : Shape := ⟨2, ![1024, 1024]⟩
abbrev S8x128x1024 : Shape := ⟨3, ![8, 128, 1024]⟩
abbrev S8192x1024 : Shape := ⟨2, ![8192, 1024]⟩
abbrev S1024x512 : Shape := ⟨2, ![1024, 512]⟩
abbrev S16x512 : Shape := ⟨2, ![16, 512]⟩
abbrev S1040x512 : Shape := ⟨2, ![1040, 512]⟩
abbrev S1024 : Shape := ⟨1, ![1024]⟩
abbrev S1024x1 : Shape := ⟨2, ![1024, 1]⟩

abbrev nBuf : Space → Nat
  | .hbm => 18
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x3x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S3x512, .f32⟩
  | .hbm, ⟨13, _⟩ => ⟨S1024x1024, .f32⟩
  | .hbm, ⟨14, _⟩ => ⟨S1024x1024, .bf16⟩
  | .hbm, ⟨15, _⟩ => ⟨S8x128x1024, .bf16⟩
  | .hbm, ⟨16, _⟩ => ⟨S8192x1024, .bf16⟩
  | .hbm, ⟨17, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S8x128x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8192x512 : Shape := ⟨2, ![8192, 512]⟩
abbrev S1x3x512 : Shape := ⟨3, ![1, 3, 512]⟩
abbrev S1x512 : Shape := ⟨2, ![1, 512]⟩
abbrev S1x1024x1024 : Shape := ⟨3, ![1, 1024, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S3x512 : Shape := ⟨2, ![3, 512]⟩
abbrev S2x512 : Shape := ⟨2, ![2, 512]⟩
abbrev S8194x512 : Shape := ⟨2, ![8194, 512]⟩
abbrev S8192x1024 : Shape := ⟨2, ![8192, 1024]⟩
abbrev S1024x1024 : Shape := ⟨2, ![1024, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x3x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S3x512, .f32⟩
  | .hbm, ⟨27, _⟩ => ⟨S_, .f32⟩
  | .hbm, ⟨28, _⟩ => ⟨S2x512, .f32⟩
  | .hbm, ⟨29, _⟩ => ⟨S8194x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1x512, .f32⟩
  | .hbm, ⟨48, _⟩ => ⟨S512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S512, .f32⟩
  | .hbm, ⟨55, _⟩ => ⟨S8192x512, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x512, .f32⟩
  | .hbm, ⟨67, _⟩ => ⟨S8192x512, .f32⟩
  | .hbm, ⟨68, _⟩ => ⟨S1x512, .f32⟩
  | .hbm, ⟨69, _⟩ => ⟨S8192x512, .f32⟩
  | .hbm, ⟨70, _⟩ => ⟨S8192x512, .f32⟩
  | .hbm, ⟨71, _⟩ => ⟨S8192x1024, .f32⟩
  | .hbm, ⟨72, _⟩ => ⟨S1024x1024, .f32⟩
  | .hbm, ⟨73, _⟩ => ⟨S8192x1024, .f32⟩
  | .hbm, ⟨74, _⟩ => ⟨S8192x1024, .bf16⟩
  | .hbm, ⟨75, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Proof.Lift.lean ====
/-
  Sums and products of reals inside the extended reals, and the float words that the programs hold: everything that the
  modules of the single calls need in order to compute with real numbers where their arguments are finite.
-/
module

public import Idealize.ShloMosaic.PureOps.Ideal
public import Idealize.ShloMosaic.PureOps.Ideal.Laws
public import Idealize.ShloMosaic.Lib.Pointwise.Index
public import Idealize.ShloMosaic.Lib.StableHlo

@[expose] public section

noncomputable section

namespace Cert.Lift

open Idealize.ShloMosaic

/-- The real numbers lie in the extended reals as an additive monoid. -/
def coeHom : ℝ →+ EReal where
  toFun x := x
  map_zero' := EReal.coe_zero
  map_add' := EReal.coe_add

/-- A sum of reals, taken in the extended reals. -/
@[norm_cast] theorem coe_sum {ι : Type*} (s : Finset ι) (f : ι → ℝ) : ((∑ i ∈ s, f i : ℝ) : EReal) = ∑ i ∈ s, (f i : EReal) :=
  map_sum coeHom f s

/-- A value below `+∞` in absolute value is a real number. -/
theorem exists_real {x : EReal} (h : max x (-x) < ⊤) : ∃ r : ℝ, x = r := by
  induction x with
  | bot => simp at h
  | top => simp at h
  | coe r => exact ⟨r, rfl⟩

theorem ofBits_inf : Ideal.ofBits .f32 0x7F800000#32 = ⊤ := by simp [Ideal.ofBits, Ideal.ieee]

/-- The number of columns of a group's norm. -/
theorem ofBits_512 : Ideal.ofBits .f32 0x44000000#32 = ((512 : ℝ) : EReal) := by
  simp [Ideal.ofBits, Ideal.ieee, -EReal.coe_mul]; norm_num

/-- The number that the norms add to a mean of squares. -/
def eps : ℝ := 8796093 / 2 ^ 43

theorem eps_pos : 0 < eps := by unfold eps; norm_num

theorem ofBits_eps : Ideal.ofBits .f32 0x358637BD#32 = ((eps : ℝ) : EReal) := by
  simp [Ideal.ofBits, Ideal.ieee, -EReal.coe_mul, eps]; norm_num

theorem ofBits_neg_half : Ideal.ofBits .f32 0xBF000000#32 = ((-(1 / 2) : ℝ) : EReal) := by
  simp [Ideal.ofBits, Ideal.ieee, -EReal.coe_mul]; norm_num

/-- Division of a real number by a real number other than zero. -/
theorem div_real (x : ℝ) {y : ℝ} (h : y ≠ 0) : Ideal.div (x : EReal) (y : EReal) = ((x / y : ℝ) : EReal) := by
  rw [Ideal.div_coe h, ← EReal.coe_mul]; congr 1; ring

/-- Division of a real number by the number of columns of a group. -/
theorem div_512 (x : ℝ) : Ideal.div (x : EReal) ((512 : ℝ) : EReal) = ((x / 512 : ℝ) : EReal) := div_real x (by norm_num)

/-- The reciprocal root of a positive real number. -/
theorem rsqrt_real {x : ℝ} (h : 0 < x) : Ideal.rsqrt (x : EReal) = (((√x)⁻¹ : ℝ) : EReal) := by
  rw [Ideal.rsqrt_coe, if_neg (not_lt.mpr h.le), if_neg h.ne']

/-- A matrix of extended reals that holds real numbers. -/
def Holds {n m : ℕ} (A : (⟨2, ![n, m]⟩ : Shape).Idx → EReal) (a : Fin n → Fin m → ℝ) : Prop :=
  ∀ i j, A (ix2 i j) = (a i j : EReal)

/-- An array that compares below `+∞` in absolute value everywhere holds real numbers only. -/
theorem finite_of_olt {s z : Shape} {dims : Fin z.rank → Fin s.rank} {hb : z.BroadcastsInDim s dims} {A : FVec Ideal s .f32}
    (h : cmpf .olt (Host.absf A) (broadcastInDim s dims hb (constant (F := Ideal) z .f32 0x7F800000#32)) = fun _ => 1#1) (i : s.Idx) :
    A i = ((A i).toReal : EReal) := by
  have h1 : BitVec.ofBool (decide (max (A i) (-(A i)) < Ideal.ofBits .f32 0x7F800000#32)) = 1#1 := congrFun h i
  rw [ofBits_inf] at h1
  obtain ⟨r, hr⟩ := exists_real (x := A i) (by by_contra hn; rw [decide_eq_false hn] at h1; exact absurd h1 (by decide))
  rw [hr, EReal.toReal_coe]

/-- The rows of a matrix as real numbers, zeros after its last. -/
def rows {n k : ℕ} (A : (⟨2, ![n, k]⟩ : Shape).Idx → EReal) (i : ℕ) (l : Fin k) : ℝ :=
  if h : i < n then (A (ix2 ⟨i, h⟩ l)).toReal else 0

theorem eq_rows {n k : ℕ} {A : (⟨2, ![n, k]⟩ : Shape).Idx → EReal} (hA : ∀ i, A i = ((A i).toReal : EReal)) (i : Fin n) (l : Fin k) :
    A (ix2 i l) = (rows A i l : EReal) := by
  rw [rows, dif_pos i.isLt]; exact hA _

end Cert.Lift

end
-- ==== Proof.Norm.lean ====
/-
  The root-mean-square norm of a row of real numbers and the gradient of it.
-/
module

public import proofs.«01_k».proof.Proof.Lift

@[expose] public section

noncomputable section

namespace Cert.Lift

variable {n : ℕ}

/-- The mean of a row's squares, with the constant of the norms added. -/
def meanSq (x : Fin n → ℝ) : ℝ := (∑ m, x m * x m) / n + eps

/-- The factor of a row's norm. -/
def rms (x : Fin n → ℝ) : ℝ := (√(meanSq x))⁻¹

theorem meanSq_pos (x : Fin n → ℝ) : 0 < meanSq x :=
  add_pos_of_nonneg_of_pos (div_nonneg (Finset.sum_nonneg fun m _ => mul_self_nonneg (x m)) n.cast_nonneg) eps_pos

/-- The gradient of `x ↦ x · rms x` at the row `x`, applied to the cotangent `t`. -/
def normBwd (x t : Fin n → ℝ) (l : Fin n) : ℝ :=
  rms x * (t l - x l * rms x * ((∑ m, t m * (x m * rms x)) / n))

theorem rms_sq (x : Fin n → ℝ) : rms x * rms x = 1 / meanSq x := by
  unfold rms
  rw [← mul_inv, Real.mul_self_sqrt (meanSq_pos x).le, one_div]

/-- The multiple of a row that is in the gradient of its norm, as the chain rule through the mean and the root gives it. -/
def slope (x t : Fin n → ℝ) : ℝ := (∑ m, x m * t m) * (-(1 / 2) * (rms x / meanSq x)) / n

/-- The gradient as the chain rule gives it. -/
theorem normBwd_chain (x t : Fin n → ℝ) (l : Fin n) :
    t l * rms x + (x l * slope x t + slope x t * x l) = normBwd x t l := by
  have h : ∑ m, t m * (x m * rms x) = (∑ m, x m * t m) * rms x := by
    rw [Finset.sum_mul]; exact Finset.sum_congr rfl fun m _ => by ring
  have hr : rms x / meanSq x = rms x * (rms x * rms x) := by rw [rms_sq]; ring
  unfold normBwd slope
  rw [h, hr]
  ring

end Cert.Lift

end
-- ==== Proof.MixSpec.lean ====
module

public import proofs.«01_k».proof.Proof.Norm

@[expose] public section

/-! # The gradients of the mixer, as real functions

A layer mixes the output `attn` of an attention with a gated convolution `gb * conv3 (gc * xin)`: each is divided by its root
mean square and scaled, and the two halves are multiplied by one weight matrix. The gradients of all that, row by row of the
sequence, and the sums over the rows. -/

noncomputable section

namespace Cert.Mix

open Cert.Lift Idealize.ShloMosaic

/-- The first and the second group of the columns of the mixed activations. -/
def lo (l : Fin 512) : Fin 1024 := ⟨l, by omega⟩
def hi (l : Fin 512) : Fin 1024 := ⟨512 + l, by omega⟩

/-- A sequence moved down by `k` rows, zeros before its first row. -/
def shift (U : ℕ → Fin 512 → ℝ) (k n : ℕ) (l : Fin 512) : ℝ := if n < k then 0 else U (n - k) l

/-- The convolution of a sequence with three rows of weights. -/
def conv3 (U : ℕ → Fin 512 → ℝ) (w : Fin 3 → Fin 512 → ℝ) (n : ℕ) (l : Fin 512) : ℝ :=
  w 0 l * shift U 2 n l + w 1 l * shift U 1 n l + w 2 l * U n l

/-- The finite arguments of the mixer's backward pass: the cotangent of the mixed activations, the two mixers' activations by
row, the weights. -/
structure In where
  dmix : ℕ → Fin 1024 → ℝ
  attn : ℕ → Fin 512 → ℝ
  gb : ℕ → Fin 512 → ℝ
  gc : ℕ → Fin 512 → ℝ
  xin : ℕ → Fin 512 → ℝ
  w : Fin 3 → Fin 512 → ℝ
  ga : Fin 512 → ℝ
  gcn : Fin 512 → ℝ
  wo : Fin 1024 → Fin 1024 → ℝ

namespace In

variable (x : In)

/-- The cotangent of the two normed halves. -/
def dmixed (n : ℕ) (e : Fin 1024) : ℝ := ∑ k, x.dmix n k * x.wo e k

/-- What the convolution is taken of. -/
def u (n : ℕ) (l : Fin 512) : ℝ := x.gc n l * x.xin n l

/-- The convolution. -/
def y (n : ℕ) (l : Fin 512) : ℝ := conv3 x.u x.w n l

/-- The gated convolution. -/
def z (n : ℕ) (l : Fin 512) : ℝ := x.gb n l * x.y n l

/-- The gradient of the attention's output. -/
def dattn (n : ℕ) (l : Fin 512) : ℝ := normBwd (x.attn n) (fun m => x.dmixed n (lo m) * x.ga m) l

/-- The gradient of the gated convolution. -/
def dz (n : ℕ) (l : Fin 512) : ℝ := normBwd (x.z n) (fun m => x.dmixed n (hi m) * x.gcn m) l

/-- The gradient of the gate. -/
def dgb (n : ℕ) (l : Fin 512) : ℝ := x.dz n l * x.y n l

/-- The gradient of the convolution. -/
def dy (n : ℕ) (l : Fin 512) : ℝ := x.dz n l * x.gb n l

/-- A row's part of the gradient of the attention's gain. -/
def dga (n : ℕ) (l : Fin 512) : ℝ := x.dmixed n (lo l) * (x.attn n l * rms (x.attn n))

/-- A row's part of the gradient of the convolution's gain. -/
def dgcn (n : ℕ) (l : Fin 512) : ℝ := x.dmixed n (hi l) * (x.z n l * rms (x.z n))

/-- A row's part of the gradient of the convolution's weights. -/
def dcw (n : ℕ) (j : Fin 3) (l : Fin 512) : ℝ := x.dy n l * shift x.u (2 - j) n l

end In

/-- The product that the mixer's pass is done beside: of a matrix's squares, transposed, and another matrix. -/
def gdown (u : (⟨2, ![8192, 4096]⟩ : Shape).Idx → EReal) (d : (⟨2, ![8192, 1024]⟩ : Shape).Idx → EReal) (e : Fin 4096) (k : Fin 1024) : EReal :=
  ∑ n : Fin 8192, u (ix2 n e) * u (ix2 n e) * d (ix2 n k)

end Cert.Mix

end
-- ==== Proof.MixPay.lean ====
/-
  What the body of the mixer's backward call computes of one tile of 512 rows, its inputs being real numbers.
-/
module

public import proofs.«01_k».proof.Proof.MixSpec
public import proofs.«01_k».proof.Proof.Gen.KernelIdeal.Skeleton
public import Idealize.ShloMosaic.Lib.Pointwise

@[expose] public section

noncomputable section

namespace Cert.Mix

open Idealize.ShloMosaic Cert.KernelIdeal Cert.KernelIdeal.Gen Cert.Lift

variable {dm : Fin 512 → Fin 1024 → ℝ} {v27 : FVec Ideal S512x1024 .f32}
variable {a : Fin 512 → Fin 512 → ℝ} {v28 : Vec Ideal S512x512 .bf16}

theorem pay10 (ha : Holds v28 a) (r : Fin 512) (z : Fin 1) : k0_pay10 (F := Ideal) v28 (ix2 r z) = (rms (a r) : EReal) := by
  have h : ((∑ m, a r m * a r m) / 512 + eps : ℝ) = meanSq (a r) := rfl
  unfold k0_pay10 k0_pay9
  pointwise
  simp only [ha _ _, ofBits_512, ofBits_eps, ← EReal.coe_mul, ← coe_sum, div_512, ← EReal.coe_add, h, rsqrt_real (meanSq_pos _)]
  rfl

theorem pay11 (ha : Holds v28 a) : Holds (k0_pay11 (F := Ideal) v28) fun r l => a r l * rms (a r) := by
  intro r l
  unfold k0_pay11 k0_pay9
  pointwise
  simp only [ha _ _, pay10 ha, ← EReal.coe_mul]

theorem pay12 (hd : Holds v27 dm) : Holds (k0_pay12 (F := Ideal) v27) fun r l => dm r (lo l) := by
  intro r l
  unfold k0_pay12
  pointwise
  exact hd r (lo l)

theorem pay25 (hd : Holds v27 dm) : Holds (k0_pay25 (F := Ideal) v27) fun r l => dm r (hi l) := by
  intro r l
  unfold k0_pay25
  pointwise
  exact hd r (hi l)

theorem pay13 (hd : Holds v27 dm) (ha : Holds v28 a) (acc : Vec Ideal S1x512 .f32) (z : Fin 1) (l : Fin 512) :
    k0_pay13 (F := Ideal) v27 v28 acc (ix2 z l) = acc (ix2 z l) + (∑ r, dm r (lo l) * (a r l * rms (a r)) : ℝ) := by
  unfold k0_pay13
  pointwise
  simp only [pay12 hd _ _, pay11 ha _ _, ← EReal.coe_mul, ← coe_sum]

variable {v49 : Vec Ideal S1x512 .f32} {g : Fin 1 → Fin 512 → ℝ}

theorem pay14 (hd : Holds v27 dm) (ha : Holds v28 a) (hg : Holds v49 g) :
    Holds (k0_pay14 (F := Ideal) v27 v28 v49) fun r l => normBwd (a r) (fun m => dm r (lo m) * g 0 m) l := by
  intro r l
  unfold k0_pay14
  pointwise
  simp only [hg _ _, pay12 hd _ _, pay11 ha _ _, pay10 ha, ofBits_512, ← EReal.coe_mul, ← coe_sum, ← EReal.coe_sub, div_512]
  rfl

/-- The gradient of a norm in the form that the convolution's branch computes, the norm's factor and the normed row given. -/
theorem pay27 {x t : Fin 512 → Fin 512 → ℝ} {v109 : FVec Ideal S512x1 .f32} {v111 v112 : FVec Ideal S512x512 .f32}
    {v120 : Vec Ideal S1x512 .f32} (h9 : ∀ r z, v109 (ix2 r z) = (rms (x r) : EReal)) (h1 : Holds v111 fun r l => x r l * rms (x r))
    (h2 : Holds v112 t) (hg : Holds v120 g) :
    Holds (k0_pay27 (F := Ideal) v109 v111 v112 v120) fun r l => normBwd (x r) (fun m => t r m * g 0 m) l := by
  intro r l
  unfold k0_pay27
  pointwise
  simp only [hg _ _, h1 _ _, h2 _ _, h9, ofBits_512, ← EReal.coe_mul, ← coe_sum, ← EReal.coe_sub, div_512]
  rfl

/-! ## The causal convolution: a tile of its input, with the sixteen rows before the tile -/

/-- The tile at row `b` of the sequence `U`, a product of two arrays of which the call reads the tile and, unless it is the
    first tile, the sixteen rows before it. -/
structure Tile (U : ℕ → Fin 512 → ℝ) (b : ℕ) (c : BitVec 1) (v68 v69 : Vec Ideal S512x512 .bf16) (v71 v73 : Vec Ideal S16x512 .bf16) : Prop where
  own : ∀ (r l : Fin 512), v68 (ix2 r l) * v69 (ix2 r l) = (U (b + r) l : EReal)
  first : c = 1#1 → b = 0
  before : c ≠ 1#1 → 16 ≤ b ∧ ∀ (i : Fin 16) (l : Fin 512), v71 (ix2 i l) * v73 (ix2 i l) = (U (b - 16 + i) l : EReal)

variable {U : ℕ → Fin 512 → ℝ} {b : ℕ} {c : BitVec 1} {v68 v69 : Vec Ideal S512x512 .bf16} {v71 v73 : Vec Ideal S16x512 .bf16}

theorem pay17 (h : Tile U b c v68 v69 v71 v73) : Holds (k0_pay17 (F := Ideal) v68 v69) fun r l => U (b + r) l := by
  intro r l
  unfold k0_pay17
  pointwise
  exact h.own r l

/-- Row `n` of the tile with the sixteen rows before it. -/
theorem pay18 (h : Tile U b c v68 v69 v71 v73) (n : Fin 528) (l : Fin 512) (k : ℕ) (r : Fin 512) (hk : k ≤ 16) (hn : n.val + k = 16 + r.val) :
    k0_pay18 (F := Ideal) c v68 v69 v71 v73 (ix2 n l) = (shift U k (b + r) l : EReal) := by
  unfold k0_pay18 k0_pay17
  pointwise
  split
  · rename_i hlt
    by_cases hc : c = 1#1
    · have h0 := h.first hc
      have : shift U k (b + r) l = 0 := if_pos (by omega)
      rw [this, hc]
      rfl
    · obtain ⟨hb, h'⟩ := h.before hc
      have hs : shift U k (b + r) l = U (b - 16 + n.val) l := by
        unfold shift
        rw [if_neg (by omega)]
        congr 1
        omega
      have hc' : c = 0#1 := ValueIdx.eq_zero_of_ne_one hc
      rw [hs, hc']
      exact h' ⟨n.val, hlt⟩ l
  · have hs : shift U k (b + r) l = U (b + (n.val - 16)) l := by
      unfold shift
      rw [if_neg (by omega)]
      congr 1
      omega
    rw [hs]
    exact h.own ⟨n.val - 16, by omega⟩ l

theorem pay19 (h : Tile U b c v68 v69 v71 v73) : Holds (k0_pay19 (F := Ideal) c v68 v69 v71 v73) fun r l => shift U 1 (b + r) l := by
  intro r l
  unfold k0_pay19
  pointwise
  exact pay18 h _ l 1 r (by omega) (by dsimp only; omega)

theorem pay20 (h : Tile U b c v68 v69 v71 v73) : Holds (k0_pay20 (F := Ideal) c v68 v69 v71 v73) fun r l => shift U 2 (b + r) l := by
  intro r l
  unfold k0_pay20
  pointwise
  exact pay18 h _ l 2 r (by omega) (by dsimp only; omega)

variable {v75 : Vec Ideal S3x512 .f32} {w : Fin 3 → Fin 512 → ℝ}

theorem pay21 (h : Tile U b c v68 v69 v71 v73) (hw : Holds v75 w) :
    Holds (k0_pay21 (F := Ideal) c v68 v69 v71 v73 v75) fun r l => conv3 U w (b + r) l := by
  intro r l
  unfold k0_pay21
  pointwise
  simp only [pay17 h _ _, pay19 h _ _, pay20 h _ _, hw _ _, ← EReal.coe_mul, ← EReal.coe_add]
  rfl

variable {v66 : FVec Ideal S512x512 .f32} {gb : Fin 512 → Fin 512 → ℝ}

theorem pay22 (h : Tile U b c v68 v69 v71 v73) (hw : Holds v75 w) (hb : Holds v66 gb) :
    Holds (k0_pay22 (F := Ideal) c v66 v68 v69 v71 v73 v75) fun r l => gb r l * conv3 U w (b + r) l := by
  intro r l
  unfold k0_pay22
  pointwise
  simp only [pay21 h hw _ _, hb _ _, ← EReal.coe_mul]

theorem pay23 (h : Tile U b c v68 v69 v71 v73) (hw : Holds v75 w) (hb : Holds v66 gb) (r : Fin 512) (z : Fin 1) :
    k0_pay23 (F := Ideal) c v66 v68 v69 v71 v73 v75 (ix2 r z) = (rms (fun m => gb r m * conv3 U w (b + r) m) : EReal) := by
  have h' : ((∑ m, gb r m * conv3 U w (b + r) m * (gb r m * conv3 U w (b + r) m)) / 512 + eps : ℝ)
    = meanSq fun m => gb r m * conv3 U w (b + r) m := rfl
  unfold k0_pay23
  pointwise
  simp only [pay22 h hw hb _ _, ofBits_512, ofBits_eps, ← EReal.coe_mul, ← coe_sum, div_512, ← EReal.coe_add, h', rsqrt_real (meanSq_pos _)]
  rfl

theorem pay24 (h : Tile U b c v68 v69 v71 v73) (hw : Holds v75 w) (hb : Holds v66 gb) :
    Holds (k0_pay24 (F := Ideal) c v66 v68 v69 v71 v73 v75)
      fun r l => gb r l * conv3 U w (b + r) l * rms (fun m => gb r m * conv3 U w (b + r) m) := by
  intro r l
  unfold k0_pay24
  pointwise
  simp only [pay22 h hw hb _ _, pay23 h hw hb, ← EReal.coe_mul]

/-! ## Column sums added to a row, and products of two matrices -/

variable {x y : Fin 512 → Fin 512 → ℝ} {v109 : FVec Ideal S512x1 .f32} {v111 v112 : FVec Ideal S512x512 .f32} {v120 : Vec Ideal S1x512 .f32}

theorem pay26 (h1 : Holds v111 x) (h2 : Holds v112 y) (acc : Vec Ideal S1x512 .f32) (z : Fin 1) (l : Fin 512) :
    k0_pay26 (F := Ideal) v111 v112 acc (ix2 z l) = acc (ix2 z l) + (∑ r, y r l * x r l : ℝ) := by
  unfold k0_pay26
  pointwise
  simp only [h1 _ _, h2 _ _, ← EReal.coe_mul, ← coe_sum]

variable {d : Fin 512 → Fin 512 → ℝ}

theorem pay28 (hd : Holds (k0_pay27 (F := Ideal) v109 v111 v112 v120) d) {v100 : FVec Ideal S512x512 .f32} (h0 : Holds v100 y) :
    Holds (k0_pay28 (F := Ideal) v100 v109 v111 v112 v120) fun r l => d r l * y r l := by
  intro r l
  unfold k0_pay28
  pointwise
  simp only [hd _ _, h0 _ _, ← EReal.coe_mul]

theorem pay29 (hd : Holds (k0_pay27 (F := Ideal) v109 v111 v112 v120) d) (hb : Holds v66 gb) :
    Holds (k0_pay29 (F := Ideal) v66 v109 v111 v112 v120) fun r l => d r l * gb r l := by
  intro r l
  unfold k0_pay29
  pointwise
  simp only [hd _ _, hb _ _, ← EReal.coe_mul]

theorem pay30 (hd : Holds (k0_pay27 (F := Ideal) v109 v111 v112 v120) d) (hb : Holds v66 gb) :
    Holds (k0_pay30 (F := Ideal) v66 v109 v111 v112 v120) fun r l => d r l * gb r l := by
  intro r l
  unfold k0_pay30
  pointwise
  exact pay29 hd hb r l

theorem pay31 (hd : Holds (k0_pay29 (F := Ideal) v66 v109 v111 v112 v120) d) {v89 : FVec Ideal S512x512 .f32} (h0 : Holds v89 y)
    (acc : Vec Ideal S1x512 .f32) (z : Fin 1) (l : Fin 512) :
    k0_pay31 (F := Ideal) v66 v89 v109 v111 v112 v120 acc (ix2 z l) = acc (ix2 z l) + (∑ r, d r l * y r l : ℝ) := by
  unfold k0_pay31
  pointwise
  simp only [hd _ _, h0 _ _, ← EReal.coe_mul, ← coe_sum]

theorem pay1 (hd : Holds (k0_pay29 (F := Ideal) v66 v109 v111 v112 v120) d) {v87 : FVec Ideal S512x512 .f32} (h0 : Holds v87 y)
    (acc : Vec Ideal S1x512 .f32) (z : Fin 1) (l : Fin 512) :
    k0_pay1 (F := Ideal) (k0_pay32 acc) (k0_pay33 v66 v87 v109 v111 v112 v120) (ix2 z l) = acc (ix2 z l) + (∑ r, d r l * y r l : ℝ) := by
  unfold k0_pay1 k0_pay32 k0_pay33
  pointwise
  simp only [hd _ _, h0 _ _, ← EReal.coe_mul, ← coe_sum]

theorem pay2 {v79 v136 : FVec Ideal S512x512 .f32} (hd : Holds v136 d) (h0 : Holds v79 y) (acc : Vec Ideal S1x512 .f32) (z : Fin 1) (l : Fin 512) :
    k0_pay2 (F := Ideal) v79 v136 acc (ix2 z l) = acc (ix2 z l) + (∑ r, d r l * y r l : ℝ) := by
  unfold k0_pay2
  pointwise
  simp only [hd _ _, h0 _ _, ← EReal.coe_mul, ← coe_sum]

/-- The cotangent of the mixed activations: a product with the transposed weights, which lie in eight parts of 128 rows. -/
theorem pay8 {v22 : Vec Ideal S512x1024 .bf16} {v24 : Vec Ideal S8x128x1024 .bf16} {x : Fin 512 → Fin 1024 → ℝ} {w : Fin 1024 → Fin 1024 → ℝ}
    (hx : Holds v22 x) (hw : ∀ (p : Fin 8) (q : Fin 128) (k : Fin 1024), v24 (ix3 p q k) = (w ⟨128 * p + q, by omega⟩ k : EReal)) :
    Holds (k0_pay8 (F := Ideal) v22 v24) fun r e => ∑ k, x r k * w e k := by
  intro r e
  have he : (⟨128 * (e.val / 128) + e.val % 128, by omega⟩ : Fin 1024) = e := Fin.ext (by dsimp only; omega)
  unfold k0_pay8
  pointwise
  simp only [hx _ _, hw, he, ← EReal.coe_mul, ← coe_sum]

theorem pay15 {v64 : Vec Ideal S512x512 .bf16} (h : Holds v64 gb) : Holds (k0_pay15 (F := Ideal) v64) gb := by
  intro r l
  unfold k0_pay15
  pointwise
  exact h r l

theorem pay16 (v67 : Vec Ideal S512x512 .bf16) : k0_pay16 (F := Ideal) v67 = v67 := by
  unfold k0_pay16
  rw [shapeCast_self]

/-- One step of the weight gradient of the second product of the perceptron: no argument need be finite. -/
theorem pay4 (v3 v11 : Vec Ideal S2048x1024 .bf16) (v9 : Vec Ideal S1x2x512x1024 .f32) (z : Fin 1) (p : Fin 2) (q : Fin 512) (k : Fin 1024) :
    k0_pay4 (F := Ideal) v3 v9 v11 (ix4 z p q k)
      = v9 (ix4 z p q k) + ∑ r : Fin 2048, v3 (ix2 r ⟨p * 512 + q, by omega⟩) * v3 (ix2 r ⟨p * 512 + q, by omega⟩) * v11 (ix2 r k) := by
  unfold k0_pay4
  pointwise

end Cert.Mix

end
-- ==== Proof.MixBlocks.lean ====
module

public import proofs.«01_k».proof.Proof.MixPay
public import proofs.«01_k».proof.Proof.Gen.KernelIdeal.Frame
public import Idealize.ShloMosaic.Lib.Pipeline.Value
public import Idealize.ShloMosaic.Lib.Pipeline.ValueKit.Point

@[expose] public section

/-! # What the blocks of the mixer's backward call hold

At grid point `t` the call reads rows `512 t` to `512 t + 511` of each array of rows, the sixteen rows before them of the two
factors of the convolution's input, and the whole weights. -/

noncomputable section

namespace Cert.Mix

open Idealize.ShloMosaic Idealize.ShloMosaic.TcCoe Idealize.SL.Sem Cert.KernelIdeal Cert.KernelIdeal.Gen Cert.Lift

/-- The memory's arguments hold the finite arrays `x`. -/
structure Args (x : In) (m : (ℓ : Loc nD τ sig) → Buf (Elt Ideal) ℓ) (c : Dev nD) : Prop where
  dmix : ∀ (n : Fin 8192) (k : Fin 1024), m (c.tc.loc main_arg0) (ix2 n k) = (x.dmix n k : EReal)
  attn : ∀ (n : Fin 8192) (l : Fin 512), m (c.tc.loc main_arg1) (ix2 n l) = (x.attn n l : EReal)
  gb : ∀ (n : Fin 8192) (l : Fin 512), m (c.tc.loc main_arg2) (ix2 n l) = (x.gb n l : EReal)
  gc : ∀ (n : Fin 8192) (l : Fin 512), m (c.tc.loc main_arg3) (ix2 n l) = (x.gc n l : EReal)
  xin : ∀ (n : Fin 8192) (l : Fin 512), m (c.tc.loc main_arg4) (ix2 n l) = (x.xin n l : EReal)
  w : ∀ (z : Fin 1) (j : Fin 3) (l : Fin 512), m (c.tc.loc main_arg5) (ix3 z j l) = (x.w j l : EReal)
  ga : ∀ (z : Fin 1) (l : Fin 512), m (c.tc.loc main_arg6) (ix2 z l) = (x.ga l : EReal)
  gcn : ∀ (z : Fin 1) (l : Fin 512), m (c.tc.loc main_arg7) (ix2 z l) = (x.gcn l : EReal)
  wo : ∀ (z : Fin 1) (e k : Fin 1024), m (c.tc.loc main_arg8) (ix3 z e k) = (x.wo e k : EReal)

theorem idxRow : ∀ t : Fin cfg0.N, (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, _)

theorem idxHalo : ∀ t : Fin cfg0.N, (win0_7.index t 0 = 32 * t.val - 1 ∧ win0_7.index t 1 = 0)
    ∧ (win0_8.index t 0 = 32 * t.val - 1 ∧ win0_8.index t 1 = 0) :=
  (by decide +kernel : ∀ t : Fin grid0.N, _)

theorem idxWhole : ∀ t : Fin cfg0.N, (∀ a, win0_9.index t a = 0) ∧ (∀ a, win0_10.index t a = 0) ∧ (∀ a, win0_11.index t a = 0)
    ∧ (∀ a, win0_12.index t a = 0) :=
  (by decide +kernel : ∀ t : Fin grid0.N, _)

theorem idxUp : ∀ t : Fin cfg0.N, (win0_0.index t 0 = t.val % 4 ∧ win0_0.index t 1 = t.val / 4)
    ∧ (win0_1.index t 0 = t.val % 4 ∧ win0_1.index t 1 = 0) :=
  (by decide +kernel : ∀ t : Fin grid0.N, _)

theorem point_lt (t : Fin cfg0.N) : t.val < 16 := lt_of_lt_of_eq t.isLt Gen.N_0

/-- Set at the first point only. -/
def first (t : Fin cfg0.N) : BitVec 1 :=
  Scalar.andi (Scalar.cmpi CmpIPredicate.eq (BitVec.ofNat 32 ↑(grid0.coords t 0)) 0#32)
    (Scalar.cmpi CmpIPredicate.eq (BitVec.ofNat 32 ↑(grid0.coords t 1)) 0#32)

theorem first_iff : ∀ t : Fin cfg0.N, first t = 1#1 ↔ t.val = 0 := (by decide +kernel : ∀ t : Fin grid0.N, _)

section Perceptron

variable (m : (ℓ : Loc nD τ sig) → Buf (Elt Ideal) ℓ) (c : Dev nD) (t : Fin cfg0.N)

theorem blk0 (r : Fin 2048) (k : Fin 1024) : iblk m c 0 t (ix2 r k)
    = m (c.tc.loc main_arg9) (ix2 ⟨t.val % 4 * 2048 + r, by omega⟩ ⟨t.val / 4 * 1024 + k, by have := point_lt t; omega⟩) := by
  blk_ext! [iblk, V, idxUp t]

theorem blk1 (r : Fin 2048) (k : Fin 1024) : iblk m c 1 t (ix2 r k) = m (c.tc.loc main_arg10) (ix2 ⟨t.val % 4 * 2048 + r, by omega⟩ k) := by
  blk_ext! [iblk, V, idxUp t]

end Perceptron

variable {x : In} {m : (ℓ : Loc nD τ sig) → Buf (Elt Ideal) ℓ} {c : Dev nD} (h : Args x m c) (t : Fin cfg0.N)

include h

theorem blk2 : Holds (iblk m c 2 t) fun r k => x.dmix (512 * t + r) k := fun r k => by
  have := point_lt t
  rw [← h.dmix ⟨512 * t + r, by omega⟩ k]
  blk_ext! [iblk, V, idxRow t]

theorem blk3 : Holds (iblk m c 3 t) fun r l => x.attn (512 * t + r) l := fun r l => by
  have := point_lt t
  rw [← h.attn ⟨512 * t + r, by omega⟩ l]
  blk_ext! [iblk, V, idxRow t]

theorem blk4 : Holds (iblk m c 4 t) fun r l => x.gb (512 * t + r) l := fun r l => by
  have := point_lt t
  rw [← h.gb ⟨512 * t + r, by omega⟩ l]
  blk_ext! [iblk, V, idxRow t]

theorem blk5 : Holds (iblk m c 5 t) fun r l => x.gc (512 * t + r) l := fun r l => by
  have := point_lt t
  rw [← h.gc ⟨512 * t + r, by omega⟩ l]
  blk_ext! [iblk, V, idxRow t]

theorem blk6 : Holds (iblk m c 6 t) fun r l => x.xin (512 * t + r) l := fun r l => by
  have := point_lt t
  rw [← h.xin ⟨512 * t + r, by omega⟩ l]
  blk_ext! [iblk, V, idxRow t]

theorem blk7 (h0 : t.val ≠ 0) : Holds (iblk m c 7 t) fun r l => x.gc (512 * t - 16 + r) l := fun r l => by
  have := point_lt t
  rw [← h.gc ⟨512 * t - 16 + r, by omega⟩ l]
  blk_ext! [iblk, V, idxHalo t]

theorem blk8 (h0 : t.val ≠ 0) : Holds (iblk m c 8 t) fun r l => x.xin (512 * t - 16 + r) l := fun r l => by
  have := point_lt t
  rw [← h.xin ⟨512 * t - 16 + r, by omega⟩ l]
  blk_ext! [iblk, V, idxHalo t]

theorem blk9 : Holds (iblk m c 9 t) x.w := fun r l => by
  rw [← h.w 0 r l]
  blk_ext! [iblk, V, idxWhole t]

theorem blk10 : Holds (iblk m c 10 t) fun _ => x.ga := fun r l => by
  rw [← h.ga r l]
  blk_ext! [iblk, V, idxWhole t]

theorem blk11 : Holds (iblk m c 11 t) fun _ => x.gcn := fun r l => by
  rw [← h.gcn r l]
  blk_ext! [iblk, V, idxWhole t]

theorem blk12 (p : Fin 8) (q : Fin 128) (k : Fin 1024) : iblk m c 12 t (ix3 p q k) = (x.wo ⟨128 * p + q, by omega⟩ k : EReal) := by
  rw [← h.wo 0 ⟨128 * p + q, by omega⟩ k]
  blk_ext! [iblk, V, idxWhole t]

/-- The tile of the convolution's input at a point. -/
theorem tile : Tile x.u (512 * t) (first t) (k0_pay16 (iblk m c 5 t)) (iblk m c 6 t) (iblk m c 7 t) (iblk m c 8 t) where
  own r l := by rw [pay16, blk5 h t r l, blk6 h t r l, ← EReal.coe_mul]; rfl
  first h1 := by rw [(first_iff t).mp h1]
  before h1 := by
    have h0 : t.val ≠ 0 := fun h0 => h1 ((first_iff t).mpr h0)
    refine ⟨by omega, fun i l => ?_⟩
    rw [blk7 h t h0 i l, blk8 h t h0 i l, ← EReal.coe_mul]
    rfl

end Cert.Mix

end
-- ==== Proof.MixOut.lean ====
module

public import proofs.«01_k».proof.Proof.MixBlocks
public import Idealize.ShloMosaic.Lib.Pipeline.ReadBack

@[expose] public section

/-! # What the mixer's backward call leaves in its result arrays: the gradients by row -/

noncomputable section

namespace Cert.Mix

open Idealize.ShloMosaic Idealize.ShloMosaic.TcCoe Idealize.SL.Sem Cert.KernelIdeal Cert.KernelIdeal.Gen Cert.Lift

section Terms

variable (m : (ℓ : Loc nD τ sig) → Buf (Elt Ideal) ℓ) (c : Dev nD) (t : Fin cfg0.N)

/-- What the body computes on the way, from the blocks at a point: the cotangent of the two normed halves, … -/
abbrev tCot : FVec Ideal S512x1024 .f32 := k0_pay8 (F := Ideal) (iblk m c 2 t) (iblk m c 12 t)
/-- … the gate, … -/
abbrev tGate : FVec Ideal S512x512 .f32 := k0_pay15 (F := Ideal) (iblk m c 4 t)
/-- … the reciprocal root mean squares of the gated convolution, … -/
abbrev tRstd : FVec Ideal S512x1 .f32 := k0_pay23 (F := Ideal) (first t) (tGate m c t) (k0_pay16 (iblk m c 5 t)) (iblk m c 6 t) (iblk m c 7 t) (iblk m c 8 t) (iblk m c 9 t)
/-- … the gated convolution, normed, … -/
abbrev tNormed : FVec Ideal S512x512 .f32 := k0_pay24 (F := Ideal) (first t) (tGate m c t) (k0_pay16 (iblk m c 5 t)) (iblk m c 6 t) (iblk m c 7 t) (iblk m c 8 t) (iblk m c 9 t)

end Terms

variable {x : In} {m : (ℓ : Loc nD τ sig) → Buf (Elt Ideal) ℓ} {c : Dev nD} (h : Args x m c)

/-! ## The terms of a tile -/

section Tile

variable (t : Fin cfg0.N)

include h

theorem cot : Holds (tCot m c t) fun r e => x.dmixed (512 * t + r) e := pay8 (blk2 h t) (blk12 h t)

theorem gate : Holds (tGate m c t) fun r l => x.gb (512 * t + r) l := pay15 (blk4 h t)

theorem rstd (r : Fin 512) (z : Fin 1) : tRstd m c t (ix2 r z) = (rms (x.z (512 * t + r)) : EReal) :=
  pay23 (tile h t) (blk9 h t) (gate h t) r z

theorem normed : Holds (tNormed m c t) fun r l => x.z (512 * t + r) l * rms (x.z (512 * t + r)) :=
  pay24 (tile h t) (blk9 h t) (gate h t)

theorem cotHi : Holds (k0_pay25 (F := Ideal) (tCot m c t)) fun r l => x.dmixed (512 * t + r) (hi l) := pay25 (cot h t)

/-- The gradient of the gated convolution. -/
theorem dz : Holds (k0_pay27 (F := Ideal) (tRstd m c t) (tNormed m c t) (k0_pay25 (tCot m c t)) (iblk m c 11 t)) fun r l => x.dz (512 * t + r) l :=
  pay27 (x := fun r => x.z (512 * t + r)) (rstd h t) (normed h t) (cotHi h t) (blk11 h t)

/-- The gradient of the convolution. -/
theorem dy : Holds (k0_pay29 (F := Ideal) (tGate m c t) (tRstd m c t) (tNormed m c t) (k0_pay25 (tCot m c t)) (iblk m c 11 t))
    fun r l => x.dy (512 * t + r) l :=
  pay29 (dz h t) (gate h t)

end Tile

/-! ## The gradients by row -/

theorem idxOut : ∀ t : Fin cfg0.N, (win0_14.index t 0 = t.val ∧ win0_14.index t 1 = 0) ∧ (win0_15.index t 0 = t.val ∧ win0_15.index t 1 = 0)
    ∧ (win0_16.index t 0 = t.val ∧ win0_16.index t 1 = 0) :=
  (by decide +kernel : ∀ t : Fin grid0.N, _)

section Rows

include h

theorem out14 (t : Fin cfg0.N) : Holds (outsAt0 m c t.val t.isLt).2.1 fun r l => x.dattn (512 * t + r) l := by
  have key := pay14 (cot h t) (blk3 h t) (blk10 h t)
  by_cases h0 : t.val % 4 = 0
  · by_cases h1 : t.val % 16 = 0
    · rw [outsAt0_A m c t h0 h1]; frame_out; exact key
    · rw [outsAt0_C m c t h0 h1]; frame_out; exact key
  · rw [outsAt0_B m c t h0 (by omega)]; frame_out; exact key

theorem out15 (t : Fin cfg0.N) : Holds (outsAt0 m c t.val t.isLt).2.2.1 fun r l => x.dgb (512 * t + r) l := by
  have key := pay28 (dz h t) (pay21 (tile h t) (blk9 h t))
  by_cases h0 : t.val % 4 = 0
  · by_cases h1 : t.val % 16 = 0
    · rw [outsAt0_A m c t h0 h1]; frame_out; exact key
    · rw [outsAt0_C m c t h0 h1]; frame_out; exact key
  · rw [outsAt0_B m c t h0 (by omega)]; frame_out; exact key

theorem out16 (t : Fin cfg0.N) : Holds (outsAt0 m c t.val t.isLt).2.2.2.1 fun r l => x.dy (512 * t + r) l := by
  have key := pay30 (dz h t) (gate h t)
  by_cases h0 : t.val % 4 = 0
  · by_cases h1 : t.val % 16 = 0
    · rw [outsAt0_A m c t h0 h1]; frame_out; exact key
    · rw [outsAt0_C m c t h0 h1]; frame_out; exact key
  · rw [outsAt0_B m c t h0 (by omega)]; frame_out; exact key

omit h in
/-- An entry of a tile of rows, at the place of its index in the array. -/
theorem at_row {X : S512x512.Idx → EReal} {f : ℕ → Fin 512 → ℝ} {b : ℕ} (hX : Holds X fun r l => f (512 * b + r) l) (y : S512x512.Idx)
    (i : S8192x512.Idx) (h0 : (i 0).val = b * 512 + (y 0).val) (h1 : (i 1).val = (y 1).val) : X y = (f (i 0).val (i 1) : EReal) := by
  refine (congrArg X (eq_ix2 y)).trans ((hX _ _).trans ?_)
  rw [h0, Nat.mul_comm b]
  exact congrArg (fun l : Fin 512 => (f _ l : EReal)) (Fin.ext h1).symm

theorem final14 : (dats m 0 c).arrAt 14 cfg0.N = fun i => (x.dattn (i 0).val (i 1) : EReal) := by
  refine (dats m 0 c).arrAt_eq_of_covers 14 _ (by decide +kernel) fun t hf y => ?_
  rw [after0_14]
  exact at_row (out14 h t) y _ (by blk_simp [idxOut t]) (by blk_simp [idxOut t])

theorem final15 : (dats m 0 c).arrAt 15 cfg0.N = fun i => (x.dgb (i 0).val (i 1) : EReal) := by
  refine (dats m 0 c).arrAt_eq_of_covers 15 _ (by decide +kernel) fun t hf y => ?_
  rw [after0_15]
  exact at_row (out15 h t) y _ (by blk_simp [idxOut t]) (by blk_simp [idxOut t])

theorem final16 : (dats m 0 c).arrAt 16 cfg0.N = fun i => (x.dy (i 0).val (i 1) : EReal) := by
  refine (dats m 0 c).arrAt_eq_of_covers 16 _ (by decide +kernel) fun t hf y => ?_
  rw [after0_16]
  exact at_row (out16 h t) y _ (by blk_simp [idxOut t]) (by blk_simp [idxOut t])

end Rows

end Cert.Mix

end
-- ==== Proof.MixSums.lean ====
module

public import proofs.«01_k».proof.Proof.MixOut

@[expose] public section

/-! # What the mixer's backward call leaves in its result arrays: the sums over the rows -/

noncomputable section

namespace Cert.Mix

open Idealize.ShloMosaic Idealize.ShloMosaic.TcCoe Idealize.SL.Sem Cert.KernelIdeal Cert.KernelIdeal.Gen Cert.Lift

variable {x : In} {m : (ℓ : Loc nD τ sig) → Buf (Elt Ideal) ℓ} {c : Dev nD} (h : Args x m c)

/-! ## The sums over the rows -/

section Sums

/-- A sum over the sixteen points of sums over a tile's rows is the sum over all rows. -/
theorem sum_rows (f : ℕ → ℝ) : (∑ p : Fin cfg0.N, ((∑ r : Fin 512, f (512 * p + r) : ℝ) : EReal)) = (∑ n : Fin 8192, f n : ℝ) := by
  rw [← coe_sum, EReal.coe_eq_coe_iff]
  refine Fin.sum_mul_add_congr (S := 16) fun s k hl => ?_
  rw [Nat.mul_comm]

theorem zero_row (f : FVec Ideal S1x512 .f32) (hf : f = k0_pay5 (F := Ideal)) (i : S1x512.Idx) : f i = 0 := by
  subst hf
  exact Ideal.ofBits_zero_f32

include h

theorem step17 (t : Fin cfg0.N) (acc : Vec Ideal S1x512 .f32) (i : S1x512.Idx) :
    k0_pay13 (F := Ideal) (tCot m c t) (iblk m c 3 t) acc i = acc i + ((∑ r : Fin 512, x.dga (512 * t + r) (i 1) : ℝ) : EReal) := by
  rw [eq_ix2 i]
  exact pay13 (cot h t) (blk3 h t) acc _ _

theorem step18 (t : Fin cfg0.N) (acc : Vec Ideal S1x512 .f32) (i : S1x512.Idx) :
    k0_pay26 (F := Ideal) (tNormed m c t) (k0_pay25 (tCot m c t)) acc i = acc i + ((∑ r : Fin 512, x.dgcn (512 * t + r) (i 1) : ℝ) : EReal) := by
  rw [eq_ix2 i]
  exact pay26 (normed h t) (cotHi h t) acc _ _

theorem out17 (i : S1x512.Idx) : (outsAt0 m c 15 (by decide)).2.2.2.2.1 i = ((∑ n : Fin 8192, x.dga n (i 1) : ℝ) : EReal) := by
  refine (Pipeline.eq_sum_fin_of_reset_step_apply_last (fun n h => (outsAt0 m c n h).2.2.2.2.1) 16 (fun _ => 0)
    (fun t j => ((∑ r : Fin 512, x.dga (512 * t + r) (j 1) : ℝ) : EReal)) (fun t h0 j => ?_) (fun t h1 j => ?_)
    (le_of_eq Gen.N_0) ⟨15, by decide⟩ rfl i).trans ?_
  · rw [outsAt0_A m c t (by omega) h0]; frame_out
    exact (step17 h t _ j).trans (congrArg (· + _) (zero_row _ rfl j))
  · by_cases h0 : t.val % 4 = 0
    · rw [outsAt0_C m c t h0 h1]; frame_out; exact step17 h t _ j
    · rw [outsAt0_B m c t h0 h1]; frame_out; exact step17 h t _ j
  · rw [zero_add]
    exact sum_rows fun n => x.dga n (i 1)

theorem out18 (i : S1x512.Idx) : (outsAt0 m c 15 (by decide)).2.2.2.2.2.1 i = ((∑ n : Fin 8192, x.dgcn n (i 1) : ℝ) : EReal) := by
  refine (Pipeline.eq_sum_fin_of_reset_step_apply_last (fun n h => (outsAt0 m c n h).2.2.2.2.2.1) 16 (fun _ => 0)
    (fun t j => ((∑ r : Fin 512, x.dgcn (512 * t + r) (j 1) : ℝ) : EReal)) (fun t h0 j => ?_) (fun t h1 j => ?_)
    (le_of_eq Gen.N_0) ⟨15, by decide⟩ rfl i).trans ?_
  · rw [outsAt0_A m c t (by omega) h0]; frame_out
    exact (step18 h t _ j).trans (congrArg (· + _) (zero_row _ rfl j))
  · by_cases h0 : t.val % 4 = 0
    · rw [outsAt0_C m c t h0 h1]; frame_out; exact step18 h t _ j
    · rw [outsAt0_B m c t h0 h1]; frame_out; exact step18 h t _ j
  · rw [zero_add]
    exact sum_rows fun n => x.dgcn n (i 1)

/-- What a point adds to the gradient of the convolution's weights. -/
abbrev term19 (x : In) (t : Fin cfg0.N) (i : S3x512.Idx) : EReal := ((∑ r : Fin 512, x.dcw (512 * t + r) (i 0) (i 1) : ℝ) : EReal)

omit h in
/-- A row's sum over a tile, at the place of its index in the array of three rows. -/
theorem at_tap (t : Fin cfg0.N) {p a : S1x512.Idx → EReal} {acc : EReal} {f : Fin 512 → Fin 512 → ℝ} (y : S1x512.Idx) (i : S3x512.Idx)
    (hp : ∀ (z : Fin 1) (l : Fin 512), p (ix2 z l) = a (ix2 z l) + ((∑ r : Fin 512, x.dy (512 * t + r) l * f r l : ℝ) : EReal))
    (ha : a y = acc) (hf : ∀ r l, f r l = shift x.u (2 - (i 0).val) (512 * t + r) l) (h1 : (i 1).val = (y 1).val) :
    p y = acc + term19 x t i := by
  subst ha
  refine (congrArg p (eq_ix2 y)).trans ((hp _ _).trans ?_)
  refine congrArg₂ (· + ·) (congrArg a (eq_ix2 y).symm) ?_
  obtain h1 : y 1 = i 1 := (Fin.ext h1).symm
  rw [h1]
  exact congrArg _ (Finset.sum_congr rfl fun r _ => congrArg (x.dy _ _ * ·) (hf r _))

omit h in
theorem row_emb0 {k : ℕ} (inb) (y : S1x512.Idx) : ((Rect.unit (s := S3x512) ![k, 0] ![1, 512] inb).emb y 0).val = k := by
  rw [Rect.emb_apply]
  show k + 1 * (y 0).val = k
  have : (y 0).val < 1 := (y 0).isLt
  omega

omit h in
theorem row_emb1 {k : ℕ} (inb) (y : S1x512.Idx) : ((Rect.unit (s := S3x512) ![k, 0] ![1, 512] inb).emb y 1).val = (y 1).val := by
  rw [Rect.emb_apply]
  show 0 + 1 * (y 1).val = _
  omega

omit h in
theorem shift_zero (U : ℕ → Fin 512 → ℝ) (n : ℕ) (l : Fin 512) : shift U 0 n l = U n l := if_neg (Nat.not_lt_zero _)

/-- One step of the gradient of the convolution's weights: three row sums, each added to its row of the accumulator. -/
theorem step19 (t : Fin cfg0.N) (acc : Vec Ideal S3x512 .f32) (a0 a1 a2 : Vec Ideal S1x512 .f32)
    (L : List (View.Piece (Elt Ideal) S3x512 .f32)) (ha0 : a0 = View.ld acc (Rect.unit ![0, 0] ![1, 512] inb_S3x512_S1x512_0_0))
    (ha1 : a1 = View.ld acc (Rect.unit ![1, 0] ![1, 512] inb_S3x512_S1x512_1_0))
    (ha2 : a2 = View.ld acc (Rect.unit ![2, 0] ![1, 512] inb_S3x512_S1x512_2_0)) (i : S3x512.Idx) :
    View.canon (⟨Rect.unit ![2, 0] ![1, 512] inb_S3x512_S1x512_2_0, k0_pay2 (F := Ideal) (k0_pay17 (k0_pay16 (iblk m c 5 t)) (iblk m c 6 t))
          (k0_pay29 (tGate m c t) (tRstd m c t) (tNormed m c t) (k0_pay25 (tCot m c t)) (iblk m c 11 t)) a2⟩
      :: ⟨Rect.unit ![1, 0] ![1, 512] inb_S3x512_S1x512_1_0, k0_pay1 (F := Ideal) (k0_pay32 a1)
          (k0_pay33 (tGate m c t) (k0_pay19 (first t) (k0_pay16 (iblk m c 5 t)) (iblk m c 6 t) (iblk m c 7 t) (iblk m c 8 t))
            (tRstd m c t) (tNormed m c t) (k0_pay25 (tCot m c t)) (iblk m c 11 t))⟩
      :: ⟨Rect.unit ![0, 0] ![1, 512] inb_S3x512_S1x512_0_0, k0_pay31 (F := Ideal) (tGate m c t)
          (k0_pay20 (first t) (k0_pay16 (iblk m c 5 t)) (iblk m c 6 t) (iblk m c 7 t) (iblk m c 8 t))
            (tRstd m c t) (tNormed m c t) (k0_pay25 (tCot m c t)) (iblk m c 11 t) a0⟩ :: L) i = acc i + term19 x t i := by
  subst ha0 ha1 ha2
  refine View.canon_append_of_piecesOf (fun i => acc i + term19 x t i) L [_, _, _] ⟨fun y => ?_, fun y => ?_, fun y => ?_, trivial⟩ i
    (View.cover_of_tiled_head _ _ _ rfl i)
  · refine at_tap t (a := View.ld acc (Rect.unit ![2, 0] ![1, 512] inb_S3x512_S1x512_2_0)) y _ (pay2 (dy h t) (pay17 (tile h t)) _) rfl (fun r l => ?_) ?_
    · rw [row_emb0]
      exact (shift_zero _ _ _).symm
    · exact row_emb1 inb_S3x512_S1x512_2_0 y
  · refine at_tap t (a := View.ld acc (Rect.unit ![1, 0] ![1, 512] inb_S3x512_S1x512_1_0)) y _ (pay1 (dy h t) (pay19 (tile h t)) _) rfl (fun r l => ?_) ?_
    · rw [row_emb0]
    · exact row_emb1 inb_S3x512_S1x512_1_0 y
  · refine at_tap t (a := View.ld acc (Rect.unit ![0, 0] ![1, 512] inb_S3x512_S1x512_0_0)) y _ (pay31 (dy h t) (pay20 (tile h t)) _) rfl (fun r l => ?_) ?_
    · rw [row_emb0]
    · exact row_emb1 inb_S3x512_S1x512_0_0 y

theorem out19 (i : S3x512.Idx) : (outsAt0 m c 15 (by decide)).2.2.2.2.2.2 i = ((∑ n : Fin 8192, x.dcw n (i 0) (i 1) : ℝ) : EReal) := by
  refine (Pipeline.eq_sum_fin_of_reset_step_apply_last (fun n h => (outsAt0 m c n h).2.2.2.2.2.2) 16 (fun _ => 0) (fun t => term19 x t)
    (fun t h0 j => ?_) (fun t h1 j => ?_) (le_of_eq Gen.N_0) ⟨15, by decide⟩ rfl i).trans ?_
  · rw [outsAt0_A m c t (by omega) h0]; frame_out [View.readCov_skip, View.readCov_fill]
    refine (step19 h t (k0_pay7 (F := Ideal)) _ _ _ [_] rfl rfl rfl j).trans ?_
    exact congrArg (· + term19 x t j) (show k0_pay7 (F := Ideal) j = 0 from Ideal.ofBits_zero_f32)
  · by_cases h0 : t.val % 4 = 0
    · rw [outsAt0_C m c t h0 h1]; frame_out; exact step19 h t _ _ _ _ [] rfl rfl rfl j
    · rw [outsAt0_B m c t h0 h1]; frame_out; exact step19 h t _ _ _ _ [] rfl rfl rfl j
  · rw [zero_add]
    exact sum_rows fun n => x.dcw n (i 0) (i 1)

theorem final17 : (dats m 0 c).arrAt 17 cfg0.N = fun i => ((∑ n : Fin 8192, x.dga n (i 1) : ℝ) : EReal) := by
  refine (dats m 0 c).arrAt_eq_of_after_last 17 ⟨15, by decide⟩ (by decide +kernel) _ fun j => ?_
  rw [after0_17]
  exact out17 h j

theorem final18 : (dats m 0 c).arrAt 18 cfg0.N = fun i => ((∑ n : Fin 8192, x.dgcn n (i 1) : ℝ) : EReal) := by
  refine (dats m 0 c).arrAt_eq_of_after_last 18 ⟨15, by decide⟩ (by decide +kernel) _ fun j => ?_
  rw [after0_18]
  exact out18 h j

theorem final19 : (dats m 0 c).arrAt 19 cfg0.N = fun i => ((∑ n : Fin 8192, x.dcw n (i 0) (i 1) : ℝ) : EReal) := by
  refine (dats m 0 c).arrAt_eq_of_after_last 19 ⟨15, by decide⟩ (by decide +kernel) _ fun j => ?_
  rw [after0_19]
  exact out19 h j

end Sums

end Cert.Mix

end
-- ==== Proof.MixDown.lean ====
module

public import proofs.«01_k».proof.Proof.MixOut

@[expose] public section

/-! # The weight gradient that the mixer's backward call accumulates beside the mixer's own gradients

Of the perceptron's second product, whose first factor is the square of its activations. No argument of it need be finite. -/

noncomputable section

namespace Cert.Mix

open Idealize.ShloMosaic Idealize.ShloMosaic.TcCoe Idealize.SL.Sem Cert.KernelIdeal Cert.KernelIdeal.Gen Cert.Lift

/-- The column of a block that a pair of a half and a row of it stands for. -/
def col (i : S1x2x512x1024.Idx) : Fin 1024 :=
  ⟨(i 1).val * 512 + (i 2).val, by have h1 : (i 1).val < 2 := (i 1).isLt; have h2 : (i 2).val < 512 := (i 2).isLt; omega⟩

/-- What a point adds to its block of the gradient. -/
def term13 (a : S2048x1024.Idx → EReal) (b : S2048x1024.Idx → EReal) (i : S1x2x512x1024.Idx) : EReal :=
  ∑ r : Fin 2048, a (ix2 r (col i)) * a (ix2 r (col i)) * b (ix2 r (i 3))

theorem step13 (a b : Vec Ideal S2048x1024 .bf16) (acc : Vec Ideal S1x2x512x1024 .f32) (i : S1x2x512x1024.Idx) :
    k0_pay4 (F := Ideal) a acc b i = acc i + term13 a b i := by
  rw [eq_ix4 i]
  exact pay4 _ _ _ _ _ _ _

variable (m : (ℓ : Loc nD τ sig) → Buf (Elt Ideal) ℓ) (c : Dev nD)

theorem out13 (t : Fin cfg0.N) (ht : t.val % 4 = 3) (i : S1x2x512x1024.Idx) : (outsAt0 m c t.val t.isLt).1 i
    = gdown (m (c.tc.loc main_arg9)) (m (c.tc.loc main_arg10)) ⟨t.val / 4 * 1024 + (col i).val, by have := point_lt t; omega⟩ (i 3) := by
  refine (Pipeline.eq_sum_fin_of_reset_step_apply_of_flush (fun n h => (outsAt0 m c n h).1) 4 (fun _ => 0)
    (fun t => term13 (iblk m c 0 t) (iblk m c 1 t)) (fun t h0 j => ?_) (fun t h0 j => ?_) t ht i).trans ?_
  · by_cases h1 : t.val % 16 = 0
    · rw [outsAt0_A m c t h0 h1]; frame_out
      exact (step13 _ _ _ j).trans (congrArg (· + _) Ideal.ofBits_zero_f32)
    · rw [outsAt0_C m c t h0 h1]; frame_out
      exact (step13 _ _ _ j).trans (congrArg (· + _) Ideal.ofBits_zero_f32)
  · rw [outsAt0_B m c t h0 (by omega)]; frame_out; exact step13 _ _ _ j
  · rw [zero_add]
    refine Fin.sum_mul_add_congr (S := 4) fun s k hl => ?_
    have hs := s.isLt
    have hq : (4 * (t.val / 4) + s.val) % 4 = s.val := by omega
    have hd : (4 * (t.val / 4) + s.val) / 4 = t.val / 4 := by omega
    have e0 := fun (r : Fin 2048) (k : Fin 1024) => blk0 m c ⟨4 * (t.val / 4) + s.val, Pipeline.run_point_lt_of_flush t ht s⟩ r k
    have e1 := blk1 m c ⟨4 * (t.val / 4) + s.val, Pipeline.run_point_lt_of_flush t ht s⟩ k (i 3)
    simp only [hq, hd] at e0 e1
    rw [e0]
    exact congrArg (_ * ·) e1

theorem idx13 : ∀ t : Fin cfg0.N, win0_13.index t 0 = t.val / 4 ∧ win0_13.index t 1 = 0 ∧ win0_13.index t 2 = 0 ∧ win0_13.index t 3 = 0 :=
  (by decide +kernel : ∀ t : Fin grid0.N, _)

/-- The array of the gradient: its first three axes are the parts of the row index. -/
theorem final13 : (dats m 0 c).arrAt 13 cfg0.N = fun i : S4x2x512x1024.Idx =>
    gdown (m (c.tc.loc main_arg9)) (m (c.tc.loc main_arg10)) ⟨(i 0).val * 1024 + (i 1).val * 512 + (i 2).val, by
      have h0 : (i 0).val < 4 := (i 0).isLt
      have h1 : (i 1).val < 2 := (i 1).isLt
      have h2 : (i 2).val < 512 := (i 2).isLt
      omega⟩ (i 3) := by
  refine (dats m 0 c).arrAt_eq_of_covers 13 _ (by decide +kernel) fun t hf y => ?_
  rw [after0_13]
  refine (out13 m c t ((flush0_13 t).mp hf) y).trans ?_
  refine congrArg₂ (gdown _ _) ?_ ?_
  · apply Fin.ext
    have : (y 0).val < 1 := (y 0).isLt
    have e : t.val / 4 * 1 + (y 0).val = t.val / 4 := by omega
    unfold col
    blk_simp [idx13 t]
    dsimp only
    omega
  · apply Fin.ext
    blk_simp [idx13 t]

end Cert.Mix

end
-- ==== Proof.MixRef.lean ====
/-
  The reference's gradients of the mixer, read element by element and found to be those of `MixSpec`.
-/
module

public import proofs.«01_k».proof.Proof.MixSpec
public import proofs.«01_k».proof.Proof.Gen.ReferenceIdeal.Run
public import Idealize.ShloMosaic.Lib.Pointwise

@[expose] public section

noncomputable section

namespace Cert.Mix.Ref

open Idealize.ShloMosaic Idealize.ShloMosaic.TcCoe Idealize.SL.Sem Cert.ReferenceIdeal Cert.ReferenceIdeal.Gen Cert.ReferenceIdeal.Value Cert.Lift

/-- The contents `V` of the reference's buffers hold the arguments `x`. -/
structure At (x : In) (V : Valuation τ sig (Elt Ideal)) : Prop where
  dmix : ∀ (n : Fin 8192) (k : Fin 1024), V (Proc.devRef .tc main_arg0) (ix2 n k) = (x.dmix n k : EReal)
  attn : ∀ (n : Fin 8192) (l : Fin 512), V (Proc.devRef .tc main_arg1) (ix2 n l) = (x.attn n l : EReal)
  gb : ∀ (n : Fin 8192) (l : Fin 512), V (Proc.devRef .tc main_arg2) (ix2 n l) = (x.gb n l : EReal)
  gc : ∀ (n : Fin 8192) (l : Fin 512), V (Proc.devRef .tc main_arg3) (ix2 n l) = (x.gc n l : EReal)
  xin : ∀ (n : Fin 8192) (l : Fin 512), V (Proc.devRef .tc main_arg4) (ix2 n l) = (x.xin n l : EReal)
  w : ∀ (z : Fin 1) (j : Fin 3) (l : Fin 512), V (Proc.devRef .tc main_arg5) (ix3 z j l) = (x.w j l : EReal)
  ga : ∀ (z : Fin 1) (l : Fin 512), V (Proc.devRef .tc main_arg6) (ix2 z l) = (x.ga l : EReal)
  gcn : ∀ (z : Fin 1) (l : Fin 512), V (Proc.devRef .tc main_arg7) (ix2 z l) = (x.gcn l : EReal)
  wo : ∀ (z : Fin 1) (e k : Fin 1024), V (Proc.devRef .tc main_arg8) (ix3 z e k) = (x.wo e k : EReal)

/-- Two matrices are equal that are so element by element. -/
theorem eq_of_ix2 {α : Type} {n k : ℕ} {f g : (⟨2, ![n, k]⟩ : Shape).Idx → α} (h : ∀ a b, f (ix2 a b) = g (ix2 a b)) : f = g :=
  funext fun i => by rw [eq_ix2 i]; exact h _ _

variable {x : In} {V : Valuation τ sig (Elt Ideal)}

theorem r3 (h : At x V) (n : Fin 8194) (l : Fin 512) : res_main_v3 V (ix2 n l) = (shift x.u 2 n.val l : EReal) := by
  unfold res_main_v3
  pointwise
  simp only [h.gc _ _, h.xin _ _, ← EReal.coe_mul, shift]
  split <;> rfl

theorem r4 (h : At x V) (n : Fin 8192) (l : Fin 512) : res_main_v4 V (ix2 n l) = (shift x.u 2 n.val l : EReal) := by
  unfold res_main_v4
  pointwise
  exact r3 h _ _

theorem r12 (h : At x V) (n : Fin 8192) (l : Fin 512) : res_main_v12 V (ix2 n l) = (shift x.u 1 n.val l : EReal) := by
  unfold res_main_v12
  pointwise
  refine (r3 h _ _).trans (congrArg _ ?_)
  unfold shift
  dsimp only
  split_ifs <;> first | rfl | omega | exact congrArg (fun k => x.u k l) (by omega)

theorem r19 (h : At x V) (n : Fin 8192) (l : Fin 512) : res_main_v19 V (ix2 n l) = (x.u n.val l : EReal) := by
  unfold res_main_v19
  pointwise
  refine (r3 h _ _).trans (congrArg _ ?_)
  unfold shift
  dsimp only
  rw [if_neg (by omega)]
  exact congrArg (fun k => x.u k l) (by omega)

theorem r25 (h : At x V) (n : Fin 8192) (l : Fin 512) : res_main_v25 V (ix2 n l) = (x.y n.val l : EReal) := by
  unfold res_main_v25 res_main_v1
  pointwise
  simp only [r4 h _ _, r12 h _ _, r19 h _ _, h.w _ _ _, ← EReal.coe_mul, ← EReal.coe_add]
  exact congrArg _ (by unfold In.y conv3; ring)

theorem r26 (h : At x V) (n : Fin 8192) (l : Fin 512) : res_main_v26 V (ix2 n l) = (x.z n.val l : EReal) := by
  unfold res_main_v26
  pointwise
  rw [h.gb, r25 h, ← EReal.coe_mul]; rfl

theorem r64 (h : At x V) (n : Fin 8192) (e : Fin 1024) : res_main_v64 V (ix2 n e) = (x.dmixed n.val e : EReal) := by
  unfold res_main_v64 res_main_v62
  pointwise
  simp only [h.dmix _ _, h.wo _ _ _, ← EReal.coe_mul, ← coe_sum]
  rfl

theorem r65 (h : At x V) (n : Fin 8192) (l : Fin 512) : res_main_v65 V (ix2 n l) = (x.dmixed n.val (lo l) : EReal) := by
  unfold res_main_v65
  pointwise
  exact r64 h _ _

theorem r66 (h : At x V) (n : Fin 8192) (l : Fin 512) : res_main_v66 V (ix2 n l) = (x.dmixed n.val (hi l) : EReal) := by
  unfold res_main_v66
  pointwise
  exact r64 h _ _

/-! ## The attention's half -/

theorem r34 (h : At x V) (n : Fin 8192) (z : Fin 1) : res_main_v34 V (ix2 n z) = (meanSq (x.attn n.val) : EReal) := by
  unfold res_main_v34
  pointwise
  simp only [h.attn _ _, ofBits_512, ofBits_eps, ← EReal.coe_mul, ← coe_sum, div_512, ← EReal.coe_add]
  rfl

theorem r35 (h : At x V) (n : Fin 8192) (z : Fin 1) : res_main_v35 V (ix2 n z) = (rms (x.attn n.val) : EReal) := by
  unfold res_main_v35
  pointwise
  rw [r34 h, rsqrt_real (meanSq_pos _)]; rfl

theorem r40 (h : At x V) (n : Fin 8192) (l : Fin 512) : res_main_v40 V (ix2 n l) = ((x.attn n.val l * rms (x.attn n.val) : ℝ) : EReal) := by
  unfold res_main_v40
  pointwise
  rw [h.attn, r35 h, ← EReal.coe_mul]

theorem r92 (h : At x V) (n : Fin 8192) (l : Fin 512) :
    res_main_v92 V (ix2 n l) = ((x.dmixed n.val (lo l) * x.ga l : ℝ) : EReal) := by
  unfold res_main_v92 res_main_v41
  pointwise
  rw [r65 h, h.ga, ← EReal.coe_mul]

theorem r103 (h : At x V) (n : Fin 8192) (l : Fin 512) :
    res_main_v103 V (ix2 n l) = (slope (x.attn n.val) (fun m => x.dmixed n.val (lo m) * x.ga m) : EReal) := by
  unfold res_main_v103
  pointwise
  simp only [h.attn _ _, r92 h _ _, r35 h _ _, r34 h _ _, ofBits_512, ofBits_neg_half, div_real _ (meanSq_pos _).ne',
    ← EReal.coe_mul, ← coe_sum, div_512, Finset.univ_unique, Finset.sum_singleton]
  rfl

theorem dattn (h : At x V) :
    truncf .bf16 (addf (addf (mulf (res_main_v92 V) (broadcastInDim S8192x512 ![0, 1] bcast_S8192x1_S8192x512_0_1 (res_main_v35 V)))
      (mulf (V (Proc.devRef .tc main_arg1)) (res_main_v103 V))) (mulf (res_main_v103 V) (V (Proc.devRef .tc main_arg1)))) bitsLt_bf16_f32 = fun i : S8192x512.Idx => (x.dattn (i 0).val (i 1) : EReal) := by
  refine eq_of_ix2 fun n l => ?_
  pointwise
  rw [r92 h, r35 h, h.attn, r103 h]
  simp only [← EReal.coe_mul, ← EReal.coe_add]
  rw [add_assoc]
  exact congrArg _ (normBwd_chain (x.attn n.val) (fun m => x.dmixed n.val (lo m) * x.ga m) l)

/-! ## The convolution's half -/

theorem r51 (h : At x V) (n : Fin 8192) (z : Fin 1) : res_main_v51 V (ix2 n z) = (meanSq (x.z n.val) : EReal) := by
  unfold res_main_v51
  pointwise
  simp only [r26 h _ _, ofBits_512, ofBits_eps, ← EReal.coe_mul, ← coe_sum, div_512, ← EReal.coe_add]
  rfl

theorem r52 (h : At x V) (n : Fin 8192) (z : Fin 1) : res_main_v52 V (ix2 n z) = (rms (x.z n.val) : EReal) := by
  unfold res_main_v52
  pointwise
  rw [r51 h, rsqrt_real (meanSq_pos _)]; rfl

theorem r57 (h : At x V) (n : Fin 8192) (l : Fin 512) : res_main_v57 V (ix2 n l) = ((x.z n.val l * rms (x.z n.val) : ℝ) : EReal) := by
  unfold res_main_v57
  pointwise
  rw [r26 h, r52 h, ← EReal.coe_mul]

theorem r71 (h : At x V) (n : Fin 8192) (l : Fin 512) :
    res_main_v71 V (ix2 n l) = ((x.dmixed n.val (hi l) * x.gcn l : ℝ) : EReal) := by
  unfold res_main_v71 res_main_v58
  pointwise
  rw [r66 h, h.gcn, ← EReal.coe_mul]

theorem r82 (h : At x V) (n : Fin 8192) (l : Fin 512) :
    res_main_v82 V (ix2 n l) = (slope (x.z n.val) (fun m => x.dmixed n.val (hi m) * x.gcn m) : EReal) := by
  unfold res_main_v82
  pointwise
  simp only [r26 h _ _, r71 h _ _, r52 h _ _, r51 h _ _, ofBits_512, ofBits_neg_half, div_real _ (meanSq_pos _).ne',
    ← EReal.coe_mul, ← coe_sum, div_512, Finset.univ_unique, Finset.sum_singleton]
  rfl

theorem r86 (h : At x V) (n : Fin 8192) (l : Fin 512) : res_main_v86 V (ix2 n l) = (x.dz n.val l : EReal) := by
  unfold res_main_v86
  pointwise
  rw [r71 h, r52 h, r26 h, r82 h]
  simp only [← EReal.coe_mul, ← EReal.coe_add]
  rw [add_assoc]
  exact congrArg _ (normBwd_chain (x.z n.val) (fun m => x.dmixed n.val (hi m) * x.gcn m) l)

theorem dgb (h : At x V) :
    truncf .bf16 (mulf (res_main_v86 V) (res_main_v25 V)) bitsLt_bf16_f32 = fun i : S8192x512.Idx => (x.dgb (i 0).val (i 1) : EReal) := by
  refine eq_of_ix2 fun n l => ?_
  pointwise
  rw [r86 h, r25 h, ← EReal.coe_mul]; rfl

theorem r109 (h : At x V) (n : Fin 8192) (l : Fin 512) : res_main_v109 V (ix2 n l) = (x.dy n.val l : EReal) := by
  unfold res_main_v109
  pointwise
  rw [h.gb, r86 h, ← EReal.coe_mul]
  exact congrArg _ (mul_comm _ _)

theorem dy (h : At x V) :
    truncf .bf16 (res_main_v109 V) bitsLt_bf16_f32 = fun i : S8192x512.Idx => (x.dy (i 0).val (i 1) : EReal) := by
  refine eq_of_ix2 fun n l => ?_
  pointwise
  exact r109 h n l

/-! ## The sums over the rows -/

set_option maxRecDepth 8192 in
theorem dga (h : At x V) :
    broadcastInDim S1x512 ![1] bcast_S512_S1x512_1 (Host.reduceAdd (shapeCast _ (Host.reduceAdd (mulf (res_main_v40 V) (res_main_v65 V))
      (constant S_ .f32 0x00000000#32) reducesTo_S8192x512_S512_d0 h_S_) shapeCasts_S512_S1x512) (constant S_ .f32 0x00000000#32)
      reducesTo_S1x512_S512_d0 h_S_) = fun i : S1x512.Idx => ((∑ n : Fin 8192, x.dga n (i 1) : ℝ) : EReal) := by
  refine eq_of_ix2 fun z l => ?_
  pointwise
  simp only [r40 h _ _, r65 h _ _, ← EReal.coe_mul, ← coe_sum, Finset.univ_unique, Finset.sum_singleton]
  exact congrArg _ (Finset.sum_congr rfl fun n _ => mul_comm _ _)

set_option maxRecDepth 8192 in
theorem dgcn (h : At x V) :
    broadcastInDim S1x512 ![1] bcast_S512_S1x512_1 (Host.reduceAdd (shapeCast _ (Host.reduceAdd (mulf (res_main_v57 V) (res_main_v66 V))
      (constant S_ .f32 0x00000000#32) reducesTo_S8192x512_S512_d0 h_S_) shapeCasts_S512_S1x512) (constant S_ .f32 0x00000000#32)
      reducesTo_S1x512_S512_d0 h_S_) = fun i : S1x512.Idx => ((∑ n : Fin 8192, x.dgcn n (i 1) : ℝ) : EReal) := by
  refine eq_of_ix2 fun z l => ?_
  pointwise
  simp only [r57 h _ _, r66 h _ _, ← EReal.coe_mul, ← coe_sum, Finset.univ_unique, Finset.sum_singleton]
  exact congrArg _ (Finset.sum_congr rfl fun n _ => mul_comm _ _)

/-- What the reference has of the gradient of the convolution's weights. -/
def dcwTerm (V : Valuation τ sig (Elt Ideal)) : S3x512.Idx → EReal :=
  shapeCast _ (broadcastInDim S1x3x512 ![1, 2] bcast_S3x512_S1x3x512_1_2 (addf (addf (pad S3x512 ![2, 0] ![0, 0] ![0, 0] (broadcastInDim S1x512 ![1] bcast_S512_S1x512_1 (Host.reduceAdd (shapeCast _ (Host.reduceAdd (mulf (res_main_v19 V) (res_main_v109 V)) (constant S_ .f32 0x00000000#32) reducesTo_S8192x512_S512_d0 h_S_) shapeCasts_S512_S1x512) (constant S_ .f32 0x00000000#32) reducesTo_S1x512_S512_d0 h_S_)) (constant S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (res_main_v12 V) (res_main_v109 V)) (constant S_ .f32 0x00000000#32) reducesTo_S8192x512_S512_d0 h_S_) shapeCasts_S512_S1x512) (constant S_ .f32 0x00000000#32) reducesTo_S1x512_S512_d0 h_S_)) (constant S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (res_main_v4 V) (res_main_v109 V)) (constant S_ .f32 0x00000000#32) reducesTo_S8192x512_S512_d0 h_S_) shapeCasts_S512_S1x512) (constant S_ .f32 0x00000000#32) reducesTo_S1x512_S512_d0 h_S_)) (constant S_ .f32 0x00000000#32) pads_S1x512_S3x512_020_000 h_S_))) shapeCasts_S1x3x512_S3x512

theorem dcw (h : At x V) : dcwTerm V = fun i : S3x512.Idx => ((∑ n : Fin 8192, x.dcw n (i 0) (i 1) : ℝ) : EReal) := by
  refine eq_of_ix2 fun j l => ?_
  unfold dcwTerm
  pointwise
  simp only [r4 h _ _, r12 h _ _, r19 h _ _, r109 h _ _, ← EReal.coe_mul, ← coe_sum, Finset.univ_unique, Finset.sum_singleton]
  simp only [In.dcw]
  match j with
  | ⟨0, _⟩ => simp [mul_comm]
  | ⟨1, _⟩ => simp [mul_comm]
  | ⟨2, _⟩ => simp [mul_comm, shift]

/-! ## The product that the call is a rider of -/

/-- What the reference has of that product. -/
def gdownTerm (V : Valuation τ sig (Elt Ideal)) : S4x2x512x1024.Idx → EReal :=
  shapeCast _ (transpose S4096x1024 [1, 0] (Host.dotGeneral (φ₁ := .f32) (φ₂ := .f32) dot_S8192x1024_S8192x4096_S1024x4096_0_0_1_1_n_n none (V (Proc.devRef .tc main_arg10)) (res_main_v133 V)) transposes_S1024x4096_S4096x1024_1_0) shapeCasts_S4096x1024_S4x2x512x1024

theorem gdownTerm_apply (V : Valuation τ sig (Elt Ideal)) (a : Fin 4) (b : Fin 2) (e : Fin 512) (k : Fin 1024) :
    gdownTerm V (ix4 a b e k) = gdown (V (Proc.devRef .tc main_arg9)) (V (Proc.devRef .tc main_arg10))
      ⟨a.val * 1024 + b.val * 512 + e.val, by omega⟩ k := by
  unfold gdownTerm res_main_v133
  pointwise
  unfold gdown
  exact Finset.sum_congr rfl fun n _ => mul_comm _ _

theorem gdownTerm_eq (V : Valuation τ sig (Elt Ideal)) (u : S8192x4096.Idx → EReal) (d : S8192x1024.Idx → EReal)
    (hu : V (Proc.devRef .tc main_arg9) = u) (hd : V (Proc.devRef .tc main_arg10) = d) :
    gdownTerm V = fun i : S4x2x512x1024.Idx => gdown u d ⟨(i 0).val * 1024 + (i 1).val * 512 + (i 2).val, by
      have h0 : (i 0).val < 4 := (i 0).isLt; have h1 : (i 1).val < 2 := (i 1).isLt; have h2 : (i 2).val < 512 := (i 2).isLt; omega⟩ (i 3) := by
  subst hu hd
  exact funext fun i => (congrArg _ (eq_ix4 i)).trans (gdownTerm_apply V _ _ _ _)

end Cert.Mix.Ref

end
-- ==== Proof.MixClaim.lean ====
/-
  The mixer's backward call and the reference's gradients of the mixer give the same results, from the same finite arguments.
-/
module

public import proofs.«01_k».proof.Defs
public import proofs.«01_k».proof.Proof.MixOut
public import proofs.«01_k».proof.Proof.MixSums
public import proofs.«01_k».proof.Proof.MixDown
public import proofs.«01_k».proof.Proof.MixRef
public import proofs.«01_k».proof.Proof.Gen.KernelIdeal.Value
public import proofs.«01_k».proof.Proof.Gen.Pre_finite_mix
public import Idealize.ShloMosaic.Lib.Claim
public import Idealize.ShloMosaic.Lib.Quiescent

@[expose] public section

noncomputable section

namespace Cert.Mix

open Idealize.ShloMosaic Idealize.ShloMosaic.TcCoe Idealize.ShloMosaic.StableHlo Idealize.SL.Sem Cert.Lift

/-- The memory's arguments as real numbers. -/
def ofMem (m : (ℓ : Loc KernelIdeal.nD KernelIdeal.τ KernelIdeal.sig) → Buf (Elt Ideal) ℓ) (c : Dev KernelIdeal.nD) : In where
  dmix := rows (n := 8192) (k := 1024) (m (c.tc.loc KernelIdeal.main_arg0))
  attn := rows (n := 8192) (k := 512) (m (c.tc.loc KernelIdeal.main_arg1))
  gb := rows (n := 8192) (k := 512) (m (c.tc.loc KernelIdeal.main_arg2))
  gc := rows (n := 8192) (k := 512) (m (c.tc.loc KernelIdeal.main_arg3))
  xin := rows (n := 8192) (k := 512) (m (c.tc.loc KernelIdeal.main_arg4))
  w j l := EReal.toReal (m (c.tc.loc KernelIdeal.main_arg5) (ix3 (0 : Fin 1) j l))
  ga l := EReal.toReal (m (c.tc.loc KernelIdeal.main_arg6) (ix2 (0 : Fin 1) l))
  gcn l := EReal.toReal (m (c.tc.loc KernelIdeal.main_arg7) (ix2 (0 : Fin 1) l))
  wo e k := EReal.toReal (m (c.tc.loc KernelIdeal.main_arg8) (ix3 (0 : Fin 1) e k))

theorem args_of_pre {m : (ℓ : Loc KernelIdeal.nD KernelIdeal.τ KernelIdeal.sig) → Buf (Elt Ideal) ℓ}
    (h : Pre_KernelIdeal_finite_mix m) (c : Dev KernelIdeal.nD) : Args (ofMem m c) m c := by
  obtain ⟨h0, h1, h2, h3, h4, h5, h6, h7, h8⟩ := h c
  exact
  { dmix := eq_rows (finite_of_olt h0)
    attn := eq_rows (finite_of_olt h1)
    gb := eq_rows (finite_of_olt h2)
    gc := eq_rows (finite_of_olt h3)
    xin := eq_rows (finite_of_olt h4)
    w := fun z j l => by obtain rfl := Subsingleton.elim z 0; exact finite_of_olt h5 _
    ga := fun z l => by obtain rfl := Subsingleton.elim z 0; exact finite_of_olt h6 _
    gcn := fun z l => by obtain rfl := Subsingleton.elim z 0; exact finite_of_olt h7 _
    wo := fun z e k => by obtain rfl := Subsingleton.elim z 0; exact finite_of_olt h8 _ }

/-- The reference's memory holds what the kernel's does. -/
theorem at_of_args {x : In} {m : (ℓ : Loc KernelIdeal.nD KernelIdeal.τ KernelIdeal.sig) → Buf (Elt Ideal) ℓ}
    {m' : (ℓ : Loc ReferenceIdeal.nD ReferenceIdeal.τ ReferenceIdeal.sig) → Buf (Elt Ideal) ℓ} {c : Dev KernelIdeal.nD} (h : Args x m c)
    (e0 : m' (c.tc.loc ReferenceIdeal.main_arg0) = m (c.tc.loc KernelIdeal.main_arg0))
    (e1 : m' (c.tc.loc ReferenceIdeal.main_arg1) = m (c.tc.loc KernelIdeal.main_arg1))
    (e2 : m' (c.tc.loc ReferenceIdeal.main_arg2) = m (c.tc.loc KernelIdeal.main_arg2))
    (e3 : m' (c.tc.loc ReferenceIdeal.main_arg3) = m (c.tc.loc KernelIdeal.main_arg3))
    (e4 : m' (c.tc.loc ReferenceIdeal.main_arg4) = m (c.tc.loc KernelIdeal.main_arg4))
    (e5 : m' (c.tc.loc ReferenceIdeal.main_arg5) = m (c.tc.loc KernelIdeal.main_arg5))
    (e6 : m' (c.tc.loc ReferenceIdeal.main_arg6) = m (c.tc.loc KernelIdeal.main_arg6))
    (e7 : m' (c.tc.loc ReferenceIdeal.main_arg7) = m (c.tc.loc KernelIdeal.main_arg7))
    (e8 : m' (c.tc.loc ReferenceIdeal.main_arg8) = m (c.tc.loc KernelIdeal.main_arg8)) :
    Ref.At x (launchContents m' c) where
  dmix n k := (congrFun e0 _).trans (h.dmix n k)
  attn n l := (congrFun e1 _).trans (h.attn n l)
  gb n l := (congrFun e2 _).trans (h.gb n l)
  gc n l := (congrFun e3 _).trans (h.gc n l)
  xin n l := (congrFun e4 _).trans (h.xin n l)
  w z j l := (congrFun e5 _).trans (h.w z j l)
  ga z l := (congrFun e6 _).trans (h.ga z l)
  gcn z l := (congrFun e7 _).trans (h.gcn z l)
  wo z e k := (congrFun e8 _).trans (h.wo z e k)

theorem frame_kernelIdeal : quiescent_KernelIdeal := fun m g _ => KernelIdeal.Gen.frame m g

theorem frame_kernelIdeal_finite : quiescent_KernelIdeal_pre_finite_mix := fun m g _ => KernelIdeal.Gen.frame m g

theorem frame_referenceIdeal : quiescent_ReferenceIdeal := fun m g _ =>
  (θ_run ReferenceIdeal.defs _ _).mono
    (fun r h => ⟨fun c => (h c).2.2.2.2.2.2.2, sem_eq_zero_of_no_sems (by decide) r.2⟩) (ReferenceIdeal.Value.run m g)

theorem frame_referenceIdeal_finite : quiescent_ReferenceIdeal_pre_finite_mix := fun m g _ => frame_referenceIdeal m g trivial

theorem algebraic : algebraic_KernelIdeal_ReferenceIdeal_pre_finite_mix := by
  intro m g m' g' hp he
  refine ⟨_, _, _, _, _, _, _, KernelIdeal.Value.run_blocks m g, (θ_run ReferenceIdeal.defs _ _).mono (fun r h c => ?_) (ReferenceIdeal.Value.run m' g')⟩
  obtain ⟨e0, e1, e2, e3, e4, e5, e6, e7, e8, e9, e10⟩ := he c
  obtain ⟨h0, h1, h2, h3, h4, h5, h6, hk⟩ := h c
  have ha := args_of_pre hp c
  have ht := at_of_args ha e0 e1 e2 e3 e4 e5 e6 e7 e8
  refine ⟨h0.trans ?_, h1.trans ((Ref.dattn ht).trans (final14 ha).symm), h2.trans ((Ref.dgb ht).trans (final15 ha).symm),
    h3.trans ((Ref.dy ht).trans (final16 ha).symm), h4.trans ((Ref.dga ht).trans (final17 ha).symm),
    h5.trans ((Ref.dgcn ht).trans (final18 ha).symm), h6.trans ((Ref.dcw ht).trans (final19 ha).symm), hk⟩
  exact (Ref.gdownTerm_eq _ _ _ e9 e10).trans (final13 m c).symm

end Cert.Mix

end
-- ==== Proof.AttnRun.lean ====
module

public import proofs.«01_k».proof.Proof.Gen.Kernel2Ideal.Skeleton
public import proofs.«01_k».proof.Proof.Gen.Kernel2Ideal.Frame

@[expose] public section

/-! # The body of the attention's backward call, run once

At the first point of the grid the body fills its accumulators with zeros; from then on it adds to them, at rows which depend on the
point. Each run finds the list of the stores that every output ends with. -/

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]

local notation "𝕄" => MT nD τ sig Unit (Elt F) ℕ (UR sig nD τ) ℕ

/-- The point is the first of the grid, as the body computes it. -/
abbrev First (i : grid0.Coords) : Prop := Scalar.cmpi .ne (Scalar.extui (Scalar.cmpi .eq (BitVec.ofNat 32 (i 0).val) 0#32)) 0#32 = 1#1

/-- The rows of the block before, as the body computes them: the block's own at the first block. -/
theorem off1_eq : ∀ i : grid0.Coords, k0_off1 i (BitVec.ofNat 32 0) = ![256 * (i 0).val - 128, 0] ∧ k0_off1 i (BitVec.ofNat 32 1) = ![256 * (i 0).val, 0] := by
  decide +kernel
instance closedOff_before (i : grid0.Coords) : ClosedOff (k0_off1 i (BitVec.ofNat 32 0)) := ⟨![256 * (i 0).val - 128, 0], (off1_eq i).1⟩
instance closedOff_within (i : grid0.Coords) : ClosedOff (k0_off1 i (BitVec.ofNat 32 1)) := ⟨![256 * (i 0).val, 0], (off1_eq i).2⟩

section

variable (c : Dev nD) (i : grid0.Coords) (arg1 : Memref sig .tc .smem S1x8 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x128 .f32) (harg14 : arg14.IsWhole)
  (x0 : Vec F S1x8 .f32) (x1 : Vec F S256x512 .bf16) (x2 : Vec F S256x512 .bf16) (x3 : Vec F S256x512 .bf16) (x4 : Vec F S8192x128 .bf16) (x5 : Vec F S8192x128 .bf16) (x6 : Vec F S8192x128 .bf16) (x7 : Vec F S8192x128 .bf16)

/-- The inputs, each at its block. -/
def inputs : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

set_option maxHeartbeats 4000000 in
/-- A later point, its accumulators at `y9` to `y13`. -/
def runNext (hc : ¬First i) (h0 : 1 ≤ (i 0).val) (y9 : Vec F S8192x128 .f32) (y10 : Vec F S8192x128 .f32) (y11 : Vec F S8192x128 .f32) (y12 : Vec F S8192x128 .f32) (y13 : Vec F S1x128 .f32) : Σ' (L8 : List (View.Piece (Elt F) S256x512 .bf16)), Σ' (L9 : List (View.Piece (Elt F) S8192x128 .f32)), Σ' (L10 : List (View.Piece (Elt F) S8192x128 .f32)), Σ' (L11 : List (View.Piece (Elt F) S8192x128 .f32)), Σ' (L12 : List (View.Piece (Elt F) S8192x128 .f32)), { L13 : List (View.Piece (Elt F) S1x128 .f32) //
    ∀ (E : Set ℕ) (K : PUnit → sProp 𝕄),
      iprop(inputs c arg1 arg2 arg3 arg4 arg5 arg6 arg7 arg8 x0 x1 x2 x3 x4 x5 x6 x7 ∗ (∃ d, owns (c : Thread nD τ) arg9 fullShare d) ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13
          ∗ (iprop(inputs c arg1 arg2 arg3 arg4 arg5 arg6 arg7 arg8 x0 x1 x2 x3 x4 x5 x6 x7 ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread y9) L9) ∗ (arg11.view.loc (c : Thread nD τ) ↦[arg11.view.set]{fullShare} arg11.view.writes (Elt F) (harg11.unread y10) L10) ∗ (arg12.view.loc (c : Thread nD τ) ↦[arg12.view.set]{fullShare} arg12.view.writes (Elt F) (harg12.unread y11) L11) ∗ (arg13.view.loc (c : Thread nD τ) ↦[arg13.view.set]{fullShare} arg13.view.writes (Elt F) (harg13.unread y12) L12) ∗ (arg14.view.loc (c : Thread nD τ) ↦[arg14.view.set]{fullShare} arg14.view.writes (Elt F) (harg14.unread y13) L13)) -∗ K ⟨⟩))
        ⊢ wp frame (wpE (defs₀ (F := F)) Variants.none c none) E (cc0_attention_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_attention_bwd_eq_skeleton]; unfold cc0_attention_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hf11; obtain rfl := harg13.eq_unread hf12; obtain rfl := harg14.eq_unread hf13
    sl_exec (disch := sl_exact hc)
    sl_step
    iapply Hk
    isplitl [H0 H1 H2 H3 H4 H5 H6 H7]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      iexists _; isplitr; · ipureintro; exact harg8.read_unread _
      iexact H7
    isplitl [H8]; · iexists _; iexact H8
    isplitl [H9]; · iexact H9
    isplitl [H10]; · iexact H10
    isplitl [H11]; · iexact H11
    isplitl [H12]; · iexact H12
    iexact H13

end

end Cert.Attn

end
-- ==== Proof.AttnAcc.lean ====
module

public import proofs.«01_k».proof.Proof.AttnRun
public import Idealize.ShloMosaic.Lib.WritesUnit
public import Idealize.ShloMosaic.Lib.Pipeline.ReadBack
public import Idealize.ShloMosaic.Lib.Pipeline.FrameBody
public import Idealize.ShloMosaic.Lib.Pointwise

@[expose] public section

/-! # The four additions of a point to an accumulator of the attention's backward call

A point holds two query blocks; each adds to the rows of the key block before it and to the rows of its own. -/

noncomputable section

namespace Cert.Attn

open Idealize.ShloMosaic Idealize.ShloMosaic.TcCoe
open Cert.Kernel2Ideal Cert.Kernel2Ideal.Gen

/-- A block of 128 rows placed at row `o` of the accumulator, zero elsewhere. -/
def place (o : ℕ) (D : Fin 128 → Fin 128 → EReal) (y : S8192x128.Idx) : EReal :=
  if h : o ≤ (y 0).val ∧ (y 0).val < o + 128 then D ⟨(y 0).val - o, by omega⟩ (y 1) else 0

/-- The windows of the four additions. -/
abbrev wBefore (i : grid0.Coords) (r : Fin 2) : Rect S8192x128 := Rect.unit (s := S8192x128) (k0_off1 i (BitVec.ofNat 32 r.val)) S128x128.size (k0_off1_inb i r)
abbrev wOwn (i : grid0.Coords) (r : Fin 2) : Rect S8192x128 := Rect.unit (s := S8192x128) (k0_off2 i (BitVec.ofNat 32 r.val)) S128x128.size (k0_off2_inb i r)

section

variable {sig' : RefSig} {κ : Kind} {sp : Space} (v : View sig' κ sp S8192x128 .f32)

theorem read_addition (f : v.ty.Contents (Elt Ideal)) {off : Fin 2 → ℕ} (o : ℕ) (inb : ∀ a, off a + S128x128.size a ≤ S8192x128.size a) (ho : off = ![o, 0])
    (w : Vec Ideal S128x128 .f32) (L : List (View.Piece (Elt Ideal) S8192x128 .f32)) (D : Fin 128 → Fin 128 → EReal)
    (hw : ∀ p l, w (ix2 p l) = v.readAt (Elt Ideal) (Rect.unit (s := S8192x128) off S128x128.size inb).toLoadRect (v.writes (Elt Ideal) f L) (ix2 p l) + D p l)
    (y : S8192x128.Idx) :
    v.read (Elt Ideal) (v.writes (Elt Ideal) f (⟨Rect.unit (s := S8192x128) off S128x128.size inb, w⟩ :: L)) y
      = v.read (Elt Ideal) (v.writes (Elt Ideal) f L) y + place o D y := by
  rw [View.read_writes_cons_rows (W := 128) v f inb w L y ho rfl rfl]
  unfold place
  by_cases h : o ≤ (y 0).val ∧ (y 0).val < o + 128
  · rw [dif_pos h, dif_pos h]
    subst ho
    refine Eq.trans (congrArg w ?_) ((hw ⟨(y 0).val - o, by omega⟩ (y 1)).trans ?_)
    · funext a
      match a with
      | ⟨0, _⟩ => rfl
      | ⟨1, _⟩ => rfl
    · rw [View.readAt_apply]
      congr 2
      funext a
      apply Fin.ext
      match a with
      | ⟨0, _⟩ => show o + 1 * ((y 0).val - o) = (y 0).val; omega
      | ⟨1, _⟩ => show 0 + 1 * (y 1).val = (y 1).val; omega
  · rw [dif_neg h, dif_neg h]
    exact (add_zero (M := EReal) _).symm

/-- The accumulator after a point's four additions. -/
theorem read_four (i : grid0.Coords) (f g : v.ty.Contents (Elt Ideal)) (bottom : List (View.Piece (Elt Ideal) S8192x128 .f32))
    (w0 w1 w2 w3 : Vec Ideal S128x128 .f32) (D0 D1 D2 D3 : Fin 128 → Fin 128 → EReal)
    (h0 : ∀ p l, w0 (ix2 p l) = v.readAt (Elt Ideal) (wBefore i 0).toLoadRect (v.writes (Elt Ideal) f bottom) (ix2 p l) + D0 p l)
    (h1 : ∀ p l, w1 (ix2 p l) = v.readAt (Elt Ideal) (wOwn i 0).toLoadRect (v.writes (Elt Ideal) f (⟨wBefore i 0, w0⟩ :: bottom)) (ix2 p l) + D1 p l)
    (h2 : ∀ p l, w2 (ix2 p l) = v.readAt (Elt Ideal) (wBefore i 1).toLoadRect (v.writes (Elt Ideal) g (⟨wOwn i 0, w1⟩ :: ⟨wBefore i 0, w0⟩ :: bottom)) (ix2 p l) + D2 p l)
    (h3 : ∀ p l, w3 (ix2 p l) = v.readAt (Elt Ideal) (wOwn i 1).toLoadRect
      (v.writes (Elt Ideal) f (⟨wBefore i 1, w2⟩ :: ⟨wOwn i 0, w1⟩ :: ⟨wBefore i 0, w0⟩ :: bottom)) (ix2 p l) + D3 p l)
    (y : S8192x128.Idx) :
    v.read (Elt Ideal) (v.writes (Elt Ideal) f (⟨wOwn i 1, w3⟩ :: ⟨wBefore i 1, w2⟩ :: ⟨wOwn i 0, w1⟩ :: ⟨wBefore i 0, w0⟩ :: bottom)) y
      = v.read (Elt Ideal) (v.writes (Elt Ideal) f bottom) y + place (256 * (i 0).val - 128) D0 y + place (256 * (i 0).val) D1 y
        + place (256 * (i 0).val) D2 y + place (256 * (i 0).val + 128) D3 y := by
  have o1 : k0_off2 i (BitVec.ofNat 32 (0 : Fin 2).val) = ![256 * (i 0).val, 0] := k0_off2_eq i 0
  have o3 : k0_off2 i (BitVec.ofNat 32 (1 : Fin 2).val) = ![256 * (i 0).val + 128, 0] := k0_off2_eq i 1
  have o0 : k0_off1 i (BitVec.ofNat 32 (0 : Fin 2).val) = ![256 * (i 0).val - 128, 0] := (off1_eq i).1
  have o2 : k0_off1 i (BitVec.ofNat 32 (1 : Fin 2).val) = ![256 * (i 0).val, 0] := (off1_eq i).2
  rw [read_addition v f _ _ o3 w3 _ D3 h3, read_addition v f _ _ o2 w2 _ D2, read_addition v f _ _ o1 w1 _ D1 h1,
    read_addition v f _ _ o0 w0 _ D0 h0]
  intro p l
  have hx : ∀ g : v.ty.Contents (Elt Ideal), v.read (Elt Ideal) (v.writes (Elt Ideal) g (⟨wOwn i 0, w1⟩ :: ⟨wBefore i 0, w0⟩ :: bottom)) ((wBefore i 1).toLoadRect.idx (ix2 p l)) = w1 (ix2 p l) := by
    intro g
    refine View.read_writes_cons_rows_of_mem v g _ w1 _ _ _ o1 ?_ ?_
    · show k0_off1 i (BitVec.ofNat 32 1) 0 + 1 * p.val = _
      rw [(off1_eq i).2]; show 256 * (i 0).val + 1 * p.val = 256 * (i 0).val + p.val; omega
    · show k0_off1 i (BitVec.ofNat 32 1) 1 + 1 * l.val = _
      rw [(off1_eq i).2]; show 0 + 1 * l.val = l.val; omega
  exact (h2 p l).trans (congrArg (fun e : EReal => e + D2 p l) ((hx g).trans (hx f).symm))

end

end Cert.Attn

end
-- ==== Proof.AttnRunFirst.lean ====
module

public import proofs.«01_k».proof.Proof.AttnRun

@[expose] public section

/-! # The first point's run -/

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]

local notation "𝕄" => MT nD τ sig Unit (Elt F) ℕ (UR sig nD τ) ℕ

section

variable (c : Dev nD) (i : grid0.Coords) (arg1 : Memref sig .tc .smem S1x8 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x128 .f32) (harg14 : arg14.IsWhole)
  (x0 : Vec F S1x8 .f32) (x1 : Vec F S256x512 .bf16) (x2 : Vec F S256x512 .bf16) (x3 : Vec F S256x512 .bf16) (x4 : Vec F S8192x128 .bf16) (x5 : Vec F S8192x128 .bf16) (x6 : Vec F S8192x128 .bf16) (x7 : Vec F S8192x128 .bf16)

set_option maxHeartbeats 4000000 in
/-- The first point, whatever the outputs' buffers hold. -/
def runFirst (hc : First i) (h0 : (i 0).val = 0) : Σ' (L8 : List (View.Piece (Elt F) S256x512 .bf16)), Σ' (L9 : List (View.Piece (Elt F) S8192x128 .f32)), Σ' (L10 : List (View.Piece (Elt F) S8192x128 .f32)), Σ' (L11 : List (View.Piece (Elt F) S8192x128 .f32)), Σ' (L12 : List (View.Piece (Elt F) S8192x128 .f32)), { L13 : List (View.Piece (Elt F) S1x128 .f32) //
    ∀ (E : Set ℕ) (K : PUnit → sProp 𝕄),
      iprop(inputs c arg1 arg2 arg3 arg4 arg5 arg6 arg7 arg8 x0 x1 x2 x3 x4 x5 x6 x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop(inputs c arg1 arg2 arg3 arg4 arg5 arg6 arg7 arg8 x0 x1 x2 x3 x4 x5 x6 x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
        ⊢ wp frame (wpE (defs₀ (F := F)) Variants.none c none) E (cc0_attention_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_attention_bwd_eq_skeleton]; unfold cc0_attention_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := sl_exact hc)
    sl_step
    iapply Hk
    isplitl [H0 H1 H2 H3 H4 H5 H6 H7]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end

end Cert.Attn

end
-- ==== Proof.AttnGroup.lean ====
module

public import proofs.«01_k».proof.Proof.AttnAcc
public import proofs.«01_k».proof.Proof.AttnRunFirst

@[expose] public section

/-! # What a point of the attention's backward call computes, by query block and key head

A point holds two query blocks, and each is met with two key heads. The body spells the same stages four times over; `Grp` gathers what
one of the four takes, and its stages are named once. -/

set_option maxRecDepth 16384

noncomputable section

namespace Cert.Attn

open Idealize.ShloMosaic Idealize.ShloMosaic.TcCoe
open Cert.Kernel2Ideal Cert.Kernel2Ideal.Gen

/-- What one meeting of a query block with a key head takes: the mask, the two halves of the key and the value band, the two lane pairs of
the queries, of the cotangents and of the outputs, and the four sinks. -/
structure Grp where
  mask : IVec S512x256 1
  kBefore : Vec Ideal S128x128 .bf16
  kOwn : Vec Ideal S128x128 .bf16
  vBefore : Vec Ideal S128x128 .bf16
  vOwn : Vec Ideal S128x128 .bf16
  q : Fin 2 → Vec Ideal S128x128 .bf16
  dO : Fin 2 → Vec Ideal S128x128 .bf16
  o : Fin 2 → Vec Ideal S128x128 .bf16
  sink : Fin 4 → Elt Ideal .f32

namespace Grp

variable (G : Grp)

/-- The lane numbers of a tile. -/
abbrev lanes : IVec S128x128 32 := iota .tc S128x128 32 [1] iota_S128x128_d1_w32
/-- The lane numbers of a row. -/
abbrev lanes1 : IVec S1x128 32 := iota .tc S1x128 32 [1] iota_S1x128_d1_w32

/-- The bands, and the stacks of four heads. -/
def kBand : FVec Ideal S256x128 .bf16 := k0_pay10 G.kBefore G.kOwn
def vBand : FVec Ideal S256x128 .bf16 := k0_pay11 G.vBefore G.vOwn
def qStack : FVec Ideal S512x128 .bf16 := k0_pay12 (G.q 0) (G.q 1)
def dStack : FVec Ideal S512x128 .bf16 := k0_pay13 (G.dO 0) (G.dO 1)
def oStack : FVec Ideal S512x128 .bf16 := k0_pay17 (k0_pay14 (G.o 0)) (k0_pay15 (G.o 1)) lanes k0_pay16
/-- The weights, and what goes into them: the sink's share, and one over the sum. -/
def sinkExp : FVec Ideal S512x1 .f32 := k0_pay22 (F := Ideal) G.mask G.kBand G.qStack (G.sink 0) (G.sink 1) (G.sink 2) (G.sink 3)
def invSum : FVec Ideal S512x1 .f32 := k0_pay23 (F := Ideal) G.mask G.kBand G.qStack (G.sink 0) (G.sink 1) (G.sink 2) (G.sink 3)
def weights : FVec Ideal S512x256 .f32 := k0_pay24 (F := Ideal) G.mask G.kBand G.qStack (G.sink 0) (G.sink 1) (G.sink 2) (G.sink 3)
/-- The cotangent against the output, by row. -/
def delta : FVec Ideal S512x1 .f32 := k0_pay25 (F := Ideal) G.dStack G.oStack
/-- The gradient of the scores. -/
def dScore : FVec Ideal S512x256 .bf16 := k0_pay26 (F := Ideal) G.vBand G.dStack G.oStack G.weights
/-- The gradients of the queries, one lane pair after the other, of the key band and of the value band. -/
def dQ0 : FVec Ideal S128x128 .bf16 := k0_pay33 (F := Ideal) G.kBand G.dScore
def dQ1 : FVec Ideal S128x128 .bf16 := k0_pay34 (F := Ideal) G.kBand G.dScore
def dK : FVec Ideal S256x128 .f32 := k0_pay35 (F := Ideal) G.qStack G.dScore
def dV : FVec Ideal S256x128 .f32 := k0_pay36 (F := Ideal) G.dStack G.weights
/-- The gradient of the sinks added to what came before, for the first key head and for the second. -/
def sinkFirst (acc : FVec Ideal S1x128 .f32) : FVec Ideal S1x128 .f32 :=
  k0_pay30 (F := Ideal) lanes1 (k0_pay28 (F := Ideal) lanes1 acc G.dStack G.oStack G.sinkExp G.invSum) (k0_pay29 (F := Ideal) G.dStack G.oStack G.sinkExp G.invSum)
def sinkSecond (acc : FVec Ideal S1x128 .f32) : FVec Ideal S1x128 .f32 := k0_pay57 (F := Ideal) lanes1 acc G.sinkExp G.invSum G.delta

end Grp

/-- The rows of one tile of the point's blocks. -/
theorem tile_inb (b g p : Fin 2) : ∀ a, (![128 * b.val, 256 * g.val + 128 * p.val] : Fin 2 → ℕ) a + S128x128.size a ≤ S256x512.size a := by
  intro a
  match a with
  | ⟨0, _⟩ => show 128 * b.val + 128 ≤ 256; omega
  | ⟨1, _⟩ => show 256 * g.val + 128 * p.val + 128 ≤ 512; omega
abbrev wTile (b g p : Fin 2) : Rect S256x512 := Rect.unit (s := S256x512) ![128 * b.val, 256 * g.val + 128 * p.val] S128x128.size (tile_inb b g p)
theorem sink_inb (g : Fin 2) (u : Fin 4) : ∀ a, (![0, 4 * g.val + u.val] : Fin 2 → ℕ) a + S1x1.size a ≤ S1x8.size a := by
  intro a
  match a with
  | ⟨0, _⟩ => show 0 + 1 ≤ 1; omega
  | ⟨1, _⟩ => show 4 * g.val + u.val + 1 ≤ 8; omega
abbrev wSink (g : Fin 2) (u : Fin 4) : Rect S1x8 := Rect.unit (s := S1x8) ![0, 4 * g.val + u.val] S1x1.size (sink_inb g u)

/-- The two blocks' masks. -/
def masks (i : grid0.Coords) (b : Fin 2) : IVec S512x256 1 := ![k0_pay9 i, k0_pay68 (BitVec.ofNat 32 (i 0).val)] b

section

variable (c : Dev nD) (i : grid0.Coords) (arg1 : Memref sig .tc .smem S1x8 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x128 .f32) (harg14 : arg14.IsWhole)
  (x0 : Vec Ideal S1x8 .f32) (x1 : Vec Ideal S256x512 .bf16) (x2 : Vec Ideal S256x512 .bf16) (x3 : Vec Ideal S256x512 .bf16) (x4 : Vec Ideal S8192x128 .bf16) (x5 : Vec Ideal S8192x128 .bf16) (x6 : Vec Ideal S8192x128 .bf16) (x7 : Vec Ideal S8192x128 .bf16)

/-- Meeting `(b, g)` of a point, from the point's blocks. -/
def grp (b g : Fin 2) : Grp where
  mask := masks i b
  kBefore := fun j => (![x4, x5] g) ((wBefore i b).toLoadRect.idx j)
  kOwn := fun j => (![x4, x5] g) ((wOwn i b).toLoadRect.idx j)
  vBefore := fun j => (![x6, x7] g) ((wBefore i b).toLoadRect.idx j)
  vOwn := fun j => (![x6, x7] g) ((wOwn i b).toLoadRect.idx j)
  q := fun p j => x1 ((wTile b g p).toLoadRect.idx j)
  dO := fun p j => x2 ((wTile b g p).toLoadRect.idx j)
  o := fun p j => x3 ((wTile b g p).toLoadRect.idx j)
  sink := fun u => x0 ((wSink g u).toLoadRect.idx (Shape.Idx.first (s := S1x1) (by decide)))

/-- The same as the body's loads give it. -/
def loaded (b g : Fin 2) : Grp where
  mask := masks i b
  kBefore := ![View.readAt (Elt Ideal) arg5.view (wBefore i b).toLoadRect (harg5.unread x4), View.readAt (Elt Ideal) arg6.view (wBefore i b).toLoadRect (harg6.unread x5)] g
  kOwn := ![View.readAt (Elt Ideal) arg5.view (wOwn i b).toLoadRect (harg5.unread x4), View.readAt (Elt Ideal) arg6.view (wOwn i b).toLoadRect (harg6.unread x5)] g
  vBefore := ![View.readAt (Elt Ideal) arg7.view (wBefore i b).toLoadRect (harg7.unread x6), View.readAt (Elt Ideal) arg8.view (wBefore i b).toLoadRect (harg8.unread x7)] g
  vOwn := ![View.readAt (Elt Ideal) arg7.view (wOwn i b).toLoadRect (harg7.unread x6), View.readAt (Elt Ideal) arg8.view (wOwn i b).toLoadRect (harg8.unread x7)] g
  q := fun p => View.readAt (Elt Ideal) arg2.view (wTile b g p).toLoadRect (harg2.unread x1)
  dO := fun p => View.readAt (Elt Ideal) arg3.view (wTile b g p).toLoadRect (harg3.unread x2)
  o := fun p => View.readAt (Elt Ideal) arg4.view (wTile b g p).toLoadRect (harg4.unread x3)
  sink := fun u => View.readAt (Elt Ideal) arg1.view (wSink g u).toLoadRect (harg1.unread x0) (Shape.Idx.first (s := S1x1) (by decide))

theorem readAt_unread {κ : Kind} {sp : Space} {s : Shape} {e : EltTy} {r : Memref sig κ sp s e} (h : r.IsWhole) (x : Vec Ideal s e) (w : LoadRect s) :
    View.readAt (Elt Ideal) r.view w (h.unread x) = fun j => x (w.idx j) :=
  funext fun j => (View.readAt_apply _ _ _).trans (congrFun (h.read_unread x) _)

theorem loaded_eq (b g : Fin 2) : loaded i arg1 harg1 arg2 harg2 arg3 harg3 arg4 harg4 arg5 harg5 arg6 harg6 arg7 harg7 arg8 harg8 x0 x1 x2 x3 x4 x5 x6 x7 b g
    = grp i x0 x1 x2 x3 x4 x5 x6 x7 b g := by
  unfold loaded grp
  simp only [readAt_unread]
  congr 1
  all_goals (try (match g with
    | 0 => rfl
    | 1 => rfl))

end

end Cert.Attn

end
-- ==== Proof.AttnSame.lean ====
module

public import proofs.«01_k».proof.Proof.AttnGroup

@[expose] public section

/-! # The stages of the four meetings are the same

The body's text for the second, third and fourth meeting of a query block with a key head groups its operations otherwise than the first;
each stage is nevertheless the same function of what it takes. -/

set_option maxRecDepth 16384

noncomputable section

namespace Cert.Attn

open Idealize.ShloMosaic Idealize.ShloMosaic.TcCoe
open Cert.Kernel2Ideal Cert.Kernel2Ideal.Gen

variable (a b : Vec Ideal S128x128 .bf16) (t : Vec Ideal S128x128 .f32) (X : FVec Ideal S256x128 .f32)
  (K V : FVec Ideal S256x128 .bf16) (Q D O : FVec Ideal S512x128 .bf16) (M : IVec S512x256 1) (s0 s1 s2 s3 : Elt Ideal .f32)
  (S : FVec Ideal S512x256 .bf16) (W : FVec Ideal S512x256 .f32) (E L : FVec Ideal S512x1 .f32) (acc : FVec Ideal S1x128 .f32)

/-- The value the masked scores hold. -/
abbrev masked : Ideal .f32 := Named.named κ "mask" 0xF149F2CA#32

/-! The bands and the stacks. -/
theorem pay41 : k0_pay41 (F := Ideal) a b = k0_pay10 a b := rfl
theorem pay42 : k0_pay42 (F := Ideal) a b = k0_pay11 a b := rfl
theorem pay69 : k0_pay69 (F := Ideal) a b = k0_pay10 a b := rfl
theorem pay70 : k0_pay70 (F := Ideal) a b = k0_pay11 a b := rfl
theorem pay100 : k0_pay100 (F := Ideal) a b = k0_pay10 a b := rfl
theorem pay103 : k0_pay103 (F := Ideal) (k0_pay101 a) (k0_pay102 b) = k0_pay11 a b := rfl
theorem pay43 : k0_pay43 (F := Ideal) a b = k0_pay12 a b := rfl
theorem pay44 : k0_pay44 (F := Ideal) a b = k0_pay13 a b := rfl
theorem pay45 : k0_pay45 (F := Ideal) a b = k0_pay17 (k0_pay14 a) (k0_pay15 b) Grp.lanes k0_pay16 := rfl
theorem pay71 : k0_pay71 (F := Ideal) a b = k0_pay12 a b := rfl
theorem pay72 : k0_pay72 (F := Ideal) a b = k0_pay13 a b := rfl
theorem pay75 : k0_pay75 (F := Ideal) (k0_pay73 a) (k0_pay74 b) Grp.lanes 64#32 = k0_pay17 (k0_pay14 a) (k0_pay15 b) Grp.lanes k0_pay16 := rfl
theorem pay104 : k0_pay104 (F := Ideal) a b = k0_pay12 a b := rfl
theorem pay105 : k0_pay105 (F := Ideal) a b = k0_pay13 a b := rfl
theorem pay106 : k0_pay106 (F := Ideal) a b = k0_pay17 (k0_pay14 a) (k0_pay15 b) Grp.lanes k0_pay16 := rfl

/-! The weights. -/
theorem pay51 : k0_pay51 (F := Ideal) M (k0_pay46 K a b) masked s0 s1 s2 s3 = k0_pay22 M K (k0_pay12 a b) s0 s1 s2 s3 := rfl
theorem pay52 : k0_pay52 (F := Ideal) M (k0_pay46 K a b) masked s0 s1 s2 s3 = k0_pay23 M K (k0_pay12 a b) s0 s1 s2 s3 := rfl
theorem pay53 : k0_pay53 (F := Ideal) M (k0_pay46 K a b) masked s0 s1 s2 s3 = k0_pay24 M K (k0_pay12 a b) s0 s1 s2 s3 := rfl
theorem pay80 : k0_pay80 (F := Ideal) M K Q s0 s1 s2 s3 = k0_pay22 M K Q s0 s1 s2 s3 := rfl
theorem pay81 : k0_pay81 (F := Ideal) M K Q s0 s1 s2 s3 = k0_pay23 M K Q s0 s1 s2 s3 := rfl
theorem pay83 : k0_pay83 (F := Ideal) (k0_pay79 M K Q s0 s1 s2 s3) (k0_pay82 M K Q s0 s1 s2 s3) = k0_pay24 M K Q s0 s1 s2 s3 := rfl
theorem pay112 : k0_pay112 (F := Ideal) M (k0_pay107 K a b) s0 s1 s2 s3 = k0_pay22 M K (k0_pay12 a b) s0 s1 s2 s3 := rfl
theorem pay113 : k0_pay113 (F := Ideal) M (k0_pay107 K a b) s0 s1 s2 s3 = k0_pay23 M K (k0_pay12 a b) s0 s1 s2 s3 := rfl
theorem pay114 : k0_pay114 (F := Ideal) M (k0_pay107 K a b) s0 s1 s2 s3 = k0_pay24 M K (k0_pay12 a b) s0 s1 s2 s3 := rfl

/-! The gradient of the scores. -/
theorem pay54 : k0_pay54 (F := Ideal) D O = k0_pay25 D O := rfl
theorem pay115 : k0_pay115 (F := Ideal) D O = k0_pay25 D O := rfl
theorem pay56 : k0_pay56 (F := Ideal) (k0_pay55 M V D O (k0_pay46 K a b) masked s0 s1 s2 s3)
    = k0_pay26 V D O (k0_pay24 M K (k0_pay12 a b) s0 s1 s2 s3) := rfl
theorem pay85 : k0_pay85 (F := Ideal) V D O (k0_pay79 M K Q s0 s1 s2 s3) (k0_pay82 M K Q s0 s1 s2 s3)
    = k0_pay26 V D O (k0_pay24 M K Q s0 s1 s2 s3) := rfl
theorem pay117 : k0_pay117 (F := Ideal) W (k0_pay116 V D O) = k0_pay26 V D O W := rfl

/-! The gradients. -/
theorem pay60 : k0_pay60 (F := Ideal) (k0_pay58 K W) = k0_pay33 K (k0_pay56 W) := rfl
theorem pay61 : k0_pay61 (F := Ideal) (k0_pay58 K W) = k0_pay34 K (k0_pay56 W) := rfl
theorem pay92 : k0_pay92 (F := Ideal) K S = k0_pay33 K S := rfl
theorem pay93 : k0_pay93 (F := Ideal) K S = k0_pay34 K S := rfl
theorem pay121 : k0_pay121 (F := Ideal) K S (constant S512x128 .f32 0#32) = k0_pay33 K S := rfl
theorem pay122 : k0_pay122 (F := Ideal) K S (constant S512x128 .f32 0#32) = k0_pay34 K S := rfl
theorem pay63 : k0_pay63 (F := Ideal) D W = k0_pay36 D W := rfl
theorem pay95 : k0_pay95 (F := Ideal) D W = k0_pay36 D W := rfl
theorem pay124 : k0_pay124 (F := Ideal) D W = k0_pay36 D W := rfl
theorem pay37 : k0_pay37 (F := Ideal) Q S t = k0_pay39 (k0_pay35 Q S) t := rfl
theorem pay38 : k0_pay38 (F := Ideal) Q S t = k0_pay40 (k0_pay35 Q S) t := rfl
theorem pay64 : k0_pay64 (F := Ideal) Q S t = k0_pay39 (k0_pay35 Q S) t := rfl
theorem pay65 : k0_pay65 (F := Ideal) Q S t = k0_pay40 (k0_pay35 Q S) t := rfl
theorem pay96 : k0_pay96 (F := Ideal) Q S t = k0_pay39 (k0_pay35 Q S) t := rfl
theorem pay97 : k0_pay97 (F := Ideal) Q S t = k0_pay40 (k0_pay35 Q S) t := rfl
theorem pay125 : k0_pay125 (F := Ideal) Q S t = k0_pay39 (k0_pay35 Q S) t := rfl
theorem pay126 : k0_pay126 (F := Ideal) Q S t = k0_pay40 (k0_pay35 Q S) t := rfl
theorem pay66 : k0_pay66 (F := Ideal) D W t = k0_pay39 (k0_pay36 D W) t := rfl
theorem pay67 : k0_pay67 (F := Ideal) X t = k0_pay40 X t := rfl
theorem pay98 : k0_pay98 (F := Ideal) X t = k0_pay39 X t := rfl
theorem pay99 : k0_pay99 (F := Ideal) X t = k0_pay40 X t := rfl
theorem pay127 : k0_pay127 (F := Ideal) D W t = k0_pay39 (k0_pay36 D W) t := rfl
theorem pay1 : k0_pay1 (F := Ideal) X t = k0_pay40 X t := rfl

/-! The gradient of the sinks. -/
theorem pay89 : k0_pay89 (F := Ideal) Grp.lanes1 (k0_pay87 Grp.lanes1 acc D O E L) (k0_pay88 D O E L)
    = k0_pay30 Grp.lanes1 (k0_pay28 Grp.lanes1 acc D O E L) (k0_pay29 D O E L) := rfl
theorem pay118 : k0_pay118 (F := Ideal) Grp.lanes1 acc E L (k0_pay25 D O) = k0_pay57 Grp.lanes1 acc E L (k0_pay25 D O) := rfl

end Cert.Attn

end
-- ==== Proof.AttnReads.lean ====
module

public import proofs.«01_k».proof.Proof.AttnSame

@[expose] public section

/-! # What a point of the attention's backward call leaves -/

set_option maxRecDepth 16384

noncomputable section

namespace Cert.Attn

open Idealize.ShloMosaic Idealize.ShloMosaic.TcCoe
open Cert.Kernel2Ideal Cert.Kernel2Ideal.Gen

/-- The rows of a band that belong to the block before, and those of the query's own block. -/
def beforeRows (X : FVec Ideal S256x128 .f32) (p l : Fin 128) : EReal := X (ix2 ⟨p.val, by omega⟩ l)
def ownRows (X : FVec Ideal S256x128 .f32) (p l : Fin 128) : EReal := X (ix2 ⟨128 + p.val, by omega⟩ l)

theorem plus_before (X : FVec Ideal S256x128 .f32) (v : Vec Ideal S128x128 .f32) (p l : Fin 128) :
    k0_pay39 (F := Ideal) X v (ix2 p l) = v (ix2 p l) + beforeRows X p l := by
  unfold k0_pay39 beforeRows
  pointwise

theorem plus_own (X : FVec Ideal S256x128 .f32) (v : Vec Ideal S128x128 .f32) (p l : Fin 128) :
    k0_pay40 (F := Ideal) X v (ix2 p l) = v (ix2 p l) + ownRows X p l := by
  unfold k0_pay40 ownRows
  pointwise

/-- What a point adds to a band's accumulator. -/
def added (i : grid0.Coords) (X Y : FVec Ideal S256x128 .f32) (a : EReal) (y : S8192x128.Idx) : EReal :=
  a + place (256 * (i 0).val - 128) (beforeRows X) y + place (256 * (i 0).val) (ownRows X) y
    + place (256 * (i 0).val) (beforeRows Y) y + place (256 * (i 0).val + 128) (ownRows Y) y

/-- The four pieces a point writes to a band's accumulator, newest first; the third load is read over a base of its own. -/
def fourPieces (v : View sig .tc .vmem S8192x128 .f32) (i : grid0.Coords) (f g : v.ty.Contents (Elt Ideal)) (bottom : List (View.Piece (Elt Ideal) S8192x128 .f32))
    (X Y : FVec Ideal S256x128 .f32) : List (View.Piece (Elt Ideal) S8192x128 .f32) :=
  have L1 : List (View.Piece (Elt Ideal) S8192x128 .f32) :=
    ⟨wBefore i 0, k0_pay39 (F := Ideal) X (v.readAt (Elt Ideal) (wBefore i 0).toLoadRect (v.writes (Elt Ideal) f bottom))⟩ :: bottom
  have L2 : List (View.Piece (Elt Ideal) S8192x128 .f32) :=
    ⟨wOwn i 0, k0_pay40 (F := Ideal) X (v.readAt (Elt Ideal) (wOwn i 0).toLoadRect (v.writes (Elt Ideal) f L1))⟩ :: L1
  have L3 : List (View.Piece (Elt Ideal) S8192x128 .f32) :=
    ⟨wBefore i 1, k0_pay39 (F := Ideal) Y (v.readAt (Elt Ideal) (wBefore i 1).toLoadRect (v.writes (Elt Ideal) g L2))⟩ :: L2
  ⟨wOwn i 1, k0_pay40 (F := Ideal) Y (v.readAt (Elt Ideal) (wOwn i 1).toLoadRect (v.writes (Elt Ideal) f L3))⟩ :: L3

theorem read_fourPieces (v : View sig .tc .vmem S8192x128 .f32) (i : grid0.Coords) (f g : v.ty.Contents (Elt Ideal)) (bottom : List (View.Piece (Elt Ideal) S8192x128 .f32))
    (X Y : FVec Ideal S256x128 .f32) (y : S8192x128.Idx) :
    v.read (Elt Ideal) (v.writes (Elt Ideal) f (fourPieces v i f g bottom X Y)) y = added i X Y (v.read (Elt Ideal) (v.writes (Elt Ideal) f bottom) y) y :=
  read_four v i f g bottom _ _ _ _ _ _ _ _ (fun p l => plus_before _ _ p l) (fun p l => plus_own _ _ p l) (fun p l => plus_before _ _ p l)
    (fun p l => plus_own _ _ p l) y

/-- The eight tiles of the queries' gradient, newest first. -/
def tiles (G : Fin 2 → Fin 2 → Grp) : List (View.Piece (Elt Ideal) S256x512 .bf16) :=
  [⟨wTile 1 1 1, (G 1 1).dQ1⟩, ⟨wTile 1 1 0, (G 1 1).dQ0⟩, ⟨wTile 1 0 1, (G 1 0).dQ1⟩, ⟨wTile 1 0 0, (G 1 0).dQ0⟩,
    ⟨wTile 0 1 1, (G 0 1).dQ1⟩, ⟨wTile 0 1 0, (G 0 1).dQ0⟩, ⟨wTile 0 0 1, (G 0 0).dQ1⟩, ⟨wTile 0 0 0, (G 0 0).dQ0⟩]

/-- The queries' gradient of a point. -/
def dQ (G : Fin 2 → Fin 2 → Grp) : Vec Ideal S256x512 .bf16 := fun y =>
  (![(G ⟨(y 0).val / 128, by have : (y 0).val < 256 := (y 0).isLt; omega⟩ ⟨(y 1).val / 256, by have : (y 1).val < 512 := (y 1).isLt; omega⟩).dQ0,
      (G ⟨(y 0).val / 128, by have : (y 0).val < 256 := (y 0).isLt; omega⟩ ⟨(y 1).val / 256, by have : (y 1).val < 512 := (y 1).isLt; omega⟩).dQ1] ⟨(y 1).val / 128 % 2, by omega⟩)
    (ix2 ⟨(y 0).val % 128, by omega⟩ ⟨(y 1).val % 128, by omega⟩)

/-- What a point adds to the sinks' gradient. -/
def sinkTotal (G : Fin 2 → Fin 2 → Grp) : FVec Ideal S1x128 .f32 :=
  (G 1 1).sinkSecond ((G 1 0).sinkFirst ((G 0 1).sinkSecond ((G 0 0).sinkFirst k0_pay8)))

abbrev wSinks : Rect S1x128 := Rect.unit (s := S1x128) ![0, 0] S1x128.size inb_S1x128_S1x128_0_0
abbrev wRows : Rect S8192x128 := Rect.unit (s := S8192x128) ![0, 0] S8192x128.size inb_S8192x128_S8192x128_0_0

section

variable (c : Dev nD) (i : grid0.Coords) (arg1 : Memref sig .tc .smem S1x8 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x128 .f32) (harg14 : arg14.IsWhole)
  (x0 : Vec Ideal S1x8 .f32) (x1 : Vec Ideal S256x512 .bf16) (x2 : Vec Ideal S256x512 .bf16) (x3 : Vec Ideal S256x512 .bf16) (x4 : Vec Ideal S8192x128 .bf16) (x5 : Vec Ideal S8192x128 .bf16) (x6 : Vec Ideal S8192x128 .bf16) (x7 : Vec Ideal S8192x128 .bf16)

set_option maxHeartbeats 2000000 in
theorem runNext_lists (hc : ¬First i) (h0 : 1 ≤ (i 0).val) (y9 y10 y11 y12 : Vec Ideal S8192x128 .f32) (y13 : Vec Ideal S1x128 .f32) :
    (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).1 = tiles (loaded i arg1 harg1 arg2 harg2 arg3 harg3 arg4 harg4 arg5 harg5 arg6 harg6 arg7 harg7 arg8 harg8 x0 x1 x2 x3 x4 x5 x6 x7)
      ∧ (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.1 = fourPieces arg10.view i (harg10.unread y9) arg10.view.junk [] ((loaded i arg1 harg1 arg2 harg2 arg3 harg3 arg4 harg4 arg5 harg5 arg6 harg6 arg7 harg7 arg8 harg8 x0 x1 x2 x3 x4 x5 x6 x7) 0 0).dK ((loaded i arg1 harg1 arg2 harg2 arg3 harg3 arg4 harg4 arg5 harg5 arg6 harg6 arg7 harg7 arg8 harg8 x0 x1 x2 x3 x4 x5 x6 x7) 1 0).dK
      ∧ (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.1 = fourPieces arg11.view i (harg11.unread y10) arg11.view.junk [] ((loaded i arg1 harg1 arg2 harg2 arg3 harg3 arg4 harg4 arg5 harg5 arg6 harg6 arg7 harg7 arg8 harg8 x0 x1 x2 x3 x4 x5 x6 x7) 0 1).dK ((loaded i arg1 harg1 arg2 harg2 arg3 harg3 arg4 harg4 arg5 harg5 arg6 harg6 arg7 harg7 arg8 harg8 x0 x1 x2 x3 x4 x5 x6 x7) 1 1).dK
      ∧ (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.2.1 = fourPieces arg12.view i (harg12.unread y11) arg12.view.junk [] ((loaded i arg1 harg1 arg2 harg2 arg3 harg3 arg4 harg4 arg5 harg5 arg6 harg6 arg7 harg7 arg8 harg8 x0 x1 x2 x3 x4 x5 x6 x7) 0 0).dV ((loaded i arg1 harg1 arg2 harg2 arg3 harg3 arg4 harg4 arg5 harg5 arg6 harg6 arg7 harg7 arg8 harg8 x0 x1 x2 x3 x4 x5 x6 x7) 1 0).dV
      ∧ (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.2.2.1 = fourPieces arg13.view i (harg13.unread y12) arg13.view.junk [] ((loaded i arg1 harg1 arg2 harg2 arg3 harg3 arg4 harg4 arg5 harg5 arg6 harg6 arg7 harg7 arg8 harg8 x0 x1 x2 x3 x4 x5 x6 x7) 0 1).dV ((loaded i arg1 harg1 arg2 harg2 arg3 harg3 arg4 harg4 arg5 harg5 arg6 harg6 arg7 harg7 arg8 harg8 x0 x1 x2 x3 x4 x5 x6 x7) 1 1).dV
      ∧ (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.2.2.2.1 = [⟨wSinks, k0_pay2 (F := Ideal) (sinkTotal (loaded i arg1 harg1 arg2 harg2 arg3 harg3 arg4 harg4 arg5 harg5 arg6 harg6 arg7 harg7 arg8 harg8 x0 x1 x2 x3 x4 x5 x6 x7)) (View.readAt (Elt Ideal) arg14.view wSinks.toLoadRect (harg14.unread y13))⟩] := by
  dsimp only [runNext]
  simp only [runNext.sl.H10_1, runNext.sl.H10_2, runNext.sl.H10_3, runNext.sl.H11_1, runNext.sl.H11_2, runNext.sl.H11_3, runNext.sl.H12_1, runNext.sl.H12_2, runNext.sl.H12_3, runNext.sl.H9_1, runNext.sl.H9_2, runNext.sl.H9_3, runNext.sl.cst_102, runNext.sl.cst_288, runNext.sl.r, runNext.sl.r_1, runNext.sl.r_10, runNext.sl.r_11, runNext.sl.r_12, runNext.sl.r_13, runNext.sl.r_14, runNext.sl.r_15, runNext.sl.r_16, runNext.sl.r_17, runNext.sl.r_18, runNext.sl.r_19, runNext.sl.r_2, runNext.sl.r_20, runNext.sl.r_21, runNext.sl.r_22, runNext.sl.r_23, runNext.sl.r_24, runNext.sl.r_25, runNext.sl.r_26, runNext.sl.r_27, runNext.sl.r_28, runNext.sl.r_29, runNext.sl.r_3, runNext.sl.r_30, runNext.sl.r_31, runNext.sl.r_32, runNext.sl.r_33, runNext.sl.r_34, runNext.sl.r_35, runNext.sl.r_36, runNext.sl.r_37, runNext.sl.r_38, runNext.sl.r_39, runNext.sl.r_4, runNext.sl.r_40, runNext.sl.r_41, runNext.sl.r_42, runNext.sl.r_43, runNext.sl.r_44, runNext.sl.r_45, runNext.sl.r_46, runNext.sl.r_47, runNext.sl.r_48, runNext.sl.r_49, runNext.sl.r_5, runNext.sl.r_50, runNext.sl.r_51, runNext.sl.r_52, runNext.sl.r_53, runNext.sl.r_54, runNext.sl.r_55, runNext.sl.r_56, runNext.sl.r_57, runNext.sl.r_58, runNext.sl.r_59, runNext.sl.r_6, runNext.sl.r_60, runNext.sl.r_61, runNext.sl.r_62, runNext.sl.r_63, runNext.sl.r_64, runNext.sl.r_65, runNext.sl.r_66, runNext.sl.r_67, runNext.sl.r_68, runNext.sl.r_69, runNext.sl.r_7, runNext.sl.r_70, runNext.sl.r_71, runNext.sl.r_72, runNext.sl.r_73, runNext.sl.r_74, runNext.sl.r_75, runNext.sl.r_8, runNext.sl.r_9, runNext.sl.v0, runNext.sl.v1, runNext.sl.v2, runNext.sl.v206, runNext.sl.v22, runNext.sl.v23, runNext.sl.v24, runNext.sl.v26, runNext.sl.v3, runNext.sl.v410, runNext.sl.v431, runNext.sl.v447, runNext.sl.v448, runNext.sl.v449, runNext.sl.v451, runNext.sl.v5, runNext.sl.v6, runNext.sl.v624, runNext.sl.v631, runNext.sl.v638, runNext.sl.v78, runNext.sl.v828, runNext.sl.v835, runNext.sl.v842, runNext.sl.v849, pay41, pay42, pay69, pay70, pay100, pay103, pay43, pay44, pay45, pay71, pay72, pay75, pay104, pay105, pay106, pay51, pay52, pay53, pay80, pay81, pay83, pay112, pay113, pay114, pay54, pay115, pay56, pay85, pay117, pay60, pay61, pay92, pay93, pay121, pay122, pay63, pay95, pay124, pay37, pay38, pay64, pay65, pay96, pay97, pay125, pay126, pay66, pay67, pay98, pay99, pay127, pay1, pay89, pay118, tiles, fourPieces, sinkTotal, Grp.kBand, Grp.vBand, Grp.qStack, Grp.dStack, Grp.oStack, Grp.sinkExp, Grp.invSum, Grp.weights, Grp.delta, Grp.dScore, Grp.dQ0, Grp.dQ1, Grp.dK, Grp.dV, Grp.sinkFirst, Grp.sinkSecond, Grp.lanes, Grp.lanes1, loaded]
  refine ⟨rfl, rfl, rfl, rfl, rfl, rfl⟩

set_option maxHeartbeats 2000000 in
theorem runFirst_lists (hc : First i) (h0 : (i 0).val = 0) :
    (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).1 = tiles (loaded i arg1 harg1 arg2 harg2 arg3 harg3 arg4 harg4 arg5 harg5 arg6 harg6 arg7 harg7 arg8 harg8 x0 x1 x2 x3 x4 x5 x6 x7)
      ∧ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.1 = fourPieces arg10.view i arg10.view.junk arg10.view.junk [⟨wRows, k0_pay3 (F := Ideal)⟩] ((loaded i arg1 harg1 arg2 harg2 arg3 harg3 arg4 harg4 arg5 harg5 arg6 harg6 arg7 harg7 arg8 harg8 x0 x1 x2 x3 x4 x5 x6 x7) 0 0).dK ((loaded i arg1 harg1 arg2 harg2 arg3 harg3 arg4 harg4 arg5 harg5 arg6 harg6 arg7 harg7 arg8 harg8 x0 x1 x2 x3 x4 x5 x6 x7) 1 0).dK
      ∧ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.1 = fourPieces arg11.view i arg11.view.junk arg11.view.junk [⟨wRows, k0_pay4 (F := Ideal)⟩] ((loaded i arg1 harg1 arg2 harg2 arg3 harg3 arg4 harg4 arg5 harg5 arg6 harg6 arg7 harg7 arg8 harg8 x0 x1 x2 x3 x4 x5 x6 x7) 0 1).dK ((loaded i arg1 harg1 arg2 harg2 arg3 harg3 arg4 harg4 arg5 harg5 arg6 harg6 arg7 harg7 arg8 harg8 x0 x1 x2 x3 x4 x5 x6 x7) 1 1).dK
      ∧ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.2.1 = fourPieces arg12.view i arg12.view.junk arg12.view.junk [⟨wRows, k0_pay5 (F := Ideal)⟩] ((loaded i arg1 harg1 arg2 harg2 arg3 harg3 arg4 harg4 arg5 harg5 arg6 harg6 arg7 harg7 arg8 harg8 x0 x1 x2 x3 x4 x5 x6 x7) 0 0).dV ((loaded i arg1 harg1 arg2 harg2 arg3 harg3 arg4 harg4 arg5 harg5 arg6 harg6 arg7 harg7 arg8 harg8 x0 x1 x2 x3 x4 x5 x6 x7) 1 0).dV
      ∧ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.2.2.1 = fourPieces arg13.view i arg13.view.junk arg13.view.junk [⟨wRows, k0_pay6 (F := Ideal)⟩] ((loaded i arg1 harg1 arg2 harg2 arg3 harg3 arg4 harg4 arg5 harg5 arg6 harg6 arg7 harg7 arg8 harg8 x0 x1 x2 x3 x4 x5 x6 x7) 0 1).dV ((loaded i arg1 harg1 arg2 harg2 arg3 harg3 arg4 harg4 arg5 harg5 arg6 harg6 arg7 harg7 arg8 harg8 x0 x1 x2 x3 x4 x5 x6 x7) 1 1).dV
      ∧ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.2.2.2.1 = [⟨wSinks, k0_pay2 (F := Ideal) (sinkTotal (loaded i arg1 harg1 arg2 harg2 arg3 harg3 arg4 harg4 arg5 harg5 arg6 harg6 arg7 harg7 arg8 harg8 x0 x1 x2 x3 x4 x5 x6 x7)) (View.readAt (Elt Ideal) arg14.view wSinks.toLoadRect (arg14.view.writes (Elt Ideal) arg14.view.junk [⟨wSinks, k0_pay7 (F := Ideal)⟩]))⟩, ⟨wSinks, k0_pay7 (F := Ideal)⟩] := by
  dsimp only [runFirst]
  simp only [runFirst.sl.r_31, runFirst.sl.r_75, runFirst.sl.r_64, runFirst.sl.v424, runFirst.sl.r_70, runFirst.sl.H10_4, runFirst.sl.H9_3, runFirst.sl.v78, runFirst.sl.H11_4, runFirst.sl.v431, runFirst.sl.r_13, runFirst.sl.r_33, runFirst.sl.r_60, runFirst.sl.r_61, runFirst.sl.r_62, runFirst.sl.v410, runFirst.sl.r_43, runFirst.sl.r_15, runFirst.sl.v24, runFirst.sl.r_9, runFirst.sl.v624, runFirst.sl.r_27, runFirst.sl.v5, runFirst.sl.r_36, runFirst.sl.r, runFirst.sl.v403, runFirst.sl.r_32, runFirst.sl.r_6, runFirst.sl.r_59, runFirst.sl.r_53, runFirst.sl.r_68, runFirst.sl.v448, runFirst.sl.r_65, runFirst.sl.r_51, runFirst.sl.r_24, runFirst.sl.r_30, runFirst.sl.v417, runFirst.sl.r_67, runFirst.sl.r_74, runFirst.sl.r_40, runFirst.sl.r_44, runFirst.sl.r_72, runFirst.sl.H12_2, runFirst.sl.H12_4, runFirst.sl.r_34, runFirst.sl.v449, runFirst.sl.v1, runFirst.sl.r_7, runFirst.sl.H12_1, runFirst.sl.r_3, runFirst.sl.r_66, runFirst.sl.r_10, runFirst.sl.v849, runFirst.sl.v26, runFirst.sl.r_8, runFirst.sl.v23, runFirst.sl.r_29, runFirst.sl.v645, runFirst.sl.H11_2, runFirst.sl.r_47, runFirst.sl.r_39, runFirst.sl.r_14, runFirst.sl.v213, runFirst.sl.v447, runFirst.sl.v2, runFirst.sl.r_52, runFirst.sl.r_50, runFirst.sl.r_41, runFirst.sl.r_38, runFirst.sl.v206, runFirst.sl.r_37, runFirst.sl.v6, runFirst.sl.r_11, runFirst.sl.v451, runFirst.sl.r_56, runFirst.sl.r_16, runFirst.sl.H9_4, runFirst.sl.v199, runFirst.sl.H13_1, runFirst.sl.r_35, runFirst.sl.H11_1, runFirst.sl.H10_3, runFirst.sl.H9_1, runFirst.sl.cst_288, runFirst.sl.r_49, runFirst.sl.r_22, runFirst.sl.r_17, runFirst.sl.r_1, runFirst.sl.r_21, runFirst.sl.r_23, runFirst.sl.r_48, runFirst.sl.r_71, runFirst.sl.r_12, runFirst.sl.v855, runFirst.sl.r_28, runFirst.sl.v220, runFirst.sl.H10_2, runFirst.sl.r_55, runFirst.sl.v3, runFirst.sl.r_69, runFirst.sl.r_58, runFirst.sl.v631, runFirst.sl.v22, runFirst.sl.r_2, runFirst.sl.r_20, runFirst.sl.v638, runFirst.sl.r_19, runFirst.sl.r_5, runFirst.sl.r_63, runFirst.sl.H10_1, runFirst.sl.r_73, runFirst.sl.v0, runFirst.sl.r_46, runFirst.sl.r_18, runFirst.sl.H11_3, runFirst.sl.r_4, runFirst.sl.v828, runFirst.sl.r_42, runFirst.sl.v842, runFirst.sl.r_26, runFirst.sl.cst_102, runFirst.sl.r_57, runFirst.sl.r_25, runFirst.sl.r_54, runFirst.sl.H9_2, runFirst.sl.r_45, runFirst.sl.v835, runFirst.sl.H12_3, pay41, pay42, pay69, pay70, pay100, pay103, pay43, pay44, pay45, pay71, pay72, pay75, pay104, pay105, pay106, pay51, pay52, pay53, pay80, pay81, pay83, pay112, pay113, pay114, pay54, pay115, pay56, pay85, pay117, pay60, pay61, pay92, pay93, pay121, pay122, pay63, pay95, pay124, pay37, pay38, pay64, pay65, pay96, pay97, pay125, pay126, pay66, pay67, pay98, pay99, pay127, pay1, pay89, pay118, tiles, fourPieces, sinkTotal, Grp.kBand, Grp.vBand, Grp.qStack, Grp.dStack, Grp.oStack, Grp.sinkExp, Grp.invSum, Grp.weights, Grp.delta, Grp.dScore, Grp.dQ0, Grp.dQ1, Grp.dK, Grp.dV, Grp.sinkFirst, Grp.sinkSecond, Grp.lanes, Grp.lanes1, loaded]
  refine ⟨rfl, rfl, rfl, rfl, rfl, rfl⟩

end

end Cert.Attn

end
-- ==== Proof.AttnPoint.lean ====
module

public import proofs.«01_k».proof.Proof.AttnReads

@[expose] public section

/-! # What the results' buffers hold after a point of the attention's backward call -/

set_option maxRecDepth 16384

noncomputable section

namespace Cert.Attn

open Idealize.ShloMosaic Idealize.ShloMosaic.TcCoe
open Cert.Kernel2Ideal Cert.Kernel2Ideal.Gen

theorem dQ_tile (G : Fin 2 → Fin 2 → Grp) (b g p : Fin 2) (x : S128x128.Idx) :
    dQ G ((wTile b g p).emb x) = (![(G b g).dQ0, (G b g).dQ1] p) x := by
  have key : ∀ (b' g' p' : Fin 2) (x' : S128x128.Idx), b' = b → g' = g → p' = p → x' = x →
      (![(G b' g').dQ0, (G b' g').dQ1] p') x' = (![(G b g).dQ0, (G b g).dQ1] p) x := by
    rintro _ _ _ _ rfl rfl rfl rfl; rfl
  have h0 : (x 0).val < 128 := (x 0).isLt
  have h1 : (x 1).val < 128 := (x 1).isLt
  have e0 : (((wTile b g p).emb x) 0).val = 128 * b.val + (x 0).val := by
    show 128 * b.val + 1 * (x 0).val = _; omega
  have e1 : (((wTile b g p).emb x) 1).val = 256 * g.val + 128 * p.val + (x 1).val := by
    show 256 * g.val + 128 * p.val + 1 * (x 1).val = _; omega
  refine key _ _ _ _ (Fin.ext ?_) (Fin.ext ?_) (Fin.ext ?_) (funext fun a => Fin.ext ?_)
  · show (((wTile b g p).emb x) 0).val / 128 = b.val
    rw [e0]; omega
  · show (((wTile b g p).emb x) 1).val / 256 = g.val
    rw [e1]; omega
  · show (((wTile b g p).emb x) 1).val / 128 % 2 = p.val
    rw [e1]; omega
  · match a with
    | ⟨0, _⟩ =>
      show (((wTile b g p).emb x) 0).val % 128 = (x 0).val
      rw [e0]; omega
    | ⟨1, _⟩ =>
      show (((wTile b g p).emb x) 1).val % 128 = (x 1).val
      rw [e1]; omega

theorem tiles_cover (G : Fin 2 → Fin 2 → Grp) (y : S256x512.Idx) : ∃ p ∈ tiles G, y ∈ p.1.set := by
  have h0 : (y 0).val < 256 := (y 0).isLt
  have h1 : (y 1).val < 512 := (y 1).isLt
  have key : ∃ b g p : Fin 2, y ∈ (wTile b g p).set := by
    refine ⟨⟨(y 0).val / 128, by omega⟩, ⟨(y 1).val / 256, by omega⟩, ⟨(y 1).val / 128 % 2, by omega⟩, ?_⟩
    rw [Rect.mem_set_unit]
    intro a
    match a with
    | ⟨0, _⟩ => show 128 * ((y 0).val / 128) ≤ (y 0).val ∧ (y 0).val < 128 * ((y 0).val / 128) + 128; omega
    | ⟨1, _⟩ =>
      show 256 * ((y 1).val / 256) + 128 * ((y 1).val / 128 % 2) ≤ (y 1).val ∧ (y 1).val < 256 * ((y 1).val / 256) + 128 * ((y 1).val / 128 % 2) + 128
      omega
  obtain ⟨b, g, p, h⟩ := key
  have two : ∀ b : Fin 2, b = 0 ∨ b = 1 := by decide
  rcases two b with rfl | rfl <;> rcases two g with rfl | rfl <;> rcases two p with rfl | rfl
  · exact ⟨⟨wTile 0 0 0, (G 0 0).dQ0⟩, .tail _ (.tail _ (.tail _ (.tail _ (.tail _ (.tail _ (.tail _ (.head _))))))), h⟩
  · exact ⟨⟨wTile 0 0 1, (G 0 0).dQ1⟩, .tail _ (.tail _ (.tail _ (.tail _ (.tail _ (.tail _ (.head _)))))), h⟩
  · exact ⟨⟨wTile 0 1 0, (G 0 1).dQ0⟩, .tail _ (.tail _ (.tail _ (.tail _ (.tail _ (.head _))))), h⟩
  · exact ⟨⟨wTile 0 1 1, (G 0 1).dQ1⟩, .tail _ (.tail _ (.tail _ (.tail _ (.head _)))), h⟩
  · exact ⟨⟨wTile 1 0 0, (G 1 0).dQ0⟩, .tail _ (.tail _ (.tail _ (.head _))), h⟩
  · exact ⟨⟨wTile 1 0 1, (G 1 0).dQ1⟩, .tail _ (.tail _ (.head _)), h⟩
  · exact ⟨⟨wTile 1 1 0, (G 1 1).dQ0⟩, .tail _ (.head _), h⟩
  · exact ⟨⟨wTile 1 1 1, (G 1 1).dQ1⟩, .head _, h⟩

/-- The tiles make up the queries' gradient, whatever the buffer held. -/
theorem read_tiles (v : View sig .tc .vmem S256x512 .bf16) (f : v.ty.Contents (Elt Ideal)) (G : Fin 2 → Fin 2 → Grp) :
    v.read (Elt Ideal) (v.writes (Elt Ideal) f (tiles G)) = dQ G := by
  funext y
  refine (View.read_writes_apply_eq_canon v f y (tiles G) (tiles_cover G y)).trans ?_
  refine (congrFun (congrArg View.canon (List.append_nil (tiles G)).symm) y).trans (View.canon_append_of_piecesOf (dQ G) [] (tiles G) ?_ y (tiles_cover G y))
  exact ⟨fun x => (dQ_tile G 1 1 1 x).symm, fun x => (dQ_tile G 1 1 0 x).symm, fun x => (dQ_tile G 1 0 1 x).symm, fun x => (dQ_tile G 1 0 0 x).symm,
    fun x => (dQ_tile G 0 1 1 x).symm, fun x => (dQ_tile G 0 1 0 x).symm, fun x => (dQ_tile G 0 0 1 x).symm, fun x => (dQ_tile G 0 0 0 x).symm, trivial⟩

theorem read_rows (v : View sig .tc .vmem S8192x128 .f32) (f : v.ty.Contents (Elt Ideal)) (w : Vec Ideal S8192x128 .f32) (y : S8192x128.Idx) :
    v.read (Elt Ideal) (v.writes (Elt Ideal) f [⟨wRows, w⟩]) y = w y :=
  View.read_writes_cons_hit_of_coords v f wRows w [] y y fun a => by
    match a with
    | ⟨0, _⟩ => show (y 0).val = 0 + 1 * (y 0).val; omega
    | ⟨1, _⟩ => show (y 1).val = 0 + 1 * (y 1).val; omega

theorem read_sinks (v : View sig .tc .vmem S1x128 .f32) (f : v.ty.Contents (Elt Ideal)) (w : Vec Ideal S1x128 .f32)
    (L : List (View.Piece (Elt Ideal) S1x128 .f32)) (y : S1x128.Idx) :
    v.read (Elt Ideal) (v.writes (Elt Ideal) f (⟨wSinks, w⟩ :: L)) y = w y :=
  View.read_writes_cons_hit_of_coords v f wSinks w L y y fun a => by
    match a with
    | ⟨0, _⟩ => show (y 0).val = 0 + 1 * (y 0).val; omega
    | ⟨1, _⟩ => show (y 1).val = 0 + 1 * (y 1).val; omega

theorem sinks_idx (y : S1x128.Idx) : wSinks.toLoadRect.idx y = y := by
  funext a
  apply Fin.ext
  match a with
  | ⟨0, _⟩ => show 0 + 1 * (y 0).val = (y 0).val; omega
  | ⟨1, _⟩ => show 0 + 1 * (y 1).val = (y 1).val; omega

theorem plus_sinks (t v : Vec Ideal S1x128 .f32) (y : S1x128.Idx) : k0_pay2 (F := Ideal) t v y = v y + t y := by
  rw [eq_ix2 y]
  unfold k0_pay2
  pointwise

/-- The first point's four pieces over the cleared accumulator, whatever the buffer held before. -/
theorem read_fourPieces_cleared (v : View sig .tc .vmem S8192x128 .f32) (i : grid0.Coords) (f : v.ty.Contents (Elt Ideal)) (w : Vec Ideal S8192x128 .f32)
    (hw : ∀ y, w y = 0) (X Y : FVec Ideal S256x128 .f32) :
    v.read (Elt Ideal) (v.writes (Elt Ideal) f (fourPieces v i v.junk v.junk [⟨wRows, w⟩] X Y)) = fun y => added i X Y 0 y := by
  funext y
  refine (View.read_writes_apply_eq v f v v.junk y _ ⟨⟨wRows, w⟩, ?_, ?_⟩).trans
    ((read_fourPieces v i v.junk v.junk [⟨wRows, w⟩] X Y y).trans (congrArg (added i X Y · y) ((read_rows v v.junk w y).trans (hw y))))
  · exact List.mem_cons_of_mem _ (List.mem_cons_of_mem _ (List.mem_cons_of_mem _ (List.mem_cons_of_mem _ (List.mem_singleton.mpr rfl))))
  · rw [Rect.mem_set_unit]
    intro a
    match a with
    | ⟨0, _⟩ => exact ⟨Nat.zero_le _, by have : (y 0).val < 8192 := (y 0).isLt; show (y 0).val < 0 + 8192; omega⟩
    | ⟨1, _⟩ => exact ⟨Nat.zero_le _, by have : (y 1).val < 128 := (y 1).isLt; show (y 1).val < 0 + 128; omega⟩

/-- Pieces written over `f9` to `f14` leave what the groups `G` give on top of `y9` to `y13`. -/
structure Leaves (i : grid0.Coords) (G : Fin 2 → Fin 2 → Grp) (arg9 : Memref sig .tc .vmem S256x512 .bf16) (arg10 : Memref sig .tc .vmem S8192x128 .f32) (arg11 : Memref sig .tc .vmem S8192x128 .f32) (arg12 : Memref sig .tc .vmem S8192x128 .f32) (arg13 : Memref sig .tc .vmem S8192x128 .f32) (arg14 : Memref sig .tc .vmem S1x128 .f32) (y9 y10 y11 y12 : Vec Ideal S8192x128 .f32) (y13 : Vec Ideal S1x128 .f32)
    (L8 : List (View.Piece (Elt Ideal) S256x512 .bf16)) (L9 L10 L11 L12 : List (View.Piece (Elt Ideal) S8192x128 .f32)) (L13 : List (View.Piece (Elt Ideal) S1x128 .f32)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) : Prop where
  dq : arg9.view.read (Elt Ideal) (arg9.view.writes (Elt Ideal) f9 L8) = dQ G
  dk0 : arg10.view.read (Elt Ideal) (arg10.view.writes (Elt Ideal) f10 L9) = fun y => added i (G 0 0).dK (G 1 0).dK (y9 y) y
  dk1 : arg11.view.read (Elt Ideal) (arg11.view.writes (Elt Ideal) f11 L10) = fun y => added i (G 0 1).dK (G 1 1).dK (y10 y) y
  dv0 : arg12.view.read (Elt Ideal) (arg12.view.writes (Elt Ideal) f12 L11) = fun y => added i (G 0 0).dV (G 1 0).dV (y11 y) y
  dv1 : arg13.view.read (Elt Ideal) (arg13.view.writes (Elt Ideal) f13 L12) = fun y => added i (G 0 1).dV (G 1 1).dV (y12 y) y
  sink : arg14.view.read (Elt Ideal) (arg14.view.writes (Elt Ideal) f14 L13) = fun y => y13 y + sinkTotal G y

theorem Leaves.congr (i : grid0.Coords) {G G' : Fin 2 → Fin 2 → Grp} (h : G = G') (arg9 : Memref sig .tc .vmem S256x512 .bf16) (arg10 : Memref sig .tc .vmem S8192x128 .f32) (arg11 : Memref sig .tc .vmem S8192x128 .f32) (arg12 : Memref sig .tc .vmem S8192x128 .f32) (arg13 : Memref sig .tc .vmem S8192x128 .f32) (arg14 : Memref sig .tc .vmem S1x128 .f32) (y9 y10 y11 y12 : Vec Ideal S8192x128 .f32) (y13 : Vec Ideal S1x128 .f32)
    (L8 : List (View.Piece (Elt Ideal) S256x512 .bf16)) (L9 L10 L11 L12 : List (View.Piece (Elt Ideal) S8192x128 .f32)) (L13 : List (View.Piece (Elt Ideal) S1x128 .f32)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal))
    (hl : Leaves i G arg9 arg10 arg11 arg12 arg13 arg14 y9 y10 y11 y12 y13 L8 L9 L10 L11 L12 L13 f9 f10 f11 f12 f13 f14) :
    Leaves i G' arg9 arg10 arg11 arg12 arg13 arg14 y9 y10 y11 y12 y13 L8 L9 L10 L11 L12 L13 f9 f10 f11 f12 f13 f14 := by
  subst h; exact hl

theorem leaves_next (i : grid0.Coords) (G : Fin 2 → Fin 2 → Grp) (arg9 : Memref sig .tc .vmem S256x512 .bf16) (arg10 : Memref sig .tc .vmem S8192x128 .f32) (arg11 : Memref sig .tc .vmem S8192x128 .f32) (arg12 : Memref sig .tc .vmem S8192x128 .f32) (arg13 : Memref sig .tc .vmem S8192x128 .f32) (arg14 : Memref sig .tc .vmem S1x128 .f32) (harg10 : arg10.IsWhole) (harg11 : arg11.IsWhole) (harg12 : arg12.IsWhole) (harg13 : arg13.IsWhole) (harg14 : arg14.IsWhole) (y9 y10 y11 y12 : Vec Ideal S8192x128 .f32) (y13 : Vec Ideal S1x128 .f32)
    (L8 : List (View.Piece (Elt Ideal) S256x512 .bf16)) (L9 L10 L11 L12 : List (View.Piece (Elt Ideal) S8192x128 .f32)) (L13 : List (View.Piece (Elt Ideal) S1x128 .f32)) (f9 : arg9.view.ty.Contents (Elt Ideal)) (e8 : L8 = tiles G)
    (e9 : L9 = fourPieces arg10.view i (harg10.unread y9) arg10.view.junk [] (G 0 0).dK (G 1 0).dK)
    (e10 : L10 = fourPieces arg11.view i (harg11.unread y10) arg11.view.junk [] (G 0 1).dK (G 1 1).dK)
    (e11 : L11 = fourPieces arg12.view i (harg12.unread y11) arg12.view.junk [] (G 0 0).dV (G 1 0).dV)
    (e12 : L12 = fourPieces arg13.view i (harg13.unread y12) arg13.view.junk [] (G 0 1).dV (G 1 1).dV)
    (e13 : L13 = [⟨wSinks, k0_pay2 (F := Ideal) (sinkTotal G) (View.readAt (Elt Ideal) arg14.view wSinks.toLoadRect (harg14.unread y13))⟩]) :
    Leaves i G arg9 arg10 arg11 arg12 arg13 arg14 y9 y10 y11 y12 y13 L8 L9 L10 L11 L12 L13 f9 (harg10.unread y9) (harg11.unread y10) (harg12.unread y11) (harg13.unread y12) (harg14.unread y13) := by
  subst e8 e9 e10 e11 e12 e13
  refine ⟨read_tiles _ _ _, funext fun y => ?_, funext fun y => ?_, funext fun y => ?_, funext fun y => ?_, funext fun y => ?_⟩
  · exact (read_fourPieces _ _ _ _ _ _ _ y).trans (congrArg (added i _ _ · y) (congrFun (harg10.read_unread y9) y))
  · exact (read_fourPieces _ _ _ _ _ _ _ y).trans (congrArg (added i _ _ · y) (congrFun (harg11.read_unread y10) y))
  · exact (read_fourPieces _ _ _ _ _ _ _ y).trans (congrArg (added i _ _ · y) (congrFun (harg12.read_unread y11) y))
  · exact (read_fourPieces _ _ _ _ _ _ _ y).trans (congrArg (added i _ _ · y) (congrFun (harg13.read_unread y12) y))
  · exact ((read_sinks _ _ _ _ y).trans (plus_sinks _ _ y)).trans
      (congrArg (· + sinkTotal G y) ((congrFun (readAt_unread harg14 y13 wSinks.toLoadRect) y).trans (congrArg y13 (sinks_idx y))))

theorem leaves_first (i : grid0.Coords) (G : Fin 2 → Fin 2 → Grp) (arg9 : Memref sig .tc .vmem S256x512 .bf16) (arg10 : Memref sig .tc .vmem S8192x128 .f32) (arg11 : Memref sig .tc .vmem S8192x128 .f32) (arg12 : Memref sig .tc .vmem S8192x128 .f32) (arg13 : Memref sig .tc .vmem S8192x128 .f32) (arg14 : Memref sig .tc .vmem S1x128 .f32)
    (L8 : List (View.Piece (Elt Ideal) S256x512 .bf16)) (L9 L10 L11 L12 : List (View.Piece (Elt Ideal) S8192x128 .f32)) (L13 : List (View.Piece (Elt Ideal) S1x128 .f32)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (e8 : L8 = tiles G)
    (e9 : L9 = fourPieces arg10.view i arg10.view.junk arg10.view.junk [⟨wRows, k0_pay3 (F := Ideal)⟩] (G 0 0).dK (G 1 0).dK)
    (e10 : L10 = fourPieces arg11.view i arg11.view.junk arg11.view.junk [⟨wRows, k0_pay4 (F := Ideal)⟩] (G 0 1).dK (G 1 1).dK)
    (e11 : L11 = fourPieces arg12.view i arg12.view.junk arg12.view.junk [⟨wRows, k0_pay5 (F := Ideal)⟩] (G 0 0).dV (G 1 0).dV)
    (e12 : L12 = fourPieces arg13.view i arg13.view.junk arg13.view.junk [⟨wRows, k0_pay6 (F := Ideal)⟩] (G 0 1).dV (G 1 1).dV)
    (e13 : L13 = [⟨wSinks, k0_pay2 (F := Ideal) (sinkTotal G) (View.readAt (Elt Ideal) arg14.view wSinks.toLoadRect
      (arg14.view.writes (Elt Ideal) arg14.view.junk [⟨wSinks, k0_pay7 (F := Ideal)⟩]))⟩, ⟨wSinks, k0_pay7 (F := Ideal)⟩]) :
    Leaves i G arg9 arg10 arg11 arg12 arg13 arg14 (fun _ => 0) (fun _ => 0) (fun _ => 0) (fun _ => 0) (fun _ => 0) L8 L9 L10 L11 L12 L13 f9 f10 f11 f12 f13 f14 := by
  subst e8 e9 e10 e11 e12 e13
  refine ⟨read_tiles _ _ _, read_fourPieces_cleared _ _ _ _ (fun y => Ideal.ofBits_zero_f32) _ _, read_fourPieces_cleared _ _ _ _ (fun y => Ideal.ofBits_zero_f32) _ _,
    read_fourPieces_cleared _ _ _ _ (fun y => Ideal.ofBits_zero_f32) _ _, read_fourPieces_cleared _ _ _ _ (fun y => Ideal.ofBits_zero_f32) _ _, funext fun y => ?_⟩
  exact ((read_sinks _ _ _ _ y).trans (plus_sinks _ _ y)).trans
      (congrArg (· + sinkTotal G y) ((View.readAt_apply _ _ _).trans ((congrArg _ (sinks_idx y)).trans ((read_sinks _ _ _ [] y).trans Ideal.ofBits_zero_f32))))

section

variable (c : Dev nD) (i : grid0.Coords) (arg1 : Memref sig .tc .smem S1x8 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x128 .f32) (harg14 : arg14.IsWhole)
  (x0 : Vec Ideal S1x8 .f32) (x1 : Vec Ideal S256x512 .bf16) (x2 : Vec Ideal S256x512 .bf16) (x3 : Vec Ideal S256x512 .bf16) (x4 : Vec Ideal S8192x128 .bf16) (x5 : Vec Ideal S8192x128 .bf16) (x6 : Vec Ideal S8192x128 .bf16) (x7 : Vec Ideal S8192x128 .bf16)

theorem loaded_groups : loaded i arg1 harg1 arg2 harg2 arg3 harg3 arg4 harg4 arg5 harg5 arg6 harg6 arg7 harg7 arg8 harg8 x0 x1 x2 x3 x4 x5 x6 x7 = (grp i x0 x1 x2 x3 x4 x5 x6 x7) :=
  funext fun b => funext fun g => loaded_eq i arg1 harg1 arg2 harg2 arg3 harg3 arg4 harg4 arg5 harg5 arg6 harg6 arg7 harg7 arg8 harg8 x0 x1 x2 x3 x4 x5 x6 x7 b g

/-- After a later point. -/
theorem after_next (hc : ¬First i) (h0 : 1 ≤ (i 0).val) (y9 y10 y11 y12 : Vec Ideal S8192x128 .f32) (y13 : Vec Ideal S1x128 .f32) (f : arg9.view.ty.Contents (Elt Ideal)) :
    Leaves i (grp i x0 x1 x2 x3 x4 x5 x6 x7) arg9 arg10 arg11 arg12 arg13 arg14 y9 y10 y11 y12 y13
      (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).1
      (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.1
      (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.1
      (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.2.1
      (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.2.2.1
      (runNext (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13).2.2.2.2.2.1
      f (harg10.unread y9) (harg11.unread y10) (harg12.unread y11) (harg13.unread y12) (harg14.unread y13) := by
  have h := runNext_lists c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0 y9 y10 y11 y12 y13
  exact Leaves.congr i (loaded_groups i arg1 harg1 arg2 harg2 arg3 harg3 arg4 harg4 arg5 harg5 arg6 harg6 arg7 harg7 arg8 harg8 x0 x1 x2 x3 x4 x5 x6 x7) arg9 arg10 arg11 arg12 arg13 arg14 y9 y10 y11 y12 y13 _ _ _ _ _ _ f (harg10.unread y9) (harg11.unread y10) (harg12.unread y11) (harg13.unread y12) (harg14.unread y13)
    (leaves_next i _ arg9 arg10 arg11 arg12 arg13 arg14 harg10 harg11 harg12 harg13 harg14 y9 y10 y11 y12 y13 _ _ _ _ _ _ f h.1 h.2.1 h.2.2.1 h.2.2.2.1 h.2.2.2.2.1 h.2.2.2.2.2)

/-- After the first point, whatever the buffers held. -/
theorem after_first (hc : First i) (h0 : (i 0).val = 0) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) :
    Leaves i (grp i x0 x1 x2 x3 x4 x5 x6 x7) arg9 arg10 arg11 arg12 arg13 arg14 (fun _ => 0) (fun _ => 0) (fun _ => 0) (fun _ => 0) (fun _ => 0)
      (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).1
      (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.1
      (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.1
      (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.2.1
      (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.2.2.1
      (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0).2.2.2.2.2.1
      f9 f10 f11 f12 f13 f14 := by
  have h := runFirst_lists c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc h0
  exact Leaves.congr i (loaded_groups i arg1 harg1 arg2 harg2 arg3 harg3 arg4 harg4 arg5 harg5 arg6 harg6 arg7 harg7 arg8 harg8 x0 x1 x2 x3 x4 x5 x6 x7) arg9 arg10 arg11 arg12 arg13 arg14 _ _ _ _ _ _ _ _ _ _ _ f9 f10 f11 f12 f13 f14
    (leaves_first i _ arg9 arg10 arg11 arg12 arg13 arg14 _ _ _ _ _ _ f9 f10 f11 f12 f13 f14 h.1 h.2.1 h.2.2.1 h.2.2.2.1 h.2.2.2.2.1 h.2.2.2.2.2)

end

end Cert.Attn

end
-- ==== Proof.AttnFrame.lean ====
module

public import proofs.«01_k».proof.Proof.AttnPoint
public import proofs.«01_k».proof.Proof.Gen.Kernel2Ideal.Frame
public import Idealize.ShloMosaic.Lib.Tactic
public import Idealize.ShloMosaic.Lib.Claim

@[expose] public section

/-! # The run of the attention's backward call -/

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

theorem coord : ∀ t : Fin grid0.N, (grid0.coords t 0).val = t.val := by decide +kernel
theorem first_iff : ∀ t : Fin grid0.N, First (grid0.coords t) ↔ t.val = 0 := by decide +kernel

/-- Point `n` of the grid. -/
def pt (n : ℕ) : Fin grid0.N := ⟨n % 32, lt_of_lt_of_eq (Nat.mod_lt n (by decide)) N_0.symm⟩
theorem pt_val (t : Fin grid0.N) : pt t.val = t := Fin.ext (Nat.mod_eq_of_lt (lt_of_lt_of_eq t.isLt N_0))

/-- The meetings of point `t`. -/
def groups (c : Dev nD) (t : Fin grid0.N) : Fin 2 → Fin 2 → Grp := grp (grid0.coords t) (iblk m c 0 t) (iblk m c 1 t) (iblk m c 2 t) (iblk m c 3 t) (iblk m c 4 t) (iblk m c 5 t) (iblk m c 6 t) (iblk m c 7 t)

/-! What the five accumulators hold after point `n`. -/
def dkAfter (c : Dev nD) (g : Fin 2) : ℕ → Vec Ideal S8192x128 .f32
  | 0 => fun y => added (grid0.coords (pt 0)) ((groups m c (pt 0) 0 g).dK) ((groups m c (pt 0) 1 g).dK) 0 y
  | n + 1 => fun y => added (grid0.coords (pt (n + 1))) ((groups m c (pt (n + 1)) 0 g).dK) ((groups m c (pt (n + 1)) 1 g).dK) (dkAfter c g n y) y
def dvAfter (c : Dev nD) (g : Fin 2) : ℕ → Vec Ideal S8192x128 .f32
  | 0 => fun y => added (grid0.coords (pt 0)) ((groups m c (pt 0) 0 g).dV) ((groups m c (pt 0) 1 g).dV) 0 y
  | n + 1 => fun y => added (grid0.coords (pt (n + 1))) ((groups m c (pt (n + 1)) 0 g).dV) ((groups m c (pt (n + 1)) 1 g).dV) (dvAfter c g n y) y
def sinkAfter (c : Dev nD) : ℕ → Vec Ideal S1x128 .f32
  | 0 => fun y => 0 + sinkTotal (groups m c (pt 0)) y
  | n + 1 => fun y => sinkAfter c n y + sinkTotal (groups m c (pt (n + 1))) y

theorem dkFirst (c : Dev nD) (g : Fin 2) (t : Fin grid0.N) (h : t.val = 0) :
    dkAfter m c g t.val = fun y => added (grid0.coords t) ((groups m c t 0 g).dK) ((groups m c t 1 g).dK) 0 y := by
  obtain rfl : t = pt 0 := (pt_val t).symm.trans (congrArg pt h)
  rfl
theorem dkNext (c : Dev nD) (g : Fin 2) (t : Fin grid0.N) (h : ¬t.val = 0) :
    dkAfter m c g t.val = fun y => added (grid0.coords t) ((groups m c t 0 g).dK) ((groups m c t 1 g).dK) (dkAfter m c g (t.val - 1) y) y := by
  obtain ⟨n, hn⟩ : ∃ n, t.val = n + 1 := ⟨t.val - 1, by omega⟩
  obtain rfl : t = pt (n + 1) := (pt_val t).symm.trans (congrArg pt hn)
  rw [hn]
  rfl
theorem dvFirst (c : Dev nD) (g : Fin 2) (t : Fin grid0.N) (h : t.val = 0) :
    dvAfter m c g t.val = fun y => added (grid0.coords t) ((groups m c t 0 g).dV) ((groups m c t 1 g).dV) 0 y := by
  obtain rfl : t = pt 0 := (pt_val t).symm.trans (congrArg pt h)
  rfl
theorem dvNext (c : Dev nD) (g : Fin 2) (t : Fin grid0.N) (h : ¬t.val = 0) :
    dvAfter m c g t.val = fun y => added (grid0.coords t) ((groups m c t 0 g).dV) ((groups m c t 1 g).dV) (dvAfter m c g (t.val - 1) y) y := by
  obtain ⟨n, hn⟩ : ∃ n, t.val = n + 1 := ⟨t.val - 1, by omega⟩
  obtain rfl : t = pt (n + 1) := (pt_val t).symm.trans (congrArg pt hn)
  rw [hn]
  rfl
theorem sinkFirst (c : Dev nD) (t : Fin grid0.N) (h : t.val = 0) : sinkAfter m c t.val = fun y => 0 + sinkTotal (groups m c t) y := by
  obtain rfl : t = pt 0 := (pt_val t).symm.trans (congrArg pt h)
  rfl
theorem sinkNext (c : Dev nD) (t : Fin grid0.N) (h : ¬t.val = 0) :
    sinkAfter m c t.val = fun y => sinkAfter m c (t.val - 1) y + sinkTotal (groups m c t) y := by
  obtain ⟨n, hn⟩ : ∃ n, t.val = n + 1 := ⟨t.val - 1, by omega⟩
  obtain rfl : t = pt (n + 1) := (pt_val t).symm.trans (congrArg pt hn)
  rw [hn]
  rfl

/-- The proof data: each operand's buffer at its block, the results' at what the points so far have left. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dQ (groups m c t)
    | ⟨9, _⟩ => dkAfter m c 0 t.val
    | ⟨10, _⟩ => dkAfter m c 1 t.val
    | ⟨11, _⟩ => dvAfter m c 0 t.val
    | ⟨12, _⟩ => dvAfter m c 1 t.val
    | ⟨13, _⟩ => sinkAfter m c t.val
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dQ (groups m c t) := by dsimp only [dats]
theorem after_9 (c : Dev nD) (t : Fin cfg0.N) : (dats m 0 c).after 9 t = dkAfter m c 0 t.val := by dsimp only [dats]
theorem after_10 (c : Dev nD) (t : Fin cfg0.N) : (dats m 0 c).after 10 t = dkAfter m c 1 t.val := by dsimp only [dats]
theorem after_11 (c : Dev nD) (t : Fin cfg0.N) : (dats m 0 c).after 11 t = dvAfter m c 0 t.val := by dsimp only [dats]
theorem after_12 (c : Dev nD) (t : Fin cfg0.N) : (dats m 0 c).after 12 t = dvAfter m c 1 t.val := by dsimp only [dats]
theorem after_13 (c : Dev nD) (t : Fin cfg0.N) : (dats m 0 c).after 13 t = sinkAfter m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_9 (c : Dev nD) (t : Fin cfg0.N) (h : ¬t.val = 0) (d) : (dats m 0 c).before 9 t d = dkAfter m c 0 (t.val - 1) := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]
theorem before_10 (c : Dev nD) (t : Fin cfg0.N) (h : ¬t.val = 0) (d) : (dats m 0 c).before 10 t d = dkAfter m c 1 (t.val - 1) := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
theorem before_11 (c : Dev nD) (t : Fin cfg0.N) (h : ¬t.val = 0) (d) : (dats m 0 c).before 11 t d = dvAfter m c 0 (t.val - 1) := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
theorem before_12 (c : Dev nD) (t : Fin cfg0.N) (h : ¬t.val = 0) (d) : (dats m 0 c).before 12 t d = dvAfter m c 1 (t.val - 1) := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
theorem before_13 (c : Dev nD) (t : Fin cfg0.N) (h : ¬t.val = 0) (d) : (dats m 0 c).before 13 t d = sinkAfter m c (t.val - 1) := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h0 : t.val = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runFirst (F := Ideal) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((coord t).trans h0)).2.2.2.2.2.2 Set.univ _)
    isplitl [H0 H1 H2 H3 H4 H5 H6 H7]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨Hi, ⟨%e8, H8⟩, ⟨%e9, H9⟩, ⟨%e10, H10⟩, ⟨%e11, H11⟩, ⟨%e12, H12⟩, ⟨%e13, H13⟩⟩
    unfold inputs
    icases Hi with ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact (after_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((coord t).trans h0) e8 e9 e10 e11 e12 e13).dq
    isplitl [H9]
    · unfold owns; iexists _; isplitr
      swap; · iexact H9
      ipureintro; exact (after_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((coord t).trans h0) e8 e9 e10 e11 e12 e13).dk0.trans (dkFirst m c 0 t h0).symm
    isplitl [H10]
    · unfold owns; iexists _; isplitr
      swap; · iexact H10
      ipureintro; exact (after_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((coord t).trans h0) e8 e9 e10 e11 e12 e13).dk1.trans (dkFirst m c 1 t h0).symm
    isplitl [H11]
    · unfold owns; iexists _; isplitr
      swap; · iexact H11
      ipureintro; exact (after_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((coord t).trans h0) e8 e9 e10 e11 e12 e13).dv0.trans (dvFirst m c 0 t h0).symm
    isplitl [H12]
    · unfold owns; iexists _; isplitr
      swap; · iexact H12
      ipureintro; exact (after_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((coord t).trans h0) e8 e9 e10 e11 e12 e13).dv1.trans (dvFirst m c 1 t h0).symm
    unfold owns; iexists _; isplitr
    swap; · iexact H13
    ipureintro; exact (after_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) ((coord t).trans h0) e8 e9 e10 e11 e12 e13).sink.trans (sinkFirst m c t h0).symm
  · simp only [before_9 m c t h0, before_10 m c t h0, before_11 m c t h0, before_12 m c t h0, before_13 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runNext (F := Ideal) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (by rw [coord t]; omega) (dkAfter m c 0 (t.val - 1)) (dkAfter m c 1 (t.val - 1)) (dvAfter m c 0 (t.val - 1)) (dvAfter m c 1 (t.val - 1)) (sinkAfter m c (t.val - 1))).2.2.2.2.2.2 Set.univ _)
    isplitl [H0 H1 H2 H3 H4 H5 H6 H7]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexact H9
    isplitl [H10]; · iexact H10
    isplitl [H11]; · iexact H11
    isplitl [H12]; · iexact H12
    isplitl [H13]; · iexact H13
    iintro ⟨Hi, ⟨%e8, H8⟩, H9, H10, H11, H12, H13⟩
    unfold inputs
    icases Hi with ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact (after_next c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (by rw [coord t]; omega) _ _ _ _ _ e8).dq
    isplitl [H9]
    · unfold owns; iexists _; isplitr
      swap; · iexact H9
      ipureintro; exact (after_next c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (by rw [coord t]; omega) _ _ _ _ _ e8).dk0.trans (dkNext m c 0 t h0).symm
    isplitl [H10]
    · unfold owns; iexists _; isplitr
      swap; · iexact H10
      ipureintro; exact (after_next c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (by rw [coord t]; omega) _ _ _ _ _ e8).dk1.trans (dkNext m c 1 t h0).symm
    isplitl [H11]
    · unfold owns; iexists _; isplitr
      swap; · iexact H11
      ipureintro; exact (after_next c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (by rw [coord t]; omega) _ _ _ _ _ e8).dv0.trans (dvNext m c 0 t h0).symm
    isplitl [H12]
    · unfold owns; iexists _; isplitr
      swap; · iexact H12
      ipureintro; exact (after_next c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (by rw [coord t]; omega) _ _ _ _ _ e8).dv1.trans (dvNext m c 1 t h0).symm
    unfold owns; iexists _; isplitr
    swap; · iexact H13
    ipureintro; exact (after_next c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (by rw [coord t]; omega) _ _ _ _ _ e8).sink.trans (sinkNext m c t h0).symm

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := Ideal))) (s₀ m ρ) (Pipeline.FramePost cfgs (dats m) 0 (V m)) :=
  (θ_run defs _ _).mono (fun _ h => h.1) (run_quiescent m ρ)

theorem frame_kernelIdeal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiescent m ρ))

end Cert.Attn

end
-- ==== Proof.AttnBits.lean ====
module

public import proofs.«01_k».proof.Proof.Gen.Kernel2.Skeleton
public import proofs.«01_k».proof.Proof.Gen.Kernel2.Frame
public import Idealize.ShloMosaic.Lib.Claim

@[expose] public section

/-! # The attention's backward call at the machine's numbers

The program with the machine's floats has its own constant for a masked score. Its frame says nothing of what the results hold, so every
output's buffer is taken as it comes and given back as it is. -/

set_option maxRecDepth 16384

noncomputable section

namespace Cert.AttnBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2 Cert.Kernel2.Gen

variable {F : FTy → Type} [FloatOps F]

local notation "𝕄" => MT nD τ sig Unit (Elt F) ℕ (UR sig nD τ) ℕ

/-- The point is the first of the grid, as the body computes it. -/
abbrev First (i : grid0.Coords) : Prop := Scalar.cmpi .ne (Scalar.extui (Scalar.cmpi .eq (BitVec.ofNat 32 (i 0).val) 0#32)) 0#32 = 1#1

theorem off_before : ∀ i : grid0.Coords, k0_off1 i (BitVec.ofNat 32 0) = ![256 * (i 0).val - 128, 0] ∧ k0_off1 i (BitVec.ofNat 32 1) = ![256 * (i 0).val, 0] := by
  decide +kernel
instance closedOff_before (i : grid0.Coords) : ClosedOff (k0_off1 i (BitVec.ofNat 32 0)) := ⟨![256 * (i 0).val - 128, 0], (off_before i).1⟩
instance closedOff_within (i : grid0.Coords) : ClosedOff (k0_off1 i (BitVec.ofNat 32 1)) := ⟨![256 * (i 0).val, 0], (off_before i).2⟩
theorem first_iff : ∀ i : grid0.Coords, First i ↔ (i 0).val = 0 := by decide +kernel

section

variable (c : Dev nD) (i : grid0.Coords) (arg1 : Memref sig .tc .smem S1x8 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1x128 .f32) (harg14 : arg14.IsWhole)
  (x0 : Vec F S1x8 .f32) (x1 : Vec F S256x512 .bf16) (x2 : Vec F S256x512 .bf16) (x3 : Vec F S256x512 .bf16) (x4 : Vec F S8192x128 .bf16) (x5 : Vec F S8192x128 .bf16) (x6 : Vec F S8192x128 .bf16) (x7 : Vec F S8192x128 .bf16)

/-- The operands, each at its block. -/
def operands : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)
/-- The outputs' buffers, whatever they hold. -/
def outputs : sProp 𝕄 := iprop((∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

set_option maxHeartbeats 8000000 in
/-- The body keeps its operands, at the first point and at a later one. -/
theorem body_keeps (E : Set ℕ) (K : PUnit → sProp 𝕄) :
    iprop(operands c arg1 arg2 arg3 arg4 arg5 arg6 arg7 arg8 x0 x1 x2 x3 x4 x5 x6 x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(operands c arg1 arg2 arg3 arg4 arg5 arg6 arg7 arg8 x0 x1 x2 x3 x4 x5 x6 x7 ∗ outputs c arg9 arg10 arg11 arg12 arg13 arg14) -∗ K ⟨⟩))
      ⊢ wp frame (wpE (defs₀ (F := F)) Variants.none c none) E (cc0_attention_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_attention_bwd_eq_skeleton]; unfold cc0_attention_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold operands outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  by_cases hc : First i
  · have h0 : (i 0).val = 0 := (first_iff i).mp hc
    sl_exec (disch := sl_exact hc)
    sl_step
    iapply Hk
    isplitl [H0 H1 H2 H3 H4 H5 H6 H7]
    · isplitl [H0]; · (iexists _; isplitr; · (ipureintro; exact harg1.read_unread _)); iexact H0
      isplitl [H1]; · (iexists _; isplitr; · (ipureintro; exact harg2.read_unread _)); iexact H1
      isplitl [H2]; · (iexists _; isplitr; · (ipureintro; exact harg3.read_unread _)); iexact H2
      isplitl [H3]; · (iexists _; isplitr; · (ipureintro; exact harg4.read_unread _)); iexact H3
      isplitl [H4]; · (iexists _; isplitr; · (ipureintro; exact harg5.read_unread _)); iexact H4
      isplitl [H5]; · (iexists _; isplitr; · (ipureintro; exact harg6.read_unread _)); iexact H5
      isplitl [H6]; · (iexists _; isplitr; · (ipureintro; exact harg7.read_unread _)); iexact H6
      iexists _; isplitr; · (ipureintro; exact harg8.read_unread _)
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  · have h0 : 1 ≤ (i 0).val := Nat.one_le_iff_ne_zero.mpr fun h => hc ((first_iff i).mpr h)
    sl_exec (disch := sl_exact hc)
    sl_step
    iapply Hk
    isplitl [H0 H1 H2 H3 H4 H5 H6 H7]
    · isplitl [H0]; · (iexists _; isplitr; · (ipureintro; exact harg1.read_unread _)); iexact H0
      isplitl [H1]; · (iexists _; isplitr; · (ipureintro; exact harg2.read_unread _)); iexact H1
      isplitl [H2]; · (iexists _; isplitr; · (ipureintro; exact harg3.read_unread _)); iexact H2
      isplitl [H3]; · (iexists _; isplitr; · (ipureintro; exact harg4.read_unread _)); iexact H3
      isplitl [H4]; · (iexists _; isplitr; · (ipureintro; exact harg5.read_unread _)); iexact H4
      isplitl [H5]; · (iexists _; isplitr; · (ipureintro; exact harg6.read_unread _)); iexact H5
      isplitl [H6]; · (iexists _; isplitr; · (ipureintro; exact harg7.read_unread _)); iexact H6
      iexists _; isplitr; · (ipureintro; exact harg8.read_unread _)
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end

end Cert.AttnBits

end
-- ==== Proof.AttnBitsFrame.lean ====
module

public import proofs.«01_k».proof.Proof.AttnBits

@[expose] public section

/-! # The frame of the attention's backward call at the machine's numbers -/

set_option maxRecDepth 16384

noncomputable section

namespace Cert.AttnBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2 Cert.Kernel2.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The windows whose contents the frame does not name: the outputs. -/
def unsaid (w : Fin cfg0.W) : Bool := decide (8 ≤ w.val)

/-- The proof data: each operand's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed (Val := Elt F) (cfg := cfg0) 8 t
    | ⟨9, _⟩ => Dat.unnamed (Val := Elt F) (cfg := cfg0) 9 t
    | ⟨10, _⟩ => Dat.unnamed (Val := Elt F) (cfg := cfg0) 10 t
    | ⟨11, _⟩ => Dat.unnamed (Val := Elt F) (cfg := cfg0) 11 t
    | ⟨12, _⟩ => Dat.unnamed (Val := Elt F) (cfg := cfg0) 12 t
    | ⟨13, _⟩ => Dat.unnamed (Val := Elt F) (cfg := cfg0) 13 t
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13⟩
  iapply (body_keeps (F := F) c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  unfold operands outputs
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [H11]; · iexact H11
  isplitl [H12]; · iexact H12
  isplitl [H13]; · iexact H13
  iintro ⟨⟨H0, H1, H2, H3, H4, H5, H6, H7⟩, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
theorem run_quiescent : θ_run defs (onTc (τ := τ) (main (F := F))) (s₀ m ρ) (fun r => RDat.FramePost cfg0 (fun c => (dats m 0 c).toRForget unsaid) (V m) r ∧ r.2.sem = fun _ => 0) :=
  Pipeline.θ_run_frame_forget cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl) (Q' := _)

theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (RDat.FramePost.arr_in h.1 c 0 rfl).trans ((A_eq m c 0).trans (V_main_arg4 m c))⟩, h.2⟩) (run_quiescent m ρ)

end Cert.AttnBits

end
-- ==== Proof.AttnTile.lean ====
module

public import proofs.«01_k».proof.Proof.AttnGroup
public import proofs.«01_k».proof.Proof.Lift
public import Idealize.ShloMosaic.Lib.Pointwise
public import Idealize.ShloMosaic.Lib.WordCmp

@[expose] public section

/-! # One meeting of a query block with a key head, over the reals

The kernel stacks the four query heads of a key head as the rows of one matrix and keeps, of the 128 lanes of a row, the 64 which are that
head's. Here each stage is read at real operands, by head `u`, row `r`, band row `j` and head lane `e`. -/

set_option maxRecDepth 16384

noncomputable section

namespace Cert.Attn

open Idealize.ShloMosaic
open Cert.Kernel2Ideal Cert.Kernel2Ideal.Gen
open Cert.Lift
open Idealize.ShloMosaic.WordCmp

/-- Row `r` of head `u` in the stack of four. -/
def row (u : Fin 4) (r : Fin 128) : Fin 512 := ⟨128 * u.val + r.val, by omega⟩
/-- The head lane of a tile's lane. -/
def low (l : Fin 128) : Fin 64 := ⟨l.val % 64, Nat.mod_lt _ (by decide)⟩
/-- The head that lane `l` of pair `p` belongs to. -/
def headOf (p : Fin 2) (l : Fin 128) : Fin 4 := ⟨2 * p.val + l.val / 64, by omega⟩
/-- Row `p` of the first and of the second half of a band. -/
def fst (p : Fin 128) : Fin 256 := ⟨p.val, by omega⟩
def snd (p : Fin 128) : Fin 256 := ⟨128 + p.val, by omega⟩

theorem sum_split {M : Type*} [AddCommMonoid M] {a b : ℕ} (f : Fin (a * b) → M) :
    ∑ i, f i = ∑ x : Fin a, ∑ y : Fin b, f (finProdFinEquiv (x, y)) := by
  rw [← finProdFinEquiv.sum_comp, Fintype.sum_prod_type]

theorem sum_rows {M : Type*} [AddCommMonoid M] (f : Fin 512 → M) : ∑ R, f R = ∑ u, ∑ r, f (row u r) :=
  (sum_split (a := 4) (b := 128) f).trans (Finset.sum_congr rfl fun u _ => Finset.sum_congr rfl fun r _ => congrArg f (Fin.ext (by
    show r.val + 128 * u.val = 128 * u.val + r.val; omega)))

/-- A sum over a tile's lanes in which one half of them counts. -/
theorem sum_half (b : ℕ) (hb : b < 2) (f : Fin 64 → ℝ) : ∑ l : Fin 128, (if l.val / 64 = b then f (low l) else 0) = ∑ e, f e := by
  rw [sum_split (a := 2) (b := 64)]
  have h : ∀ (x : Fin 2) (y : Fin 64), (if ((finProdFinEquiv (x, y) : Fin 128)).val / 64 = b then f (low (finProdFinEquiv (x, y))) else 0)
      = if x.val = b then f y else 0 := by
    intro x y
    have h1 : ((finProdFinEquiv (x, y) : Fin 128)).val / 64 = x.val := by
      show (y.val + 64 * x.val) / 64 = x.val; omega
    have h2 : low (finProdFinEquiv (x, y) : Fin 128) = y := Fin.ext (by
      show (y.val + 64 * x.val) % 64 = y.val; omega)
    rw [h1, h2]
  refine (Finset.sum_congr rfl fun x _ => Finset.sum_congr rfl fun y _ => h x y).trans ?_
  rw [Fin.sum_univ_two]
  interval_cases b <;> simp

/-- The real numbers of a meeting. -/
structure Tile where
  mask : Fin 128 → Fin 256 → Bool
  q : Fin 4 → Fin 128 → Fin 64 → ℝ
  d : Fin 4 → Fin 128 → Fin 64 → ℝ
  o : Fin 4 → Fin 128 → Fin 64 → ℝ
  k : Fin 256 → Fin 64 → ℝ
  v : Fin 256 → Fin 64 → ℝ
  sink : Fin 4 → ℝ

namespace Tile

variable (T : Tile)

def score (u : Fin 4) (r : Fin 128) (j : Fin 256) : ℝ := ∑ e, T.q u r e * T.k j e
/-- The weight of a key before the division; a masked one has none. -/
def raw (u : Fin 4) (r : Fin 128) (j : Fin 256) : ℝ := if T.mask r j then Real.exp (T.score u r j) else 0
def total (u : Fin 4) (r : Fin 128) : ℝ := (∑ j, T.raw u r j) + Real.exp (T.sink u)
def weight (u : Fin 4) (r : Fin 128) (j : Fin 256) : ℝ := T.raw u r j / T.total u r
def share (u : Fin 4) (r : Fin 128) : ℝ := Real.exp (T.sink u) / T.total u r
def delta (u : Fin 4) (r : Fin 128) : ℝ := ∑ e, T.d u r e * T.o u r e
def dScore (u : Fin 4) (r : Fin 128) (j : Fin 256) : ℝ := T.weight u r j * ((∑ e, T.d u r e * T.v j e) - T.delta u r)
def dQ (u : Fin 4) (r : Fin 128) (e : Fin 64) : ℝ := ∑ j, T.dScore u r j * T.k j e
def dK (j : Fin 256) (e : Fin 64) : ℝ := ∑ u, ∑ r, T.dScore u r j * T.q u r e
def dV (j : Fin 256) (e : Fin 64) : ℝ := ∑ u, ∑ r, T.weight u r j * T.d u r e
def dSink (u : Fin 4) : ℝ := ∑ r, -(T.share u r * T.delta u r)

theorem raw_nonneg (u : Fin 4) (r : Fin 128) (j : Fin 256) : 0 ≤ T.raw u r j := by
  unfold raw; split
  · exact (Real.exp_pos _).le
  · exact le_rfl
theorem total_pos (u : Fin 4) (r : Fin 128) : 0 < T.total u r :=
  add_pos_of_nonneg_of_pos (Finset.sum_nonneg fun j _ => T.raw_nonneg u r j) (Real.exp_pos _)

end Tile

/-- A meeting whose operands are the real numbers of `T`. -/
structure Meets (G : Grp) (T : Tile) : Prop where
  mask : ∀ u r j, G.mask (ix2 (row u r) j) = BitVec.ofBool (T.mask r j)
  q : ∀ p r l, G.q p (ix2 r l) = (T.q (headOf p l) r (low l) : EReal)
  d : ∀ p r l, G.dO p (ix2 r l) = (T.d (headOf p l) r (low l) : EReal)
  o : ∀ p r l, G.o p (ix2 r l) = (T.o (headOf p l) r (low l) : EReal)
  kBefore : ∀ p l, G.kBefore (ix2 p l) = (T.k (fst p) (low l) : EReal)
  kOwn : ∀ p l, G.kOwn (ix2 p l) = (T.k (snd p) (low l) : EReal)
  vBefore : ∀ p l, G.vBefore (ix2 p l) = (T.v (fst p) (low l) : EReal)
  vOwn : ∀ p l, G.vOwn (ix2 p l) = (T.v (snd p) (low l) : EReal)
  sink : ∀ u, G.sink u = (T.sink u : EReal)

/-- The stack of four heads: of each row the half of the lanes that is its head's. -/
def stacked (x : Fin 4 → Fin 128 → Fin 64 → ℝ) (u : Fin 4) (r : Fin 128) (l : Fin 128) : ℝ :=
  if l.val / 64 = u.val % 2 then x u r (low l) else 0

theorem select_ofBool {α : Type} (p : Prop) [Decidable p] (x y : α) : Scalar.select (BitVec.ofBool (decide p)) x y = if p then x else y := by
  by_cases h : p <;> simp [Scalar.select, h]

theorem select_half {α : Type} (l : Fin 128) (x y : α) :
    Scalar.select (IntOp.cmpi CmpIPredicate.slt (BitVec.ofNat 32 l.val) 64#32) x y = if l.val < 64 then x else y := by
  rw [show (64#32 : BitVec 32) = BitVec.ofNat 32 64 from rfl, cmpi_slt_ofNat (by omega) (by omega), select_ofBool]

theorem cmp_rows (R : ℕ) (hR : R < 512) (n : ℕ) (hn : n < 512) :
    IntOp.cmpi CmpIPredicate.slt (BitVec.ofNat 32 R) (BitVec.ofNat 32 n) = BitVec.ofBool (decide (R < n)) :=
  cmpi_slt_ofNat (by omega) (by omega)

/-- The row of four stacked tiles. -/
theorem four {α : Type*} (f0 f1 f2 f3 : Fin 128 → α) (u : Fin 4) (r : Fin 128) (h3 : ∀ h0 : ¬(row u r).val < 128, ∀ h1 : ¬(row u r).val - 128 < 128,
    ∀ h2 : ¬(row u r).val - 128 - 128 < 128, (row u r).val - 128 - 128 - 128 < 128) :
    (if h : (row u r).val < 128 then f0 ⟨(row u r).val, h⟩ else if h' : (row u r).val - 128 < 128 then f1 ⟨(row u r).val - 128, h'⟩
      else if h'' : (row u r).val - 128 - 128 < 128 then f2 ⟨(row u r).val - 128 - 128, h''⟩ else f3 ⟨(row u r).val - 128 - 128 - 128, h3 h h' h''⟩)
      = ![f0 r, f1 r, f2 r, f3 r] u := by
  match u with
  | ⟨0, _⟩ =>
    rw [dif_pos (by show 128 * 0 + r.val < 128; omega)]
    exact congrArg f0 (Fin.ext (by show 128 * 0 + r.val = r.val; omega))
  | ⟨1, _⟩ =>
    rw [dif_neg (by show ¬128 * 1 + r.val < 128; omega), dif_pos (by show 128 * 1 + r.val - 128 < 128; omega)]
    exact congrArg f1 (Fin.ext (by show 128 * 1 + r.val - 128 = r.val; omega))
  | ⟨2, _⟩ =>
    rw [dif_neg (by show ¬128 * 2 + r.val < 128; omega), dif_neg (by show ¬128 * 2 + r.val - 128 < 128; omega),
      dif_pos (by show 128 * 2 + r.val - 128 - 128 < 128; omega)]
    exact congrArg f2 (Fin.ext (by show 128 * 2 + r.val - 128 - 128 = r.val; omega))
  | ⟨3, _⟩ =>
    rw [dif_neg (by show ¬128 * 3 + r.val < 128; omega), dif_neg (by show ¬128 * 3 + r.val - 128 < 128; omega),
      dif_neg (by show ¬128 * 3 + r.val - 128 - 128 < 128; omega)]
    exact congrArg f3 (Fin.ext (by show 128 * 3 + r.val - 128 - 128 - 128 = r.val; omega))

section

variable {x : Fin 4 → Fin 128 → Fin 64 → ℝ} {a b : Vec Ideal S128x128 .bf16}

/-- The four tiles that a stack is made of. -/
theorem stacked_four (x : Fin 4 → Fin 128 → Fin 64 → ℝ) (ha : ∀ r l, a (ix2 r l) = (x (headOf 0 l) r (low l) : EReal))
    (hb : ∀ r l, b (ix2 r l) = (x (headOf 1 l) r (low l) : EReal)) (u : Fin 4) (r l : Fin 128) :
    ![Scalar.select (IntOp.cmpi CmpIPredicate.slt (BitVec.ofNat 32 l.val) 64#32) (a (ix2 r l)) 0,
      Scalar.select (IntOp.cmpi CmpIPredicate.slt (BitVec.ofNat 32 l.val) 64#32) 0 (a (ix2 r l)),
      Scalar.select (IntOp.cmpi CmpIPredicate.slt (BitVec.ofNat 32 l.val) 64#32) (b (ix2 r l)) 0,
      Scalar.select (IntOp.cmpi CmpIPredicate.slt (BitVec.ofNat 32 l.val) 64#32) 0 (b (ix2 r l))] u = (stacked x u r l : EReal) := by
  rw [ha, hb]
  simp only [select_half]
  unfold stacked
  by_cases h : l.val < 64
  · have h0 : headOf 0 l = 0 := Fin.ext (by show 2 * 0 + l.val / 64 = 0; omega)
    have h1 : headOf 1 l = 2 := Fin.ext (by show 2 * 1 + l.val / 64 = 2; omega)
    have hd : l.val / 64 = 0 := by omega
    simp only [h0, h1, hd, h, if_true]
    fin_cases u <;> simp
  · have h0 : headOf 0 l = 1 := Fin.ext (by show 2 * 0 + l.val / 64 = 1; omega)
    have h1 : headOf 1 l = 3 := Fin.ext (by show 2 * 1 + l.val / 64 = 3; omega)
    have hd : l.val / 64 = 1 := by omega
    simp only [h0, h1, hd, h, if_false]
    fin_cases u <;> simp

theorem stack12 (x : Fin 4 → Fin 128 → Fin 64 → ℝ) (ha : ∀ r l, a (ix2 r l) = (x (headOf 0 l) r (low l) : EReal))
    (hb : ∀ r l, b (ix2 r l) = (x (headOf 1 l) r (low l) : EReal)) (u : Fin 4) (r l : Fin 128) :
    k0_pay12 (F := Ideal) a b (ix2 (row u r) l) = (stacked x u r l : EReal) := by
  unfold k0_pay12
  pointwise
  exact (four (fun r => Scalar.select (IntOp.cmpi CmpIPredicate.slt (BitVec.ofNat 32 l.val) 64#32) (a (ix2 r l)) 0)
    (fun r => Scalar.select (IntOp.cmpi CmpIPredicate.slt (BitVec.ofNat 32 l.val) 64#32) 0 (a (ix2 r l)))
    (fun r => Scalar.select (IntOp.cmpi CmpIPredicate.slt (BitVec.ofNat 32 l.val) 64#32) (b (ix2 r l)) 0)
    (fun r => Scalar.select (IntOp.cmpi CmpIPredicate.slt (BitVec.ofNat 32 l.val) 64#32) 0 (b (ix2 r l))) u r (fun _ _ _ => by omega)).trans (stacked_four x ha hb u r l)

/-- The cotangents are stacked as the queries are, and so are the outputs. -/
theorem stack13 (a b : Vec Ideal S128x128 .bf16) : k0_pay13 (F := Ideal) a b = k0_pay12 (F := Ideal) a b := rfl
theorem stack17 (a b : Vec Ideal S128x128 .bf16) : k0_pay17 (F := Ideal) (k0_pay14 a) (k0_pay15 b) Grp.lanes k0_pay16 = k0_pay12 (F := Ideal) a b := rfl

theorem band10 (k : Fin 256 → Fin 64 → ℝ) (ha : ∀ p l, a (ix2 p l) = (k (fst p) (low l) : EReal)) (hb : ∀ p l, b (ix2 p l) = (k (snd p) (low l) : EReal))
    (j : Fin 256) (l : Fin 128) : k0_pay10 (F := Ideal) a b (ix2 j l) = (k j (low l) : EReal) := by
  unfold k0_pay10
  pointwise
  split
  · rename_i h
    exact (ha _ _).trans rfl
  · rename_i h
    refine (hb _ _).trans ?_
    congr 2
    exact Fin.ext (by show 128 + (j.val - 128) = j.val; omega)
theorem band11 (a b : Vec Ideal S128x128 .bf16) : k0_pay11 (F := Ideal) a b = k0_pay10 (F := Ideal) a b := rfl

end

/-! ## The stages -/

section

variable {G : Grp} {T : Tile} (h : Meets G T)
include h

theorem Meets.qStack (u : Fin 4) (r l : Fin 128) : G.qStack (ix2 (row u r) l) = (stacked T.q u r l : EReal) := stack12 T.q (h.q 0) (h.q 1) u r l
theorem Meets.dStack (u : Fin 4) (r l : Fin 128) : G.dStack (ix2 (row u r) l) = (stacked T.d u r l : EReal) :=
  (congrFun (stack13 _ _) _).trans (stack12 T.d (h.d 0) (h.d 1) u r l)
theorem Meets.oStack (u : Fin 4) (r l : Fin 128) : G.oStack (ix2 (row u r) l) = (stacked T.o u r l : EReal) :=
  (congrFun (stack17 _ _) _).trans (stack12 T.o (h.o 0) (h.o 1) u r l)
theorem Meets.kBand (j : Fin 256) (l : Fin 128) : G.kBand (ix2 j l) = (T.k j (low l) : EReal) := band10 T.k h.kBefore h.kOwn j l
theorem Meets.vBand (j : Fin 256) (l : Fin 128) : G.vBand (ix2 j l) = (T.v j (low l) : EReal) :=
  (congrFun (band11 _ _) _).trans (band10 T.v h.vBefore h.vOwn j l)

end

/-- A stacked row against a row of the band. -/
theorem sum_stacked (x : Fin 4 → Fin 128 → Fin 64 → ℝ) (y : Fin 64 → ℝ) (u : Fin 4) (r : Fin 128) :
    ∑ l, stacked x u r l * y (low l) = ∑ e, x u r e * y e := by
  rw [← sum_half (u.val % 2) (Nat.mod_lt _ (by decide)) (fun e => x u r e * y e)]
  refine Finset.sum_congr rfl fun l _ => ?_
  unfold stacked
  split <;> simp
/-- Two stacked rows. -/
theorem sum_stacked₂ (x y : Fin 4 → Fin 128 → Fin 64 → ℝ) (u : Fin 4) (r : Fin 128) :
    ∑ l, stacked x u r l * stacked y u r l = ∑ e, x u r e * y u r e := by
  rw [← sum_half (u.val % 2) (Nat.mod_lt _ (by decide)) (fun e => x u r e * y u r e)]
  refine Finset.sum_congr rfl fun l _ => ?_
  unfold stacked
  split <;> simp

/-! ## The weights -/

theorem mask_bot : Named.named (F := Ideal) κ "mask" (φ := .f32) 0xF149F2CA#32 = (⊥ : EReal) := rfl

/-- The greatest of real numbers and of `-∞`s is one of either. -/
theorem fold_max {ι : Type*} (s : Finset ι) (f : ι → EReal) (hf : ∀ i, f i = ⊥ ∨ ∃ x : ℝ, f i = x) :
    s.fold max ⊥ f = ⊥ ∨ ∃ x : ℝ, s.fold max ⊥ f = x := by
  classical
  induction s using Finset.induction_on with
  | empty => exact .inl rfl
  | insert a s ha ih =>
    rw [Finset.fold_insert ha]
    rcases hf a with h | ⟨x, h⟩ <;> rcases ih with h' | ⟨y, h'⟩ <;> rw [h, h']
    · exact .inl (max_self _)
    · exact .inr ⟨y, max_eq_right bot_le⟩
    · exact .inr ⟨x, max_eq_left bot_le⟩
    · exact .inr ⟨max x y, (EReal.coe_strictMono.monotone.map_max).symm⟩

section

variable {G : Grp} {T : Tile} (h : Meets G T)
include h

theorem Meets.score18 (u : Fin 4) (r : Fin 128) (j : Fin 256) :
    k0_pay18 (F := Ideal) G.mask G.kBand G.qStack (ix2 (row u r) j) = if T.mask r j then (T.score u r j : EReal) else ⊥ := by
  unfold k0_pay18
  pointwise
  rw [h.mask, mask_bot]
  simp only [h.qStack, h.kBand, ← EReal.coe_mul, ← coe_sum, sum_stacked T.q (T.k j) u r]
  cases T.mask r j <;> rfl

theorem Meets.sink19 (u : Fin 4) (r : Fin 128) (z : Fin 1) : k0_pay19 (F := Ideal) (G.sink 0) (G.sink 1) (G.sink 2) (G.sink 3) (ix2 (row u r) z) = (T.sink u : EReal) := by
  unfold k0_pay19
  pointwise
  have hR : (row u r).val < 512 := (row u r).isLt
  rw [show (128#32 : BitVec 32) = BitVec.ofNat 32 128 from rfl, show (256#32 : BitVec 32) = BitVec.ofNat 32 256 from rfl,
    show (384#32 : BitVec 32) = BitVec.ofNat 32 384 from rfl, cmp_rows _ hR _ (by omega), cmp_rows _ hR _ (by omega), cmp_rows _ hR _ (by omega)]
  simp only [select_ofBool]
  rw [h.sink, h.sink, h.sink, h.sink]
  match u with
  | ⟨0, _⟩ => rw [if_pos (by show 128 * 0 + r.val < 128; omega)]; rfl
  | ⟨1, _⟩ => rw [if_neg (by show ¬128 * 1 + r.val < 128; omega), if_pos (by show 128 * 1 + r.val < 256; omega)]; rfl
  | ⟨2, _⟩ =>
    rw [if_neg (by show ¬128 * 2 + r.val < 128; omega), if_neg (by show ¬128 * 2 + r.val < 256; omega), if_pos (by show 128 * 2 + r.val < 384; omega)]; rfl
  | ⟨3, _⟩ =>
    rw [if_neg (by show ¬128 * 3 + r.val < 128; omega), if_neg (by show ¬128 * 3 + r.val < 256; omega), if_neg (by show ¬128 * 3 + r.val < 384; omega)]; rfl

/-- What a row's scores are shifted by. -/
theorem Meets.shift20 (u : Fin 4) (r : Fin 128) : ∃ s : ℝ, ∀ z : Fin 1,
    k0_pay20 (F := Ideal) G.mask G.kBand G.qStack (G.sink 0) (G.sink 1) (G.sink 2) (G.sink 3) (ix2 (row u r) z) = (s : EReal) := by
  have h0 : Ideal.ofBits .f32 0xFF800000#32 = ⊥ := by simp [Ideal.ofBits, Ideal.ieee]
  rcases fold_max Finset.univ (fun x => k0_pay18 (F := Ideal) G.mask G.kBand G.qStack (ix2 (row u r) x)) (fun j => by
    rw [h.score18]; split
    · exact .inr ⟨_, rfl⟩
    · exact .inl rfl) with hm | ⟨s, hm⟩
  · refine ⟨T.sink u, fun z => ?_⟩
    unfold k0_pay20
    pointwise
    rw [h0, h.sink19, hm]
    exact max_eq_right bot_le
  · refine ⟨max s (T.sink u), fun z => ?_⟩
    unfold k0_pay20
    pointwise
    rw [h0, h.sink19, hm]
    exact (EReal.coe_strictMono.monotone.map_max).symm

theorem Meets.raw21 (u : Fin 4) (r : Fin 128) (s : ℝ)
    (hs : ∀ z : Fin 1, k0_pay20 (F := Ideal) G.mask G.kBand G.qStack (G.sink 0) (G.sink 1) (G.sink 2) (G.sink 3) (ix2 (row u r) z) = (s : EReal)) (j : Fin 256) :
    k0_pay21 (F := Ideal) G.mask G.kBand G.qStack (G.sink 0) (G.sink 1) (G.sink 2) (G.sink 3) (ix2 (row u r) j) = (T.raw u r j * Real.exp (-s) : ℝ) := by
  unfold k0_pay21
  pointwise
  rw [hs, h.score18]
  unfold Tile.raw
  split
  · rw [← EReal.coe_sub, Ideal.exp_coe, ← Real.exp_add, sub_eq_add_neg]
  · rw [zero_mul]
    exact (congrArg Ideal.exp (EReal.bot_sub (s : EReal))).trans EReal.coe_zero.symm

theorem Meets.sink22 (u : Fin 4) (r : Fin 128) (s : ℝ)
    (hs : ∀ z : Fin 1, k0_pay20 (F := Ideal) G.mask G.kBand G.qStack (G.sink 0) (G.sink 1) (G.sink 2) (G.sink 3) (ix2 (row u r) z) = (s : EReal)) (z : Fin 1) :
    G.sinkExp (ix2 (row u r) z) = (Real.exp (T.sink u) * Real.exp (-s) : ℝ) := by
  unfold Grp.sinkExp k0_pay22
  pointwise
  rw [hs, h.sink19, ← EReal.coe_sub, Ideal.exp_coe, ← Real.exp_add, sub_eq_add_neg]

theorem Meets.inv23 (u : Fin 4) (r : Fin 128) (s : ℝ)
    (hs : ∀ z : Fin 1, k0_pay20 (F := Ideal) G.mask G.kBand G.qStack (G.sink 0) (G.sink 1) (G.sink 2) (G.sink 3) (ix2 (row u r) z) = (s : EReal)) (z : Fin 1) :
    G.invSum (ix2 (row u r) z) = (1 / (T.total u r * Real.exp (-s)) : ℝ) := by
  have h1 : Ideal.ofBits .f32 0x3F800000#32 = ((1 : ℝ) : EReal) := by simp [Ideal.ofBits, Ideal.ieee, -EReal.coe_mul]; norm_num
  have h22 := h.sink22 u r s hs
  unfold Grp.sinkExp at h22
  unfold Grp.invSum k0_pay23
  pointwise
  simp only [h22, h.raw21 u r s hs, ← coe_sum, ← EReal.coe_add, h1]
  rw [← Finset.sum_mul, ← add_mul]
  exact div_real 1 (mul_pos (T.total_pos u r) (Real.exp_pos _)).ne'

theorem Meets.weights (u : Fin 4) (r : Fin 128) (j : Fin 256) : G.weights (ix2 (row u r) j) = (T.weight u r j : EReal) := by
  obtain ⟨s, hs⟩ := h.shift20 u r
  have h23 := h.inv23 u r s hs
  unfold Grp.invSum at h23
  unfold Grp.weights k0_pay24
  pointwise
  simp only [h23, h.raw21 u r s hs, ← EReal.coe_mul]
  congr 1
  unfold Tile.weight
  have := (T.total_pos u r).ne'
  have := (Real.exp_pos (-s)).ne'
  field_simp

theorem Meets.share (u : Fin 4) (r : Fin 128) (z : Fin 1) : G.sinkExp (ix2 (row u r) z) * G.invSum (ix2 (row u r) z) = (T.share u r : EReal) := by
  obtain ⟨s, hs⟩ := h.shift20 u r
  rw [h.sink22 u r s hs, h.inv23 u r s hs, ← EReal.coe_mul]
  congr 1
  unfold Tile.share
  have := (T.total_pos u r).ne'
  have := (Real.exp_pos (-s)).ne'
  field_simp

theorem Meets.delta (u : Fin 4) (r : Fin 128) (z : Fin 1) : G.delta (ix2 (row u r) z) = (T.delta u r : EReal) := by
  unfold Grp.delta k0_pay25
  pointwise
  simp only [h.dStack, h.oStack, ← EReal.coe_mul, ← coe_sum, sum_stacked₂]
  rfl

theorem Meets.dScore (u : Fin 4) (r : Fin 128) (j : Fin 256) : G.dScore (ix2 (row u r) j) = (T.dScore u r j : EReal) := by
  have hd := h.delta u r
  unfold Grp.delta at hd
  unfold Grp.dScore k0_pay26
  pointwise
  simp only [hd, h.dStack, h.vBand, h.weights, ← EReal.coe_mul, ← coe_sum, sum_stacked T.d (T.v j) u r, ← EReal.coe_sub]
  rfl

/-! ## The results -/

theorem Meets.dQ31 (u : Fin 4) (r l : Fin 128) : k0_pay31 (F := Ideal) G.kBand G.dScore (ix2 (row u r) l) = (T.dQ u r (low l) : EReal) := by
  unfold k0_pay31
  pointwise
  simp only [h.dScore, h.kBand, ← EReal.coe_mul, ← coe_sum]
  rfl

theorem Meets.dQ0 (r l : Fin 128) : G.dQ0 (ix2 r l) = (T.dQ (headOf 0 l) r (low l) : EReal) := by
  unfold Grp.dQ0 k0_pay33 k0_pay32
  pointwise
  rw [select_half]
  split
  · rename_i hl
    refine (congrArg _ (congrArg (fun R => ix2 R l) (?_ : _ = row (headOf 0 l) r))).trans (h.dQ31 _ r l)
    exact Fin.ext (by show r.val = 128 * (2 * 0 + l.val / 64) + r.val; omega)
  · rename_i hl
    refine (congrArg _ (congrArg (fun R => ix2 R l) (?_ : _ = row (headOf 0 l) r))).trans (h.dQ31 _ r l)
    exact Fin.ext (by show 128 + r.val = 128 * (2 * 0 + l.val / 64) + r.val; omega)

theorem Meets.dQ1 (r l : Fin 128) : G.dQ1 (ix2 r l) = (T.dQ (headOf 1 l) r (low l) : EReal) := by
  unfold Grp.dQ1 k0_pay34 k0_pay32
  pointwise
  rw [select_half]
  split
  · rename_i hl
    refine (congrArg _ (congrArg (fun R => ix2 R l) (?_ : _ = row (headOf 1 l) r))).trans (h.dQ31 _ r l)
    exact Fin.ext (by show 256 + r.val = 128 * (2 * 1 + l.val / 64) + r.val; omega)
  · rename_i hl
    refine (congrArg _ (congrArg (fun R => ix2 R l) (?_ : _ = row (headOf 1 l) r))).trans (h.dQ31 _ r l)
    exact Fin.ext (by show 384 + r.val = 128 * (2 * 1 + l.val / 64) + r.val; omega)

end

theorem cmp_lane (l : Fin 128) (n : ℕ) (hn : n < 128) : IntOp.cmpi CmpIPredicate.eq (BitVec.ofNat 32 l.val) (BitVec.ofNat 32 n) = BitVec.ofBool (decide (l.val = n)) :=
  cmpi_eq_ofNat (by omega) (by omega)

/-- Four lanes of a row, each with a number of its own added. -/
theorem four_lanes (acc : EReal) (n : ℕ) (hn : n + 4 ≤ 128) (l : Fin 128) (s : Fin 4 → ℝ) :
    acc + Scalar.select (IntOp.cmpi CmpIPredicate.eq (BitVec.ofNat 32 l.val) (BitVec.ofNat 32 n)) (s 0 : EReal) 0
        + Scalar.select (IntOp.cmpi CmpIPredicate.eq (BitVec.ofNat 32 l.val) (BitVec.ofNat 32 (n + 1))) (s 1 : EReal) 0
        + Scalar.select (IntOp.cmpi CmpIPredicate.eq (BitVec.ofNat 32 l.val) (BitVec.ofNat 32 (n + 2))) (s 2 : EReal) 0
        + Scalar.select (IntOp.cmpi CmpIPredicate.eq (BitVec.ofNat 32 l.val) (BitVec.ofNat 32 (n + 3))) (s 3 : EReal) 0
      = acc + ((if h : n ≤ l.val ∧ l.val < n + 4 then s ⟨l.val - n, by omega⟩ else 0 : ℝ) : EReal) := by
  rw [cmp_lane l n (by omega), cmp_lane l (n + 1) (by omega), cmp_lane l (n + 2) (by omega), cmp_lane l (n + 3) (by omega)]
  simp only [select_ofBool]
  by_cases h : n ≤ l.val ∧ l.val < n + 4
  · rw [dif_pos h]
    obtain ⟨k, hk⟩ : ∃ k : Fin 4, l.val = n + k.val := ⟨⟨l.val - n, by omega⟩, by show l.val = n + (l.val - n); omega⟩
    have hs : (⟨l.val - n, by omega⟩ : Fin 4) = k := Fin.ext (by show l.val - n = k.val; omega)
    rw [hs, hk]
    fin_cases k <;> simp
  · rw [dif_neg h, if_neg (by omega), if_neg (by omega), if_neg (by omega), if_neg (by omega)]
    simp

/-- The two halves of the lanes, added by a turn of 64 lanes, hold the sum over all four heads. -/
theorem sum_turned (w : Fin 4 → Fin 128 → ℝ) (x : Fin 4 → Fin 128 → Fin 64 → ℝ) (l k : Fin 128) (hk : k.val = (l.val + 128 - 64) % 128) :
    (∑ u, ∑ r, w u r * stacked x u r l) + ∑ u, ∑ r, w u r * stacked x u r k = ∑ u, ∑ r, w u r * x u r (low l) := by
  have hl : low k = low l := Fin.ext (by show k.val % 64 = l.val % 64; omega)
  have hs : ∀ u r, stacked x u r l + stacked x u r k = x u r (low l) := by
    intro u r
    unfold stacked
    rw [hl]
    by_cases h1 : l.val / 64 = u.val % 2
    · rw [if_pos h1, if_neg (by omega), add_zero]
    · rw [if_neg h1, if_pos (by omega), zero_add]
  simp only [← Finset.sum_add_distrib, ← mul_add, hs]

section

variable {G : Grp} {T : Tile} (h : Meets G T)
include h

theorem Meets.dK (j : Fin 256) (l : Fin 128) : G.dK (ix2 j l) = (T.dK j (low l) : EReal) := by
  unfold Grp.dK k0_pay35
  pointwise
  simp only [sum_rows, h.dScore, h.qStack, ← EReal.coe_mul, ← coe_sum, ← EReal.coe_add]
  exact congrArg _ (sum_turned (fun u r => T.dScore u r j) T.q l _ rfl)

theorem Meets.dV (j : Fin 256) (l : Fin 128) : G.dV (ix2 j l) = (T.dV j (low l) : EReal) := by
  unfold Grp.dV k0_pay36
  pointwise
  simp only [sum_rows, h.weights, h.dStack, ← EReal.coe_mul, ← coe_sum, ← EReal.coe_add]
  exact congrArg _ (sum_turned (fun u r => T.weight u r j) T.d l _ rfl)

/-- What a row adds to its head's sink. -/
theorem Meets.share27 (u : Fin 4) (r : Fin 128) (z : Fin 1) :
    k0_pay27 (F := Ideal) G.dStack G.oStack G.sinkExp G.invSum (ix2 (row u r) z) = (-(T.share u r * T.delta u r) : ℝ) := by
  have hd := h.delta u r
  unfold Grp.delta at hd
  unfold k0_pay27
  pointwise
  rw [h.share, hd, ← EReal.coe_zero, ← EReal.coe_sub, ← EReal.coe_mul]
  congr 1
  ring

theorem Meets.sum27 (u : Fin 4) (R : Fin 128 → Fin 512) (hR : ∀ r, (R r).val = 128 * u.val + r.val) :
    ∑ r, k0_pay27 (F := Ideal) G.dStack G.oStack G.sinkExp G.invSum (ix2 (R r) 0) = (T.dSink u : EReal) := by
  have hR' : ∀ r, R r = row u r := fun r => Fin.ext (hR r)
  simp only [hR', h.share27, ← coe_sum]
  rfl

theorem Meets.sum57 (u : Fin 4) (R : Fin 128 → Fin 512) (hR : ∀ r, (R r).val = 128 * u.val + r.val) :
    ∑ r, (0 - G.sinkExp (ix2 (R r) 0) * G.invSum (ix2 (R r) 0)) * G.delta (ix2 (R r) 0) = (T.dSink u : EReal) := by
  have hR' : ∀ r, R r = row u r := fun r => Fin.ext (hR r)
  have h0 : ∀ r, (0 - (T.share u r : EReal)) * (T.delta u r : EReal) = (-(T.share u r * T.delta u r) : ℝ) := by
    intro r
    rw [← EReal.coe_zero, ← EReal.coe_sub, ← EReal.coe_mul]; congr 1; ring
  simp only [hR', h.share, h.delta, h0, ← coe_sum]
  rfl

theorem Meets.sinkFirst (acc : FVec Ideal S1x128 .f32) (z : Fin 1) (l : Fin 128) :
    G.sinkFirst acc (ix2 z l) = acc (ix2 z l) + ((if h : l.val < 4 then T.dSink ⟨l.val, h⟩ else 0 : ℝ) : EReal) := by
  unfold Grp.sinkFirst k0_pay30 k0_pay28 k0_pay29
  pointwise
  refine Eq.trans ?_ ((four_lanes (acc (ix2 z l)) 0 (by omega) l T.dSink).trans (congrArg (fun e : ℝ => acc (ix2 z l) + (e : EReal)) ?_))
  swap
  · by_cases hl : l.val < 4
    · rw [dif_pos ⟨Nat.zero_le _, hl⟩, dif_pos hl]; rfl
    · rw [dif_neg fun hc => hl hc.2, dif_neg hl]
  rw [h.sum27 0 _ fun r => by show r.val = 128 * 0 + r.val; omega, h.sum27 1 _ fun r => by show 128 + r.val = 128 * 1 + r.val; omega,
    h.sum27 2 _ fun r => by show 256 + r.val = 128 * 2 + r.val; omega, h.sum27 3 _ fun r => by show 384 + r.val = 128 * 3 + r.val; omega]

theorem Meets.sinkSecond (acc : FVec Ideal S1x128 .f32) (z : Fin 1) (l : Fin 128) :
    G.sinkSecond acc (ix2 z l) = acc (ix2 z l) + ((if h : 4 ≤ l.val ∧ l.val < 4 + 4 then T.dSink ⟨l.val - 4, by omega⟩ else 0 : ℝ) : EReal) := by
  unfold Grp.sinkSecond k0_pay57
  pointwise
  refine Eq.trans ?_ (four_lanes (acc (ix2 z l)) 4 (by omega) l T.dSink)
  rw [h.sum57 0 _ fun r => by show r.val = 128 * 0 + r.val; omega, h.sum57 1 _ fun r => by show 128 + r.val = 128 * 1 + r.val; omega,
    h.sum57 2 _ fun r => by show 256 + r.val = 128 * 2 + r.val; omega, h.sum57 3 _ fun r => by show 384 + r.val = 128 * 3 + r.val; omega]

end

end Cert.Attn

end
-- ==== Proof.AttnSpec.lean ====
module

public import proofs.«01_k».proof.Proof.AttnTile

@[expose] public section

/-! # The gradients of the sliding window's attention, over the reals -/

noncomputable section

namespace Cert.Attn

namespace Tile

variable {T T' : Tile}

/-- Two meetings that agree but for the rows of the band that no query sees. -/
structure Agree (T T' : Tile) : Prop where
  mask : T'.mask = T.mask
  q : T'.q = T.q
  d : T'.d = T.d
  o : T'.o = T.o
  sink : T'.sink = T.sink
  k : ∀ r j, T.mask r j → T'.k j = T.k j
  v : ∀ r j, T.mask r j → T'.v j = T.v j

theorem Agree.raw (h : Agree T T') : T'.raw = T.raw := by
  funext u r j
  unfold Tile.raw Tile.score
  rw [h.mask, h.q]
  by_cases hm : T.mask r j
  · rw [if_pos hm, if_pos hm, h.k r j hm]
  · rw [if_neg hm, if_neg hm]

theorem Agree.weight (h : Agree T T') : T'.weight = T.weight := by
  funext u r j
  unfold Tile.weight Tile.total
  rw [h.raw, h.sink]

theorem weight_zero (T : Tile) {r : Fin 128} {j : Fin 256} (hm : ¬T.mask r j) (u : Fin 4) : T.weight u r j = 0 := by
  unfold Tile.weight Tile.raw
  rw [if_neg hm, zero_div]

theorem dScore_zero (T : Tile) {r : Fin 128} {j : Fin 256} (hm : ¬T.mask r j) (u : Fin 4) : T.dScore u r j = 0 := by
  unfold Tile.dScore
  rw [T.weight_zero hm, zero_mul]

theorem Agree.dScore (h : Agree T T') : T'.dScore = T.dScore := by
  funext u r j
  by_cases hm : T.mask r j
  · unfold Tile.dScore Tile.delta
    rw [h.weight, h.d, h.o, h.v r j hm]
  · rw [T.dScore_zero hm, T'.dScore_zero (by rwa [h.mask])]

theorem Agree.dQ (h : Agree T T') : T'.dQ = T.dQ := by
  funext u r e
  unfold Tile.dQ
  refine Finset.sum_congr rfl fun j _ => ?_
  rw [h.dScore]
  by_cases hm : T.mask r j
  · rw [h.k r j hm]
  · rw [T.dScore_zero hm, zero_mul, zero_mul]

theorem Agree.dK (h : Agree T T') : T'.dK = T.dK := by
  funext j e; unfold Tile.dK; rw [h.dScore, h.q]

theorem Agree.dV (h : Agree T T') : T'.dV = T.dV := by
  funext j e; unfold Tile.dV; rw [h.weight, h.d]

theorem Agree.dSink (h : Agree T T') : T'.dSink = T.dSink := by
  funext u
  unfold Tile.dSink Tile.share Tile.total Tile.delta
  rw [h.raw, h.sink, h.d, h.o]

/-- A row of the band that no query sees gets no gradient. -/
theorem dK_unseen (T : Tile) {j : Fin 256} (h : ∀ r, ¬T.mask r j) (e : Fin 64) : T.dK j e = 0 :=
  Finset.sum_eq_zero fun u _ => Finset.sum_eq_zero fun r _ => by rw [T.dScore_zero (h r), zero_mul]
theorem dV_unseen (T : Tile) {j : Fin 256} (h : ∀ r, ¬T.mask r j) (e : Fin 64) : T.dV j e = 0 :=
  Finset.sum_eq_zero fun u _ => Finset.sum_eq_zero fun r _ => by rw [T.weight_zero (h r), zero_mul]

end Tile

/-- The call's arguments as real numbers: the gradient of its result, the queries, the keys and the values by token and column, the sinks by head. -/
structure In where
  dout : ℕ → Fin 512 → ℝ
  q : ℕ → Fin 512 → ℝ
  k : ℕ → Fin 128 → ℝ
  v : ℕ → Fin 128 → ℝ
  sink : Fin 8 → ℝ

/-- The columns of query head `u` of key head `g`, and of key head `g`. -/
def qcol (g : Fin 2) (u : Fin 4) (e : Fin 64) : Fin 512 := ⟨256 * g.val + 64 * u.val + e.val, by omega⟩
def kcol (g : Fin 2) (e : Fin 64) : Fin 128 := ⟨64 * g.val + e.val, by omega⟩
def head (g : Fin 2) (u : Fin 4) : Fin 8 := ⟨4 * g.val + u.val, by omega⟩

/-- What row `r` of query block `t` sees of the band: the 128 tokens that end at its own, where there are so many. -/
def seen (t : ℕ) (r : Fin 128) (j : Fin 256) : Bool := decide (r.val < j.val ∧ j.val ≤ r.val + 128 ∧ (128 ≤ j.val ∨ 0 < t))

/-- The band of block `t`: the block before it, zeros where there is none, and its own. -/
def band (a : ℕ → Fin 128 → ℝ) (t : ℕ) (g : Fin 2) (j : Fin 256) (e : Fin 64) : ℝ :=
  if 128 ≤ 128 * t + j.val then a (128 * t + j.val - 128) (kcol g e) else 0
/-- The band as the kernel loads it: the first block stands before itself. -/
def clamped (a : ℕ → Fin 128 → ℝ) (t : ℕ) (g : Fin 2) (j : Fin 256) (e : Fin 64) : ℝ :=
  a (if j.val < 128 then 128 * t - 128 + j.val else 128 * t + j.val - 128) (kcol g e)

namespace In

variable (x : In)

/-- The meeting of query block `t` with key head `g` before there is a result. -/
def bare (t : ℕ) (g : Fin 2) : Tile where
  mask := seen t
  q := fun u r e => x.q (128 * t + r.val) (qcol g u e) * (1 / 8)
  d := fun u r e => x.dout (128 * t + r.val) (qcol g u e)
  o := fun _ _ _ => 0
  k := band x.k t g
  v := band x.v t g
  sink := fun u => x.sink (head g u)

/-- The attention's result. -/
def out (t : ℕ) (g : Fin 2) (u : Fin 4) (r : Fin 128) (e : Fin 64) : ℝ := ∑ j, (x.bare t g).v j e * (x.bare t g).weight u r j

def tile (t : ℕ) (g : Fin 2) : Tile := { x.bare t g with o := x.out t g }

/-- The meeting as the kernel loads it. -/
def loaded (t : ℕ) (g : Fin 2) : Tile := { x.tile t g with k := clamped x.k t g, v := clamped x.v t g }

theorem clamped_eq (a : ℕ → Fin 128 → ℝ) (t : ℕ) (g : Fin 2) (r : Fin 128) (j : Fin 256) (h : seen t r j) : clamped a t g j = band a t g j := by
  have h' : r.val < j.val ∧ j.val ≤ r.val + 128 ∧ (128 ≤ j.val ∨ 0 < t) := of_decide_eq_true h
  funext e
  unfold clamped band
  rw [if_pos (c := 128 ≤ 128 * t + j.val) (by omega)]
  refine congrArg (fun n => a n (kcol g e)) ?_
  split <;> omega

theorem agree (t : ℕ) (g : Fin 2) : Tile.Agree (x.tile t g) (x.loaded t g) :=
  ⟨rfl, rfl, rfl, rfl, rfl, fun r j h => clamped_eq _ _ _ r j h, fun r j h => clamped_eq _ _ _ r j h⟩

/-- The queries' result and their gradient meet as the weights and the values' gradients do. -/
theorem delta_eq (t : ℕ) (g : Fin 2) (u : Fin 4) (r : Fin 128) :
    (x.tile t g).delta u r = ∑ j, (∑ e, (x.tile t g).d u r e * (x.tile t g).v j e) * (x.tile t g).weight u r j := by
  have h : ∀ e, (x.tile t g).o u r e = ∑ j, (x.tile t g).v j e * (x.tile t g).weight u r j := fun _ => rfl
  unfold Tile.delta
  simp only [h, Finset.mul_sum, Finset.sum_mul]
  rw [Finset.sum_comm]
  exact Finset.sum_congr rfl fun j _ => Finset.sum_congr rfl fun e _ => by ring

/-- The first block's band sees nothing before it. -/
theorem unseen (g : Fin 2) (p : Fin 128) (r : Fin 128) : ¬(x.tile 0 g).mask r (fst p) := fun h => by
  have h' : r.val < p.val ∧ p.val ≤ r.val + 128 ∧ (128 ≤ p.val ∨ 0 < 0) := of_decide_eq_true h
  have := p.isLt
  omega

/-! The call's results: of the queries by token, head and lane; of the keys and the values by token; of the sinks. -/
def dq (n : ℕ) (g : Fin 2) (u : Fin 4) (e : Fin 64) : ℝ := (x.tile (n / 128) g).dQ u ⟨n % 128, Nat.mod_lt _ (by decide)⟩ e
def dk (n : ℕ) (g : Fin 2) (e : Fin 64) : ℝ :=
  (x.tile (n / 128) g).dK (snd ⟨n % 128, Nat.mod_lt _ (by decide)⟩) e
    + if n / 128 + 1 < 64 then (x.tile (n / 128 + 1) g).dK (fst ⟨n % 128, Nat.mod_lt _ (by decide)⟩) e else 0
def dv (n : ℕ) (g : Fin 2) (e : Fin 64) : ℝ :=
  (x.tile (n / 128) g).dV (snd ⟨n % 128, Nat.mod_lt _ (by decide)⟩) e
    + if n / 128 + 1 < 64 then (x.tile (n / 128 + 1) g).dV (fst ⟨n % 128, Nat.mod_lt _ (by decide)⟩) e else 0
def dsink (l : Fin 128) : ℝ :=
  if h : l.val < 8 then ∑ t : Fin 64, (x.tile t.val ⟨l.val / 4, by omega⟩).dSink ⟨l.val % 4, by omega⟩ else 0

end In

end Cert.Attn

end
-- ==== Proof.AttnSoft.lean ====
module

public import proofs.«01_k».proof.Proof.AttnSpec

@[expose] public section

/-! # The softmax over a band and a sink, over the reals

Before the exponential a row's largest entry is taken off; a masked entry is `-∞`. -/

noncomputable section

namespace Cert.Attn.Tile

open Idealize.ShloMosaic Cert.Lift

variable (T : Tile) (u : Fin 4) (r : Fin 128)

/-- A row's entries: those of the band, then the sink. -/
def entry (j : Fin 257) : EReal :=
  if h : j.val < 256 then (if T.mask r ⟨j.val, h⟩ then (T.score u r ⟨j.val, h⟩ : EReal) else ⊥) else (T.sink u : EReal)
/-- Their exponentials. -/
def power (j : Fin 257) : ℝ := if h : j.val < 256 then T.raw u r ⟨j.val, h⟩ else Real.exp (T.sink u)

/-- The row's largest entry. -/
def top : ℝ := (Finset.univ.fold max ⊥ (T.entry u r)).toReal

theorem entry_lt (j : Fin 257) : T.entry u r j < ⊤ := by
  unfold entry
  split_ifs
  · exact EReal.coe_lt_top _
  · exact bot_lt_top
  · exact EReal.coe_lt_top _

theorem entry_last : T.entry u r ⟨256, by decide⟩ = (T.sink u : EReal) := by
  unfold entry
  rw [dif_neg (lt_irrefl 256)]

theorem top_eq : Finset.univ.fold max ⊥ (T.entry u r) = (T.top u r : EReal) := by
  refine (EReal.coe_toReal (ne_of_lt ?_) (ne_of_gt ?_)).symm
  · exact (Finset.fold_max_lt _).mpr ⟨bot_lt_top, fun j _ => T.entry_lt u r j⟩
  · refine lt_of_lt_of_le (EReal.bot_lt_coe (T.sink u)) ((Finset.le_fold_max _).mpr (Or.inr ⟨⟨256, by decide⟩, Finset.mem_univ _, ?_⟩))
    rw [T.entry_last]

/-- What an entry's exponential is divided by when the largest is taken off. -/
def lift : ℝ := Real.exp (-T.top u r)
theorem lift_pos : 0 < T.lift u r := Real.exp_pos _

theorem exp_entry (j : Fin 257) : Ideal.exp (T.entry u r j - (T.top u r : EReal)) = ((T.power u r j * T.lift u r : ℝ) : EReal) := by
  unfold entry power raw lift
  split_ifs
  · rw [← EReal.coe_sub, Ideal.exp_coe, ← Real.exp_add, sub_eq_add_neg]
  · rw [EReal.bot_sub, zero_mul, EReal.coe_zero]; rfl
  · rw [← EReal.coe_sub, Ideal.exp_coe, ← Real.exp_add, sub_eq_add_neg]

theorem sum_power : ∑ j, T.power u r j = T.total u r := by
  rw [Fin.sum_univ_castSucc]
  unfold total power
  congr 1

theorem scaled_pos : 0 < T.total u r * T.lift u r := mul_pos (T.total_pos u r) (T.lift_pos u r)

end Cert.Attn.Tile

end
-- ==== Proof.AttnHost.lean ====
module

public import proofs.«01_k».proof.Proof.AttnSoft
public import proofs.«01_k».proof.Proof.Gen.Kernel2Ideal.Frame

@[expose] public section

/-! # What the attention call's operands hold

The host forms them of the arguments: the scaled queries, the result's gradient, the two key heads each twice over the lanes, and the forward
call's result, which it computes first. -/

noncomputable section

namespace Cert.Attn.Host

open Idealize.ShloMosaic Idealize.ShloMosaic.TcCoe Idealize.ShloMosaic.StableHlo Idealize.SL.Sem Cert.Kernel2Ideal Cert.Kernel2Ideal.Gen

/-- The key heads' rows in blocks, a block of zeros before the first. -/
def padded (a : FVec Ideal S8192x128 .f32) : FVec Ideal S65x128x2x64 .f32 :=
  concatenate S65x128x2x64 0 [⟨S1x128x2x64, broadcastInDim S1x128x2x64 ![] bcast_S_S1x128x2x64 (constant S_ .f32 0x00000000#32)⟩,
    ⟨S64x128x2x64, shapeCast S64x128x2x64 a shapeCasts_S8192x128_S64x128x2x64⟩] concatenates_S1x128x2x64_S64x128x2x64_S65x128x2x64_d0
/-- Each block's band. -/
def bands (a : FVec Ideal S8192x128 .f32) : FVec Ideal S64x256x2x64 .f32 :=
  concatenate S64x256x2x64 1 [⟨S64x128x2x64, extractStridedSlice S64x128x2x64 ![0, 0, 0, 0] (padded a) slices_S65x128x2x64_S64x128x2x64_0_0_0_0⟩,
    ⟨S64x128x2x64, extractStridedSlice S64x128x2x64 ![1, 0, 0, 0] (padded a) slices_S65x128x2x64_S64x128x2x64_1_0_0_0⟩] concatenates_S64x128x2x64_S64x128x2x64_S64x256x2x64_d1
/-- The scaled scores. -/
def scores (q : FVec Ideal S8192x512 .f32) (k : FVec Ideal S8192x128 .f32) : FVec Ideal S64x2x4x128x256 .f32 :=
  mulf (transpose S64x2x4x128x256 [0, 1, 4, 3, 2] (Host.dotGeneral (φ₁ := .f32) (φ₂ := .f32) dot_S64x256x2x64_S64x128x2x4x64_S64x2x256x128x4_3_4_1_13_02_02 none
      (bands k) (shapeCast S64x128x2x4x64 q shapeCasts_S8192x512_S64x128x2x4x64)) transposes_S64x2x256x128x4_S64x2x4x128x256_0_1_4_3_2)
    (broadcastInDim S64x2x4x128x256 ![] bcast_S_S64x2x4x128x256 (constant S_ .f32 0x3E000000#32))
/-- How far a band row lies before its query's row. -/
def behind : IVec S128x256 32 :=
  subi (broadcastInDim S128x256 ![0, 1] bcast_S128x1_S128x256_0_1 (addi (broadcastInDim S128x1 ![] bcast_S_S128x1 (constantI S_ 32 128#32))
      (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))
/-- The band rows a query sees. -/
def visible : IVec S64x1x1x128x256 1 :=
  broadcastInDim S64x1x1x128x256 ![0, 3, 4] bcast_S64x128x256_S64x1x1x128x256_0_3_4 (andi
    (broadcastInDim S64x128x256 ![0, 1, 2] bcast_S1x128x256_S64x128x256_0_1_2 (broadcastInDim S1x128x256 ![1, 2] bcast_S128x256_S1x128x256_1_2
      (andi (cmpi .sge behind (broadcastInDim S128x256 ![] bcast_S_S128x256 (constantI S_ 32 0#32)))
        (cmpi .slt behind (broadcastInDim S128x256 ![] bcast_S_S128x256 (constantI S_ 32 128#32))))))
    (broadcastInDim S64x128x256 ![0, 1, 2] bcast_S64x1x256_S64x128x256_0_1_2 (cmpi .sge
      (addi (broadcastInDim S64x1x256 ![0, 1, 2] bcast_S64x1x1_S64x1x256_0_1_2
          (subi (muli (broadcastInDim S64x1x1 ![0] bcast_S64_S64x1x1_0 (iotaInDim S64 32 0)) (broadcastInDim S64x1x1 ![] bcast_S_S64x1x1 (constantI S_ 32 128#32)))
            (broadcastInDim S64x1x1 ![] bcast_S_S64x1x1 (constantI S_ 32 128#32))))
        (broadcastInDim S64x1x256 ![0, 1, 2] bcast_S1x1x256_S64x1x256_0_1_2 (broadcastInDim S1x1x256 ![1, 2] bcast_S1x256_S1x1x256_1_2
          (broadcastInDim S1x256 ![1] bcast_S256_S1x256_1 (iotaInDim S256 32 0)))))
      (broadcastInDim S64x1x256 ![] bcast_S_S64x1x256 (constantI S_ 32 0#32)))))
/-- The rows of the softmax: the band's entries, then the sink. -/
def entries (q : FVec Ideal S8192x512 .f32) (k : FVec Ideal S8192x128 .f32) (s : FVec Ideal S1x8 .f32) : FVec Ideal S64x2x4x128x257 .f32 :=
  concatenate S64x2x4x128x257 4 [⟨S64x2x4x128x256, select (broadcastInDim S64x2x4x128x256 ![0, 1, 2, 3, 4] bcast_S64x1x1x128x256_S64x2x4x128x256_0_1_2_3_4 visible)
      (scores q k) (broadcastInDim S64x2x4x128x256 ![] bcast_S_S64x2x4x128x256 (constant S_ .f32 0xFF800000#32))⟩,
    ⟨S64x2x4x128x1, broadcastInDim S64x2x4x128x1 ![0, 1, 2, 3, 4] bcast_S1x2x4x1x1_S64x2x4x128x1_0_1_2_3_4
      (shapeCast S1x2x4x1x1 (shapeCast S8 s shapeCasts_S1x8_S8) shapeCasts_S8_S1x2x4x1x1)⟩] concatenates_S64x2x4x128x256_S64x2x4x128x1_S64x2x4x128x257_d4
/-- Their exponentials, the largest taken off. -/
def powers (z : FVec Ideal S64x2x4x128x257 .f32) : FVec Ideal S64x2x4x128x257 .f32 :=
  Host.exp (subf z (broadcastInDim S64x2x4x128x257 ![0, 1, 2, 3, 4] bcast_S64x2x4x128x1_S64x2x4x128x257_0_1_2_3_4
    (broadcastInDim S64x2x4x128x1 ![0, 1, 2, 3] bcast_S64x2x4x128_S64x2x4x128x1_0_1_2_3 (maximumf (broadcastInDim S64x2x4x128 ![] bcast_S_S64x2x4x128 (constant S_ .f32 0xFF800000#32))
      (Host.reduce FloatOps.maximumf z (constant S_ .f32 0xFF800000#32) reducesTo_S64x2x4x128x257_S64x2x4x128_d4 h_S_)))))
/-- The band's share of each. -/
def shares (e : FVec Ideal S64x2x4x128x257 .f32) : FVec Ideal S64x2x4x128x256 .f32 :=
  extractStridedSlice S64x2x4x128x256 ![0, 0, 0, 0, 0] (Host.divf e (broadcastInDim S64x2x4x128x257 ![0, 1, 2, 3, 4] bcast_S64x2x4x128x1_S64x2x4x128x257_0_1_2_3_4
    (broadcastInDim S64x2x4x128x1 ![0, 1, 2, 3] bcast_S64x2x4x128_S64x2x4x128x1_0_1_2_3 (Host.reduceAdd e (constant S_ .f32 0x00000000#32) reducesTo_S64x2x4x128x257_S64x2x4x128_d4 h_S_))))
    slices_S64x2x4x128x257_S64x2x4x128x256_0_0_0_0_0
/-- The attention's result, of the bands of the values. -/
def result' (b : FVec Ideal S64x256x2x64 .f32) (p : FVec Ideal S64x2x4x128x256 .f32) : FVec Ideal S8192x512 .bf16 :=
  truncf .bf16 (shapeCast S8192x512 (transpose S64x128x2x4x64 [0, 4, 1, 3, 2] (Host.dotGeneral (φ₁ := .f32) (φ₂ := .f32) dot_S64x256x2x64_S64x2x4x128x256_S64x2x64x4x128_1_4_3_23_02_01 none b p)
    transposes_S64x2x64x4x128_S64x128x2x4x64_0_4_1_3_2) shapeCasts_S64x128x2x4x64_S8192x512 : FVec Ideal S8192x512 .f32) bitsLt_bf16_f32
abbrev result (v : FVec Ideal S8192x128 .f32) (p : FVec Ideal S64x2x4x128x256 .f32) : FVec Ideal S8192x512 .bf16 := result' (bands v) p
/-- The scaled queries, and the result's gradient, in the kernel's format. -/
def scaled (q : FVec Ideal S8192x512 .f32) : FVec Ideal S8192x512 .bf16 :=
  truncf .bf16 (mulf q (broadcastInDim S8192x512 ![] bcast_S_S8192x512 (constant S_ .f32 0x3E000000#32))) bitsLt_bf16_f32
def narrow (d : FVec Ideal S8192x512 .f32) : FVec Ideal S8192x512 .bf16 := truncf .bf16 d bitsLt_bf16_f32
/-- Key head `g`'s lanes twice, from its first column. -/
def twice (off : Fin 2 → ℕ) (hs : S8192x128.Slices off S8192x64) (a : FVec Ideal S8192x128 .f32) : FVec Ideal S8192x128 .bf16 :=
  truncf .bf16 (concatenate S8192x128 1 [⟨S8192x64, extractStridedSlice S8192x64 off a hs⟩, ⟨S8192x64, extractStridedSlice S8192x64 off a hs⟩]
    concatenates_S8192x64_S8192x64_S8192x128_d1 : FVec Ideal S8192x128 .f32) bitsLt_bf16_f32

/-! ## The first line of host operations -/

section

variable (V : Valuation τ sig (Elt Ideal))

theorem split3 : after (List.flatten [hostOps0, hostOps0_1, hostOps0_2]) V = after hostOps0_2 (after hostOps0_1 (after hostOps0 V)) := by
  rw [List.flatten_cons, List.flatten_cons, List.flatten_cons, List.flatten_nil, List.append_nil, after_append, after_append]

set_option maxRecDepth 8192 in
set_option maxHeartbeats 2000000 in
theorem first_v0 : after hostOps0 V (Proc.devRef .tc main_v0) = shapeCast S8 (V (Proc.devRef .tc main_arg4)) shapeCasts_S1x8_S8 := by
  simp only [hostOps0]
  after_results_simp
  all_goals rfl
set_option maxRecDepth 8192 in
set_option maxHeartbeats 2000000 in
theorem first_v13 : after hostOps0 V (Proc.devRef .tc main_v13) = bands (V (Proc.devRef .tc main_arg3)) := by
  simp only [hostOps0]
  after_results_simp
  all_goals rfl
set_option maxRecDepth 8192 in
set_option maxHeartbeats 2000000 in
theorem first_v17 : after hostOps0 V (Proc.devRef .tc main_v17) = scores (V (Proc.devRef .tc main_arg1)) (V (Proc.devRef .tc main_arg2)) := by
  simp only [hostOps0]
  after_results_simp
  all_goals rfl
set_option maxRecDepth 8192 in
set_option maxHeartbeats 2000000 in
theorem first_v48 : after hostOps0 V (Proc.devRef .tc main_v48) = visible := by
  simp only [hostOps0]
  after_results_simp
  all_goals rfl
set_option maxRecDepth 8192 in
set_option maxHeartbeats 2000000 in
theorem first_cst : after hostOps0 V (Proc.devRef .tc main_cst_7) = constant (F := Ideal) S_ .f32 0xFF800000#32 := by
  simp only [hostOps0]
  after_results_simp
  all_goals rfl

/-! ## The second -/

theorem second_v49 : after hostOps0_1 V (Proc.devRef .tc main_v49)
    = select (broadcastInDim S64x2x4x128x256 ![0, 1, 2, 3, 4] bcast_S64x1x1x128x256_S64x2x4x128x256_0_1_2_3_4 (V (Proc.devRef .tc main_v48) : IVec S64x1x1x128x256 1))
      (V (Proc.devRef .tc main_v17) : FVec Ideal S64x2x4x128x256 .f32)
      (broadcastInDim S64x2x4x128x256 ![] bcast_S_S64x2x4x128x256 (V (Proc.devRef .tc main_cst_7) : FVec Ideal S_ .f32)) := by
  simp only [hostOps0_1]
  after_results_simp
  all_goals rfl
theorem second_v0 : after hostOps0_1 V (Proc.devRef .tc main_v0) = V (Proc.devRef .tc main_v0) := by
  simp only [hostOps0_1]
  after_results_simp
theorem second_v13 : after hostOps0_1 V (Proc.devRef .tc main_v13) = V (Proc.devRef .tc main_v13) := by
  simp only [hostOps0_1]
  after_results_simp

/-! ## The third -/

set_option maxRecDepth 8192 in
set_option maxHeartbeats 2000000 in
theorem third_v72 : after hostOps0_2 V (Proc.devRef .tc main_v72) = result' (V (Proc.devRef .tc main_v13)) (shares (powers
    (concatenate S64x2x4x128x257 4 [⟨S64x2x4x128x256, (V (Proc.devRef .tc main_v49) : FVec Ideal S64x2x4x128x256 .f32)⟩,
      ⟨S64x2x4x128x1, broadcastInDim S64x2x4x128x1 ![0, 1, 2, 3, 4] bcast_S1x2x4x1x1_S64x2x4x128x1_0_1_2_3_4
        (shapeCast S1x2x4x1x1 (V (Proc.devRef .tc main_v0) : FVec Ideal S8 .f32) shapeCasts_S8_S1x2x4x1x1)⟩] concatenates_S64x2x4x128x256_S64x2x4x128x1_S64x2x4x128x257_d4))) := by
  simp only [hostOps0_2]
  after_results_simp
  all_goals rfl
set_option maxRecDepth 8192 in
set_option maxHeartbeats 2000000 in
theorem third_v70 : after hostOps0_2 V (Proc.devRef .tc main_v70)
    = scaled (V (Proc.devRef .tc main_arg1)) := by
  simp only [hostOps0_2]
  after_results_simp
  all_goals rfl
set_option maxRecDepth 8192 in
set_option maxHeartbeats 2000000 in
theorem third_v71 : after hostOps0_2 V (Proc.devRef .tc main_v71) = narrow (V (Proc.devRef .tc main_arg0)) := by
  simp only [hostOps0_2]
  after_results_simp
  all_goals rfl
set_option maxRecDepth 8192 in
set_option maxHeartbeats 2000000 in
theorem third_keys : after hostOps0_2 V (Proc.devRef .tc main_v75) = twice ![0, 0] slices_S8192x128_S8192x64_0_0 (V (Proc.devRef .tc main_arg2))
    ∧ after hostOps0_2 V (Proc.devRef .tc main_v78) = twice ![0, 64] slices_S8192x128_S8192x64_0_64 (V (Proc.devRef .tc main_arg2))
    ∧ after hostOps0_2 V (Proc.devRef .tc main_v81) = twice ![0, 0] slices_S8192x128_S8192x64_0_0 (V (Proc.devRef .tc main_arg3))
    ∧ after hostOps0_2 V (Proc.devRef .tc main_v84) = twice ![0, 64] slices_S8192x128_S8192x64_0_64 (V (Proc.devRef .tc main_arg3)) := by
  simp only [hostOps0_2]
  after_results_simp
  refine ⟨?_, ?_, ?_, ?_⟩ <;> rfl

/-- The arguments pass through the first two lines. -/
theorem kept : (after hostOps0_1 (after hostOps0 V) (Proc.devRef .tc main_arg0) = V (Proc.devRef .tc main_arg0))
    ∧ (after hostOps0_1 (after hostOps0 V) (Proc.devRef .tc main_arg1) = V (Proc.devRef .tc main_arg1))
    ∧ (after hostOps0_1 (after hostOps0 V) (Proc.devRef .tc main_arg2) = V (Proc.devRef .tc main_arg2))
    ∧ (after hostOps0_1 (after hostOps0 V) (Proc.devRef .tc main_arg3) = V (Proc.devRef .tc main_arg3)) := by
  simp only [hostOps0, hostOps0_1]
  after_results_simp
  exact ⟨trivial, trivial, trivial, trivial⟩

/-! ## The operands -/

theorem q_eq : after (List.flatten [hostOps0, hostOps0_1, hostOps0_2]) V (Proc.devRef .tc main_v70)
    = scaled (V (Proc.devRef .tc main_arg1)) := by
  rw [split3, third_v70, (kept V).2.1]
theorem d_eq : after (List.flatten [hostOps0, hostOps0_1, hostOps0_2]) V (Proc.devRef .tc main_v71) = narrow (V (Proc.devRef .tc main_arg0)) := by
  rw [split3, third_v71, (kept V).1]
theorem o_eq : after (List.flatten [hostOps0, hostOps0_1, hostOps0_2]) V (Proc.devRef .tc main_v72)
    = result (V (Proc.devRef .tc main_arg3)) (shares (powers (entries (V (Proc.devRef .tc main_arg1)) (V (Proc.devRef .tc main_arg2)) (V (Proc.devRef .tc main_arg4))))) := by
  rw [split3, third_v72, second_v49, second_v0, second_v13, first_v0, first_v13, first_v17, first_v48, first_cst]
  rfl
theorem keys_eq : after (List.flatten [hostOps0, hostOps0_1, hostOps0_2]) V (Proc.devRef .tc main_v75) = twice ![0, 0] slices_S8192x128_S8192x64_0_0 (V (Proc.devRef .tc main_arg2))
    ∧ after (List.flatten [hostOps0, hostOps0_1, hostOps0_2]) V (Proc.devRef .tc main_v78) = twice ![0, 64] slices_S8192x128_S8192x64_0_64 (V (Proc.devRef .tc main_arg2))
    ∧ after (List.flatten [hostOps0, hostOps0_1, hostOps0_2]) V (Proc.devRef .tc main_v81) = twice ![0, 0] slices_S8192x128_S8192x64_0_0 (V (Proc.devRef .tc main_arg3))
    ∧ after (List.flatten [hostOps0, hostOps0_1, hostOps0_2]) V (Proc.devRef .tc main_v84) = twice ![0, 64] slices_S8192x128_S8192x64_0_64 (V (Proc.devRef .tc main_arg3)) := by
  rw [split3]
  have h := third_keys (after hostOps0_1 (after hostOps0 V))
  rw [(kept V).2.2.1, (kept V).2.2.2] at h
  exact h

end

end Cert.Attn.Host

end
-- ==== Proof.AttnMask.lean ====
module

public import proofs.«01_k».proof.Proof.AttnSpec

@[expose] public section

/-! # The masks of a point's two query blocks -/

noncomputable section

namespace Cert.Attn

open Idealize.ShloMosaic
open Cert.Kernel2Ideal Cert.Kernel2Ideal.Gen
open Idealize.ShloMosaic.WordCmp

theorem low_bits (u : Fin 4) (r : Fin 128) : IntOp.andi (BitVec.ofNat 32 (row u r).val) 127#32 = BitVec.ofNat 32 r.val := by
  apply BitVec.eq_of_toNat_eq
  show ((row u r).val % 2 ^ 32) &&& 127 = r.val % 2 ^ 32
  rw [show (127 : ℕ) = 2 ^ 7 - 1 from rfl, Nat.and_two_pow_sub_one_eq_mod]
  show ((128 * u.val + r.val) % 2 ^ 32) % 2 ^ 7 = r.val % 2 ^ 32
  omega

/-- A band row against a query row, in the words of the kernel. -/
theorem seen_words (t : ℕ) (ht : t < 64) (u : Fin 4) (r : Fin 128) (j : Fin 256) :
    IntOp.andi (IntOp.andi (IntOp.cmpi .sgt (BitVec.ofNat 32 j.val) (IntOp.andi (BitVec.ofNat 32 (row u r).val) 127#32))
        (IntOp.cmpi .sle (BitVec.ofNat 32 j.val) (IntOp.addi (IntOp.andi (BitVec.ofNat 32 (row u r).val) 127#32) 128#32)))
      (IntOp.ori (IntOp.cmpi .sge (BitVec.ofNat 32 j.val) 128#32) (IntOp.cmpi .sgt (BitVec.ofNat 32 t) 0#32))
      = BitVec.ofBool (seen t r j) := by
  rw [low_bits, show (128#32 : BitVec 32) = BitVec.ofNat 32 128 from rfl, show (0#32 : BitVec 32) = BitVec.ofNat 32 0 from rfl, addi_ofNat,
    cmpi_sgt_ofNat (by omega) (by omega), cmpi_sle_ofNat (by omega) (by omega), cmpi_sge_ofNat (by omega) (by omega),
    cmpi_sgt_ofNat (by omega) (by omega), andi_ofBool, ori_ofBool, andi_ofBool]
  unfold seen
  congr 1
  simp only [← Bool.decide_and, ← Bool.decide_or, decide_eq_decide]
  constructor
  · rintro ⟨⟨h1, h2⟩, h3⟩; exact ⟨h1, h2, h3⟩
  · rintro ⟨h1, h2, h3⟩; exact ⟨⟨h1, h2⟩, h3⟩

theorem masks_eq (i : grid0.Coords) (b : Fin 2) (u : Fin 4) (r : Fin 128) (j : Fin 256) :
    masks i b (ix2 (row u r) j) = BitVec.ofBool (seen (2 * (i 0).val + b.val) r j) := by
  have hi : (i 0).val < 32 := (i 0).isLt
  refine Eq.trans ?_ (seen_words (2 * (i 0).val + b.val) (by omega) u r j)
  have hw : BitVec.ofNat 32 (2 * (i 0).val + b.val) = Scalar.addi (Scalar.muli (BitVec.ofNat 32 (i 0).val) 2#32) (BitVec.ofNat 32 b.val) := by
    rw [Nat.mul_comm]
    show _ = IntOp.addi (IntOp.muli _ (BitVec.ofNat 32 2)) _
    rw [muli_ofNat, addi_ofNat]
  rw [hw]
  match b with
  | 0 =>
    show k0_pay9 i _ = _
    unfold k0_pay9
    pointwise
    rfl
  | 1 =>
    show k0_pay68 _ _ = _
    unfold k0_pay68
    pointwise
    rfl

end Cert.Attn

end
-- ==== Proof.AttnHostRead.lean ====
module

public import proofs.«01_k».proof.Proof.AttnHost
public import proofs.«01_k».proof.Proof.AttnMask

@[expose] public section

/-! # The attention call's operands, over the reals -/

noncomputable section

namespace Cert.Attn.Host

open Idealize.ShloMosaic Cert.Kernel2Ideal Cert.Kernel2Ideal.Gen Cert.Lift Idealize.ShloMosaic.WordCmp

theorem ofBits_eighth : Ideal.ofBits .f32 0x3E000000#32 = ((1 / 8 : ℝ) : EReal) := by
  simp [Ideal.ofBits, Ideal.ieee, -EReal.coe_mul]; norm_num
theorem ofBits_bot : Ideal.ofBits .f32 0xFF800000#32 = ⊥ := by simp [Ideal.ofBits, Ideal.ieee]
theorem ofBits_zero : Ideal.ofBits .f32 0x00000000#32 = ((0 : ℝ) : EReal) := by
  simp [Ideal.ofBits, Ideal.ieee]

/-! ## Bands -/

section

variable {a : FVec Ideal S8192x128 .f32} {f : ℕ → Fin 128 → ℝ} (ha : ∀ n l, a (ix2 n l) = (f n.val l : EReal))
include ha

theorem padded_at (t : Fin 65) (p : Fin 128) (g : Fin 2) (e : Fin 64) :
    padded a (ix4 t p g e) = ((if t.val < 1 then 0 else f (128 * t.val + p.val - 128) (kcol g e) : ℝ) : EReal) := by
  unfold padded
  pointwise
  split_ifs with h h2
  · exact EReal.coe_zero.symm
  · rw [ha]
    refine congrArg Real.toEReal (congrArg₂ f ?_ (Fin.ext ?_))
    · show (t.val - 1) * 128 + p.val = _; omega
    · show g.val * 64 + e.val = 64 * g.val + e.val; omega
  · exact absurd rfl h2

theorem bands_at (t : Fin 64) (j : Fin 256) (g : Fin 2) (e : Fin 64) : bands a (ix4 t j g e) = (band f t.val g j e : EReal) := by
  unfold bands
  pointwise
  split_ifs with h h2
  · rw [padded_at ha]
    refine congrArg Real.toEReal ?_
    unfold band
    by_cases ht : t.val < 1
    · rw [if_pos (c := t.val < 1) ht, if_neg (c := 128 ≤ 128 * t.val + j.val) (by omega)]
    · rw [if_neg (c := t.val < 1) ht, if_pos (c := 128 ≤ 128 * t.val + j.val) (by omega)]
  · rw [padded_at ha]
    refine congrArg Real.toEReal ?_
    unfold band
    rw [if_neg (c := 1 + t.val < 1) (by omega), if_pos (c := 128 ≤ 128 * t.val + j.val) (by omega)]
    refine congrArg (fun n => f n (kcol g e)) ?_
    show 128 * (1 + t.val) + (j.val - 128) - 128 = _
    omega
  · exact absurd rfl h2

end

/-! ## Masks -/

theorem nonneg_diff (a b : ℕ) (ha : a < 2 ^ 30) (hb : b < 2 ^ 30) :
    IntOp.cmpi .sge (IntOp.subi (BitVec.ofNat 32 a) (BitVec.ofNat 32 b)) 0#32 = BitVec.ofBool (decide (b ≤ a)) := by
  show BitVec.ofBool (decide ((0#32 : BitVec 32).toInt ≤ (BitVec.ofNat 32 a - BitVec.ofNat 32 b).toInt)) = _
  refine congrArg BitVec.ofBool (decide_eq_decide.mpr ?_)
  rw [BitVec.toInt_eq_toNat_cond, BitVec.toInt_eq_toNat_cond, BitVec.toNat_sub, BitVec.toNat_ofNat, BitVec.toNat_ofNat, BitVec.toNat_ofNat]
  split_ifs <;> omega

theorem small_diff (a b : ℕ) (ha : a < 2 ^ 30) (hb : b < 2 ^ 30) :
    IntOp.cmpi .slt (IntOp.subi (BitVec.ofNat 32 a) (BitVec.ofNat 32 b)) 128#32 = BitVec.ofBool (decide (a < b + 128)) := by
  show BitVec.ofBool (decide ((BitVec.ofNat 32 a - BitVec.ofNat 32 b).toInt < (128#32 : BitVec 32).toInt)) = _
  refine congrArg BitVec.ofBool (decide_eq_decide.mpr ?_)
  rw [BitVec.toInt_eq_toNat_cond, BitVec.toInt_eq_toNat_cond, BitVec.toNat_sub, BitVec.toNat_ofNat, BitVec.toNat_ofNat, BitVec.toNat_ofNat]
  split_ifs <;> omega

theorem nonneg_sum (a b : ℕ) (ha : a < 2 ^ 30) (hb : b < 2 ^ 30) :
    IntOp.cmpi .sge (IntOp.addi (IntOp.subi (BitVec.ofNat 32 a) 128#32) (BitVec.ofNat 32 b)) 0#32 = BitVec.ofBool (decide (128 ≤ a + b)) := by
  show BitVec.ofBool (decide ((0#32 : BitVec 32).toInt ≤ (BitVec.ofNat 32 a - 128#32 + BitVec.ofNat 32 b).toInt)) = _
  refine congrArg BitVec.ofBool (decide_eq_decide.mpr ?_)
  rw [BitVec.toInt_eq_toNat_cond, BitVec.toInt_eq_toNat_cond, BitVec.toNat_add, BitVec.toNat_sub, BitVec.toNat_ofNat, BitVec.toNat_ofNat, BitVec.toNat_ofNat,
    BitVec.toNat_ofNat]
  split_ifs <;> omega

theorem visible_at (t : Fin 64) (z z' : Fin 1) (r : Fin 128) (j : Fin 256) : visible (ix5 t z z' r j) = BitVec.ofBool (seen t.val r j) := by
  unfold visible behind
  pointwise
  rw [show IntOp.addi (128#32) (BitVec.ofNat 32 r.val) = BitVec.ofNat 32 (128 + r.val) from addi_ofNat _ _,
    show IntOp.muli (BitVec.ofNat 32 t.val) 128#32 = BitVec.ofNat 32 (t.val * 128) from muli_ofNat _ _, nonneg_diff _ _ (by omega) (by omega),
    small_diff _ _ (by omega) (by omega), nonneg_sum _ _ (by omega) (by omega), andi_ofBool, andi_ofBool]
  unfold seen
  congr 1
  simp only [← Bool.decide_and, decide_eq_decide]
  omega

/-! ## Entries -/

theorem select_bool (b : Bool) (y z : EReal) : Scalar.select (BitVec.ofBool b) y z = if b = true then y else z := by cases b <;> rfl

/-- The largest of a row, from the bottom. -/
def largest (z : FVec Ideal S64x2x4x128x257 .f32) : FVec Ideal S64x2x4x128 .f32 :=
  Host.reduce FloatOps.maximumf z (constant S_ .f32 0xFF800000#32) reducesTo_S64x2x4x128x257_S64x2x4x128_d4 h_S_

theorem largest_at (z : FVec Ideal S64x2x4x128x257 .f32) (t : Fin 64) (g : Fin 2) (u : Fin 4) (r : Fin 128) :
    largest z (ix4 t g u r) = Finset.univ.fold max (Ideal.ofBits .f32 0xFF800000#32) (fun x => z (ix5 t g u r x)) := by
  refine (Host.reduce_eq_fold FloatOps.maximumf z _ reducesTo_S64x2x4x128x257_S64x2x4x128_d4 h_S_ _).trans ?_
  exact Shape.ReducesTo.fold_fiber_r5_a4 reducesTo_S64x2x4x128x257_S64x2x4x128_d4 (ix4 t g u r) _ _ z

theorem spread_at (w : FVec Ideal S64x2x4x128 .f32) (t : Fin 64) (g : Fin 2) (u : Fin 4) (r : Fin 128) (j : Fin 257) :
    broadcastInDim S64x2x4x128x257 ![0, 1, 2, 3, 4] bcast_S64x2x4x128x1_S64x2x4x128x257_0_1_2_3_4
      (broadcastInDim S64x2x4x128x1 ![0, 1, 2, 3] bcast_S64x2x4x128_S64x2x4x128x1_0_1_2_3 w) (ix5 t g u r j) = w (ix4 t g u r) := by
  pointwise
theorem max_at (x y : FVec Ideal S64x2x4x128 .f32) (i : S64x2x4x128.Idx) : maximumf x y i = max (x i) (y i) := rfl
theorem bottom_at (i : S64x2x4x128.Idx) : (broadcastInDim S64x2x4x128 ![] bcast_S_S64x2x4x128 (constant S_ .f32 0xFF800000#32) : FVec Ideal S64x2x4x128 .f32) i
    = Ideal.ofBits .f32 0xFF800000#32 := rfl
theorem exp_at (x y : FVec Ideal S64x2x4x128x257 .f32) (i : S64x2x4x128x257.Idx) : Host.exp (subf x y) i = Ideal.exp (x i - y i) := rfl

theorem powers_at (z : FVec Ideal S64x2x4x128x257 .f32) (t : Fin 64) (g : Fin 2) (u : Fin 4) (r : Fin 128) (j : Fin 257) :
    powers z (ix5 t g u r j) = Ideal.exp (z (ix5 t g u r j) - max (Ideal.ofBits .f32 0xFF800000#32) (largest z (ix4 t g u r))) := by
  unfold powers
  rw [exp_at, spread_at, max_at, bottom_at]
  rfl

/-- The arguments hold the real numbers of `x`. -/
structure Args (x : In) (d q : FVec Ideal S8192x512 .f32) (k v : FVec Ideal S8192x128 .f32) (s : FVec Ideal S1x8 .f32) : Prop where
  d : ∀ n l, d (ix2 n l) = (x.dout n.val l : EReal)
  q : ∀ n l, q (ix2 n l) = (x.q n.val l : EReal)
  k : ∀ n l, k (ix2 n l) = (x.k n.val l : EReal)
  v : ∀ n l, v (ix2 n l) = (x.v n.val l : EReal)
  s : ∀ z l, s (ix2 z l) = (x.sink l : EReal)

section

variable {x : In} {d q : FVec Ideal S8192x512 .f32} {k v : FVec Ideal S8192x128 .f32} {s : FVec Ideal S1x8 .f32} (hx : Args x d q k v s)
  (t : Fin 64) (g : Fin 2) (u : Fin 4) (r : Fin 128)
include hx

theorem scores_at (j : Fin 256) : scores q k (ix5 t g u r j) = ((x.tile t.val g).score u r j : EReal) := by
  unfold scores
  pointwise
  rw [ofBits_eighth]
  have h : ∀ e : Fin 64, bands k (ix4 t j g e) * q (ix2 ⟨t.val * 128 + r.val, by omega⟩ ⟨g.val * 256 + u.val * 64 + e.val, by omega⟩)
      = ((band x.k t.val g j e * x.q (128 * t.val + r.val) (qcol g u e) : ℝ) : EReal) := by
    intro e
    rw [bands_at hx.k, hx.q, ← EReal.coe_mul]
    refine congrArg Real.toEReal (congrArg (_ * ·) (congrArg₂ x.q ?_ (Fin.ext ?_)))
    · show t.val * 128 + r.val = _; omega
    · show g.val * 256 + u.val * 64 + e.val = 256 * g.val + 64 * u.val + e.val; omega
  refine (congrArg (· * _) ((Finset.sum_congr rfl fun e _ => h e).trans (coe_sum _ _).symm)).trans ?_
  rw [← EReal.coe_mul]
  refine congrArg Real.toEReal ?_
  rw [Finset.sum_mul]
  refine Finset.sum_congr rfl fun e _ => ?_
  show _ = x.q (128 * t.val + r.val) (qcol g u e) * (1 / 8) * band x.k t.val g j e
  ring

theorem entries_at (j : Fin 257) : entries q k s (ix5 t g u r j) = (x.tile t.val g).entry u r j := by
  unfold entries
  pointwise
  unfold Tile.entry
  by_cases h : j.val < 256
  · rw [dif_pos h, dif_pos h, visible_at, scores_at hx, ofBits_bot]
    exact select_bool _ _ _
  · rw [dif_neg h, dif_neg h, hx.s]
    refine congrArg (fun l => (x.sink l : EReal)) (Fin.ext ?_)
    show g.val * 4 + u.val = 4 * g.val + u.val; omega

theorem largest_entries : largest (entries q k s) (ix4 t g u r) = ((x.tile t.val g).top u r : EReal) := by
  rw [largest_at, ofBits_bot, ← Tile.top_eq]
  exact congrArg (fun f => Finset.fold max ⊥ f Finset.univ) (funext fun j => entries_at hx t g u r j)

theorem powers_entries (j : Fin 257) : powers (entries q k s) (ix5 t g u r j)
    = (((x.tile t.val g).power u r j * (x.tile t.val g).lift u r : ℝ) : EReal) := by
  rw [powers_at, largest_entries hx, entries_at hx, ofBits_bot, max_eq_right bot_le, Tile.exp_entry]

theorem total_powers : ∑ j, powers (entries q k s) (ix5 t g u r j) = (((x.tile t.val g).total u r * (x.tile t.val g).lift u r : ℝ) : EReal) := by
  refine ((Finset.sum_congr rfl fun j _ => powers_entries hx t g u r j).trans (coe_sum _ _).symm).trans ?_
  rw [← Finset.sum_mul, Tile.sum_power]

theorem shares_at (j : Fin 256) : shares (powers (entries q k s)) (ix5 t g u r j) = ((x.tile t.val g).weight u r j : EReal) := by
  unfold shares
  pointwise
  rw [total_powers hx, powers_entries hx, div_real _ (Tile.scaled_pos _ u r).ne']
  refine congrArg Real.toEReal ?_
  unfold Tile.power Tile.weight
  rw [dif_pos (c := j.val < 256) j.isLt, mul_div_mul_right _ _ (Tile.lift_pos _ u r).ne']

theorem result_at (n : Fin 8192) (l : Fin 512) : result v (shares (powers (entries q k s))) (ix2 n l)
    = (x.out (n.val / 128) ⟨l.val / 256, by omega⟩ ⟨l.val / 64 % 4, by omega⟩ ⟨n.val % 128, by omega⟩ ⟨l.val % 64, by omega⟩ : EReal) := by
  unfold result result'
  generalize hw : shares (powers (entries q k s)) = w
  pointwise
  subst hw
  refine ((Finset.sum_congr rfl fun j _ => ?_).trans (coe_sum _ _).symm)
  rw [bands_at hx.v]
  refine (congrArg (_ * ·) (shares_at hx ⟨n.val / 128, by omega⟩ ⟨l.val / 256, by omega⟩ ⟨l.val / 64 % 4, by omega⟩ ⟨n.val % 128, by omega⟩ j)).trans ?_
  rw [← EReal.coe_mul]
  rfl

omit hx in
theorem scaled_at (hx : Args x d q k v s) (n : Fin 8192) (l : Fin 512) : scaled q (ix2 n l) = ((x.q n.val l * (1 / 8) : ℝ) : EReal) := by
  unfold scaled
  pointwise
  rw [hx.q, ofBits_eighth, EReal.coe_mul]

omit hx in
theorem narrow_at (hx : Args x d q k v s) (n : Fin 8192) (l : Fin 512) : narrow d (ix2 n l) = (x.dout n.val l : EReal) := hx.d n l

end

theorem twice_first {a : FVec Ideal S8192x128 .f32} {f : ℕ → Fin 128 → ℝ} (ha : ∀ n l, a (ix2 n l) = (f n.val l : EReal)) (n : Fin 8192) (l : Fin 128) :
    twice ![0, 0] slices_S8192x128_S8192x64_0_0 a (ix2 n l) = (f n.val (kcol 0 (low l)) : EReal) := by
  unfold twice
  pointwise
  split_ifs with h h2
  · rw [ha]
    refine congrArg (fun l => (f n.val l : EReal)) (Fin.ext ?_)
    show l.val = 64 * 0 + l.val % 64; omega
  · rw [ha]
    refine congrArg (fun l => (f n.val l : EReal)) (Fin.ext ?_)
    show l.val - 64 = 64 * 0 + l.val % 64; omega
  · exact absurd rfl h2

theorem twice_second {a : FVec Ideal S8192x128 .f32} {f : ℕ → Fin 128 → ℝ} (ha : ∀ n l, a (ix2 n l) = (f n.val l : EReal)) (n : Fin 8192) (l : Fin 128) :
    twice ![0, 64] slices_S8192x128_S8192x64_0_64 a (ix2 n l) = (f n.val (kcol 1 (low l)) : EReal) := by
  unfold twice
  pointwise
  split_ifs with h h2
  · rw [ha]
    refine congrArg (fun l => (f n.val l : EReal)) (Fin.ext ?_)
    show 64 + l.val = 64 * 1 + l.val % 64; omega
  · rw [ha]
    refine congrArg (fun l => (f n.val l : EReal)) (Fin.ext ?_)
    show 64 + (l.val - 64) = 64 * 1 + l.val % 64; omega
  · exact absurd rfl h2

end Cert.Attn.Host

end
-- ==== Proof.AttnBlocks.lean ====
module

public import proofs.«01_k».proof.Proof.AttnHostRead
public import proofs.«01_k».proof.Proof.AttnFrame
public import Idealize.ShloMosaic.Lib.Pipeline.Value
public import Idealize.ShloMosaic.Lib.Pipeline.ValueKit.Point

@[expose] public section

/-! # The meetings of a point, over the reals -/

noncomputable section

namespace Cert.Attn

open Idealize.ShloMosaic Idealize.ShloMosaic.TcCoe Idealize.SL.Sem Cert.Kernel2Ideal Cert.Kernel2Ideal.Gen Cert.Lift

/-- The memory's arguments hold the real numbers of `x`. -/
abbrev Holding (x : In) (m : (ℓ : Loc nD τ sig) → Buf (Elt Ideal) ℓ) (c : Dev nD) : Prop :=
  Host.Args x (m (c.tc.loc main_arg0)) (m (c.tc.loc main_arg1)) (m (c.tc.loc main_arg2)) (m (c.tc.loc main_arg3)) (m (c.tc.loc main_arg4))

theorem idxBlock : ∀ t : Fin cfg0.N, (win0_1.index t 0 = t.val ∧ win0_1.index t 1 = 0) ∧ (win0_2.index t 0 = t.val ∧ win0_2.index t 1 = 0)
    ∧ (win0_3.index t 0 = t.val ∧ win0_3.index t 1 = 0) :=
  (by decide +kernel : ∀ t : Fin grid0.N, _)
theorem idxAll : ∀ t : Fin cfg0.N, (∀ a, win0_0.index t a = 0) ∧ (∀ a, win0_4.index t a = 0) ∧ (∀ a, win0_5.index t a = 0)
    ∧ (∀ a, win0_6.index t a = 0) ∧ (∀ a, win0_7.index t a = 0) :=
  (by decide +kernel : ∀ t : Fin grid0.N, _)

theorem point_lt (t : Fin cfg0.N) : t.val < 32 := lt_of_lt_of_eq t.isLt Gen.N_0

section

variable (m : (ℓ : Loc nD τ sig) → Buf (Elt Ideal) ℓ) (c : Dev nD) (t : Fin cfg0.N)

theorem blk1 (r : Fin 256) (l : Fin 512) : iblk m c 1 t (ix2 r l) = V m c main_v70 (ix2 ⟨256 * t.val + r.val, by have := point_lt t; omega⟩ l) := by
  generalize hW : V m c = W
  unfold iblk
  rw [hW]
  blk_ext! [idxBlock t]
theorem blk2 (r : Fin 256) (l : Fin 512) : iblk m c 2 t (ix2 r l) = V m c main_v71 (ix2 ⟨256 * t.val + r.val, by have := point_lt t; omega⟩ l) := by
  generalize hW : V m c = W
  unfold iblk
  rw [hW]
  blk_ext! [idxBlock t]
theorem blk3 (r : Fin 256) (l : Fin 512) : iblk m c 3 t (ix2 r l) = V m c main_v72 (ix2 ⟨256 * t.val + r.val, by have := point_lt t; omega⟩ l) := by
  generalize hW : V m c = W
  unfold iblk
  rw [hW]
  blk_ext! [idxBlock t]
theorem blk0 (z : Fin 1) (l : Fin 8) : iblk m c 0 t (ix2 z l) = V m c main_arg4 (ix2 z l) := by
  generalize hW : V m c = W
  unfold iblk
  rw [hW]
  blk_ext! [idxAll t]
theorem blk4 (r : Fin 8192) (l : Fin 128) : iblk m c 4 t (ix2 r l) = V m c main_v75 (ix2 r l) := by
  generalize hW : V m c = W
  unfold iblk
  rw [hW]
  blk_ext! [idxAll t]
theorem blk5 (r : Fin 8192) (l : Fin 128) : iblk m c 5 t (ix2 r l) = V m c main_v78 (ix2 r l) := by
  generalize hW : V m c = W
  unfold iblk
  rw [hW]
  blk_ext! [idxAll t]
theorem blk6 (r : Fin 8192) (l : Fin 128) : iblk m c 6 t (ix2 r l) = V m c main_v81 (ix2 r l) := by
  generalize hW : V m c = W
  unfold iblk
  rw [hW]
  blk_ext! [idxAll t]
theorem blk7 (r : Fin 8192) (l : Fin 128) : iblk m c 7 t (ix2 r l) = V m c main_v84 (ix2 r l) := by
  generalize hW : V m c = W
  unfold iblk
  rw [hW]
  blk_ext! [idxAll t]

end

/-! ## What the operands hold -/

/-- The attention's result by token and column. -/
def outAt (x : In) (n : ℕ) (l : Fin 512) : ℝ :=
  x.out (n / 128) ⟨l.val / 256, by omega⟩ ⟨l.val / 64 % 4, by omega⟩ ⟨n % 128, by omega⟩ ⟨l.val % 64, by omega⟩

theorem outAt_tile (x : In) (t : ℕ) (b g p : Fin 2) (r l : Fin 128) : outAt x (256 * t + (128 * b.val + r.val)) (qcol g (headOf p l) (low l))
    = x.out (2 * t + b.val) g (headOf p l) r (low l) := by
  have h1 : (256 * t + (128 * b.val + r.val)) / 128 = 2 * t + b.val := by omega
  have h2 : (256 * t + (128 * b.val + r.val)) % 128 = r.val := by omega
  have hq : (qcol g (headOf p l) (low l)).val = 256 * g.val + 64 * (2 * p.val + l.val / 64) + l.val % 64 := rfl
  have hh : (headOf p l).val = 2 * p.val + l.val / 64 := rfl
  have hl : (low l).val = l.val % 64 := rfl
  unfold outAt
  rw [h1]
  congr 1 <;> refine Fin.ext ?_ <;> dsimp only <;> omega

section

variable {x : In} {m : (ℓ : Loc nD τ sig) → Buf (Elt Ideal) ℓ} {c : Dev nD} (hx : Holding x m c)
include hx

theorem queries (n : Fin 8192) (l : Fin 512) : V m c main_v70 (ix2 n l) = ((x.q n.val l * (1 / 8) : ℝ) : EReal) :=
  (congrFun (Host.q_eq fun b => m (c, b)) (ix2 n l)).trans (Host.scaled_at hx n l)
theorem gradients (n : Fin 8192) (l : Fin 512) : V m c main_v71 (ix2 n l) = (x.dout n.val l : EReal) :=
  (congrFun (Host.d_eq fun b => m (c, b)) (ix2 n l)).trans (Host.narrow_at hx n l)
theorem outputs (n : Fin 8192) (l : Fin 512) : V m c main_v72 (ix2 n l) = (outAt x n.val l : EReal) :=
  (congrFun (Host.o_eq fun b => m (c, b)) (ix2 n l)).trans (Host.result_at hx n l)
theorem keys0 (n : Fin 8192) (l : Fin 128) : V m c main_v75 (ix2 n l) = (x.k n.val (kcol 0 (low l)) : EReal) :=
  (congrFun (Host.keys_eq fun b => m (c, b)).1 (ix2 n l)).trans (Host.twice_first hx.k n l)
theorem keys1 (n : Fin 8192) (l : Fin 128) : V m c main_v78 (ix2 n l) = (x.k n.val (kcol 1 (low l)) : EReal) :=
  (congrFun (Host.keys_eq fun b => m (c, b)).2.1 (ix2 n l)).trans (Host.twice_second hx.k n l)
theorem values0 (n : Fin 8192) (l : Fin 128) : V m c main_v81 (ix2 n l) = (x.v n.val (kcol 0 (low l)) : EReal) :=
  (congrFun (Host.keys_eq fun b => m (c, b)).2.2.1 (ix2 n l)).trans (Host.twice_first hx.v n l)
theorem values1 (n : Fin 8192) (l : Fin 128) : V m c main_v84 (ix2 n l) = (x.v n.val (kcol 1 (low l)) : EReal) :=
  (congrFun (Host.keys_eq fun b => m (c, b)).2.2.2 (ix2 n l)).trans (Host.twice_second hx.v n l)
theorem sinks (z : Fin 1) (l : Fin 8) : V m c main_arg4 (ix2 z l) = (x.sink l : EReal) :=
  (congrFun (V_main_arg4 m c) (ix2 z l)).trans (hx.s z l)

end

/-! ## The point's loads -/

theorem pair_at {X Y : Vec Ideal S8192x128 .bf16} {F : Fin 2 → ℕ → Fin 128 → ℝ} (h0 : ∀ n l, X (ix2 n l) = (F 0 n.val l : EReal))
    (h1 : ∀ n l, Y (ix2 n l) = (F 1 n.val l : EReal)) : ∀ g : Fin 2, ∀ n l, (![X, Y] g : Vec Ideal S8192x128 .bf16) (ix2 n l) = (F g n.val l : EReal) :=
  Fin.forall_fin_two.mpr ⟨h0, h1⟩

theorem clamped_fst (a : ℕ → Fin 128 → ℝ) (t : ℕ) (g : Fin 2) (p l : Fin 128) : clamped a t g (fst p) (low l) = a (128 * t - 128 + p.val) (kcol g (low l)) := by
  unfold clamped
  rw [if_pos (c := (fst p).val < 128) p.isLt]
  rfl
theorem clamped_snd (a : ℕ → Fin 128 → ℝ) (t : ℕ) (g : Fin 2) (p l : Fin 128) : clamped a t g (snd p) (low l) = a (128 * t + p.val) (kcol g (low l)) := by
  unfold clamped
  have h1 : (snd p).val = 128 + p.val := rfl
  rw [if_neg (c := (snd p).val < 128) (by omega), h1]
  exact congrArg (fun n => a n (kcol g (low l))) (by omega)

theorem at_before {X : Vec Ideal S8192x128 .bf16} {F : ℕ → Fin 128 → ℝ} (hX : ∀ n l, X (ix2 n l) = (F n.val l : EReal)) (i : grid0.Coords) (b : Fin 2)
    (p l : Fin 128) : X ((wBefore i b).toLoadRect.idx (ix2 p l)) = (F (128 * (2 * (i 0).val + b.val) - 128 + p.val) l : EReal) := by
  rw [eq_ix2 ((wBefore i b).toLoadRect.idx (ix2 p l))]
  refine (hX _ _).trans (congrArg Real.toEReal (congrArg₂ F ?_ (Fin.ext ?_)))
  · show k0_off1 i (BitVec.ofNat 32 b.val) 0 + 1 * p.val = _
    match b with
    | 0 => rw [show k0_off1 i (BitVec.ofNat 32 (0 : Fin 2).val) = _ from (off1_eq i).1]; show 256 * (i 0).val - 128 + 1 * p.val = 128 * (2 * (i 0).val + 0) - 128 + p.val; omega
    | 1 => rw [show k0_off1 i (BitVec.ofNat 32 (1 : Fin 2).val) = _ from (off1_eq i).2]; show 256 * (i 0).val + 1 * p.val = 128 * (2 * (i 0).val + 1) - 128 + p.val; omega
  · show k0_off1 i (BitVec.ofNat 32 b.val) 1 + 1 * l.val = _
    match b with
    | 0 => rw [show k0_off1 i (BitVec.ofNat 32 (0 : Fin 2).val) = _ from (off1_eq i).1]; show 0 + 1 * l.val = l.val; omega
    | 1 => rw [show k0_off1 i (BitVec.ofNat 32 (1 : Fin 2).val) = _ from (off1_eq i).2]; show 0 + 1 * l.val = l.val; omega

theorem at_own {X : Vec Ideal S8192x128 .bf16} {F : ℕ → Fin 128 → ℝ} (hX : ∀ n l, X (ix2 n l) = (F n.val l : EReal)) (i : grid0.Coords) (b : Fin 2)
    (p l : Fin 128) : X ((wOwn i b).toLoadRect.idx (ix2 p l)) = (F (128 * (2 * (i 0).val + b.val) + p.val) l : EReal) := by
  rw [eq_ix2 ((wOwn i b).toLoadRect.idx (ix2 p l))]
  refine (hX _ _).trans (congrArg Real.toEReal (congrArg₂ F ?_ (Fin.ext ?_)))
  · show k0_off2 i (BitVec.ofNat 32 b.val) 0 + 1 * p.val = _
    rw [k0_off2_eq]; show 256 * (i 0).val + 128 * b.val + 1 * p.val = _; omega
  · show k0_off2 i (BitVec.ofNat 32 b.val) 1 + 1 * l.val = _
    rw [k0_off2_eq]; show 0 + 1 * l.val = l.val; omega

theorem at_tile {X : Vec Ideal S256x512 .bf16} {F : ℕ → Fin 512 → ℝ} (hX : ∀ n l, X (ix2 n l) = (F n.val l : EReal)) (b g p : Fin 2)
    (r l : Fin 128) : X ((wTile b g p).toLoadRect.idx (ix2 r l)) = (F (128 * b.val + r.val) (qcol g (headOf p l) (low l)) : EReal) := by
  rw [eq_ix2 ((wTile b g p).toLoadRect.idx (ix2 r l))]
  refine (hX _ _).trans (congrArg Real.toEReal (congrArg₂ F ?_ (Fin.ext ?_)))
  · show 128 * b.val + 1 * r.val = _; omega
  · show 256 * g.val + 128 * p.val + 1 * l.val = 256 * g.val + 64 * (2 * p.val + l.val / 64) + l.val % 64; omega

section

variable {x : In} {m : (ℓ : Loc nD τ sig) → Buf (Elt Ideal) ℓ} {c : Dev nD} (hx : Holding x m c)
include hx

theorem block1 (t : Fin cfg0.N) (n : Fin 256) (l : Fin 512) : iblk m c 1 t (ix2 n l) = ((x.q (256 * t.val + n.val) l * (1 / 8) : ℝ) : EReal) :=
  (blk1 m c t n l).trans (queries hx _ l)
theorem block2 (t : Fin cfg0.N) (n : Fin 256) (l : Fin 512) : iblk m c 2 t (ix2 n l) = (x.dout (256 * t.val + n.val) l : EReal) :=
  (blk2 m c t n l).trans (gradients hx _ l)
theorem block3 (t : Fin cfg0.N) (n : Fin 256) (l : Fin 512) : iblk m c 3 t (ix2 n l) = (outAt x (256 * t.val + n.val) l : EReal) :=
  (blk3 m c t n l).trans (outputs hx _ l)
theorem block45 (t : Fin cfg0.N) : ∀ (g : Fin 2) (n : Fin 8192) (l : Fin 128),
    (![iblk m c 4 t, iblk m c 5 t] g : Vec Ideal S8192x128 .bf16) (ix2 n l) = (x.k n.val (kcol g (low l)) : EReal) :=
  pair_at (F := fun g n l => x.k n (kcol g (low l))) (fun n l => (blk4 m c t n l).trans (keys0 hx n l)) (fun n l => (blk5 m c t n l).trans (keys1 hx n l))
theorem block67 (t : Fin cfg0.N) : ∀ (g : Fin 2) (n : Fin 8192) (l : Fin 128),
    (![iblk m c 6 t, iblk m c 7 t] g : Vec Ideal S8192x128 .bf16) (ix2 n l) = (x.v n.val (kcol g (low l)) : EReal) :=
  pair_at (F := fun g n l => x.v n (kcol g (low l))) (fun n l => (blk6 m c t n l).trans (values0 hx n l)) (fun n l => (blk7 m c t n l).trans (values1 hx n l))
theorem block0 (t : Fin cfg0.N) (z : Fin 1) (l : Fin 8) : iblk m c 0 t (ix2 z l) = (x.sink l : EReal) := (blk0 m c t z l).trans (sinks hx z l)

end

/-- A meeting of blocks that hold the real numbers. -/
theorem meets_of {x : In} (i : grid0.Coords) {x0 : Vec Ideal S1x8 .f32} {x1 x2 x3 : Vec Ideal S256x512 .bf16} {x4 x5 x6 x7 : Vec Ideal S8192x128 .bf16}
    (h0 : ∀ z l, x0 (ix2 z l) = (x.sink l : EReal))
    (h1 : ∀ n l, x1 (ix2 n l) = ((x.q (256 * (i 0).val + n.val) l * (1 / 8) : ℝ) : EReal))
    (h2 : ∀ n l, x2 (ix2 n l) = (x.dout (256 * (i 0).val + n.val) l : EReal))
    (h3 : ∀ n l, x3 (ix2 n l) = (outAt x (256 * (i 0).val + n.val) l : EReal))
    (h45 : ∀ g n l, (![x4, x5] g : Vec Ideal S8192x128 .bf16) (ix2 n l) = (x.k n.val (kcol g (low l)) : EReal))
    (h67 : ∀ g n l, (![x6, x7] g : Vec Ideal S8192x128 .bf16) (ix2 n l) = (x.v n.val (kcol g (low l)) : EReal)) (b g : Fin 2) :
    Meets (grp i x0 x1 x2 x3 x4 x5 x6 x7 b g) (x.loaded (2 * (i 0).val + b.val) g) where
  mask u r j := masks_eq i b u r j
  q p r l := by
    refine (at_tile (F := fun n l => x.q (256 * (i 0).val + n) l * (1 / 8)) h1 b g p r l).trans ?_
    refine congrArg (fun n => ((x.q n _ * (1 / 8) : ℝ) : EReal)) ?_
    show 256 * (i 0).val + (128 * b.val + r.val) = 128 * (2 * (i 0).val + b.val) + r.val; omega
  d p r l := by
    refine (at_tile (F := fun n l => x.dout (256 * (i 0).val + n) l) h2 b g p r l).trans ?_
    refine congrArg (fun n => (x.dout n _ : EReal)) ?_
    show 256 * (i 0).val + (128 * b.val + r.val) = 128 * (2 * (i 0).val + b.val) + r.val; omega
  o p r l := (at_tile (F := fun n l => outAt x (256 * (i 0).val + n) l) h3 b g p r l).trans
    (congrArg Real.toEReal (outAt_tile x (i 0).val b g p r l))
  kBefore p l := (at_before (F := fun n l => x.k n (kcol g (low l))) (h45 g) i b p l).trans (congrArg Real.toEReal (clamped_fst x.k _ g p l).symm)
  kOwn p l := (at_own (F := fun n l => x.k n (kcol g (low l))) (h45 g) i b p l).trans (congrArg Real.toEReal (clamped_snd x.k _ g p l).symm)
  vBefore p l := (at_before (F := fun n l => x.v n (kcol g (low l))) (h67 g) i b p l).trans (congrArg Real.toEReal (clamped_fst x.v _ g p l).symm)
  vOwn p l := (at_own (F := fun n l => x.v n (kcol g (low l))) (h67 g) i b p l).trans (congrArg Real.toEReal (clamped_snd x.v _ g p l).symm)
  sink u := by
    show x0 _ = _
    rw [eq_ix2 ((wSink g u).toLoadRect.idx (Shape.Idx.first (s := S1x1) (by decide)))]
    refine (h0 _ _).trans (congrArg (fun l => (x.sink l : EReal)) (Fin.ext ?_))
    show 4 * g.val + u.val + 1 * 0 = 4 * g.val + u.val; omega

/-- Meeting `(b, g)` of point `t` is that of query block `2 t + b` with key head `g`. -/
theorem meets {x : In} {m : (ℓ : Loc nD τ sig) → Buf (Elt Ideal) ℓ} {c : Dev nD} (hx : Holding x m c) (t : Fin cfg0.N) (b g : Fin 2) :
    Meets (groups m c t b g) (x.loaded (2 * t.val + b.val) g) := by
  have h := meets_of (x := x) (grid0.coords t) (block0 hx t) (by rw [coord]; exact block1 hx t) (by rw [coord]; exact block2 hx t)
    (by rw [coord]; exact block3 hx t) (block45 hx t) (block67 hx t) b g
  rw [coord] at h
  exact h

end Cert.Attn

end
-- ==== Proof.AttnSums.lean ====
module

public import proofs.«01_k».proof.Proof.AttnBlocks

@[expose] public section

/-! # What the attention's backward call leaves in its results -/

noncomputable section

namespace Cert.Attn

open Idealize.ShloMosaic Idealize.ShloMosaic.TcCoe Idealize.SL.Sem Cert.Kernel2Ideal Cert.Kernel2Ideal.Gen Cert.Lift

/-! ## The sums of two neighbouring bands -/

/-- What row `r` of block `b` has of the query blocks up to `M`: of its own and of the next. -/
def upTo (W : ℕ → Fin 256 → Fin 128 → ℝ) (M b : ℕ) (r l : Fin 128) : ℝ :=
  (if b ≤ M then W b (snd r) l else 0) + if b + 1 ≤ M then W (b + 1) (fst r) l else 0

/-- What a point adds to that row. -/
def pointAdds (W : ℕ → Fin 256 → Fin 128 → ℝ) (i b : ℕ) (r l : Fin 128) : ℝ :=
  (if b = 2 * i - 1 then W (2 * i) (fst r) l else 0) + (if b = 2 * i then W (2 * i) (snd r) l else 0)
    + (if b = 2 * i then W (2 * i + 1) (fst r) l else 0) + (if b = 2 * i + 1 then W (2 * i + 1) (snd r) l else 0)

theorem upTo_zero (W : ℕ → Fin 256 → Fin 128 → ℝ) (hW : ∀ p l, W 0 (fst p) l = 0) (b : ℕ) (r l : Fin 128) : upTo W 1 b r l = pointAdds W 0 b r l := by
  unfold upTo pointAdds
  rcases (by omega : b = 0 ∨ b = 1 ∨ 2 ≤ b) with rfl | rfl | h
  · simp [hW]
  · simp
  · rw [if_neg (by omega), if_neg (by omega), if_neg (by omega), if_neg (by omega), if_neg (by omega), if_neg (by omega)]; simp

theorem upTo_succ (W : ℕ → Fin 256 → Fin 128 → ℝ) (n b : ℕ) (r l : Fin 128) :
    upTo W (2 * (n + 1) + 1) b r l = upTo W (2 * n + 1) b r l + pointAdds W (n + 1) b r l := by
  unfold upTo pointAdds
  rcases (by omega : b < 2 * n + 1 ∨ b = 2 * n + 1 ∨ b = 2 * (n + 1) ∨ b = 2 * (n + 1) + 1 ∨ 2 * (n + 1) + 1 < b) with h | rfl | rfl | rfl | h
  · rw [if_pos (c := b ≤ 2 * (n + 1) + 1) (by omega), if_pos (c := b + 1 ≤ 2 * (n + 1) + 1) (by omega), if_pos (c := b ≤ 2 * n + 1) (by omega),
      if_pos (c := b + 1 ≤ 2 * n + 1) (by omega), if_neg (c := b = 2 * (n + 1) - 1) (by omega), if_neg (c := b = 2 * (n + 1)) (by omega),
      if_neg (c := b = 2 * (n + 1)) (by omega), if_neg (c := b = 2 * (n + 1) + 1) (by omega)]
    ring
  · rw [if_pos (by omega), if_pos (by omega), if_pos (by omega), if_neg (by omega), if_pos (by omega), if_neg (by omega), if_neg (by omega), if_neg (by omega),
      show 2 * n + 1 + 1 = 2 * (n + 1) by omega]
    ring
  · rw [if_pos (by omega), if_pos (by omega), if_neg (by omega), if_neg (by omega), if_neg (by omega), if_pos rfl, if_pos rfl, if_neg (by omega)]
    ring
  · rw [if_pos (by omega), if_neg (by omega), if_neg (by omega), if_neg (by omega), if_neg (by omega), if_neg (by omega), if_neg (by omega), if_pos rfl]
    ring
  · rw [if_neg (by omega), if_neg (by omega), if_neg (by omega), if_neg (by omega), if_neg (by omega), if_neg (by omega), if_neg (by omega), if_neg (by omega)]
    ring

theorem place_real {D : Fin 128 → Fin 128 → EReal} {w : Fin 128 → Fin 128 → ℝ} (hD : ∀ p l, D p l = (w p l : EReal)) (o k : ℕ) (ho : o = 128 * k)
    (n : Fin 8192) (l : Fin 128) : place o D (ix2 n l) = ((if n.val / 128 = k then w ⟨n.val % 128, Nat.mod_lt _ (by decide)⟩ l else 0 : ℝ) : EReal) := by
  subst ho
  show (if h : 128 * k ≤ n.val ∧ n.val < 128 * k + 128 then D ⟨n.val - 128 * k, by omega⟩ l else 0) = _
  by_cases h : n.val / 128 = k
  · rw [if_pos h, dif_pos (show 128 * k ≤ n.val ∧ n.val < 128 * k + 128 by omega)]
    refine (hD _ _).trans (congrArg (fun p => (w p l : EReal)) (Fin.ext ?_))
    show n.val - 128 * k = n.val % 128; omega
  · rw [if_neg h, dif_neg (show ¬(128 * k ≤ n.val ∧ n.val < 128 * k + 128) by omega), EReal.coe_zero]

theorem added_real {i : grid0.Coords} {X Y : FVec Ideal S256x128 .f32} {W : ℕ → Fin 256 → Fin 128 → ℝ} {k : ℕ} (hk : (i 0).val = k)
    (hX : ∀ j l, X (ix2 j l) = (W (2 * k) j l : EReal)) (hY : ∀ j l, Y (ix2 j l) = (W (2 * k + 1) j l : EReal)) (a : ℝ) (n : Fin 8192) (l : Fin 128) :
    added i X Y a (ix2 n l) = ((a + pointAdds W k (n.val / 128) ⟨n.val % 128, Nat.mod_lt _ (by decide)⟩ l : ℝ) : EReal) := by
  unfold added
  rw [hk, place_real (D := beforeRows X) (w := fun p l => W (2 * k) (fst p) l) (fun p l => hX _ l) (256 * k - 128) (2 * k - 1) (by omega),
    place_real (D := ownRows X) (w := fun p l => W (2 * k) (snd p) l) (fun p l => hX _ l) (256 * k) (2 * k) (by omega),
    place_real (D := beforeRows Y) (w := fun p l => W (2 * k + 1) (fst p) l) (fun p l => hY _ l) (256 * k) (2 * k) (by omega),
    place_real (D := ownRows Y) (w := fun p l => W (2 * k + 1) (snd p) l) (fun p l => hY _ l) (256 * k + 128) (2 * k + 1) (by omega),
    ← EReal.coe_add, ← EReal.coe_add, ← EReal.coe_add, ← EReal.coe_add]
  refine congrArg Real.toEReal ?_
  unfold pointAdds
  ring

section

variable {x : In} {m : (ℓ : Loc nD τ sig) → Buf (Elt Ideal) ℓ} {c : Dev nD} (hx : Holding x m c)
include hx

theorem point_dK (t : Fin cfg0.N) (b g : Fin 2) (j : Fin 256) (l : Fin 128) :
    (groups m c t b g).dK (ix2 j l) = ((x.tile (2 * t.val + b.val) g).dK j (low l) : EReal) := by
  rw [(meets hx t b g).dK, (x.agree _ g).dK]
theorem point_dV (t : Fin cfg0.N) (b g : Fin 2) (j : Fin 256) (l : Fin 128) :
    (groups m c t b g).dV (ix2 j l) = ((x.tile (2 * t.val + b.val) g).dV j (low l) : EReal) := by
  rw [(meets hx t b g).dV, (x.agree _ g).dV]

theorem pt_lt {n : ℕ} (h : n < 32) : (pt n).val = n := Nat.mod_eq_of_lt h

theorem dkAfter_eq (g : Fin 2) : ∀ k, k < 32 → ∀ (n : Fin 8192) (l : Fin 128), dkAfter m c g k (ix2 n l)
    = (upTo (fun t j l => (x.tile t g).dK j (low l)) (2 * k + 1) (n.val / 128) ⟨n.val % 128, Nat.mod_lt _ (by decide)⟩ l : EReal)
  | 0, h, n, l => by
    rw [upTo_zero _ fun p l => Tile.dK_unseen _ (x.unseen g p) _, ← zero_add (pointAdds _ _ _ _ _)]
    exact added_real (W := fun t j l => (x.tile t g).dK j (low l)) (coord (pt 0)) (fun j l => point_dK hx (pt 0) 0 g j l) (fun j l => point_dK hx (pt 0) 1 g j l) 0 n l
  | k + 1, h, n, l => by
    rw [upTo_succ]
    have hp : (pt (k + 1)).val = k + 1 := pt_lt hx h
    refine (congrArg (fun a => added _ _ _ a (ix2 n l)) (dkAfter_eq g k (by omega) n l)).trans ?_
    refine added_real (W := fun t j l => (x.tile t g).dK j (low l)) ((coord (pt (k + 1))).trans hp) (fun j l => ?_) (fun j l => ?_) _ n l
    · rw [point_dK hx, hp]; rfl
    · rw [point_dK hx, hp]; rfl

theorem dvAfter_eq (g : Fin 2) : ∀ k, k < 32 → ∀ (n : Fin 8192) (l : Fin 128), dvAfter m c g k (ix2 n l)
    = (upTo (fun t j l => (x.tile t g).dV j (low l)) (2 * k + 1) (n.val / 128) ⟨n.val % 128, Nat.mod_lt _ (by decide)⟩ l : EReal)
  | 0, h, n, l => by
    rw [upTo_zero _ fun p l => Tile.dV_unseen _ (x.unseen g p) _, ← zero_add (pointAdds _ _ _ _ _)]
    exact added_real (W := fun t j l => (x.tile t g).dV j (low l)) (coord (pt 0)) (fun j l => point_dV hx (pt 0) 0 g j l) (fun j l => point_dV hx (pt 0) 1 g j l) 0 n l
  | k + 1, h, n, l => by
    rw [upTo_succ]
    have hp : (pt (k + 1)).val = k + 1 := pt_lt hx h
    refine (congrArg (fun a => added _ _ _ a (ix2 n l)) (dvAfter_eq g k (by omega) n l)).trans ?_
    refine added_real (W := fun t j l => (x.tile t g).dV j (low l)) ((coord (pt (k + 1))).trans hp) (fun j l => ?_) (fun j l => ?_) _ n l
    · rw [point_dV hx, hp]; rfl
    · rw [point_dV hx, hp]; rfl

end

/-! ## The sinks -/

/-- What query block `t` adds to the sink of lane `l`. -/
def sinkOf (x : In) (t : ℕ) (l : Fin 128) : ℝ :=
  if h : l.val < 8 then (x.tile t ⟨l.val / 4, by omega⟩).dSink ⟨l.val % 4, by omega⟩ else 0

theorem sinkOf_pair (x : In) (t : ℕ) (l : Fin 128) : (if h : l.val < 4 then (x.tile t 0).dSink ⟨l.val, h⟩ else 0)
    + (if h : 4 ≤ l.val ∧ l.val < 4 + 4 then (x.tile t 1).dSink ⟨l.val - 4, by omega⟩ else 0) = sinkOf x t l := by
  unfold sinkOf
  rcases (by omega : l.val < 4 ∨ (4 ≤ l.val ∧ l.val < 8) ∨ 8 ≤ l.val) with h | h | h
  · rw [dif_pos h, dif_neg (by omega), dif_pos (show l.val < 8 by omega), add_zero]
    congr 1
    · exact congrArg (x.tile t) (Fin.ext (by show 0 = l.val / 4; omega))
    · exact Fin.ext (by show l.val = l.val % 4; omega)
  · rw [dif_neg (by omega), dif_pos (show 4 ≤ l.val ∧ l.val < 4 + 4 by omega), dif_pos h.2, zero_add]
    congr 1
    · exact congrArg (x.tile t) (Fin.ext (by show 1 = l.val / 4; omega))
    · exact Fin.ext (by show l.val - 4 = l.val % 4; omega)
  · rw [dif_neg (by omega), dif_neg (by omega), dif_neg (by omega), add_zero]

theorem dsink_eq (x : In) (l : Fin 128) : x.dsink l = ∑ t ∈ Finset.range 64, sinkOf x t l := by
  rw [Finset.sum_range]
  unfold In.dsink sinkOf
  split
  · rfl
  · simp

section

variable {x : In} {m : (ℓ : Loc nD τ sig) → Buf (Elt Ideal) ℓ} {c : Dev nD} (hx : Holding x m c)
include hx

theorem point_sink (t : Fin cfg0.N) (z : Fin 1) (l : Fin 128) :
    sinkTotal (groups m c t) (ix2 z l) = ((sinkOf x (2 * t.val) l + sinkOf x (2 * t.val + 1) l : ℝ) : EReal) := by
  have h0 : k0_pay8 (F := Ideal) (ix2 z l) = ((0 : ℝ) : EReal) := (show k0_pay8 (F := Ideal) (ix2 z l) = 0 from Ideal.ofBits_zero_f32).trans EReal.coe_zero.symm
  unfold sinkTotal
  rw [(meets hx t 1 1).sinkSecond, (meets hx t 1 0).sinkFirst, (meets hx t 0 1).sinkSecond, (meets hx t 0 0).sinkFirst, h0]
  simp only [(x.agree _ _).dSink, ← EReal.coe_add]
  refine congrArg Real.toEReal ?_
  rw [← sinkOf_pair x (2 * t.val), ← sinkOf_pair x (2 * t.val + 1)]
  exact (congrArg (· + _ + _ + _) (zero_add _)).trans (add_assoc (_ + _) _ _)

theorem sinkAfter_eq : ∀ k, k < 32 → ∀ (z : Fin 1) (l : Fin 128), sinkAfter m c k (ix2 z l) = ((∑ t ∈ Finset.range (2 * (k + 1)), sinkOf x t l : ℝ) : EReal)
  | 0, h, z, l => by
    refine (congrArg (0 + ·) (point_sink hx (pt 0) z l)).trans ?_
    rw [zero_add]
    refine congrArg Real.toEReal ?_
    show sinkOf x (2 * 0) l + sinkOf x (2 * 0 + 1) l = _
    rw [Finset.sum_range_succ, Finset.sum_range_one]
  | k + 1, h, z, l => by
    have hp : (pt (k + 1)).val = k + 1 := pt_lt hx h
    refine (congrArg₂ (· + ·) (sinkAfter_eq k (by omega) z l) (point_sink hx (pt (k + 1)) z l)).trans ?_
    rw [hp, ← EReal.coe_add]
    refine congrArg Real.toEReal ?_
    rw [show 2 * (k + 1 + 1) = 2 * (k + 1) + 1 + 1 by omega, Finset.sum_range_succ, Finset.sum_range_succ, add_assoc]

end

/-! ## The results -/

theorem idxOut : ∀ t : Fin cfg0.N, (win0_8.index t 0 = t.val ∧ win0_8.index t 1 = 0) :=
  (by decide +kernel : ∀ t : Fin grid0.N, _)

/-- The queries' gradient by token and column. -/
def dqAt (x : In) (n : ℕ) (l : Fin 512) : ℝ := x.dq n ⟨l.val / 256, by omega⟩ ⟨l.val / 64 % 4, by omega⟩ ⟨l.val % 64, by omega⟩

theorem dQ_real {G : Fin 2 → Fin 2 → Grp} {x : In} {k : ℕ} (hG : ∀ b g, Meets (G b g) (x.loaded (2 * k + b.val) g)) (y : S256x512.Idx) :
    dQ G y = (dqAt x (256 * k + (y 0).val) (y 1) : EReal) := by
  have h0 : (y 0).val < 256 := (y 0).isLt
  have h1 : (y 1).val < 512 := (y 1).isLt
  have key : ∀ (b g p : Fin 2) (r l : Fin 128), (![(G b g).dQ0, (G b g).dQ1] p : FVec Ideal S128x128 .bf16) (ix2 r l)
      = ((x.tile (2 * k + b.val) g).dQ (headOf p l) r (low l) : EReal) := by
    intro b g p r l
    match p with
    | 0 => exact ((hG b g).dQ0 r l).trans (by rw [(x.agree _ g).dQ])
    | 1 => exact ((hG b g).dQ1 r l).trans (by rw [(x.agree _ g).dQ])
  refine (key ⟨(y 0).val / 128, by omega⟩ ⟨(y 1).val / 256, by omega⟩ ⟨(y 1).val / 128 % 2, by omega⟩ ⟨(y 0).val % 128, by omega⟩ ⟨(y 1).val % 128, by omega⟩).trans ?_
  refine congrArg Real.toEReal ?_
  unfold dqAt In.dq
  rw [show (256 * k + (y 0).val) / 128 = 2 * k + (y 0).val / 128 by omega]
  congr 1 <;> refine Fin.ext ?_
  · show 2 * ((y 1).val / 128 % 2) + (y 1).val % 128 / 64 = (y 1).val / 64 % 4; omega
  · show (y 0).val % 128 = (256 * k + (y 0).val) % 128; omega
  · show (y 1).val % 128 % 64 = (y 1).val % 64; omega

section

variable {x : In} {m : (ℓ : Loc nD τ sig) → Buf (Elt Ideal) ℓ} {c : Dev nD} (hx : Holding x m c)
include hx

theorem final8 : (dats m 0 c).arrAt 8 cfg0.N = fun i => (dqAt x (i 0).val (i 1) : EReal) := by
  refine (dats m 0 c).arrAt_eq_of_covers 8 _ (by decide +kernel) fun t hf y => ?_
  rw [after_8]
  refine (dQ_real (k := t.val) (fun b g => meets hx t b g) y).trans ?_
  refine congrArg Real.toEReal (congrArg₂ (dqAt x) ?_ (Fin.ext ?_))
  · refine Eq.symm ?_
    blk_simp [idxOut t]
    exact congrArg (· + _) (Nat.mul_comm _ _)
  · refine Eq.symm ?_
    blk_simp [idxOut t]

theorem upTo_last (W : ℕ → Fin 256 → Fin 128 → ℝ) (n : Fin 8192) (l : Fin 128) : upTo W 63 (n.val / 128) ⟨n.val % 128, Nat.mod_lt _ (by decide)⟩ l
    = W (n.val / 128) (snd ⟨n.val % 128, Nat.mod_lt _ (by decide)⟩) l
      + if n.val / 128 + 1 < 64 then W (n.val / 128 + 1) (fst ⟨n.val % 128, Nat.mod_lt _ (by decide)⟩) l else 0 := by
  unfold upTo
  rw [if_pos (c := n.val / 128 ≤ 63) (by omega)]
  refine congrArg (_ + ·) ?_
  by_cases h : n.val / 128 + 1 ≤ 63
  · rw [if_pos h, if_pos (by omega)]
  · rw [if_neg h, if_neg (by omega)]

theorem dk_last (g : Fin 2) (j : S8192x128.Idx) : dkAfter m c g 31 j = (x.dk (j 0).val g (low (j 1)) : EReal) :=
  (congrArg _ (eq_ix2 j)).trans ((dkAfter_eq hx g 31 (by decide) _ _).trans (congrArg Real.toEReal (upTo_last hx _ _ _)))
theorem dv_last (g : Fin 2) (j : S8192x128.Idx) : dvAfter m c g 31 j = (x.dv (j 0).val g (low (j 1)) : EReal) :=
  (congrArg _ (eq_ix2 j)).trans ((dvAfter_eq hx g 31 (by decide) _ _).trans (congrArg Real.toEReal (upTo_last hx _ _ _)))

theorem final9 : (dats m 0 c).arrAt 9 cfg0.N = fun i => (x.dk (i 0).val 0 (low (i 1)) : EReal) := by
  refine (dats m 0 c).arrAt_eq_of_after_last 9 ⟨31, by decide⟩ (by decide +kernel) _ fun j => ?_
  rw [after_9]
  exact dk_last hx 0 j
theorem final10 : (dats m 0 c).arrAt 10 cfg0.N = fun i => (x.dk (i 0).val 1 (low (i 1)) : EReal) := by
  refine (dats m 0 c).arrAt_eq_of_after_last 10 ⟨31, by decide⟩ (by decide +kernel) _ fun j => ?_
  rw [after_10]
  exact dk_last hx 1 j
theorem final11 : (dats m 0 c).arrAt 11 cfg0.N = fun i => (x.dv (i 0).val 0 (low (i 1)) : EReal) := by
  refine (dats m 0 c).arrAt_eq_of_after_last 11 ⟨31, by decide⟩ (by decide +kernel) _ fun j => ?_
  rw [after_11]
  exact dv_last hx 0 j
theorem final12 : (dats m 0 c).arrAt 12 cfg0.N = fun i => (x.dv (i 0).val 1 (low (i 1)) : EReal) := by
  refine (dats m 0 c).arrAt_eq_of_after_last 12 ⟨31, by decide⟩ (by decide +kernel) _ fun j => ?_
  rw [after_12]
  exact dv_last hx 1 j
theorem final13 : (dats m 0 c).arrAt 13 cfg0.N = fun i => (x.dsink (i 1) : EReal) := by
  refine (dats m 0 c).arrAt_eq_of_after_last 13 ⟨31, by decide⟩ (by decide +kernel) _ fun j => ?_
  rw [after_13]
  exact (congrArg (sinkAfter m c 31) (eq_ix2 j)).trans ((sinkAfter_eq hx 31 (by decide) _ _).trans (congrArg Real.toEReal (dsink_eq x (j 1)).symm))

end

end Cert.Attn

end
-- ==== Proof.AttnRef.lean ====
module

public import proofs.«01_k».proof.Proof.AttnHostRead
public import proofs.«01_k».proof.Proof.MixRef
public import proofs.«01_k».proof.Proof.Gen.Reference2Ideal.Run

@[expose] public section

/-! # The reference's gradients of the attention, over the reals -/

set_option maxRecDepth 8192

noncomputable section

namespace Cert.Attn.Ref

open Idealize.ShloMosaic Idealize.ShloMosaic.TcCoe Idealize.ShloMosaic.StableHlo Idealize.SL.Sem Cert.Reference2Ideal Cert.Reference2Ideal.Gen
open Cert.Reference2Ideal.Value Cert.Lift

/-- The reference's arguments hold the real numbers of `x`. -/
abbrev At (x : In) (V : Valuation τ sig (Elt Ideal)) : Prop :=
  Host.Args x (V (Proc.devRef .tc main_arg0)) (V (Proc.devRef .tc main_arg1)) (V (Proc.devRef .tc main_arg2)) (V (Proc.devRef .tc main_arg3))
    (V (Proc.devRef .tc main_arg4))

variable {x : In} {V : Valuation τ sig (Elt Ideal)} (hx : At x V)

/-! ## The forward lines are those of the kernel's host -/

theorem eq_bands (V : Valuation τ sig (Elt Ideal)) : res_main_v8 V = Host.bands (V (Proc.devRef .tc main_arg2)) := rfl
theorem eq_bands' (V : Valuation τ sig (Elt Ideal)) : res_main_v15 V = Host.bands (V (Proc.devRef .tc main_arg3)) := rfl
theorem eq_powers (V : Valuation τ sig (Elt Ideal)) : res_main_v75 V
    = Host.powers (Host.entries (V (Proc.devRef .tc main_arg1)) (V (Proc.devRef .tc main_arg2)) (V (Proc.devRef .tc main_arg4))) := rfl
theorem eq_shares (V : Valuation τ sig (Elt Ideal)) : res_main_v83 V
    = Host.shares (Host.powers (Host.entries (V (Proc.devRef .tc main_arg1)) (V (Proc.devRef .tc main_arg2)) (V (Proc.devRef .tc main_arg4)))) := rfl

section

include hx

theorem v1_at (t : Fin 64) (r : Fin 128) (g : Fin 2) (u : Fin 4) (e : Fin 64) :
    res_main_v1 V (ix5 t r g u e) = (x.q (128 * t.val + r.val) (qcol g u e) : EReal) := by
  unfold res_main_v1
  pointwise
  refine (hx.q _ _).trans (congrArg Real.toEReal (congrArg₂ x.q ?_ (Fin.ext ?_)))
  · show t.val * 128 + r.val = _; omega
  · show g.val * 256 + u.val * 64 + e.val = 256 * g.val + 64 * u.val + e.val; omega

theorem v8_at (t : Fin 64) (j : Fin 256) (g : Fin 2) (e : Fin 64) : res_main_v8 V (ix4 t j g e) = ((x.tile t.val g).k j e : EReal) := by
  rw [eq_bands]; exact Host.bands_at hx.k t j g e
theorem v15_at (t : Fin 64) (j : Fin 256) (g : Fin 2) (e : Fin 64) : res_main_v15 V (ix4 t j g e) = ((x.tile t.val g).v j e : EReal) := by
  rw [eq_bands']; exact Host.bands_at hx.v t j g e
theorem v75_at (t : Fin 64) (g : Fin 2) (u : Fin 4) (r : Fin 128) (j : Fin 257) : res_main_v75 V (ix5 t g u r j)
    = (((x.tile t.val g).power u r j * (x.tile t.val g).lift u r : ℝ) : EReal) := by
  rw [eq_powers]; exact Host.powers_entries hx t g u r j
theorem v83_at (t : Fin 64) (g : Fin 2) (u : Fin 4) (r : Fin 128) (j : Fin 256) : res_main_v83 V (ix5 t g u r j) = ((x.tile t.val g).weight u r j : EReal) := by
  rw [eq_shares]; exact Host.shares_at hx t g u r j
theorem v77_at (t : Fin 64) (g : Fin 2) (u : Fin 4) (r : Fin 128) (z : Fin 1) : res_main_v77 V (ix5 t g u r z)
    = (((x.tile t.val g).total u r * (x.tile t.val g).lift u r : ℝ) : EReal) := by
  refine Eq.trans ?_ (Host.total_powers hx t g u r)
  rw [← eq_powers]
  unfold res_main_v77
  generalize res_main_v75 V = E
  pointwise

theorem v88_at (t : Fin 64) (g : Fin 2) (e : Fin 64) (u : Fin 4) (r : Fin 128) : res_main_v88 V (ix5 t g e u r) = ((x.tile t.val g).d u r e : EReal) := by
  unfold res_main_v88
  pointwise
  refine (hx.d _ _).trans (congrArg Real.toEReal (congrArg₂ x.dout ?_ (Fin.ext ?_)))
  · show t.val * 128 + r.val = _; omega
  · show g.val * 256 + u.val * 64 + e.val = 256 * g.val + 64 * u.val + e.val; omega

theorem v91_at (t : Fin 64) (j : Fin 256) (g : Fin 2) (e : Fin 64) : res_main_v91 V (ix4 t j g e) = ((x.tile t.val g).dV j e : EReal) := by
  unfold res_main_v91
  pointwise
  simp only [v88_at hx, v83_at hx, ← EReal.coe_mul, ← coe_sum]
  refine congrArg Real.toEReal (Finset.sum_congr rfl fun u _ => Finset.sum_congr rfl fun r _ => mul_comm _ _)

/-- The gradient of a row's shares: none goes to the sink's. -/
def pull (T : Tile) (u : Fin 4) (r : Fin 128) (j : Fin 257) : ℝ := if h : j.val < 256 then ∑ e, T.d u r e * T.v ⟨j.val, h⟩ e else 0

theorem v92_at (t : Fin 64) (g : Fin 2) (u : Fin 4) (r : Fin 128) (j : Fin 257) : res_main_v92 V (ix5 t g u r j) = (pull (x.tile t.val g) u r j : EReal) := by
  unfold res_main_v92
  pointwise
  unfold pull
  split
  · simp only [v88_at hx, v15_at hx, ← EReal.coe_mul, ← coe_sum]
  · exact EReal.coe_zero.symm

omit hx in
theorem ofBits_one : Ideal.ofBits .f32 0x3F800000#32 = ((1 : ℝ) : EReal) := by
  simp [Ideal.ofBits, Ideal.ieee, -EReal.coe_mul]; norm_num

omit hx in
/-- What the division takes back of every entry of a row. -/
theorem taken_back (t : ℕ) (g : Fin 2) (u : Fin 4) (r : Fin 128) :
    ∑ j, pull (x.tile t g) u r j * (1 / ((x.tile t g).total u r * (x.tile t g).lift u r * ((x.tile t g).total u r * (x.tile t g).lift u r)))
      * ((x.tile t g).power u r j * (x.tile t g).lift u r) = (x.tile t g).delta u r / ((x.tile t g).total u r * (x.tile t g).lift u r) := by
  have hl := (Tile.lift_pos (x.tile t g) u r).ne'
  have ht := (Tile.total_pos (x.tile t g) u r).ne'
  rw [x.delta_eq, Fin.sum_univ_castSucc, Finset.sum_div]
  have hz : pull (x.tile t g) u r (Fin.last 256) = 0 := dif_neg (lt_irrefl 256)
  rw [hz, zero_mul, zero_mul, add_zero]
  refine Finset.sum_congr rfl fun j _ => ?_
  have hj : (Fin.castSucc j : Fin 257).val < 256 := j.isLt
  unfold pull Tile.power Tile.weight
  rw [dif_pos hj, dif_pos hj]
  field_simp
  rfl

theorem v104_at (t : Fin 64) (g : Fin 2) (u : Fin 4) (r : Fin 128) (j : Fin 257) : res_main_v104 V (ix5 t g u r j)
    = (((pull (x.tile t.val g) u r j - (x.tile t.val g).delta u r) * ((x.tile t.val g).power u r j / (x.tile t.val g).total u r) : ℝ) : EReal) := by
  have hz := (Tile.scaled_pos (x.tile t.val g) u r).ne'
  unfold res_main_v104
  pointwise
  have hd : ∀ y : ℝ, y ≠ 0 → Ideal.div 1 (y : EReal) = ((1 / y : ℝ) : EReal) := fun y hy => div_real 1 hy
  simp only [v92_at hx, v77_at hx, v75_at hx, ← EReal.coe_mul, div_real _ hz, hd _ (mul_ne_zero hz hz), ← coe_sum, ← EReal.coe_neg, ← EReal.coe_add]
  refine congrArg Real.toEReal ?_
  rw [taken_back, Fin.sum_univ_one]
  have hl := (Tile.lift_pos (x.tile t.val g) u r).ne'
  have ht := (Tile.total_pos (x.tile t.val g) u r).ne'
  field_simp
  ring

omit hx in
theorem v51_at (t : Fin 64) (g : Fin 2) (u : Fin 4) (r : Fin 128) (j : Fin 256) :
    res_main_v51_1 V (ix5 t g u r j) = BitVec.ofBool (seen t.val r j) := by
  refine Eq.trans ?_ (Host.visible_at t 0 0 r j)
  rfl

theorem v113_at (t : Fin 64) (g : Fin 2) (j : Fin 256) (r : Fin 128) (u : Fin 4) : res_main_v113 V (ix5 t g j r u)
    = (((x.tile t.val g).dScore u r j * (1 / 8) : ℝ) : EReal) := by
  unfold res_main_v113
  pointwise
  rw [v51_at, v104_at hx, Host.select_bool, Host.ofBits_eighth, ← EReal.coe_mul]
  by_cases hm : (x.tile t.val g).mask r j = true
  · refine (if_pos hm).trans (congrArg Real.toEReal ?_)
    unfold pull Tile.power Tile.dScore Tile.weight
    rw [dif_pos j.isLt, dif_pos j.isLt]
    exact congrArg (· * (1 / 8 : ℝ)) (mul_comm _ _)
  · refine (if_neg hm).trans ?_
    rw [Tile.dScore_zero _ hm, zero_mul]
    exact EReal.coe_zero.symm

theorem v117_at (t : Fin 64) (j : Fin 256) (g : Fin 2) (e : Fin 64) : res_main_v117 V (ix4 t j g e) = ((x.tile t.val g).dK j e : EReal) := by
  unfold res_main_v117
  pointwise
  simp only [v113_at hx, v1_at hx, ← EReal.coe_mul, ← coe_sum]
  refine congrArg Real.toEReal ?_
  unfold Tile.dK
  rw [Finset.sum_comm]
  refine Finset.sum_congr rfl fun u _ => Finset.sum_congr rfl fun r _ => ?_
  show _ = _ * (x.q (128 * t.val + r.val) (qcol g u e) * (1 / 8))
  ring

end

end Cert.Attn.Ref

end
-- ==== Proof.AttnRefOut.lean ====
module

public import proofs.«01_k».proof.Proof.AttnRef
public import proofs.«01_k».proof.Proof.AttnSums

@[expose] public section

/-! # The reference's results, over the reals -/

set_option maxRecDepth 8192

noncomputable section

namespace Cert.Attn.Ref

open Idealize.ShloMosaic Idealize.ShloMosaic.TcCoe Idealize.ShloMosaic.StableHlo Idealize.SL.Sem Cert.Reference2Ideal Cert.Reference2Ideal.Gen
open Cert.Reference2Ideal.Value Cert.Lift

variable {x : In} {V : Valuation τ sig (Elt Ideal)} (hx : At x V)

/-! ## The bands' gradients, added where they overlap -/

/-- What two neighbouring bands give to the tokens that they share. -/
def both (f : ℕ → Fin 2 → Fin 256 → Fin 64 → ℝ) (n : ℕ) (g : Fin 2) (e : Fin 64) : ℝ :=
  f (n / 128) g (snd ⟨n % 128, Nat.mod_lt _ (by decide)⟩) e
    + if n / 128 + 1 < 64 then f (n / 128 + 1) g (fst ⟨n % 128, Nat.mod_lt _ (by decide)⟩) e else 0

def overlap (y : FVec Ideal S64x256x2x64 .f32) : FVec Ideal S65x128x2x64 .f32 :=
  addf (pad S65x128x2x64 ![1, 0, 0, 0] ![0, 0, 0, 0] ![0, 0, 0, 0] (extractStridedSlice S64x128x2x64 ![0, 128, 0, 0] y slices_S64x256x2x64_S64x128x2x64_0_128_0_0) (constant S_ .f32 0x00000000#32) pads_S64x128x2x64_S65x128x2x64_100_000_000_000 h_S_)
    (pad S65x128x2x64 ![0, 0, 0, 0] ![1, 0, 0, 0] ![0, 0, 0, 0] (extractStridedSlice S64x128x2x64 ![0, 0, 0, 0] y slices_S64x256x2x64_S64x128x2x64_0_0_0_0) (constant S_ .f32 0x00000000#32) pads_S64x128x2x64_S65x128x2x64_010_000_000_000 h_S_)
def tokens (y : FVec Ideal S65x128x2x64 .f32) : FVec Ideal S8192x128 .f32 :=
  shapeCast _ (extractStridedSlice S64x128x2x64 ![1, 0, 0, 0] y slices_S65x128x2x64_S64x128x2x64_1_0_0_0) shapeCasts_S64x128x2x64_S8192x128
def pair (cut : Fin 2 → ℕ) (hc : S8192x128.Slices cut S8192x64) (y : FVec Ideal S8192x128 .f32) : FVec Ideal S8192x128 .f32 :=
  shapeCast _ (broadcastInDim S1x8192x2x64 ![0, 1, 2, 3] bcast_S1x8192x1x64_S1x8192x2x64_0_1_2_3 (shapeCast _ (extractStridedSlice S8192x64 cut y hc) shapeCasts_S8192x64_S1x8192x1x64)) shapeCasts_S1x8192x2x64_S8192x128

section

variable {y : FVec Ideal S64x256x2x64 .f32} {f : ℕ → Fin 2 → Fin 256 → Fin 64 → ℝ} (hy : ∀ t j g e, y (ix4 t j g e) = (f t.val g j e : EReal))
include hy

theorem overlap_reads (q r g e : ℕ) (hq : q < 64) (hr : r < 128) (hg : g < 2) (he : e < 64) :
    ((if h : q < 64 ∧ r < 128 ∧ g < 2 ∧ e < 64 then y (ix4 ⟨q, h.1⟩ ⟨128 + r, by omega⟩ ⟨g, h.2.2.1⟩ ⟨e, h.2.2.2⟩) else 0)
      + if h : 1 + q < 64 ∧ r < 128 ∧ g < 2 ∧ e < 64 then y (ix4 ⟨1 + q, h.1⟩ ⟨r, by omega⟩ ⟨g, h.2.2.1⟩ ⟨e, h.2.2.2⟩) else 0)
      = ((f q ⟨g, hg⟩ (snd ⟨r, hr⟩) ⟨e, he⟩ + if q + 1 < 64 then f (q + 1) ⟨g, hg⟩ (fst ⟨r, hr⟩) ⟨e, he⟩ else 0 : ℝ) : EReal) := by
  have h1 : q < 64 ∧ r < 128 ∧ g < 2 ∧ e < 64 := ⟨hq, hr, hg, he⟩
  rw [dif_pos h1, EReal.coe_add]
  refine congrArg₂ (fun a b : EReal => a + b) (hy ⟨q, hq⟩ (snd ⟨r, hr⟩) ⟨g, hg⟩ ⟨e, he⟩) ?_
  by_cases h : q + 1 < 64
  · have h2 : 1 + q < 64 ∧ r < 128 ∧ g < 2 ∧ e < 64 := ⟨by omega, hr, hg, he⟩
    rw [dif_pos h2, if_pos h]
    refine (hy ⟨1 + q, h2.1⟩ (fst ⟨r, hr⟩) ⟨g, hg⟩ ⟨e, he⟩).trans ?_
    exact congrArg (fun t => (f t ⟨g, hg⟩ (fst ⟨r, hr⟩) ⟨e, he⟩ : EReal)) (Nat.add_comm 1 q)
  · have h2 : ¬(1 + q < 64 ∧ r < 128 ∧ g < 2 ∧ e < 64) := fun h' => h (by omega)
    rw [dif_neg h2, if_neg h]
    exact EReal.coe_zero.symm

theorem tokens_at (n : Fin 8192) (l : Fin 128) : tokens (overlap y) (ix2 n l) = (both f n.val ⟨l.val / 64, by omega⟩ (low l) : EReal) := by
  unfold tokens overlap
  pointwise
  exact overlap_reads hy (n.val / 128) (n.val % 128) (l.val / 64) (l.val % 64) (by omega) (by omega) (by omega) (by omega)

end

theorem pair_first {y : FVec Ideal S8192x128 .f32} {f : ℕ → Fin 2 → Fin 64 → ℝ}
    (hy : ∀ n l, y (ix2 n l) = (f n.val ⟨l.val / 64, by omega⟩ (low l) : EReal)) (n : Fin 8192) (l : Fin 128) :
    pair ![0, 0] slices_S8192x128_S8192x64_0_0 y (ix2 n l) = (f n.val 0 (low l) : EReal) := by
  unfold pair
  pointwise
  rw [hy]
  refine congrArg₂ (fun g e => (f n.val g e : EReal)) (Fin.ext ?_) (Fin.ext ?_)
  · show l.val % 64 / 64 = 0; omega
  · show l.val % 64 % 64 = l.val % 64; omega

theorem pair_second {y : FVec Ideal S8192x128 .f32} {f : ℕ → Fin 2 → Fin 64 → ℝ}
    (hy : ∀ n l, y (ix2 n l) = (f n.val ⟨l.val / 64, by omega⟩ (low l) : EReal)) (n : Fin 8192) (l : Fin 128) :
    pair ![0, 64] slices_S8192x128_S8192x64_0_64 y (ix2 n l) = (f n.val 1 (low l) : EReal) := by
  unfold pair
  pointwise
  rw [hy]
  refine congrArg₂ (fun g e => (f n.val g e : EReal)) (Fin.ext ?_) (Fin.ext ?_)
  · show (64 + l.val % 64) / 64 = 1; omega
  · show (64 + l.val % 64) % 64 = l.val % 64; omega

/-! ## The results -/

theorem ofBits_eight : Ideal.ofBits .f32 0x41000000#32 = ((8 : ℝ) : EReal) := by
  simp [Ideal.ofBits, Ideal.ieee, -EReal.coe_mul]; norm_num

/-- The sum over blocks and rows. -/
theorem block_at (i : S64x2x4x128x1.Idx) (g : Fin 2) (u : Fin 4) (e : reducesTo_S64x2x4x128x1_S2x4_d0_3_4.drop i = ix2 g u) :
    ix5 (i 0 : Fin 64) g u (i 3 : Fin 128) (0 : Fin 1) = i := by
  funext a; apply Fin.ext
  match a with
  | ⟨0, _⟩ => rfl
  | ⟨1, _⟩ => exact (congrArg Fin.val (congrFun e ⟨0, by decide⟩)).symm
  | ⟨2, _⟩ => exact (congrArg Fin.val (congrFun e ⟨1, by decide⟩)).symm
  | ⟨3, _⟩ => rfl
  | ⟨4, _⟩ => exact (Nat.lt_one_iff.mp (i 4).isLt).symm

theorem sum_blocks (v : FVec Ideal S64x2x4x128x1 .f32) (g : Fin 2) (u : Fin 4) :
    Ideal.hostReduceAdd reducesTo_S64x2x4x128x1_S2x4_d0_3_4 v 0 (ix2 g u) = ∑ t : Fin 64, ∑ r : Fin 128, v (ix5 t g u r 0) := by
  rw [← Fintype.sum_prod_type' (f := fun t r => v (ix5 t g u r 0))]
  refine (zero_add _).trans ?_
  refine Finset.sum_bij' (fun i _ => ((i 0 : Fin 64), (i 3 : Fin 128))) (fun p _ => ix5 p.1 g u p.2 0) (fun _ _ => Finset.mem_univ _) (fun p _ => ?_)
    (fun i hi => block_at i g u (Finset.mem_filter.mp hi).2) (fun _ _ => rfl) (fun i hi => congrArg v (block_at i g u (Finset.mem_filter.mp hi).2).symm)
  refine Finset.mem_filter.mpr ⟨Finset.mem_univ _, ?_⟩
  funext a; apply Fin.ext
  match a with
  | ⟨0, _⟩ => rfl
  | ⟨1, _⟩ => rfl

section

include hx

theorem queries_at (n : Fin 8192) (l : Fin 512) :
    (truncf .bf16 (mulf (shapeCast _ (transpose S64x128x2x4x64 [0, 2, 1, 3, 4] (Host.dotGeneral (φ₁ := .f32) (φ₂ := .f32) dot_S64x2x256x128x4_S64x256x2x64_S64x2x128x4x64_2_1_34_3_01_02 none (res_main_v113 V) (res_main_v8 V)) transposes_S64x2x128x4x64_S64x128x2x4x64_0_2_1_3_4) shapeCasts_S64x128x2x4x64_S8192x512) (broadcastInDim S8192x512 ![] bcast_S_S8192x512 (constant S_ .f32 0x41000000#32))) bitsLt_bf16_f32
      : FVec Ideal S8192x512 .bf16) (ix2 n l)
      = (x.dq n.val ⟨l.val / 256, by omega⟩ ⟨l.val / 64 % 4, by omega⟩ ⟨l.val % 64, by omega⟩ : EReal) := by
  pointwise
  simp only [v113_at hx, v8_at hx, ofBits_eight, ← EReal.coe_mul, ← coe_sum]
  refine congrArg Real.toEReal ?_
  unfold In.dq Tile.dQ
  rw [Finset.sum_mul]
  exact Finset.sum_congr rfl fun j _ => by ring

theorem sinks_at (z : Fin 1) (l : Fin 128) :
    (concatenate S1x128 1 [⟨S1x8, (broadcastInDim S1x8 ![1] bcast_S8_S1x8_1 (shapeCast _ (broadcastInDim S1x2x4x1x1 ![1, 2] bcast_S2x4_S1x2x4x1x1_1_2 (Host.reduceAdd (extractStridedSlice S64x2x4x128x1 ![0, 0, 0, 0, 256] (res_main_v104 V) slices_S64x2x4x128x257_S64x2x4x128x1_0_0_0_0_256) (constant S_ .f32 0x00000000#32) reducesTo_S64x2x4x128x1_S2x4_d0_3_4 h_S_)) shapeCasts_S1x2x4x1x1_S8))⟩, ⟨S1x120, (broadcastInDim S1x120 ![] bcast_S_S1x120 (constant S_ .f32 0x00000000#32))⟩] concatenates_S1x8_S1x120_S1x128_d1
      : FVec Ideal S1x128 .f32) (ix2 z l) = (x.dsink l : EReal) := by
  pointwise
  unfold In.dsink
  split_ifs with h
  · rw [sum_blocks]
    pointwise
    simp only [v104_at hx, ← coe_sum]
    refine congrArg Real.toEReal (Finset.sum_congr rfl fun t _ => ?_)
    unfold Tile.dSink
    refine Finset.sum_congr rfl fun r _ => ?_
    have hp : ∀ T : Tile, pull T ⟨l.val % 4, by omega⟩ r (Fin.last 256) = 0 := fun T => dif_neg (lt_irrefl 256)
    have hs : ∀ T : Tile, T.power ⟨l.val % 4, by omega⟩ r (Fin.last 256) = Real.exp (T.sink ⟨l.val % 4, by omega⟩) := fun T => dif_neg (lt_irrefl 256)
    refine (congrArg₂ (fun a b => (a - (x.tile t.val ⟨l.val / 4, by omega⟩).delta ⟨l.val % 4, by omega⟩ r)
      * (b / (x.tile t.val ⟨l.val / 4, by omega⟩).total ⟨l.val % 4, by omega⟩ r)) (hp _) (hs _)).trans ?_
    unfold Tile.share
    ring
  · exact EReal.coe_zero.symm

theorem gradQueries : (truncf .bf16 (mulf (shapeCast _ (transpose S64x128x2x4x64 [0, 2, 1, 3, 4] (Host.dotGeneral (φ₁ := .f32) (φ₂ := .f32) dot_S64x2x256x128x4_S64x256x2x64_S64x2x128x4x64_2_1_34_3_01_02 none (res_main_v113 V) (res_main_v8 V)) transposes_S64x2x128x4x64_S64x128x2x4x64_0_2_1_3_4) shapeCasts_S64x128x2x4x64_S8192x512) (broadcastInDim S8192x512 ![] bcast_S_S8192x512 (constant S_ .f32 0x41000000#32))) bitsLt_bf16_f32
      : FVec Ideal S8192x512 .bf16) = fun i => (dqAt x (i 0).val (i 1) : EReal) := Mix.Ref.eq_of_ix2 fun n l => queries_at hx n l

theorem values_at (n : Fin 8192) (l : Fin 128) : res_main_v125 V (ix2 n l) = (x.dv n.val ⟨l.val / 64, by omega⟩ (low l) : EReal) :=
  tokens_at (f := fun t g => (x.tile t g).dV) (v91_at hx) n l
theorem keys_at (n : Fin 8192) (l : Fin 128) : res_main_v133 V (ix2 n l) = (x.dk n.val ⟨l.val / 64, by omega⟩ (low l) : EReal) :=
  tokens_at (f := fun t g => (x.tile t g).dK) (v117_at hx) n l

theorem gradKeys0 : pair ![0, 0] slices_S8192x128_S8192x64_0_0 (res_main_v133 V) = fun i => (x.dk (i 0).val 0 (low (i 1)) : EReal) :=
  Mix.Ref.eq_of_ix2 fun n l => pair_first (f := x.dk) (keys_at hx) n l
theorem gradKeys1 : pair ![0, 64] slices_S8192x128_S8192x64_0_64 (res_main_v133 V) = fun i => (x.dk (i 0).val 1 (low (i 1)) : EReal) :=
  Mix.Ref.eq_of_ix2 fun n l => pair_second (f := x.dk) (keys_at hx) n l
theorem gradValues0 : pair ![0, 0] slices_S8192x128_S8192x64_0_0 (res_main_v125 V) = fun i => (x.dv (i 0).val 0 (low (i 1)) : EReal) :=
  Mix.Ref.eq_of_ix2 fun n l => pair_first (f := x.dv) (values_at hx) n l
theorem gradValues1 : pair ![0, 64] slices_S8192x128_S8192x64_0_64 (res_main_v125 V) = fun i => (x.dv (i 0).val 1 (low (i 1)) : EReal) :=
  Mix.Ref.eq_of_ix2 fun n l => pair_second (f := x.dv) (values_at hx) n l

theorem gradSinks : (concatenate S1x128 1 [⟨S1x8, (broadcastInDim S1x8 ![1] bcast_S8_S1x8_1 (shapeCast _ (broadcastInDim S1x2x4x1x1 ![1, 2] bcast_S2x4_S1x2x4x1x1_1_2 (Host.reduceAdd (extractStridedSlice S64x2x4x128x1 ![0, 0, 0, 0, 256] (res_main_v104 V) slices_S64x2x4x128x257_S64x2x4x128x1_0_0_0_0_256) (constant S_ .f32 0x00000000#32) reducesTo_S64x2x4x128x1_S2x4_d0_3_4 h_S_)) shapeCasts_S1x2x4x1x1_S8))⟩, ⟨S1x120, (broadcastInDim S1x120 ![] bcast_S_S1x120 (constant S_ .f32 0x00000000#32))⟩] concatenates_S1x8_S1x120_S1x128_d1
      : FVec Ideal S1x128 .f32) = fun i => (x.dsink (i 1) : EReal) := Mix.Ref.eq_of_ix2 fun z l => sinks_at hx z l

end

end Cert.Attn.Ref

end
-- ==== Proof.AttnClaim.lean ====
/-
  The attention's backward call and the reference's gradients of the attention give the same results, from the same finite arguments.
-/
module

public import proofs.«01_k».proof.Defs
public import proofs.«01_k».proof.Proof.AttnFrame
public import proofs.«01_k».proof.Proof.AttnBitsFrame
public import proofs.«01_k».proof.Proof.AttnSums
public import proofs.«01_k».proof.Proof.AttnRefOut
public import proofs.«01_k».proof.Proof.Gen.Pre_finite_attn
public import Idealize.ShloMosaic.Lib.Claim
public import Idealize.ShloMosaic.Lib.Quiescent

@[expose] public section

set_option maxRecDepth 8192

noncomputable section

namespace Cert.Attn

open Idealize.ShloMosaic Idealize.ShloMosaic.TcCoe Idealize.ShloMosaic.StableHlo Idealize.SL.Sem Cert.Lift

abbrev Memory : Type := (ℓ : Loc Kernel2Ideal.nD Kernel2Ideal.τ Kernel2Ideal.sig) → Buf (Elt Ideal) ℓ
abbrev RefMemory : Type := (ℓ : Loc Reference2Ideal.nD Reference2Ideal.τ Reference2Ideal.sig) → Buf (Elt Ideal) ℓ

/-- The memory's arguments as real numbers. -/
def ofMem (m : Memory) (c : Dev Kernel2Ideal.nD) : In where
  dout := rows (n := 8192) (k := 512) (m (c.tc.loc Kernel2Ideal.main_arg0))
  q := rows (n := 8192) (k := 512) (m (c.tc.loc Kernel2Ideal.main_arg1))
  k := rows (n := 8192) (k := 128) (m (c.tc.loc Kernel2Ideal.main_arg2))
  v := rows (n := 8192) (k := 128) (m (c.tc.loc Kernel2Ideal.main_arg3))
  sink l := EReal.toReal (m (c.tc.loc Kernel2Ideal.main_arg4) (ix2 (0 : Fin 1) l))

theorem holding_of_pre {m : Memory} (h : Pre_Kernel2Ideal_finite_attn m) (c : Dev Kernel2Ideal.nD) : Holding (ofMem m c) m c := by
  obtain ⟨h0, h1, h2, h3, h4⟩ := h c
  exact
  { d := eq_rows (finite_of_olt h0)
    q := eq_rows (finite_of_olt h1)
    k := eq_rows (finite_of_olt h2)
    v := eq_rows (finite_of_olt h3)
    s := fun z l => by obtain rfl := Subsingleton.elim z 0; exact finite_of_olt h4 _ }

theorem at_of_holding {x : In} {m : Memory} {m' : RefMemory} {c : Dev Kernel2Ideal.nD} (h : Holding x m c)
    (e0 : m' (c.tc.loc Reference2Ideal.main_arg0) = m (c.tc.loc Kernel2Ideal.main_arg0))
    (e1 : m' (c.tc.loc Reference2Ideal.main_arg1) = m (c.tc.loc Kernel2Ideal.main_arg1))
    (e2 : m' (c.tc.loc Reference2Ideal.main_arg2) = m (c.tc.loc Kernel2Ideal.main_arg2))
    (e3 : m' (c.tc.loc Reference2Ideal.main_arg3) = m (c.tc.loc Kernel2Ideal.main_arg3))
    (e4 : m' (c.tc.loc Reference2Ideal.main_arg4) = m (c.tc.loc Kernel2Ideal.main_arg4)) : Ref.At x (launchContents m' c) where
  d n l := (congrFun e0 _).trans (h.d n l)
  q n l := (congrFun e1 _).trans (h.q n l)
  k n l := (congrFun e2 _).trans (h.k n l)
  v n l := (congrFun e3 _).trans (h.v n l)
  s z l := (congrFun e4 _).trans (h.s z l)

theorem frame_kernel2 : quiescent_Kernel2 := fun m g _ => AttnBits.frame_kernel m g
theorem frame_kernel2Ideal : quiescent_Kernel2Ideal := fun m g _ => frame_kernelIdeal m g
theorem frame_kernel2Ideal_finite : quiescent_Kernel2Ideal_pre_finite_attn := fun m g _ => frame_kernelIdeal m g

theorem frame_reference2Ideal : quiescent_Reference2Ideal := fun m g _ =>
  (θ_run Reference2Ideal.defs _ _).mono
    (fun r h => ⟨fun c => (h c).2.2.2.2.2.2, sem_eq_zero_of_no_sems (by decide) r.2⟩) (Reference2Ideal.Value.run m g)
theorem frame_reference2Ideal_finite : quiescent_Reference2Ideal_pre_finite_attn := fun m g _ => frame_reference2Ideal m g trivial

/-- The masked entries' number stands for the bottom of the extended reals. -/
theorem preserves : preserves_Kernel2_Kernel2Ideal :=
  IdealRules.named_const.statement Kernel2Ideal.κ "mask" .f32 0xF149F2CA#32 ⊥ rfl

/-! ## The results, as arrays -/

def dQueries (x : In) : FVec Ideal Kernel2Ideal.S8192x512 .bf16 := fun i => (dqAt x (i 0).val (i 1) : EReal)
def dKeys (x : In) (g : Fin 2) : FVec Ideal Kernel2Ideal.S8192x128 .f32 := fun i => (x.dk (i 0).val g (low (i 1)) : EReal)
def dValues (x : In) (g : Fin 2) : FVec Ideal Kernel2Ideal.S8192x128 .f32 := fun i => (x.dv (i 0).val g (low (i 1)) : EReal)
def dSinks (x : In) : FVec Ideal Kernel2Ideal.S1x128 .f32 := fun i => (x.dsink (i 1) : EReal)

section

open Kernel2Ideal Kernel2Ideal.Gen

variable {x : In} {m : Memory} {c : Dev nD} (hx : Holding x m c) {r : PUnit × MemSt nD τ sig (Elt Ideal)} (h : Pipeline.FramePost cfgs (dats m) 0 (V m) r)
include hx h

theorem left_queries : r.2.mem ((c.tc : Thread nD τ).loc main_v85_0) = dQueries x := by
  have e : r.2.mem ((c.tc : Thread nD τ).loc main_v85_0) = (dats m 0 c).arrAt 8 cfg0.N := (h c).1 8
  exact e.trans (final8 hx)
theorem left_keys_fst : r.2.mem ((c.tc : Thread nD τ).loc main_v85_1) = dKeys x 0 := by
  have e : r.2.mem ((c.tc : Thread nD τ).loc main_v85_1) = (dats m 0 c).arrAt 9 cfg0.N := (h c).1 9
  exact e.trans (final9 hx)
theorem left_keys_snd : r.2.mem ((c.tc : Thread nD τ).loc main_v85_2) = dKeys x 1 := by
  have e : r.2.mem ((c.tc : Thread nD τ).loc main_v85_2) = (dats m 0 c).arrAt 10 cfg0.N := (h c).1 10
  exact e.trans (final10 hx)
theorem left_values_fst : r.2.mem ((c.tc : Thread nD τ).loc main_v85_3) = dValues x 0 := by
  have e : r.2.mem ((c.tc : Thread nD τ).loc main_v85_3) = (dats m 0 c).arrAt 11 cfg0.N := (h c).1 11
  exact e.trans (final11 hx)
theorem left_values_snd : r.2.mem ((c.tc : Thread nD τ).loc main_v85_4) = dValues x 1 := by
  have e : r.2.mem ((c.tc : Thread nD τ).loc main_v85_4) = (dats m 0 c).arrAt 12 cfg0.N := (h c).1 12
  exact e.trans (final12 hx)
theorem left_sinks : r.2.mem ((c.tc : Thread nD τ).loc main_v85_5) = dSinks x := by
  have e : r.2.mem ((c.tc : Thread nD τ).loc main_v85_5) = (dats m 0 c).arrAt 13 cfg0.N := (h c).1 13
  exact e.trans (final13 hx)

end

theorem algebraic : algebraic_Kernel2Ideal_Reference2Ideal_pre_finite_attn := by
  intro m g m' g' hp he
  have ha := holding_of_pre hp
  refine ⟨fun c => dQueries (ofMem m c), fun c => dKeys (ofMem m c) 0, fun c => dKeys (ofMem m c) 1, fun c => dValues (ofMem m c) 0,
    fun c => dValues (ofMem m c) 1, fun c => dSinks (ofMem m c), ?_, ?_⟩
  · refine (θ_run Kernel2Ideal.defs _ _).mono (fun r h c => ?_) (θ_run_and (run_arrays m g) (frame_kernelIdeal m g))
    exact ⟨left_queries (ha c) h.1, left_keys_fst (ha c) h.1, left_keys_snd (ha c) h.1, left_values_fst (ha c) h.1, left_values_snd (ha c) h.1,
      left_sinks (ha c) h.1, h.2.1 c⟩
  refine (θ_run Reference2Ideal.defs _ _).mono (fun r h c => ?_) (Reference2Ideal.Value.run m' g')
  obtain ⟨e0, e1, e2, e3, e4⟩ := he c
  obtain ⟨h0, h1, h2, h3, h4, h5, hk⟩ := h c
  have ht := at_of_holding (ha c) e0 e1 e2 e3 e4
  exact ⟨h0.trans (Ref.gradQueries ht), h1.trans (Ref.gradKeys0 ht), h2.trans (Ref.gradKeys1 ht), h3.trans (Ref.gradValues0 ht),
    h4.trans (Ref.gradValues1 ht), h5.trans (Ref.gradSinks ht), hk⟩

end Cert.Attn

end
-- ==== Proof.MlpSpec.lean ====
module

public import proofs.«01_k».proof.Proof.Norm

@[expose] public section

/-! # The perceptron's gradients, as real functions

A layer adds to its input the norm of the mixed activations, then to that the norm of a perceptron with a squared rectifier, and
is compared with a target. The loss and all gradients down to the mixed activations, row by row of the sequence. -/

noncomputable section

namespace Cert.Mlp

open Cert.Lift

/-- The finite arguments of the perceptron's pass: the layer's input, the mixed activations and the target by row, the gains of
the three norms, the weights. -/
structure In where
  inp : ℕ → Fin 1024 → ℝ
  mix : ℕ → Fin 1024 → ℝ
  tgt : ℕ → Fin 1024 → ℝ
  gp : Fin 1024 → ℝ
  g2 : Fin 1024 → ℝ
  g4 : Fin 1024 → ℝ
  wu : Fin 1024 → Fin 4096 → ℝ
  wd : Fin 4096 → Fin 1024 → ℝ

/-- A hidden column, by its quarter. -/
def col (j : Fin 4) (c : Fin 1024) : Fin 4096 := ⟨1024 * j + c, by omega⟩

/-- A sum over the hidden columns, quarter by quarter. -/
theorem sum_col (f : Fin 4096 → ℝ) :
    ∑ e, f e = ∑ c, f (col 0 c) + ∑ c, f (col 1 c) + ∑ c, f (col 2 c) + ∑ c, f (col 3 c) := by
  have h : ∑ e, f e = ∑ j : Fin 4, ∑ c, f (col j c) := by
    rw [← Fintype.sum_prod_type']
    refine (Fintype.sum_equiv (finProdFinEquiv (m := 4) (n := 1024)) _ _ fun p => congrArg f (Fin.ext ?_)).symm
    show 1024 * p.1.val + p.2.val = p.2.val + 1024 * p.1.val
    omega
  rw [h, Fin.sum_univ_four]

namespace In

variable (x : In)

/-- The layer's activations between its two parts. -/
def h (n : ℕ) (k : Fin 1024) : ℝ := x.inp n k + x.mix n k * rms (x.mix n) * x.gp k

/-- The perceptron's input. -/
def hn (n : ℕ) (k : Fin 1024) : ℝ := x.h n k * rms (x.h n) * x.g2 k

/-- The hidden activations. -/
def up (n : ℕ) (e : Fin 4096) : ℝ := max (∑ k, x.hn n k * x.wu k e) 0

/-- The perceptron's output. -/
def out (n : ℕ) (k : Fin 1024) : ℝ := ∑ e, x.up n e * x.up n e * x.wd e k

/-- How far the layer's output is from the target. -/
def diff (n : ℕ) (k : Fin 1024) : ℝ := x.h n k + x.out n k * rms (x.out n) * x.g4 k - x.tgt n k

/-- The gradient of the layer's output. -/
def dy (n : ℕ) (k : Fin 1024) : ℝ := x.diff n k * (1 / 1024)

/-- The gradient of the perceptron's output. -/
def dout (n : ℕ) (k : Fin 1024) : ℝ := normBwd (x.out n) (fun m => x.dy n m * x.g4 m) k

/-- The gradient of the hidden columns before the rectifier. -/
def dpre (n : ℕ) (e : Fin 4096) : ℝ := (∑ k, x.dout n k * x.wd e k) * (2 * x.up n e)

/-- The gradient of the perceptron's input. -/
def dhn (n : ℕ) (k : Fin 1024) : ℝ := ∑ e, x.dpre n e * x.wu k e

/-- The gradient of the activations between the parts. -/
def dh (n : ℕ) (k : Fin 1024) : ℝ := x.dy n k + normBwd (x.h n) (fun m => x.dhn n m * x.g2 m) k

/-- The gradient of the mixed activations. -/
def dmix (n : ℕ) (k : Fin 1024) : ℝ := normBwd (x.mix n) (fun m => x.dh n m * x.gp m) k

/-- A row's part of the sum of squares that the loss is a multiple of. -/
def loss (n : ℕ) : ℝ := ∑ k, x.diff n k * x.diff n k

/-- A row's parts of the gradients of the three gains. -/
def dg4 (n : ℕ) (k : Fin 1024) : ℝ := x.dy n k * (x.out n k * rms (x.out n))
def dg2 (n : ℕ) (k : Fin 1024) : ℝ := x.dhn n k * (x.h n k * rms (x.h n))
def dgp (n : ℕ) (k : Fin 1024) : ℝ := x.dh n k * (x.mix n k * rms (x.mix n))

end In

end Cert.Mlp

end
-- ==== Proof.MlpPay.lean ====
/-
  What the body of the perceptron's call computes of one half tile of 256 rows, its inputs being real numbers. The body holds the
  same steps for each half and each quarter of the hidden columns: the lemmas for the first of them serve for all.
-/
module

public import proofs.«01_k».proof.Proof.MlpSpec
public import proofs.«01_k».proof.Proof.Gen.Kernel3Ideal.Skeleton
public import Idealize.ShloMosaic.Lib.Pointwise

@[expose] public section

noncomputable section

namespace Cert.Mlp

open Idealize.ShloMosaic Cert.Kernel3Ideal Cert.Kernel3Ideal.Gen Cert.Lift

theorem ofBits_1024 : Ideal.ofBits .f32 0x44800000#32 = ((1024 : ℝ) : EReal) := by
  simp [Ideal.ofBits, Ideal.ieee, -EReal.coe_mul]; norm_num

theorem ofBits_part : Ideal.ofBits .f32 0x3A800000#32 = ((1 / 1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem div_1024 (x : ℝ) : Ideal.div (x : EReal) ((1024 : ℝ) : EReal) = ((x / 1024 : ℝ) : EReal) := div_real x (by norm_num)

theorem coe_max (x y : ℝ) : max (x : EReal) (y : EReal) = ((max x y : ℝ) : EReal) := (EReal.coe_strictMono.monotone.map_max).symm

variable {a f d s u t : Fin 256 → Fin 1024 → ℝ} {g : Fin 1024 → ℝ}

/-! ## The norms -/

theorem pay34 {v : FVec Ideal S256x1024 .f32} (h : Holds v f) (r : Fin 256) (z : Fin 1) : k0_pay34 (F := Ideal) v (ix2 r z) = (rms (f r) : EReal) := by
  have e : ((∑ m, f r m * f r m) / 1024 + eps : ℝ) = meanSq (f r) := rfl
  unfold k0_pay34
  pointwise
  simp only [h _ _, ofBits_1024, ofBits_eps, ← EReal.coe_mul, ← coe_sum, div_1024, ← EReal.coe_add, e, rsqrt_real (meanSq_pos _)]
  rfl

theorem pay35 {v : FVec Ideal S256x1024 .f32} (h : Holds v f) : Holds (k0_pay35 (F := Ideal) v) fun r k => f r k * rms (f r) := by
  intro r k
  unfold k0_pay35
  pointwise
  simp only [h _ _, pay34 h, ← EReal.coe_mul]

variable {v3 : Vec Ideal S256x1024 .f32} {v4 : Vec Ideal S256x1024 .bf16} {v6 : Vec Ideal S1x1024 .f32}

theorem pay6 (h3 : Holds v3 a) (h4 : Holds v4 f) (h6 : Holds v6 fun _ => g) :
    Holds (k0_pay6 (F := Ideal) v3 v4 v6) fun r k => a r k + f r k * rms (f r) * g k := by
  intro r k
  have e : ((∑ m, f r m * f r m) / 1024 + eps : ℝ) = meanSq (f r) := rfl
  unfold k0_pay6
  pointwise
  simp only [h3 _ _, h4 _ _, h6 _ _, ofBits_1024, ofBits_eps, ← EReal.coe_mul, ← coe_sum, div_1024, ← EReal.coe_add, e, rsqrt_real (meanSq_pos _)]
  rfl

theorem pay7 (h : Holds (k0_pay6 (F := Ideal) v3 v4 v6) f) {v : Vec Ideal S1x1024 .f32} (hg : Holds v fun _ => g) :
    Holds (k0_pay7 (F := Ideal) v3 v4 v6 v) fun r k => f r k * rms (f r) * g k := by
  intro r k
  have e : ((∑ m, f r m * f r m) / 1024 + eps : ℝ) = meanSq (f r) := rfl
  unfold k0_pay7
  pointwise
  simp only [h _ _, hg _ _, ofBits_1024, ofBits_eps, ← EReal.coe_mul, ← coe_sum, div_1024, ← EReal.coe_add, e, rsqrt_real (meanSq_pos _)]
  rfl

/-- The gradient of a norm, the norm's factor and the normed row given. -/
theorem pay41 {v196 : FVec Ideal S256x1 .f32} {v198 v212 : FVec Ideal S256x1024 .f32} {v : Vec Ideal S1x1024 .f32}
    (h1 : ∀ r z, v196 (ix2 r z) = (rms (f r) : EReal)) (h2 : Holds v198 fun r k => f r k * rms (f r)) (h3 : Holds v212 d) (hg : Holds v fun _ => g) :
    Holds (k0_pay41 (F := Ideal) v196 v198 v212 v) fun r k => normBwd (f r) (fun m => d r m * g m) k := by
  intro r k
  unfold k0_pay41
  pointwise
  simp only [h1, h2 _ _, h3 _ _, hg _ _, ofBits_1024, ← EReal.coe_mul, ← coe_sum, ← EReal.coe_sub, div_1024]
  rfl

/-- The same, added to another array, the product with the gain given. -/
theorem pay69 {v212 v420 v427 : FVec Ideal S256x1024 .f32} {v418 : FVec Ideal S256x1 .f32}
    (h1 : ∀ r z, v418 (ix2 r z) = (rms (f r) : EReal)) (h2 : Holds v420 fun r k => f r k * rms (f r)) (h3 : Holds v212 d) (h4 : Holds v427 t) :
    Holds (k0_pay69 (F := Ideal) v212 v418 v420 v427) fun r k => d r k + normBwd (f r) (t r) k := by
  intro r k
  unfold k0_pay69
  pointwise
  simp only [h1, h2 _ _, h3 _ _, h4 _ _, ofBits_1024, ← EReal.coe_mul, ← coe_sum, ← EReal.coe_sub, div_1024, ← EReal.coe_add]
  rfl

theorem pay68 {v : FVec Ideal S256x1024 .f32} (h : Holds v f) (h6 : Holds v6 fun _ => g) : Holds (k0_pay68 (F := Ideal) v v6) fun r k => f r k * g k := by
  intro r k
  unfold k0_pay68
  pointwise
  simp only [h _ _, h6 _ _, ← EReal.coe_mul]

theorem pay71 (h : Holds v4 f) : Holds (k0_pay71 (F := Ideal) v4) f := by
  intro r k
  unfold k0_pay71
  pointwise
  exact h r k

/-! ## The hidden columns, by quarters -/

variable {wu wd : Fin 1024 → Fin 1024 → ℝ}

/-- A block of weights in two parts of 512 rows. -/
def Part (v : S2x512x1024.Idx → EReal) (w : Fin 1024 → Fin 1024 → ℝ) : Prop :=
  ∀ (p : Fin 2) (q : Fin 512) (c : Fin 1024), v (ix3 p q c) = (w ⟨512 * p + q, by omega⟩ c : EReal)

theorem part_at {v : S2x512x1024.Idx → EReal} {w : Fin 1024 → Fin 1024 → ℝ} (h : Part v w) (k c : Fin 1024) (hp : k.val / 512 < 2)
    (hq : k.val % 512 < 512) : v (ix3 ⟨k.val / 512, hp⟩ ⟨k.val % 512, hq⟩ c) = (w k c : EReal) := by
  rw [h]
  exact congrArg (fun i => (w i c : EReal)) (Fin.ext (by dsimp only; omega))

theorem pay10 {v34 : FVec Ideal S256x1024 .bf16} {v69 : Vec Ideal S2x512x1024 .bf16} (h : Holds v34 f) (hw : Part v69 wu) :
    Holds (k0_pay10 (F := Ideal) v34 v69) fun r c => max (∑ k, f r k * wu k c) 0 := by
  intro r c
  unfold k0_pay10
  pointwise
  simp only [h _ _, part_at hw, ← EReal.coe_mul, ← coe_sum]
  exact coe_max _ 0

variable {u0 u1 : Fin 256 → Fin 1024 → ℝ} {w0 w1 : Fin 1024 → Fin 1024 → ℝ}

theorem pay14 {v34 : FVec Ideal S256x1024 .bf16} {v74 : FVec Ideal S256x1024 .f32} {v79 v83 v93 : Vec Ideal S2x512x1024 .bf16}
    (h0 : Holds v74 u0) (h1 : Holds (k0_pay12 (F := Ideal) v34 v83) u1) (hw0 : Part v79 w0) (hw1 : Part v93 w1) :
    Holds (k0_pay14 (F := Ideal) v34 v74 v79 v83 v93) fun r k => ∑ c, u0 r c * u0 r c * w0 c k + ∑ c, u1 r c * u1 r c * w1 c k := by
  intro r k
  unfold k0_pay14
  pointwise
  simp only [h0 _ _, h1 _ _, part_at hw0, part_at hw1, ← EReal.coe_mul, ← coe_sum, ← EReal.coe_add]

theorem pay20 {v34 v107 : FVec Ideal S256x1024 .bf16} {v97 : FVec Ideal S256x1024 .f32} {v108 v113 v123 : Vec Ideal S2x512x1024 .bf16}
    (h : Holds v97 s) (h0 : Holds v107 fun r c => u0 r c * u0 r c) (h1 : Holds (k0_pay18 (F := Ideal) v34 v113) u1) (hw0 : Part v108 w0) (hw1 : Part v123 w1) :
    Holds (k0_pay20 (F := Ideal) v34 v97 v107 v108 v113 v123)
      fun r k => s r k + ∑ c, u0 r c * u0 r c * w0 c k + ∑ c, u1 r c * u1 r c * w1 c k := by
  intro r k
  unfold k0_pay20
  pointwise
  simp only [h _ _, h0 _ _, h1 _ _, part_at hw0, part_at hw1, ← EReal.coe_mul, ← coe_sum, ← EReal.coe_add]

theorem pay17 {v34 : FVec Ideal S256x1024 .bf16} {v98 : Vec Ideal S2x512x1024 .bf16} (h : Holds (k0_pay15 (F := Ideal) v34 v98) u) :
    Holds (k0_pay17 (F := Ideal) v34 v98) fun r c => u r c * u r c := by
  intro r c
  unfold k0_pay17
  pointwise
  simp only [h _ _, ← EReal.coe_mul]

theorem pay49 {v230 : FVec Ideal S256x1024 .bf16} {v275 : Vec Ideal S2x512x1024 .bf16} {v279 : Vec Ideal S256x1024 .bf16}
    (h : Holds v230 d) (hw : Part v275 wd) (hu : Holds v279 u) :
    Holds (k0_pay49 (F := Ideal) v230 v275 v279) fun r c => (∑ k, d r k * wd c k) * (2 * u r c) := by
  intro r c
  unfold k0_pay49
  pointwise
  simp only [h _ _, hu _ _, part_at hw, ofBits_two, ← EReal.coe_mul, ← coe_sum]

theorem pay50 {v230 : FVec Ideal S256x1024 .bf16} {v275 v287 : Vec Ideal S2x512x1024 .bf16} {v279 : Vec Ideal S256x1024 .bf16}
    (h : Holds (k0_pay49 (F := Ideal) v230 v275 v279) u) (hw : Part v287 wu) :
    Holds (k0_pay50 (F := Ideal) v230 v275 v279 v287) fun r k => ∑ c, u r c * wu k c := by
  intro r k
  unfold k0_pay50
  pointwise
  simp only [h _ _, part_at hw, ← EReal.coe_mul, ← coe_sum]

theorem pay55 {v230 : FVec Ideal S256x1024 .bf16} {v324 : FVec Ideal S256x1024 .f32} {v325 v337 : Vec Ideal S2x512x1024 .bf16}
    {v329 : Vec Ideal S256x1024 .bf16} (hs : Holds v324 s) (h : Holds (k0_pay54 (F := Ideal) v230 v325 v329) u) (hw : Part v337 wu) :
    Holds (k0_pay55 (F := Ideal) v230 v324 v325 v329 v337) fun r k => s r k + ∑ c, u r c * wu k c := by
  intro r k
  unfold k0_pay55
  pointwise
  simp only [hs _ _, h _ _, part_at hw, ← EReal.coe_mul, ← coe_sum, ← EReal.coe_add]

/-! ## The distance to the target, and the sums over the rows -/

theorem pay36 {v20 v127 : FVec Ideal S256x1024 .f32} {v199 : Vec Ideal S1x1024 .f32} {v203 : Vec Ideal S256x1024 .f32}
    (h : Holds v20 a) (hf : Holds v127 f) (hg : Holds v199 fun _ => g) (ht : Holds v203 t) :
    Holds (k0_pay36 (F := Ideal) v20 v127 v199 v203) fun r k => a r k + f r k * rms (f r) * g k - t r k := by
  intro r k
  unfold k0_pay36
  pointwise
  simp only [h _ _, pay35 hf _ _, hg _ _, ht _ _, ← EReal.coe_mul, ← EReal.coe_add, ← EReal.coe_sub]

theorem pay38 {v20 v127 : FVec Ideal S256x1024 .f32} {v199 : Vec Ideal S1x1024 .f32} {v203 : Vec Ideal S256x1024 .f32}
    (h : Holds (k0_pay36 (F := Ideal) v20 v127 v199 v203) d) : Holds (k0_pay38 (F := Ideal) v20 v127 v199 v203) fun r k => d r k * (1 / 1024) := by
  intro r k
  unfold k0_pay38
  pointwise
  simp only [h _ _, ofBits_part, ← EReal.coe_mul]

theorem pay45 {v53 v186 : FVec Ideal S256x1024 .f32} {v210 : FVec Ideal S1x1 .f32} {v242 : Vec Ideal S1x1024 .f32} {v246 : Vec Ideal S256x1024 .f32}
    (h : Holds (k0_pay44 (F := Ideal) v53 v186 v242 v246) d) (z z' : Fin 1) :
    k0_pay45 (F := Ideal) v53 v186 v210 v242 v246 (ix2 z z') = v210 (ix2 z z') + (∑ r, ∑ k, d r k * d r k : ℝ) := by
  unfold k0_pay45
  pointwise
  simp only [h _ _, ← EReal.coe_mul, ← coe_sum]

/-- A sum of the products of two arrays over the rows, added to a row. -/
theorem pay47 {v216 : FVec Ideal S1x1024 .f32} {v241 v255 : FVec Ideal S256x1024 .f32} (h1 : Holds v241 f) (h2 : Holds v255 d) (z : Fin 1) (k : Fin 1024) :
    k0_pay47 (F := Ideal) v216 v241 v255 (ix2 z k) = v216 (ix2 z k) + (∑ r, d r k * f r k : ℝ) := by
  unfold k0_pay47
  pointwise
  simp only [h1 _ _, h2 _ _, ← EReal.coe_mul, ← coe_sum]

theorem pay33 (i : S1x1024.Idx) : k0_pay33 (F := Ideal) i = 0 := Ideal.ofBits_zero_f32

/-! ## The other halves and quarters

The steps of the second half and of the other quarters are the first's: each equation is between two texts of one computation. -/

theorem same42 (v : FVec Ideal S256x1024 .f32) : k0_pay42 (F := Ideal) v = k0_pay34 v := rfl
theorem same65 (v : FVec Ideal S256x1024 .f32) : k0_pay65 (F := Ideal) v = k0_pay34 v := rfl
theorem same76 (v : FVec Ideal S256x1024 .f32) : k0_pay76 (F := Ideal) v = k0_pay34 v := rfl
theorem same72 (e : FVec Ideal S256x1024 .bf16) : k0_pay72 (F := Ideal) e = k0_pay34 (k0_pay71 e) := rfl
theorem same82 (e : FVec Ideal S256x1024 .bf16) : k0_pay82 (F := Ideal) e = k0_pay34 (k0_pay71 e) := rfl
theorem same81 (e : FVec Ideal S256x1024 .bf16) : k0_pay81 (F := Ideal) e = k0_pay71 e := rfl
theorem same43 (v : FVec Ideal S256x1024 .f32) : k0_pay43 (F := Ideal) v = k0_pay35 v := rfl
theorem same66 (v : FVec Ideal S256x1024 .f32) : k0_pay66 (F := Ideal) v = k0_pay35 v := rfl
theorem same77 (v : FVec Ideal S256x1024 .f32) : k0_pay77 (F := Ideal) v = k0_pay35 v := rfl
theorem same73 (e : FVec Ideal S256x1024 .bf16) : k0_pay73 (F := Ideal) e = k0_pay35 (k0_pay71 e) := rfl
theorem same83 (v : FVec Ideal S256x1024 .f32) : k0_pay83 (F := Ideal) v (k0_pay34 v) = k0_pay35 v := rfl
theorem same8 (a : Vec Ideal S256x1024 .f32) (b : Vec Ideal S256x1024 .bf16) (y : Vec Ideal S1x1024 .f32) : k0_pay8 (F := Ideal) a b y = k0_pay6 a b y := rfl
theorem same9 (a : Vec Ideal S256x1024 .f32) (b : Vec Ideal S256x1024 .bf16) (y y' : Vec Ideal S1x1024 .f32) : k0_pay9 (F := Ideal) a b y y' = k0_pay7 a b y y' := rfl
theorem same48 (v v' : FVec Ideal S256x1024 .f32) (w : FVec Ideal S256x1 .f32) (y : Vec Ideal S1x1024 .f32) : k0_pay48 (F := Ideal) w v v' y = k0_pay41 w v v' y := rfl
theorem same79 (v v' v'' : FVec Ideal S256x1024 .f32) (y : Vec Ideal S1x1024 .f32) : k0_pay79 (F := Ideal) v v' v'' y = k0_pay69 v' (k0_pay34 v) (k0_pay35 v) (k0_pay68 v'' y) := rfl
theorem same70 (v v' v'' : FVec Ideal S256x1024 .f32) (w : FVec Ideal S256x1 .f32) : k0_pay70 (F := Ideal) v w v' v'' = k0_pay69 v w v' v'' := rfl
theorem same80 (v v' v'' : FVec Ideal S256x1024 .f32) (y : Vec Ideal S1x1024 .f32) : k0_pay80 (F := Ideal) v v' v'' y = k0_pay69 v' (k0_pay34 v) (k0_pay35 v) (k0_pay68 v'' y) := rfl
theorem same75 (v v' v'' : FVec Ideal S256x1024 .f32) (w : FVec Ideal S256x1 .f32) (e : FVec Ideal S256x1024 .bf16) (y : Vec Ideal S1x1024 .f32) : k0_pay75 (F := Ideal) v w v' v'' e y = k0_pay41 (k0_pay34 (k0_pay71 e)) (k0_pay35 (k0_pay71 e)) (k0_pay69 v w v' v'') y := rfl
theorem same85 (v v' : FVec Ideal S256x1024 .f32) (y : Vec Ideal S1x1024 .f32) : k0_pay85 (F := Ideal) v v' (k0_pay34 v') y = k0_pay41 (k0_pay34 v') (k0_pay35 v') v y := rfl
theorem same12 (e : FVec Ideal S256x1024 .bf16) (p : Vec Ideal S2x512x1024 .bf16) : k0_pay12 (F := Ideal) e p = k0_pay10 e p := rfl
theorem same15 (e : FVec Ideal S256x1024 .bf16) (p : Vec Ideal S2x512x1024 .bf16) : k0_pay15 (F := Ideal) e p = k0_pay10 e p := rfl
theorem same18 (e : FVec Ideal S256x1024 .bf16) (p : Vec Ideal S2x512x1024 .bf16) : k0_pay18 (F := Ideal) e p = k0_pay10 e p := rfl
theorem same21 (e : FVec Ideal S256x1024 .bf16) (p : Vec Ideal S2x512x1024 .bf16) : k0_pay21 (F := Ideal) e p = k0_pay10 e p := rfl
theorem same24 (e : FVec Ideal S256x1024 .bf16) (p : Vec Ideal S2x512x1024 .bf16) : k0_pay24 (F := Ideal) e p = k0_pay10 e p := rfl
theorem same26 (e : FVec Ideal S256x1024 .bf16) (p : Vec Ideal S2x512x1024 .bf16) : k0_pay26 (F := Ideal) e p = k0_pay10 e p := rfl
theorem same30 (e : FVec Ideal S256x1024 .bf16) (p : Vec Ideal S2x512x1024 .bf16) : k0_pay30 (F := Ideal) e (k0_pay29 p) = k0_pay10 e p := rfl
theorem same11 (e : FVec Ideal S256x1024 .bf16) (p : Vec Ideal S2x512x1024 .bf16) : k0_pay11 (F := Ideal) e p = k0_pay10 e p := rfl
theorem same13 (e : FVec Ideal S256x1024 .bf16) (p : Vec Ideal S2x512x1024 .bf16) : k0_pay13 (F := Ideal) e p = k0_pay10 e p := rfl
theorem same16 (e : FVec Ideal S256x1024 .bf16) (p : Vec Ideal S2x512x1024 .bf16) : k0_pay16 (F := Ideal) e p = k0_pay10 e p := rfl
theorem same19 (e : FVec Ideal S256x1024 .bf16) (p : Vec Ideal S2x512x1024 .bf16) : k0_pay19 (F := Ideal) e p = k0_pay10 e p := rfl
theorem same22 (e : FVec Ideal S256x1024 .bf16) (p : Vec Ideal S2x512x1024 .bf16) : k0_pay22 (F := Ideal) e p = k0_pay10 e p := rfl
theorem same25 (e : FVec Ideal S256x1024 .bf16) (p : Vec Ideal S2x512x1024 .bf16) : k0_pay25 (F := Ideal) e p = k0_pay10 e p := rfl
theorem same27 (e : FVec Ideal S256x1024 .bf16) (p : Vec Ideal S2x512x1024 .bf16) : k0_pay27 (F := Ideal) e p = k0_pay10 e p := rfl
theorem same31 (e : FVec Ideal S256x1024 .bf16) (p : Vec Ideal S2x512x1024 .bf16) : k0_pay31 (F := Ideal) e (k0_pay29 p) = k0_pay10 e p := rfl
theorem same51 (e e' : FVec Ideal S256x1024 .bf16) (p : Vec Ideal S2x512x1024 .bf16) : k0_pay51 (F := Ideal) e p e' = k0_pay49 e p e' := rfl
theorem same52 (e e' : FVec Ideal S256x1024 .bf16) (p : Vec Ideal S2x512x1024 .bf16) : k0_pay52 (F := Ideal) e p e' = k0_pay49 e p e' := rfl
theorem same54 (e e' : FVec Ideal S256x1024 .bf16) (p : Vec Ideal S2x512x1024 .bf16) : k0_pay54 (F := Ideal) e p e' = k0_pay49 e p e' := rfl
theorem same56 (e e' : FVec Ideal S256x1024 .bf16) (p : Vec Ideal S2x512x1024 .bf16) : k0_pay56 (F := Ideal) e p e' = k0_pay49 e p e' := rfl
theorem same58 (e e' : FVec Ideal S256x1024 .bf16) (p : Vec Ideal S2x512x1024 .bf16) : k0_pay58 (F := Ideal) e p e' = k0_pay49 e p e' := rfl
theorem same60 (e e' : FVec Ideal S256x1024 .bf16) (p : Vec Ideal S2x512x1024 .bf16) : k0_pay60 (F := Ideal) e p e' = k0_pay49 e p e' := rfl
theorem same62 (e e' : FVec Ideal S256x1024 .bf16) (p : Vec Ideal S2x512x1024 .bf16) : k0_pay62 (F := Ideal) e p e' = k0_pay49 e p e' := rfl
theorem same57 (e e' : FVec Ideal S256x1024 .bf16) (p p1 : Vec Ideal S2x512x1024 .bf16) : k0_pay57 (F := Ideal) e p e' p1 = k0_pay50 e p e' p1 := rfl
theorem same59 (v : FVec Ideal S256x1024 .f32) (e e' : FVec Ideal S256x1024 .bf16) (p p1 : Vec Ideal S2x512x1024 .bf16) : k0_pay59 (F := Ideal) e v p e' p1 = k0_pay55 e v p e' p1 := rfl
theorem same53 (v : FVec Ideal S256x1024 .f32) (e e' e'' : FVec Ideal S256x1024 .bf16) (p p1 p2 p3 : Vec Ideal S2x512x1024 .bf16) : k0_pay53 (F := Ideal) e v p e' p1 p2 e'' p3 = k0_pay55 e (k0_pay55 e v p e' p1) p2 e'' p3 := rfl
theorem same63 (v : FVec Ideal S256x1024 .f32) (e e' e'' : FVec Ideal S256x1024 .bf16) (p p1 p2 p3 : Vec Ideal S2x512x1024 .bf16) : k0_pay63 (F := Ideal) e v (k0_pay49 e p e') (k0_pay61 p1) (constant S256x1024 .f32 0x00000000#32) p2 e'' p3 = k0_pay55 e (k0_pay55 e v p e' p1) p2 e'' p3 := rfl
theorem same44 (v v' v'' : FVec Ideal S256x1024 .f32) (y : Vec Ideal S1x1024 .f32) : k0_pay44 (F := Ideal) v v' y v'' = k0_pay36 v v' y v'' := rfl
theorem same46 (v v' v'' : FVec Ideal S256x1024 .f32) (y : Vec Ideal S1x1024 .f32) : k0_pay46 (F := Ideal) v v' y v'' = k0_pay38 v v' y v'' := rfl
theorem same37 (v v' v'' : FVec Ideal S256x1024 .f32) (y : Vec Ideal S1x1024 .f32) : k0_pay37 (F := Ideal) v v' y v'' = k0_pay45 v v' k0_pay2 y v'' := rfl
theorem same40 (v v' v'' : FVec Ideal S256x1024 .f32) (y y' : Vec Ideal S1x1024 .f32) : k0_pay40 (F := Ideal) y (k0_pay39 v v' y' v'') = k0_pay47 y (k0_pay35 v') (k0_pay38 v v' y' v'') := rfl
theorem same67 (v v' : FVec Ideal S256x1024 .f32) : k0_pay67 (F := Ideal) v v' = k0_pay47 k0_pay33 (k0_pay35 v) v' := rfl
theorem same78 (v v' : FVec Ideal S256x1024 .f32) (y : Vec Ideal S1x1024 .f32) : k0_pay78 (F := Ideal) v v' y = k0_pay47 y (k0_pay35 v) v' := rfl
theorem same64 : k0_pay64 (F := Ideal) = k0_pay33 := rfl
theorem same74 (v v' v'' : FVec Ideal S256x1024 .f32) (w : FVec Ideal S256x1 .f32) (e : FVec Ideal S256x1024 .bf16) (y : Vec Ideal S1x1024 .f32) : k0_pay74 (F := Ideal) v y w v' v'' e = k0_pay47 y (k0_pay35 (k0_pay71 e)) (k0_pay69 v w v' v'') := rfl
theorem same84 (v v' : FVec Ideal S256x1024 .f32) (y : Vec Ideal S1x1024 .f32) : k0_pay84 (F := Ideal) y v v' (k0_pay34 v') = k0_pay47 y (k0_pay35 v') v := rfl
theorem same32 (e : FVec Ideal S256x1024 .bf16) (p p' p1 p1' p2 p2' p3 p3' : Vec Ideal S2x512x1024 .bf16) : k0_pay32 (F := Ideal) e (k0_pay28 e (k0_pay23 e p p') p1 p1' p2 p2') (k0_pay29 p3) p3' = k0_pay20 e (k0_pay14 e (k0_pay10 e p) p' p1 p1') (k0_pay17 e p2) p2' p3 p3' := rfl

end Cert.Mlp

end
-- ==== Proof.MlpBlocks.lean ====
module

public import proofs.«01_k».proof.Proof.MlpPay
public import proofs.«01_k».proof.Proof.Gen.Kernel3Ideal.Frame
public import Idealize.ShloMosaic.Lib.Pipeline.Value
public import Idealize.ShloMosaic.Lib.Pipeline.ValueKit.Point

@[expose] public section

/-! # What the blocks of the perceptron's call hold

At grid point `t` the call reads rows `512 t` to `512 t + 511` of the three arrays of rows, and the whole gains and weights. -/

noncomputable section

namespace Cert.Mlp

open Idealize.ShloMosaic Idealize.ShloMosaic.TcCoe Idealize.SL.Sem Cert.Kernel3Ideal Cert.Kernel3Ideal.Gen Cert.Lift

/-- The memory's arguments hold the finite arrays `x`. -/
structure Args (x : In) (m : (ℓ : Loc nD τ sig) → Buf (Elt Ideal) ℓ) (c : Dev nD) : Prop where
  inp : ∀ (n : Fin 8192) (k : Fin 1024), m (c.tc.loc main_arg0) (ix2 n k) = (x.inp n k : EReal)
  mix : ∀ (n : Fin 8192) (k : Fin 1024), m (c.tc.loc main_arg1) (ix2 n k) = (x.mix n k : EReal)
  tgt : ∀ (n : Fin 8192) (k : Fin 1024), m (c.tc.loc main_arg2) (ix2 n k) = (x.tgt n k : EReal)
  gp : ∀ (z : Fin 1) (k : Fin 1024), m (c.tc.loc main_arg3) (ix2 z k) = (x.gp k : EReal)
  g2 : ∀ (z : Fin 1) (k : Fin 1024), m (c.tc.loc main_arg4) (ix2 z k) = (x.g2 k : EReal)
  g4 : ∀ (z : Fin 1) (k : Fin 1024), m (c.tc.loc main_arg5) (ix2 z k) = (x.g4 k : EReal)
  wu : ∀ (z : Fin 1) (k : Fin 1024) (e : Fin 4096), m (c.tc.loc main_arg6) (ix3 z k e) = (x.wu k e : EReal)
  wd : ∀ (z : Fin 1) (e : Fin 4096) (k : Fin 1024), m (c.tc.loc main_arg7) (ix3 z e k) = (x.wd e k : EReal)

theorem idxRow : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, _)

theorem idxWhole : ∀ t : Fin cfg0.N, (∀ a, win0_3.index t a = 0) ∧ (∀ a, win0_4.index t a = 0) ∧ (∀ a, win0_5.index t a = 0)
    ∧ (∀ a, win0_6.index t a = 0) ∧ (∀ a, win0_7.index t a = 0) :=
  (by decide +kernel : ∀ t : Fin grid0.N, _)

theorem point_lt (t : Fin cfg0.N) : t.val < 16 := lt_of_lt_of_eq t.isLt Gen.N_0

variable {x : In} {m : (ℓ : Loc nD τ sig) → Buf (Elt Ideal) ℓ} {c : Dev nD} (h : Args x m c) (t : Fin cfg0.N)

include h

theorem blk0 : Holds (iblk m c 0 t) fun r k => x.inp (512 * t + r) k := fun r k => by
  have := point_lt t
  rw [← h.inp ⟨512 * t + r, by omega⟩ k]
  blk_ext! [iblk, V, idxRow t]

theorem blk1 : Holds (iblk m c 1 t) fun r k => x.mix (512 * t + r) k := fun r k => by
  have := point_lt t
  rw [← h.mix ⟨512 * t + r, by omega⟩ k]
  blk_ext! [iblk, V, idxRow t]

theorem blk2 : Holds (iblk m c 2 t) fun r k => x.tgt (512 * t + r) k := fun r k => by
  have := point_lt t
  rw [← h.tgt ⟨512 * t + r, by omega⟩ k]
  blk_ext! [iblk, V, idxRow t]

theorem blk3 : Holds (iblk m c 3 t) fun _ => x.gp := fun r k => by
  rw [← h.gp r k]
  blk_ext! [iblk, V, idxWhole t]

theorem blk4 : Holds (iblk m c 4 t) fun _ => x.g2 := fun r k => by
  rw [← h.g2 r k]
  blk_ext! [iblk, V, idxWhole t]

theorem blk5 : Holds (iblk m c 5 t) fun _ => x.g4 := fun r k => by
  rw [← h.g4 r k]
  blk_ext! [iblk, V, idxWhole t]

theorem blk7 (p : Fin 8) (q : Fin 512) (k : Fin 1024) : iblk m c 7 t (ix3 p q k) = (x.wd ⟨512 * p + q, by omega⟩ k : EReal) := by
  rw [← h.wd 0 ⟨512 * p + q, by omega⟩ k]
  blk_ext! [iblk, V, idxWhole t]

theorem blk6 (p : Fin 8) (q : Fin 512) (k : Fin 1024) :
    iblk m c 6 t (ix3 p q k) = (x.wu ⟨512 * (p % 2) + q, by omega⟩ ⟨1024 * (p / 2) + k, by omega⟩ : EReal) := by
  rw [← h.wu 0 ⟨512 * (p % 2) + q, by omega⟩ ⟨1024 * (p / 2) + k, by omega⟩]
  blk_ext! [iblk, V, idxWhole t]

end Cert.Mlp

end
-- ==== Proof.MlpOut.lean ====
module

public import proofs.«01_k».proof.Proof.MlpBlocks
public import Idealize.ShloMosaic.Lib.Pipeline.ReadBack

@[expose] public section

/-! # What the perceptron's call leaves in its result arrays: the arrays of rows

The body treats its 512 rows in two halves of 256; what it computes of a half is stated once, for the blocks that half reads. -/

set_option maxHeartbeats 2000000

noncomputable section

namespace Cert.Mlp

open Idealize.ShloMosaic Idealize.ShloMosaic.TcCoe Idealize.SL.Sem Cert.Kernel3Ideal Cert.Kernel3Ideal.Gen Cert.Lift

/-- What a half of a tile is computed from: its rows of the three arrays, the gains, the weights of each quarter. -/
structure Half where
  X : Vec Ideal S256x1024 .f32
  M : Vec Ideal S256x1024 .bf16
  T : Vec Ideal S256x1024 .f32
  P : Vec Ideal S1x1024 .f32
  Q : Vec Ideal S1x1024 .f32
  R : Vec Ideal S1x1024 .f32
  U : Fin 4 → Vec Ideal S2x512x1024 .bf16
  D : Fin 4 → Vec Ideal S2x512x1024 .bf16

namespace Half

section Terms

variable (B : Half)

abbrev th : FVec Ideal S256x1024 .f32 := k0_pay6 (F := Ideal) B.X B.M B.P
abbrev thn : FVec Ideal S256x1024 .bf16 := k0_pay7 (F := Ideal) B.X B.M B.P B.Q
abbrev tup (j : Fin 4) : FVec Ideal S256x1024 .f32 := k0_pay10 (F := Ideal) B.thn (B.U j)
abbrev tout : FVec Ideal S256x1024 .f32 :=
  k0_pay20 (F := Ideal) B.thn (k0_pay14 B.thn (B.tup 0) (B.D 0) (B.U 1) (B.D 1)) (k0_pay17 B.thn (B.U 2)) (B.D 2) (B.U 3) (B.D 3)
abbrev tdy : FVec Ideal S256x1024 .f32 := k0_pay38 (F := Ideal) B.th B.tout B.R B.T
abbrev tdout : FVec Ideal S256x1024 .bf16 := k0_pay41 (F := Ideal) (k0_pay34 B.tout) (k0_pay35 B.tout) B.tdy B.R
abbrev tdpre (j : Fin 4) : FVec Ideal S256x1024 .bf16 := k0_pay49 (F := Ideal) B.tdout (B.D j) (B.tup j)
abbrev tdhn : FVec Ideal S256x1024 .f32 :=
  k0_pay55 (F := Ideal) B.tdout (k0_pay55 B.tdout (k0_pay55 B.tdout (k0_pay50 B.tdout (B.D 0) (B.tup 0) (B.U 0)) (B.D 1) (B.tup 1) (B.U 1))
    (B.D 2) (B.tup 2) (B.U 2)) (B.D 3) (B.tup 3) (B.U 3)
abbrev tdh : FVec Ideal S256x1024 .f32 := k0_pay69 (F := Ideal) B.tdy (k0_pay34 B.th) (k0_pay35 B.th) (k0_pay68 B.tdhn B.Q)
abbrev tdmix : FVec Ideal S256x1024 .bf16 := k0_pay41 (F := Ideal) (k0_pay34 (k0_pay71 B.M)) (k0_pay35 (k0_pay71 B.M)) B.tdh B.P

end Terms

/-- The blocks hold the rows from `b` on of the finite arrays `x`. -/
structure Of (B : Half) (x : In) (b : ℕ) : Prop where
  inp : Holds B.X fun r k => x.inp (b + r) k
  mix : Holds B.M fun r k => x.mix (b + r) k
  tgt : Holds B.T fun r k => x.tgt (b + r) k
  gp : Holds B.P fun _ => x.gp
  g2 : Holds B.Q fun _ => x.g2
  g4 : Holds B.R fun _ => x.g4
  wu : ∀ j, Part (B.U j) fun k c => x.wu k (col j c)
  wd : ∀ j, Part (B.D j) fun c k => x.wd (col j c) k

variable {B : Half} {x : In} {b : ℕ} (o : B.Of x b)

include o

theorem h_at : Holds B.th fun r k => x.h (b + r) k := pay6 o.inp o.mix o.gp

theorem hn_at : Holds B.thn fun r k => x.hn (b + r) k := pay7 (f := fun r => x.h (b + r)) (h_at o) o.g2

theorem up_at (j : Fin 4) : Holds (B.tup j) fun r c => x.up (b + r) (col j c) := pay10 (hn_at o) (o.wu j)

theorem out_at : Holds B.tout fun r k => x.out (b + r) k := fun r k => by
  refine (pay20 (pay14 (up_at o 0) (u1 := fun r c => x.up (b + r) (col 1 c)) ?_ (o.wd 0) (o.wd 1)) (u0 := fun r c => x.up (b + r) (col 2 c))
    (u1 := fun r c => x.up (b + r) (col 3 c)) (pay17 ?_) ?_ (o.wd 2) (o.wd 3) r k).trans ?_
  · exact fun r c => (congrFun (same12 _ _) _).trans (up_at o 1 r c)
  · exact fun r c => (congrFun (same15 _ _) _).trans (up_at o 2 r c)
  · exact fun r c => (congrFun (same18 _ _) _).trans (up_at o 3 r c)
  · exact congrArg _ (sum_col fun e => x.up (b + r) e * x.up (b + r) e * x.wd e k).symm

theorem diff_at : Holds (k0_pay36 (F := Ideal) B.th B.tout B.R B.T) fun r k => x.diff (b + r) k := pay36 (h_at o) (out_at o) o.g4 o.tgt

theorem dy_at : Holds B.tdy fun r k => x.dy (b + r) k := pay38 (diff_at o)

theorem dout_at : Holds B.tdout fun r k => x.dout (b + r) k := pay41 (pay34 (out_at o)) (pay35 (out_at o)) (dy_at o) o.g4

theorem dpre_at (j : Fin 4) : Holds (B.tdpre j) fun r c => x.dpre (b + r) (col j c) := pay49 (dout_at o) (o.wd j) (up_at o j)

theorem dhn_at : Holds B.tdhn fun r k => x.dhn (b + r) k := fun r k => by
  refine (pay55 (u := fun r c => x.dpre (b + r) (col 3 c)) (pay55 (u := fun r c => x.dpre (b + r) (col 2 c))
    (pay55 (u := fun r c => x.dpre (b + r) (col 1 c)) (pay50 (dpre_at o 0) (o.wu 0)) ?_ (o.wu 1)) ?_ (o.wu 2)) ?_ (o.wu 3) r k).trans ?_
  · exact fun r c => (congrFun (same54 _ _ _) _).trans (dpre_at o 1 r c)
  · exact fun r c => (congrFun (same54 _ _ _) _).trans (dpre_at o 2 r c)
  · exact fun r c => (congrFun (same54 _ _ _) _).trans (dpre_at o 3 r c)
  · exact congrArg _ (sum_col fun e => x.dpre (b + r) e * x.wu k e).symm

theorem dh_at : Holds B.tdh fun r k => x.dh (b + r) k := pay69 (pay34 (h_at o)) (pay35 (h_at o)) (dy_at o) (pay68 (dhn_at o) o.g2)

theorem dmix_at : Holds B.tdmix fun r k => x.dmix (b + r) k := pay41 (pay34 (pay71 o.mix)) (pay35 (pay71 o.mix)) (dh_at o) o.gp

end Half

section Blocks

variable (m : (ℓ : Loc nD τ sig) → Buf (Elt Ideal) ℓ) (c : Dev nD) (t : Fin cfg0.N)

/-- The weights of each quarter, as the body loads them. -/
abbrev ups (j : Fin 4) : Vec Ideal S2x512x1024 .bf16 :=
  ![View.ld (iblk m c 6 t) (Rect.unit ![0, 0, 0] ![2, 512, 1024] inb_S8x512x1024_S2x512x1024_0_0_0),
    View.ld (iblk m c 6 t) (Rect.unit ![2, 0, 0] ![2, 512, 1024] inb_S8x512x1024_S2x512x1024_2_0_0),
    View.ld (iblk m c 6 t) (Rect.unit ![4, 0, 0] ![2, 512, 1024] inb_S8x512x1024_S2x512x1024_4_0_0),
    View.ld (iblk m c 6 t) (Rect.unit ![6, 0, 0] ![2, 512, 1024] inb_S8x512x1024_S2x512x1024_6_0_0)] j

abbrev downs (j : Fin 4) : Vec Ideal S2x512x1024 .bf16 :=
  ![View.ld (iblk m c 7 t) (Rect.unit ![0, 0, 0] ![2, 512, 1024] inb_S8x512x1024_S2x512x1024_0_0_0),
    View.ld (iblk m c 7 t) (Rect.unit ![2, 0, 0] ![2, 512, 1024] inb_S8x512x1024_S2x512x1024_2_0_0),
    View.ld (iblk m c 7 t) (Rect.unit ![4, 0, 0] ![2, 512, 1024] inb_S8x512x1024_S2x512x1024_4_0_0),
    View.ld (iblk m c 7 t) (Rect.unit ![6, 0, 0] ![2, 512, 1024] inb_S8x512x1024_S2x512x1024_6_0_0)] j

/-- The first half of a tile. -/
abbrev lower : Half where
  X := View.ld (iblk m c 0 t) (Rect.unit ![0, 0] ![256, 1024] inb_S512x1024_S256x1024_0_0)
  M := View.ld (iblk m c 1 t) (Rect.unit ![0, 0] ![256, 1024] inb_S512x1024_S256x1024_0_0)
  T := View.ld (iblk m c 2 t) (Rect.unit ![0, 0] ![256, 1024] inb_S512x1024_S256x1024_0_0)
  P := iblk m c 3 t
  Q := iblk m c 4 t
  R := iblk m c 5 t
  U := ups m c t
  D := downs m c t

/-- The second half of a tile. -/
abbrev upper : Half where
  X := View.ld (iblk m c 0 t) (Rect.unit ![256, 0] ![256, 1024] inb_S512x1024_S256x1024_256_0)
  M := View.ld (iblk m c 1 t) (Rect.unit ![256, 0] ![256, 1024] inb_S512x1024_S256x1024_256_0)
  T := View.ld (iblk m c 2 t) (Rect.unit ![256, 0] ![256, 1024] inb_S512x1024_S256x1024_256_0)
  P := iblk m c 3 t
  Q := iblk m c 4 t
  R := iblk m c 5 t
  U := ups m c t
  D := downs m c t

end Blocks

/-! ## The loads of the body -/

theorem emb0 {k : ℕ} (inb) (y : S256x1024.Idx) : ((Rect.unit (s := S512x1024) ![k, 0] ![256, 1024] inb).emb y 0).val = k + (y 0).val := by
  rw [Rect.emb_apply]
  show k + 1 * (y 0).val = _
  omega

theorem emb1 {k : ℕ} (inb) (y : S256x1024.Idx) : ((Rect.unit (s := S512x1024) ![k, 0] ![256, 1024] inb).emb y 1).val = (y 1).val := by
  rw [Rect.emb_apply]
  show 0 + 1 * (y 1).val = _
  omega

theorem colEmb0 {k j : ℕ} (inb) (y : S256x1024.Idx) : ((Rect.unit (s := S512x4096) ![k, j] ![256, 1024] inb).emb y 0).val = k + (y 0).val := by
  rw [Rect.emb_apply]
  show k + 1 * (y 0).val = _
  omega

theorem colEmb1 {k j : ℕ} (inb) (y : S256x1024.Idx) : ((Rect.unit (s := S512x4096) ![k, j] ![256, 1024] inb).emb y 1).val = j + (y 1).val := by
  rw [Rect.emb_apply]
  show j + 1 * (y 1).val = _
  omega

/-- The rows of a half, loaded from a tile. -/
theorem ld_rows {X : S512x1024.Idx → EReal} {f : ℕ → Fin 1024 → ℝ} {b k : ℕ} (hX : Holds X fun r c => f (b + r) c) (inb) :
    Holds (fun y : S256x1024.Idx => X ((Rect.unit (s := S512x1024) ![k, 0] ![256, 1024] inb).emb y)) fun (r : Fin 256) c => f (b + k + r) c := fun r c => by
  refine (congrArg X (eq_ix2 _)).trans ((hX _ _).trans ?_)
  dsimp only
  rw [emb0 inb (ix2 r c), Nat.add_assoc b k]
  exact congrArg (fun l : Fin 1024 => (f _ l : EReal)) (Fin.ext (emb1 inb (ix2 r c)))

/-- What a half leaves in its rows of a tile. -/
theorem at_rows {X : S256x1024.Idx → EReal} {f : ℕ → Fin 1024 → ℝ} {b k : ℕ} (hX : Holds X fun r c => f (b + k + r) c) (inb) (y : S256x1024.Idx) :
    X y = (fun i : S512x1024.Idx => (f (b + (i 0).val) (i 1) : EReal)) ((Rect.unit (s := S512x1024) ![k, 0] ![256, 1024] inb).emb y) := by
  refine (congrArg X (eq_ix2 y)).trans ((hX _ _).trans ?_)
  dsimp only
  rw [emb0 inb y, Nat.add_assoc b k]
  exact congrArg (fun l : Fin 1024 => (f _ l : EReal)) (Fin.ext (emb1 inb y).symm)

/-- The same of a quarter of the hidden columns. -/
theorem at_cols {X : S256x1024.Idx → EReal} {f : ℕ → Fin 4096 → ℝ} {b k : ℕ} (j : Fin 4) (hX : Holds X fun r c => f (b + k + r) (col j c)) {l : ℕ}
    (hl : l = 1024 * j.val) (inb) (y : S256x1024.Idx) :
    X y = (fun i : S512x4096.Idx => (f (b + (i 0).val) (i 1) : EReal)) ((Rect.unit (s := S512x4096) ![k, l] ![256, 1024] inb).emb y) := by
  subst hl
  refine (congrArg X (eq_ix2 y)).trans ((hX _ _).trans ?_)
  dsimp only
  rw [colEmb0 inb y, Nat.add_assoc b k]
  exact congrArg (fun e : Fin 4096 => (f _ e : EReal)) (Fin.ext (colEmb1 inb y).symm)

/-- A tile of which each half left its rows. -/
theorem halves {X Y : FVec Ideal S256x1024 .bf16} {f : ℕ → Fin 1024 → ℝ} {b : ℕ} (hY : Holds Y fun r c => f (b + 256 + r) c)
    (hX : Holds X fun r c => f (b + r) c) (y : S512x1024.Idx) :
    View.canon (Val := Elt Ideal) (e := .bf16) [⟨Rect.unit ![256, 0] ![256, 1024] inb_S512x1024_S256x1024_256_0, Y⟩,
      ⟨Rect.unit ![0, 0] ![256, 1024] inb_S512x1024_S256x1024_0_0, X⟩] y = (f (b + (y 0).val) (y 1) : EReal) :=
  View.canon_append_of_piecesOf (Val := Elt Ideal) (e := .bf16) (fun i : S512x1024.Idx => (f (b + (i 0).val) (i 1) : EReal)) [] [_, _]
    ⟨at_rows hY inb_S512x1024_S256x1024_256_0, at_rows (k := 0) hX inb_S512x1024_S256x1024_0_0, trivial⟩ y (View.cover_of_tiled_head _ _ _ rfl y)

/-- A tile of which each half left its rows of each quarter. -/
theorem quarters {X Y : Fin 4 → FVec Ideal S256x1024 .bf16} {f : ℕ → Fin 4096 → ℝ} {b : ℕ} (hY : ∀ j, Holds (Y j) fun r c => f (b + 256 + r) (col j c))
    (hX : ∀ j, Holds (X j) fun r c => f (b + r) (col j c)) (y : S512x4096.Idx) :
    View.canon (Val := Elt Ideal) (e := .bf16) [⟨Rect.unit ![256, 3072] ![256, 1024] inb_S512x4096_S256x1024_256_3072, Y 3⟩,
      ⟨Rect.unit ![256, 2048] ![256, 1024] inb_S512x4096_S256x1024_256_2048, Y 2⟩,
      ⟨Rect.unit ![256, 1024] ![256, 1024] inb_S512x4096_S256x1024_256_1024, Y 1⟩,
      ⟨Rect.unit ![256, 0] ![256, 1024] inb_S512x4096_S256x1024_256_0, Y 0⟩,
      ⟨Rect.unit ![0, 3072] ![256, 1024] inb_S512x4096_S256x1024_0_3072, X 3⟩,
      ⟨Rect.unit ![0, 2048] ![256, 1024] inb_S512x4096_S256x1024_0_2048, X 2⟩,
      ⟨Rect.unit ![0, 1024] ![256, 1024] inb_S512x4096_S256x1024_0_1024, X 1⟩,
      ⟨Rect.unit ![0, 0] ![256, 1024] inb_S512x4096_S256x1024_0_0, X 0⟩] y = (f (b + (y 0).val) (y 1) : EReal) :=
  View.canon_append_of_piecesOf (Val := Elt Ideal) (e := .bf16) (fun i : S512x4096.Idx => (f (b + (i 0).val) (i 1) : EReal)) [] [_, _, _, _, _, _, _, _]
    ⟨at_cols 3 (hY 3) rfl inb_S512x4096_S256x1024_256_3072, at_cols 2 (hY 2) rfl inb_S512x4096_S256x1024_256_2048,
      at_cols 1 (hY 1) rfl inb_S512x4096_S256x1024_256_1024, at_cols 0 (hY 0) rfl inb_S512x4096_S256x1024_256_0,
      at_cols (k := 0) 3 (hX 3) rfl inb_S512x4096_S256x1024_0_3072, at_cols (k := 0) 2 (hX 2) rfl inb_S512x4096_S256x1024_0_2048,
      at_cols (k := 0) 1 (hX 1) rfl inb_S512x4096_S256x1024_0_1024, at_cols (k := 0) 0 (hX 0) rfl inb_S512x4096_S256x1024_0_0, trivial⟩ y
    (View.cover_of_tiled_head _ _ _ rfl y)

section Loads

variable {x : In} {m : (ℓ : Loc nD τ sig) → Buf (Elt Ideal) ℓ} {c : Dev nD} (h : Args x m c) (t : Fin cfg0.N)

/-- Two parts of a block of weights, from part `k` on. -/
theorem emb_part {k : ℕ} (inb) (p : Fin 2) (q : Fin 512) (e : Fin 1024) (hk : k + p < 8) :
    (Rect.unit (s := S8x512x1024) ![k, 0, 0] ![2, 512, 1024] inb).emb (ix3 p q e) = ix3 ⟨k + p, hk⟩ q e := by
  funext a
  apply Fin.ext
  rw [Rect.emb_apply]
  fin_cases a
  · show k + 1 * p.val = k + p.val
    omega
  · show 0 + 1 * q.val = q.val
    omega
  · show 0 + 1 * e.val = e.val
    omega

include h

theorem ups_at {k : ℕ} (j : Fin 4) (hk : k = 2 * j.val) (inb) :
    Part (View.ld (iblk m c 6 t) (Rect.unit (s := S8x512x1024) ![k, 0, 0] ![2, 512, 1024] inb)) fun k c => x.wu k (col j c) := fun p q e => by
  subst hk
  refine (congrArg (iblk m c 6 t) (emb_part inb p q e (by omega))).trans ((blk6 h t _ _ _).trans ?_)
  exact congrArg₂ (fun a b => (x.wu a b : EReal)) (Fin.ext (by dsimp only; omega)) (Fin.ext (by dsimp only [col]; omega))

theorem downs_at {k : ℕ} (j : Fin 4) (hk : k = 2 * j.val) (inb) :
    Part (View.ld (iblk m c 7 t) (Rect.unit (s := S8x512x1024) ![k, 0, 0] ![2, 512, 1024] inb)) fun c k => x.wd (col j c) k := fun p q e => by
  subst hk
  refine (congrArg (iblk m c 7 t) (emb_part inb p q e (by omega))).trans ((blk7 h t _ _ _).trans ?_)
  exact congrArg (fun a => (x.wd a e : EReal)) (Fin.ext (by dsimp only [col]; omega))

theorem lower_of : (lower m c t).Of x (512 * t) where
  inp := ld_rows (f := x.inp) (k := 0) (blk0 h t) inb_S512x1024_S256x1024_0_0
  mix := ld_rows (f := x.mix) (k := 0) (blk1 h t) inb_S512x1024_S256x1024_0_0
  tgt := ld_rows (f := x.tgt) (k := 0) (blk2 h t) inb_S512x1024_S256x1024_0_0
  gp := blk3 h t
  g2 := blk4 h t
  g4 := blk5 h t
  wu := Fin.cases (ups_at h t 0 rfl _) (Fin.cases (ups_at h t 1 rfl _) (Fin.cases (ups_at h t 2 rfl _) (Fin.cases (ups_at h t 3 rfl _) nofun)))
  wd := Fin.cases (downs_at h t 0 rfl _) (Fin.cases (downs_at h t 1 rfl _) (Fin.cases (downs_at h t 2 rfl _) (Fin.cases (downs_at h t 3 rfl _) nofun)))

theorem upper_of : (upper m c t).Of x (512 * t + 256) where
  inp := ld_rows (f := x.inp) (k := 256) (blk0 h t) inb_S512x1024_S256x1024_256_0
  mix := ld_rows (f := x.mix) (k := 256) (blk1 h t) inb_S512x1024_S256x1024_256_0
  tgt := ld_rows (f := x.tgt) (k := 256) (blk2 h t) inb_S512x1024_S256x1024_256_0
  gp := blk3 h t
  g2 := blk4 h t
  g4 := blk5 h t
  wu := (lower_of h t).wu
  wd := (lower_of h t).wd

/-! ## The arrays of rows, at a point -/

theorem out9 (i : S512x1024.Idx) : (outsAt0 m c t.val t.isLt).2.1 i = (x.hn (512 * t + (i 0).val) (i 1) : EReal) := by
  have key := halves (Half.hn_at (upper_of h t)) (Half.hn_at (lower_of h t)) i
  by_cases h0 : t.val % 16 = 0
  · rw [outsAt0_A m c t h0]; frame_out; exact key
  · rw [outsAt0_B m c t h0]; frame_out; exact key

theorem out8 (i : S512x4096.Idx) : (outsAt0 m c t.val t.isLt).1 i = (x.up (512 * t + (i 0).val) (i 1) : EReal) := by
  have key := quarters (X := fun j => (lower m c t).tup j) (Y := fun j => (upper m c t).tup j) (Half.up_at (upper_of h t)) (Half.up_at (lower_of h t)) i
  dsimp only [Half.th, Half.thn, Half.tup, Half.tout, Half.tdy, Half.tdout, Half.tdpre, Half.tdhn, Half.tdh, Half.tdmix, lower, upper, ups, downs, Matrix.cons_val] at key
  by_cases h0 : t.val % 16 = 0
  · rw [outsAt0_A m c t h0]
    frame_out
    simp only [same8, same9, same12, same15, same18, same21, same24, same26, same30, same11, same13, same16, same19, same22, same25, same27, same31, same32]
    exact key
  · rw [outsAt0_B m c t h0]
    frame_out
    simp only [same8, same9, same12, same15, same18, same21, same24, same26, same30, same11, same13, same16, same19, same22, same25, same27, same31, same32]
    exact key

theorem out10 (i : S512x1024.Idx) : (outsAt0 m c t.val t.isLt).2.2.1 i = (x.dout (512 * t + (i 0).val) (i 1) : EReal) := by
  have key := halves (Half.dout_at (upper_of h t)) (Half.dout_at (lower_of h t)) i
  dsimp only [Half.th, Half.thn, Half.tup, Half.tout, Half.tdy, Half.tdout, Half.tdpre, Half.tdhn, Half.tdh, Half.tdmix, lower, upper, ups, downs, Matrix.cons_val] at key
  by_cases h0 : t.val % 16 = 0
  · rw [outsAt0_A m c t h0]
    frame_out
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key
  · rw [outsAt0_B m c t h0]
    frame_out
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key

theorem out11 (i : S512x4096.Idx) : (outsAt0 m c t.val t.isLt).2.2.2.1 i = (x.dpre (512 * t + (i 0).val) (i 1) : EReal) := by
  have key := quarters (X := fun j => (lower m c t).tdpre j) (Y := fun j => (upper m c t).tdpre j) (Half.dpre_at (upper_of h t)) (Half.dpre_at (lower_of h t)) i
  dsimp only [Half.th, Half.thn, Half.tup, Half.tout, Half.tdy, Half.tdout, Half.tdpre, Half.tdhn, Half.tdh, Half.tdmix, lower, upper, ups, downs, Matrix.cons_val] at key
  by_cases h0 : t.val % 16 = 0
  · rw [outsAt0_A m c t h0]
    frame_out [View.readCov_skip, View.readCov_cons_toLoadRect]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key
  · rw [outsAt0_B m c t h0]
    frame_out [View.readCov_skip, View.readCov_cons_toLoadRect]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key

theorem out12 (i : S512x1024.Idx) : (outsAt0 m c t.val t.isLt).2.2.2.2.1 i = (x.dh (512 * t + (i 0).val) (i 1) : EReal) := by
  have key := halves (Half.dh_at (upper_of h t)) (Half.dh_at (lower_of h t)) i
  dsimp only [Half.th, Half.thn, Half.tup, Half.tout, Half.tdy, Half.tdout, Half.tdpre, Half.tdhn, Half.tdh, Half.tdmix, lower, upper, ups, downs, Matrix.cons_val] at key
  by_cases h0 : t.val % 16 = 0
  · rw [outsAt0_A m c t h0]
    frame_out [View.readCov_skip, View.readCov_cons_toLoadRect]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key
  · rw [outsAt0_B m c t h0]
    frame_out [View.readCov_skip, View.readCov_cons_toLoadRect]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key

theorem out13 (i : S512x1024.Idx) : (outsAt0 m c t.val t.isLt).2.2.2.2.2.1 i = (x.dmix (512 * t + (i 0).val) (i 1) : EReal) := by
  have key := halves (Half.dmix_at (upper_of h t)) (Half.dmix_at (lower_of h t)) i
  dsimp only [Half.th, Half.thn, Half.tup, Half.tout, Half.tdy, Half.tdout, Half.tdpre, Half.tdhn, Half.tdh, Half.tdmix, lower, upper, ups, downs, Matrix.cons_val] at key
  by_cases h0 : t.val % 16 = 0
  · rw [outsAt0_A m c t h0]
    frame_out [View.readCov_skip, View.readCov_cons_toLoadRect]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key
  · rw [outsAt0_B m c t h0]
    frame_out [View.readCov_skip, View.readCov_cons_toLoadRect]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key

end Loads

/-! ## The arrays of rows -/

theorem idxOut : ∀ t : Fin cfg0.N, (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0) :=
  (by decide +kernel : ∀ t : Fin grid0.N, _)

/-- An entry of a tile, at the place of its index in the array. -/
theorem at_row {n b : ℕ} {f : ℕ → Fin n → ℝ} {v : EReal} {y0 : ℕ} {y1 : Fin n} (hv : v = (f (512 * b + y0) y1 : EReal)) {i0 : ℕ} {i1 : Fin n}
    (h0 : i0 = b * 512 + y0) (h1 : i1.val = y1.val) : v = (f i0 i1 : EReal) := by
  obtain rfl : i1 = y1 := Fin.ext h1
  rw [hv, h0, Nat.mul_comm b]

section Arrays

variable {x : In} {m : (ℓ : Loc nD τ sig) → Buf (Elt Ideal) ℓ} {c : Dev nD} (h : Args x m c)

include h

theorem final8 : (dats m 0 c).arrAt 8 cfg0.N = fun i => (x.up (i 0).val (i 1) : EReal) := by
  refine (dats m 0 c).arrAt_eq_of_covers 8 _ (by decide +kernel) fun t hf y => ?_
  rw [after0_8]
  exact at_row (f := x.up) (out8 h t y) (by blk_simp [idxOut t]) (by blk_simp [idxOut t])

theorem final9 : (dats m 0 c).arrAt 9 cfg0.N = fun i => (x.hn (i 0).val (i 1) : EReal) := by
  refine (dats m 0 c).arrAt_eq_of_covers 9 _ (by decide +kernel) fun t hf y => ?_
  rw [after0_9]
  exact at_row (f := x.hn) (out9 h t y) (by blk_simp [idxOut t]) (by blk_simp [idxOut t])

theorem final10 : (dats m 0 c).arrAt 10 cfg0.N = fun i => (x.dout (i 0).val (i 1) : EReal) := by
  refine (dats m 0 c).arrAt_eq_of_covers 10 _ (by decide +kernel) fun t hf y => ?_
  rw [after0_10]
  exact at_row (f := x.dout) (out10 h t y) (by blk_simp [idxOut t]) (by blk_simp [idxOut t])

theorem final11 : (dats m 0 c).arrAt 11 cfg0.N = fun i => (x.dpre (i 0).val (i 1) : EReal) := by
  refine (dats m 0 c).arrAt_eq_of_covers 11 _ (by decide +kernel) fun t hf y => ?_
  rw [after0_11]
  exact at_row (f := x.dpre) (out11 h t y) (by blk_simp [idxOut t]) (by blk_simp [idxOut t])

theorem final12 : (dats m 0 c).arrAt 12 cfg0.N = fun i => (x.dh (i 0).val (i 1) : EReal) := by
  refine (dats m 0 c).arrAt_eq_of_covers 12 _ (by decide +kernel) fun t hf y => ?_
  rw [after0_12]
  exact at_row (f := x.dh) (out12 h t y) (by blk_simp [idxOut t]) (by blk_simp [idxOut t])

theorem final13 : (dats m 0 c).arrAt 13 cfg0.N = fun i => (x.dmix (i 0).val (i 1) : EReal) := by
  refine (dats m 0 c).arrAt_eq_of_covers 13 _ (by decide +kernel) fun t hf y => ?_
  rw [after0_13]
  exact at_row (f := x.dmix) (out13 h t y) (by blk_simp [idxOut t]) (by blk_simp [idxOut t])

end Arrays

end Cert.Mlp

end
-- ==== Proof.MlpSums.lean ====
module

public import proofs.«01_k».proof.Proof.MlpOut

@[expose] public section

/-! # What the perceptron's call leaves in its result arrays: the sums over the rows -/

set_option maxHeartbeats 2000000

noncomputable section

namespace Cert.Mlp

open Idealize.ShloMosaic Idealize.ShloMosaic.TcCoe Idealize.SL.Sem Cert.Kernel3Ideal Cert.Kernel3Ideal.Gen Cert.Lift

/-- The two halves of a tile. -/
theorem sum_halves (f : ℕ → ℝ) (b : ℕ) : ∑ r : Fin 256, f (b + r) + ∑ r : Fin 256, f (b + 256 + r) = ∑ r : Fin 512, f (b + r) := by
  refine (Eq.trans (Fin.sum_univ_add (a := 256) (b := 256) fun r => f (b + r)) (congrArg₂ (· + ·) rfl ?_)).symm
  exact Finset.sum_congr rfl fun r _ => congrArg f ((Nat.add_assoc b 256 r).symm)

/-- A sum over the sixteen points of sums over a tile's rows is the sum over all rows. -/
theorem sum_points (f : ℕ → ℝ) : (∑ p : Fin cfg0.N, ((∑ r : Fin 512, f (512 * p + r) : ℝ) : EReal)) = (∑ n : Fin 8192, f n : ℝ) := by
  refine (coe_sum _ _).symm.trans (congrArg _ (Fin.sum_mul_add_congr (S := 16) fun s k hl => ?_))
  rw [Nat.mul_comm]

theorem pay87 (a : FVec Ideal S1x1024 .f32) (acc : Vec Ideal S1x1024 .f32) (i : S1x1024.Idx) : k0_pay87 (F := Ideal) a acc i = acc i + a i := by
  rw [eq_ix2 i]
  unfold k0_pay87
  pointwise

theorem pay88 (a : FVec Ideal S1x1024 .f32) (acc : Vec Ideal S1x1024 .f32) (i : S1x1024.Idx) : k0_pay88 (F := Ideal) a acc i = acc i + a i :=
  pay87 a acc i

theorem pay1 (a : FVec Ideal S1x1024 .f32) (acc : Vec Ideal S1x1024 .f32) (i : S1x1024.Idx) :
    k0_pay1 (F := Ideal) a (k0_pay89 acc) i = acc i + a i := pay87 a acc i

theorem pay86 (a : FVec Ideal S1x1 .f32) (acc : Vec Ideal S1x1 .f32) (i : S1x1.Idx) : k0_pay86 (F := Ideal) a acc i = acc i + a i := by
  rw [eq_ix2 i]
  unfold k0_pay86
  pointwise

/-- What a point adds to a row of sums. -/
theorem row_sum {f g : ℕ → Fin 1024 → ℝ} {b : ℕ} {v v' w w' : FVec Ideal S256x1024 .f32} (hv : Holds v fun r k => f (b + r) k)
    (hw : Holds w fun r k => g (b + r) k) (hv' : Holds v' fun r k => f (b + 256 + r) k) (hw' : Holds w' fun r k => g (b + 256 + r) k) (i : S1x1024.Idx) :
    k0_pay47 (F := Ideal) (k0_pay47 k0_pay33 v w) v' w' i = ((∑ r : Fin 512, g (b + r) (i 1) * f (b + r) (i 1) : ℝ) : EReal) := by
  obtain ⟨z, k, rfl⟩ : ∃ (z : Fin 1) (k : Fin 1024), i = ix2 z k := ⟨i 0, i 1, eq_ix2 i⟩
  rw [Cert.Mlp.pay47 hv' hw', Cert.Mlp.pay47 hv hw, pay33, zero_add, ← EReal.coe_add]
  exact congrArg _ (sum_halves (fun n => g n k * f n k) b)

section Sums

variable {x : In} {m : (ℓ : Loc nD τ sig) → Buf (Elt Ideal) ℓ} {c : Dev nD} (h : Args x m c) (t : Fin cfg0.N)

include h

theorem add14 (i : S1x1.Idx) :
    k0_pay45 (F := Ideal) (upper m c t).th (upper m c t).tout (k0_pay45 (lower m c t).th (lower m c t).tout k0_pay2 (lower m c t).R (lower m c t).T)
      (upper m c t).R (upper m c t).T i = ((∑ r : Fin 512, x.loss (512 * t + r) : ℝ) : EReal) := by
  obtain ⟨z, k, rfl⟩ : ∃ (z : Fin 1) (k : Fin 1), i = ix2 z k := ⟨i 0, i 1, eq_ix2 i⟩
  rw [pay45 (Half.diff_at (upper_of h t)), pay45 (Half.diff_at (lower_of h t)), show k0_pay2 (F := Ideal) (ix2 z k) = 0 from Ideal.ofBits_zero_f32,
    zero_add, ← EReal.coe_add]
  exact congrArg _ (sum_halves x.loss (512 * t))

theorem add15 (i : S1x1024.Idx) :
    k0_pay47 (F := Ideal) (k0_pay47 k0_pay33 (k0_pay35 (lower m c t).tout) (lower m c t).tdy) (k0_pay35 (upper m c t).tout) (upper m c t).tdy i
      = ((∑ r : Fin 512, x.dg4 (512 * t + r) (i 1) : ℝ) : EReal) :=
  row_sum (f := fun n k => x.out n k * rms (x.out n)) (pay35 (Half.out_at (lower_of h t))) (Half.dy_at (lower_of h t))
    (pay35 (Half.out_at (upper_of h t))) (Half.dy_at (upper_of h t)) i

theorem add16 (i : S1x1024.Idx) :
    k0_pay47 (F := Ideal) (k0_pay47 k0_pay33 (k0_pay35 (lower m c t).th) (lower m c t).tdhn) (k0_pay35 (upper m c t).th) (upper m c t).tdhn i
      = ((∑ r : Fin 512, x.dg2 (512 * t + r) (i 1) : ℝ) : EReal) :=
  row_sum (f := fun n k => x.h n k * rms (x.h n)) (pay35 (Half.h_at (lower_of h t))) (Half.dhn_at (lower_of h t))
    (pay35 (Half.h_at (upper_of h t))) (Half.dhn_at (upper_of h t)) i

theorem add17 (i : S1x1024.Idx) :
    k0_pay47 (F := Ideal) (k0_pay47 k0_pay33 (k0_pay35 (k0_pay71 (lower m c t).M)) (lower m c t).tdh) (k0_pay35 (k0_pay71 (upper m c t).M)) (upper m c t).tdh i
      = ((∑ r : Fin 512, x.dgp (512 * t + r) (i 1) : ℝ) : EReal) :=
  row_sum (f := fun n k => x.mix n k * rms (x.mix n)) (pay35 (pay71 (lower_of h t).mix)) (Half.dh_at (lower_of h t))
    (pay35 (pay71 (upper_of h t).mix)) (Half.dh_at (upper_of h t)) i

omit t in
theorem out14 (i : S1x1.Idx) : (outsAt0 m c 15 (by decide)).2.2.2.2.2.2.1 i = ((∑ n : Fin 8192, x.loss n : ℝ) : EReal) := by
  refine (Pipeline.eq_sum_fin_of_reset_step_apply_last (fun n h => (outsAt0 m c n h).2.2.2.2.2.2.1) 16 (fun _ => 0)
    (fun t _ => ((∑ r : Fin 512, x.loss (512 * t + r) : ℝ) : EReal)) (fun t h0 j => ?_) (fun t h0 j => ?_)
    (le_of_eq Gen.N_0) ⟨15, by decide⟩ rfl i).trans ?_
  · have key (acc : FVec Ideal S1x1 .f32) (a : EReal) (ha : acc j = a) := (pay86 _ acc j).trans (congrArg₂ (· + ·) ha (add14 h t j))
    dsimp only [Half.th, Half.thn, Half.tup, Half.tout, Half.tdy, Half.tdout, Half.tdpre, Half.tdhn, Half.tdh, Half.tdmix, lower, upper, ups, downs, Matrix.cons_val] at key
    rw [outsAt0_A m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key (k0_pay2 (F := Ideal)) 0 Ideal.ofBits_zero_f32
  · have key (acc : FVec Ideal S1x1 .f32) := (pay86 _ acc j).trans (congrArg (acc j + ·) (add14 h t j))
    dsimp only [Half.th, Half.thn, Half.tup, Half.tout, Half.tdy, Half.tdout, Half.tdpre, Half.tdhn, Half.tdh, Half.tdmix, lower, upper, ups, downs, Matrix.cons_val] at key
    rw [outsAt0_B m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key _
  · rw [zero_add]
    exact sum_points (fun n => x.loss n)

omit t in
theorem out15 (i : S1x1024.Idx) : (outsAt0 m c 15 (by decide)).2.2.2.2.2.2.2.1 i = ((∑ n : Fin 8192, x.dg4 n (i 1) : ℝ) : EReal) := by
  refine (Pipeline.eq_sum_fin_of_reset_step_apply_last (fun n h => (outsAt0 m c n h).2.2.2.2.2.2.2.1) 16 (fun _ => 0)
    (fun t j => ((∑ r : Fin 512, x.dg4 (512 * t + r) (j 1) : ℝ) : EReal)) (fun t h0 j => ?_) (fun t h0 j => ?_)
    (le_of_eq Gen.N_0) ⟨15, by decide⟩ rfl i).trans ?_
  · have key (acc : FVec Ideal S1x1024 .f32) (a : EReal) (ha : acc j = a) := (pay87 _ acc j).trans (congrArg₂ (· + ·) ha (add15 h t j))
    dsimp only [Half.th, Half.thn, Half.tup, Half.tout, Half.tdy, Half.tdout, Half.tdpre, Half.tdhn, Half.tdh, Half.tdmix, lower, upper, ups, downs, Matrix.cons_val] at key
    rw [outsAt0_A m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key (k0_pay3 (F := Ideal)) 0 Ideal.ofBits_zero_f32
  · have key (acc : FVec Ideal S1x1024 .f32) := (pay87 _ acc j).trans (congrArg (acc j + ·) (add15 h t j))
    dsimp only [Half.th, Half.thn, Half.tup, Half.tout, Half.tdy, Half.tdout, Half.tdpre, Half.tdhn, Half.tdh, Half.tdmix, lower, upper, ups, downs, Matrix.cons_val] at key
    rw [outsAt0_B m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key _
  · rw [zero_add]
    exact sum_points (fun n => x.dg4 n (i 1))

omit t in
theorem out16 (i : S1x1024.Idx) : (outsAt0 m c 15 (by decide)).2.2.2.2.2.2.2.2.1 i = ((∑ n : Fin 8192, x.dg2 n (i 1) : ℝ) : EReal) := by
  refine (Pipeline.eq_sum_fin_of_reset_step_apply_last (fun n h => (outsAt0 m c n h).2.2.2.2.2.2.2.2.1) 16 (fun _ => 0)
    (fun t j => ((∑ r : Fin 512, x.dg2 (512 * t + r) (j 1) : ℝ) : EReal)) (fun t h0 j => ?_) (fun t h0 j => ?_)
    (le_of_eq Gen.N_0) ⟨15, by decide⟩ rfl i).trans ?_
  · have key (acc : FVec Ideal S1x1024 .f32) (a : EReal) (ha : acc j = a) := (pay88 _ acc j).trans (congrArg₂ (· + ·) ha (add16 h t j))
    dsimp only [Half.th, Half.thn, Half.tup, Half.tout, Half.tdy, Half.tdout, Half.tdpre, Half.tdhn, Half.tdh, Half.tdmix, lower, upper, ups, downs, Matrix.cons_val] at key
    rw [outsAt0_A m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key (k0_pay4 (F := Ideal)) 0 Ideal.ofBits_zero_f32
  · have key (acc : FVec Ideal S1x1024 .f32) := (pay88 _ acc j).trans (congrArg (acc j + ·) (add16 h t j))
    dsimp only [Half.th, Half.thn, Half.tup, Half.tout, Half.tdy, Half.tdout, Half.tdpre, Half.tdhn, Half.tdh, Half.tdmix, lower, upper, ups, downs, Matrix.cons_val] at key
    rw [outsAt0_B m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key _
  · rw [zero_add]
    exact sum_points (fun n => x.dg2 n (i 1))

omit t in
theorem out17 (i : S1x1024.Idx) : (outsAt0 m c 15 (by decide)).2.2.2.2.2.2.2.2.2 i = ((∑ n : Fin 8192, x.dgp n (i 1) : ℝ) : EReal) := by
  refine (Pipeline.eq_sum_fin_of_reset_step_apply_last (fun n h => (outsAt0 m c n h).2.2.2.2.2.2.2.2.2) 16 (fun _ => 0)
    (fun t j => ((∑ r : Fin 512, x.dgp (512 * t + r) (j 1) : ℝ) : EReal)) (fun t h0 j => ?_) (fun t h0 j => ?_)
    (le_of_eq Gen.N_0) ⟨15, by decide⟩ rfl i).trans ?_
  · have key (acc : FVec Ideal S1x1024 .f32) (a : EReal) (ha : acc j = a) := (pay1 _ acc j).trans (congrArg₂ (· + ·) ha (add17 h t j))
    dsimp only [Half.th, Half.thn, Half.tup, Half.tout, Half.tdy, Half.tdout, Half.tdpre, Half.tdhn, Half.tdh, Half.tdmix, lower, upper, ups, downs, Matrix.cons_val] at key
    rw [outsAt0_A m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key (k0_pay5 (F := Ideal)) 0 Ideal.ofBits_zero_f32
  · have key (acc : FVec Ideal S1x1024 .f32) := (pay1 _ acc j).trans (congrArg (acc j + ·) (add17 h t j))
    dsimp only [Half.th, Half.thn, Half.tup, Half.tout, Half.tdy, Half.tdout, Half.tdpre, Half.tdhn, Half.tdh, Half.tdmix, lower, upper, ups, downs, Matrix.cons_val] at key
    rw [outsAt0_B m c t h0]
    frame_out [View.readCov_skip, View.readCov_cons_toLoadRect, View.readCov_fill]
    simp only [same42, same65, same76, same72, same82, same81, same43, same66, same77, same73, same83, same8, same9, same48, same79, same70, same80, same75, same85, same12, same15, same18, same21, same24, same26, same30, same11, same13, same16, same19, same22, same25, same27, same31, same51, same52, same54, same56, same58, same60, same62, same57, same59, same53, same63, same44, same46, same37, same40, same67, same78, same64, same74, same84, same32]
    exact key _
  · rw [zero_add]
    exact sum_points (fun n => x.dgp n (i 1))

omit t in
theorem final14 : (dats m 0 c).arrAt 14 cfg0.N = fun _ => ((∑ n : Fin 8192, x.loss n : ℝ) : EReal) := by
  refine (dats m 0 c).arrAt_eq_of_after_last 14 ⟨15, by decide⟩ (by decide +kernel) _ fun j => ?_
  rw [after0_14]
  exact out14 h j

omit t in
theorem final15 : (dats m 0 c).arrAt 15 cfg0.N = fun i => ((∑ n : Fin 8192, x.dg4 n (i 1) : ℝ) : EReal) := by
  refine (dats m 0 c).arrAt_eq_of_after_last 15 ⟨15, by decide⟩ (by decide +kernel) _ fun j => ?_
  rw [after0_15]
  exact out15 h j

omit t in
theorem final16 : (dats m 0 c).arrAt 16 cfg0.N = fun i => ((∑ n : Fin 8192, x.dg2 n (i 1) : ℝ) : EReal) := by
  refine (dats m 0 c).arrAt_eq_of_after_last 16 ⟨15, by decide⟩ (by decide +kernel) _ fun j => ?_
  rw [after0_16]
  exact out16 h j

omit t in
theorem final17 : (dats m 0 c).arrAt 17 cfg0.N = fun i => ((∑ n : Fin 8192, x.dgp n (i 1) : ℝ) : EReal) := by
  refine (dats m 0 c).arrAt_eq_of_after_last 17 ⟨15, by decide⟩ (by decide +kernel) _ fun j => ?_
  rw [after0_17]
  exact out17 h j

end Sums

end Cert.Mlp

end
-- ==== Proof.MlpRef.lean ====
/-
  The reference's pass through the perceptron, read element by element and found to be that of `MlpSpec`.
-/
module

public import proofs.«01_k».proof.Proof.MlpPay
public import proofs.«01_k».proof.Proof.Gen.Reference3Ideal.Run
public import Idealize.ShloMosaic.Lib.Pointwise

@[expose] public section

noncomputable section

namespace Cert.Mlp.Ref

open Idealize.ShloMosaic Idealize.ShloMosaic.TcCoe Idealize.SL.Sem Cert.Reference3Ideal Cert.Reference3Ideal.Gen Cert.Reference3Ideal.Value Cert.Lift

/-- The contents `V` of the reference's buffers hold the arguments `x`. -/
structure At (x : In) (V : Valuation τ sig (Elt Ideal)) : Prop where
  inp : ∀ (n : Fin 8192) (k : Fin 1024), V (Proc.devRef .tc main_arg0) (ix2 n k) = (x.inp n k : EReal)
  mix : ∀ (n : Fin 8192) (k : Fin 1024), V (Proc.devRef .tc main_arg1) (ix2 n k) = (x.mix n k : EReal)
  tgt : ∀ (n : Fin 8192) (k : Fin 1024), V (Proc.devRef .tc main_arg2) (ix2 n k) = (x.tgt n k : EReal)
  gp : ∀ (z : Fin 1) (k : Fin 1024), V (Proc.devRef .tc main_arg3) (ix2 z k) = (x.gp k : EReal)
  g2 : ∀ (z : Fin 1) (k : Fin 1024), V (Proc.devRef .tc main_arg4) (ix2 z k) = (x.g2 k : EReal)
  g4 : ∀ (z : Fin 1) (k : Fin 1024), V (Proc.devRef .tc main_arg5) (ix2 z k) = (x.g4 k : EReal)
  wu : ∀ (z : Fin 1) (k : Fin 1024) (e : Fin 4096), V (Proc.devRef .tc main_arg6) (ix3 z k e) = (x.wu k e : EReal)
  wd : ∀ (z : Fin 1) (e : Fin 4096) (k : Fin 1024), V (Proc.devRef .tc main_arg7) (ix3 z e k) = (x.wd e k : EReal)

/-- Matrices agree that do so at each place. -/
theorem ext2 {α : Type} {a b : ℕ} {f g : (⟨2, ![a, b]⟩ : Shape).Idx → α} (h : ∀ i j, f (ix2 i j) = g (ix2 i j)) : f = g :=
  funext fun i => eq_ix2 i ▸ h (i 0) (i 1)

theorem ofBits_half : Ideal.ofBits .f32 0x3F000000#32 = ((1 / 2 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

variable {x : In} {V : Valuation τ sig (Elt Ideal)} (h : At x V) (n : Fin 8192)

include h

/-! ## Forward -/

theorem r7 (z : Fin 1) : res_main_v7 V (ix2 n z) = (meanSq (x.mix n.val) : EReal) := by
  unfold res_main_v7
  pointwise
  simp only [h.mix _ _, ofBits_1024, ofBits_eps, ← EReal.coe_mul, ← coe_sum, div_1024, ← EReal.coe_add]
  rfl

theorem r8 (z : Fin 1) : res_main_v8 V (ix2 n z) = (rms (x.mix n.val) : EReal) := by
  unfold res_main_v8
  pointwise
  rw [r7 h, rsqrt_real (meanSq_pos _)]; rfl

theorem r13 (k : Fin 1024) : res_main_v13 V (ix2 n k) = ((x.mix n.val k * rms (x.mix n.val) : ℝ) : EReal) := by
  unfold res_main_v13
  pointwise
  rw [h.mix, r8 h, ← EReal.coe_mul]

theorem r17 (k : Fin 1024) : res_main_v17 V (ix2 n k) = (x.h n.val k : EReal) := by
  unfold res_main_v17 res_main_v14
  pointwise
  rw [h.inp, r13 h, h.gp, ← EReal.coe_mul, ← EReal.coe_add]; rfl

theorem r25 (z : Fin 1) : res_main_v25 V (ix2 n z) = (meanSq (x.h n.val) : EReal) := by
  unfold res_main_v25
  pointwise
  simp only [r17 h _ _, ofBits_1024, ofBits_eps, ← EReal.coe_mul, ← coe_sum, div_1024, ← EReal.coe_add]
  rfl

theorem r26 (z : Fin 1) : res_main_v26 V (ix2 n z) = (rms (x.h n.val) : EReal) := by
  unfold res_main_v26
  pointwise
  rw [r25 h, rsqrt_real (meanSq_pos _)]; rfl

theorem r31 (k : Fin 1024) : res_main_v31 V (ix2 n k) = ((x.h n.val k * rms (x.h n.val) : ℝ) : EReal) := by
  unfold res_main_v31
  pointwise
  rw [r17 h, r26 h, ← EReal.coe_mul]

theorem r34 (k : Fin 1024) : res_main_v34 V (ix2 n k) = (x.hn n.val k : EReal) := by
  unfold res_main_v34 res_main_v32
  pointwise
  rw [r31 h, h.g2, ← EReal.coe_mul]; rfl

theorem r36 (e : Fin 4096) : res_main_v36 V (ix2 n e) = ((∑ k, x.hn n.val k * x.wu k e : ℝ) : EReal) := by
  unfold res_main_v36 res_main_v35
  pointwise
  simp only [r34 h _ _, h.wu _ _ _, ← EReal.coe_mul, ← coe_sum]

theorem r37 (e : Fin 4096) : res_main_v37 V (ix2 n e) = (x.up n.val e : EReal) := by
  unfold res_main_v37
  pointwise
  rw [r36 h]
  exact coe_max _ 0

theorem r43 (k : Fin 1024) : res_main_v43 V (ix2 n k) = (x.out n.val k : EReal) := by
  unfold res_main_v43 res_main_v42
  pointwise
  simp only [r37 h _ _, h.wd _ _ _, ← EReal.coe_mul, ← coe_sum]
  rfl

theorem r51 (z : Fin 1) : res_main_v51 V (ix2 n z) = (meanSq (x.out n.val) : EReal) := by
  unfold res_main_v51
  pointwise
  simp only [r43 h _ _, ofBits_1024, ofBits_eps, ← EReal.coe_mul, ← coe_sum, div_1024, ← EReal.coe_add]
  rfl

theorem r52 (z : Fin 1) : res_main_v52 V (ix2 n z) = (rms (x.out n.val) : EReal) := by
  unfold res_main_v52
  pointwise
  rw [r51 h, rsqrt_real (meanSq_pos _)]; rfl

theorem r57 (k : Fin 1024) : res_main_v57 V (ix2 n k) = ((x.out n.val k * rms (x.out n.val) : ℝ) : EReal) := by
  unfold res_main_v57
  pointwise
  rw [r43 h, r52 h, ← EReal.coe_mul]

theorem r62 (k : Fin 1024) : res_main_v62 V (ix2 n k) = (x.diff n.val k : EReal) := by
  unfold res_main_v62 res_main_v58
  pointwise
  rw [r17 h, r57 h, h.g4, h.tgt, ← EReal.coe_mul, ← EReal.coe_add, ← EReal.coe_sub]; rfl

/-! ## Backward -/

theorem r76 (k : Fin 1024) : res_main_v76 V (ix2 n k) = (x.dy n.val k : EReal) := by
  unfold res_main_v76
  pointwise
  rw [r62 h, ofBits_half, ofBits_1024, ofBits_two, div_1024, ← EReal.coe_mul, ← EReal.coe_mul]
  exact congrArg _ (by unfold In.dy; ring)

theorem r81 (k : Fin 1024) : res_main_v81 V (ix2 n k) = ((x.dy n.val k * x.g4 k : ℝ) : EReal) := by
  unfold res_main_v81 res_main_v58
  pointwise
  rw [r76 h, h.g4, ← EReal.coe_mul]

theorem r92 (k : Fin 1024) : res_main_v92 V (ix2 n k) = (slope (x.out n.val) (fun m => x.dy n.val m * x.g4 m) : EReal) := by
  unfold res_main_v92
  pointwise
  simp only [r43 h _ _, r81 h _ _, r52 h _ _, r51 h _ _, ofBits_1024, ofBits_neg_half, div_real _ (meanSq_pos _).ne', ← EReal.coe_mul, ← coe_sum, div_1024,
    Finset.univ_unique, Finset.sum_singleton]
  rfl

theorem r96 (k : Fin 1024) : res_main_v96 V (ix2 n k) = (x.dout n.val k : EReal) := by
  unfold res_main_v96
  pointwise
  rw [r81 h, r52 h, r43 h, r92 h]
  simp only [← EReal.coe_mul, ← EReal.coe_add]
  rw [add_assoc]
  exact congrArg _ (normBwd_chain (x.out n.val) (fun m => x.dy n.val m * x.g4 m) k)

theorem r98 (e : Fin 4096) : res_main_v98 V (ix2 n e) = ((∑ k, x.dout n.val k * x.wd e k : ℝ) : EReal) := by
  unfold res_main_v98 res_main_v42
  pointwise
  simp only [r96 h _ _, h.wd _ _ _, ← EReal.coe_mul, ← coe_sum]

theorem r103 (e : Fin 4096) : res_main_v103 V (ix2 n e) = (x.dpre n.val e : EReal) := by
  unfold res_main_v103
  pointwise
  rw [r36 h, r37 h, r98 h, ← EReal.coe_mul, ← EReal.coe_mul, ← EReal.coe_add]
  split_ifs with hp
  · exact congrArg _ (by unfold In.dpre; ring)
  · have hu : x.up n.val e = 0 := max_eq_right (not_lt.mp fun hlt => hp (EReal.coe_pos.mpr hlt))
    rw [In.dpre, hu, mul_zero, mul_zero]; rfl

theorem r104 (k : Fin 1024) : res_main_v104 V (ix2 n k) = (x.dhn n.val k : EReal) := by
  unfold res_main_v104 res_main_v35
  pointwise
  simp only [r103 h _ _, h.wu _ _ _, ← EReal.coe_mul, ← coe_sum]
  rfl

theorem r109 (k : Fin 1024) : res_main_v109 V (ix2 n k) = ((x.dhn n.val k * x.g2 k : ℝ) : EReal) := by
  unfold res_main_v109 res_main_v32
  pointwise
  rw [r104 h, h.g2, ← EReal.coe_mul]

theorem r120 (k : Fin 1024) : res_main_v120 V (ix2 n k) = (slope (x.h n.val) (fun m => x.dhn n.val m * x.g2 m) : EReal) := by
  unfold res_main_v120
  pointwise
  simp only [r17 h _ _, r109 h _ _, r26 h _ _, r25 h _ _, ofBits_1024, ofBits_neg_half, div_real _ (meanSq_pos _).ne', ← EReal.coe_mul, ← coe_sum, div_1024,
    Finset.univ_unique, Finset.sum_singleton]
  rfl

theorem r126 (k : Fin 1024) : res_main_v126 V (ix2 n k) = (x.dh n.val k : EReal) := by
  unfold res_main_v126
  pointwise
  rw [r76 h, r109 h, r26 h, r17 h, r120 h]
  simp only [← EReal.coe_mul, ← EReal.coe_add]
  rw [add_assoc (_ * rms _)]
  exact congrArg _ (congrArg (x.dy n.val k + ·) (normBwd_chain (x.h n.val) (fun m => x.dhn n.val m * x.g2 m) k))

theorem r131 (k : Fin 1024) : res_main_v131 V (ix2 n k) = ((x.dh n.val k * x.gp k : ℝ) : EReal) := by
  unfold res_main_v131 res_main_v14
  pointwise
  rw [r126 h, h.gp, ← EReal.coe_mul]

theorem r142 (k : Fin 1024) : res_main_v142 V (ix2 n k) = (slope (x.mix n.val) (fun m => x.dh n.val m * x.gp m) : EReal) := by
  unfold res_main_v142
  pointwise
  simp only [h.mix _ _, r131 h _ _, r8 h _ _, r7 h _ _, ofBits_1024, ofBits_neg_half, div_real _ (meanSq_pos _).ne', ← EReal.coe_mul, ← coe_sum, div_1024,
    Finset.univ_unique, Finset.sum_singleton]
  rfl

/-! ## The results -/

omit n

theorem up : truncf .bf16 (res_main_v37 V) bitsLt_bf16_f32 = fun i : S8192x4096.Idx => (x.up (i 0).val (i 1) : EReal) :=
  ext2 fun n e => by
    pointwise
    exact r37 h n e

theorem hn : truncf .bf16 (res_main_v34 V) bitsLt_bf16_f32 = fun i : S8192x1024.Idx => (x.hn (i 0).val (i 1) : EReal) :=
  ext2 fun n k => by
    pointwise
    exact r34 h n k

theorem dout : truncf .bf16 (res_main_v96 V) bitsLt_bf16_f32 = fun i : S8192x1024.Idx => (x.dout (i 0).val (i 1) : EReal) :=
  ext2 fun n k => by
    pointwise
    exact r96 h n k

theorem dpre : truncf .bf16 (res_main_v103 V) bitsLt_bf16_f32 = fun i : S8192x4096.Idx => (x.dpre (i 0).val (i 1) : EReal) :=
  ext2 fun n e => by
    pointwise
    exact r103 h n e

theorem dh : truncf .bf16 (res_main_v126 V) bitsLt_bf16_f32 = fun i : S8192x1024.Idx => (x.dh (i 0).val (i 1) : EReal) :=
  ext2 fun n k => by
    pointwise
    exact r126 h n k

theorem dmix : truncf .bf16 (addf (addf (mulf (res_main_v131 V) (broadcastInDim S8192x1024 ![0, 1] bcast_S8192x1_S8192x1024_0_1 (res_main_v8 V)))
      (mulf (V (Proc.devRef .tc main_arg1)) (res_main_v142 V))) (mulf (res_main_v142 V) (V (Proc.devRef .tc main_arg1)))) bitsLt_bf16_f32
    = fun i : S8192x1024.Idx => (x.dmix (i 0).val (i 1) : EReal) :=
  ext2 fun n k => by
    pointwise
    rw [r131 h, r8 h, h.mix, r142 h]
    simp only [← EReal.coe_mul, ← EReal.coe_add]
    rw [add_assoc]
    exact congrArg _ (normBwd_chain (x.mix n.val) (fun m => x.dh n.val m * x.gp m) k)

theorem loss : shapeCast S1x1 (mulf (mulf (constant S_ .f32 0x3F000000#32) (Host.reduceAdd (Host.divf (Host.reduceAdd (mulf (res_main_v62 V) (res_main_v62 V))
      (constant S_ .f32 0x00000000#32) reducesTo_S8192x1024_S8192_d1 h_S_) (broadcastInDim S8192 ![] bcast_S_S8192 (constant S_ .f32 0x44800000#32)))
      (constant S_ .f32 0x00000000#32) reducesTo_S8192_S_d0 h_S_)) (constant S_ .f32 0x45000000#32)) shapeCasts_S_S1x1
    = fun _ : S1x1.Idx => ((∑ n : Fin 8192, x.loss n : ℝ) : EReal) :=
  ext2 fun z z' => by
    pointwise
    simp only [r62 h _ _, ofBits_half, ofBits_1024, ofBits_2048, ← EReal.coe_mul, ← coe_sum, div_1024]
    refine congrArg _ ?_
    rw [← Finset.sum_div]
    unfold In.loss
    ring

set_option maxRecDepth 8192 in
theorem dg4 : broadcastInDim S1x1024 ![1] bcast_S1024_S1x1024_1 (Host.reduceAdd (shapeCast _ (Host.reduceAdd (mulf (res_main_v57 V) (res_main_v76 V))
      (constant S_ .f32 0x00000000#32) reducesTo_S8192x1024_S1024_d0 h_S_) shapeCasts_S1024_S1x1024) (constant S_ .f32 0x00000000#32)
      reducesTo_S1x1024_S1024_d0 h_S_) = fun i : S1x1024.Idx => ((∑ n : Fin 8192, x.dg4 n (i 1) : ℝ) : EReal) :=
  ext2 fun z k => by
    pointwise
    simp only [r57 h _ _, r76 h _ _, ← EReal.coe_mul, ← coe_sum, Finset.univ_unique, Finset.sum_singleton]
    exact congrArg _ (Finset.sum_congr rfl fun n _ => mul_comm _ _)

set_option maxRecDepth 8192 in
theorem dg2 : broadcastInDim S1x1024 ![1] bcast_S1024_S1x1024_1 (Host.reduceAdd (shapeCast _ (Host.reduceAdd (mulf (res_main_v31 V) (res_main_v104 V))
      (constant S_ .f32 0x00000000#32) reducesTo_S8192x1024_S1024_d0 h_S_) shapeCasts_S1024_S1x1024) (constant S_ .f32 0x00000000#32)
      reducesTo_S1x1024_S1024_d0 h_S_) = fun i : S1x1024.Idx => ((∑ n : Fin 8192, x.dg2 n (i 1) : ℝ) : EReal) :=
  ext2 fun z k => by
    pointwise
    simp only [r31 h _ _, r104 h _ _, ← EReal.coe_mul, ← coe_sum, Finset.univ_unique, Finset.sum_singleton]
    exact congrArg _ (Finset.sum_congr rfl fun n _ => mul_comm _ _)

set_option maxRecDepth 8192 in
theorem dgp : broadcastInDim S1x1024 ![1] bcast_S1024_S1x1024_1 (Host.reduceAdd (shapeCast _ (Host.reduceAdd (mulf (res_main_v13 V) (res_main_v126 V))
      (constant S_ .f32 0x00000000#32) reducesTo_S8192x1024_S1024_d0 h_S_) shapeCasts_S1024_S1x1024) (constant S_ .f32 0x00000000#32)
      reducesTo_S1x1024_S1024_d0 h_S_) = fun i : S1x1024.Idx => ((∑ n : Fin 8192, x.dgp n (i 1) : ℝ) : EReal) :=
  ext2 fun z k => by
    pointwise
    simp only [r13 h _ _, r126 h _ _, ← EReal.coe_mul, ← coe_sum, Finset.univ_unique, Finset.sum_singleton]
    exact congrArg _ (Finset.sum_congr rfl fun n _ => mul_comm _ _)

end Cert.Mlp.Ref

end
-- ==== Proof.MlpClaim.lean ====
/-
  The perceptron's call and the reference's pass give the same results, from the same finite arguments.
-/
module

public import proofs.«01_k».proof.Defs
public import proofs.«01_k».proof.Proof.MlpSums
public import proofs.«01_k».proof.Proof.MlpRef
public import proofs.«01_k».proof.Proof.Gen.Kernel3.Frame
public import proofs.«01_k».proof.Proof.Gen.Kernel3Ideal.Value
public import proofs.«01_k».proof.Proof.Gen.Pre_finite_mlp
public import Idealize.ShloMosaic.Lib.Claim
public import Idealize.ShloMosaic.Lib.Quiescent

@[expose] public section

noncomputable section

namespace Cert.Mlp

open Idealize.ShloMosaic Idealize.ShloMosaic.TcCoe Idealize.ShloMosaic.StableHlo Idealize.SL.Sem Cert.Lift

/-- What the finite arguments are in the memory. -/
def ofMem (m : (ℓ : Loc Kernel3Ideal.nD Kernel3Ideal.τ Kernel3Ideal.sig) → Buf (Elt Ideal) ℓ) (c : Dev Kernel3Ideal.nD) : In where
  inp := rows (n := 8192) (k := 1024) (m (c.tc.loc Kernel3Ideal.main_arg0))
  mix := rows (n := 8192) (k := 1024) (m (c.tc.loc Kernel3Ideal.main_arg1))
  tgt := rows (n := 8192) (k := 1024) (m (c.tc.loc Kernel3Ideal.main_arg2))
  gp k := EReal.toReal (m (c.tc.loc Kernel3Ideal.main_arg3) (ix2 (0 : Fin 1) k))
  g2 k := EReal.toReal (m (c.tc.loc Kernel3Ideal.main_arg4) (ix2 (0 : Fin 1) k))
  g4 k := EReal.toReal (m (c.tc.loc Kernel3Ideal.main_arg5) (ix2 (0 : Fin 1) k))
  wu k e := EReal.toReal (m (c.tc.loc Kernel3Ideal.main_arg6) (ix3 (0 : Fin 1) k e))
  wd e k := EReal.toReal (m (c.tc.loc Kernel3Ideal.main_arg7) (ix3 (0 : Fin 1) e k))

theorem args_of_pre {m : (ℓ : Loc Kernel3Ideal.nD Kernel3Ideal.τ Kernel3Ideal.sig) → Buf (Elt Ideal) ℓ}
    (h : Pre_Kernel3Ideal_finite_mlp m) (c : Dev Kernel3Ideal.nD) : Args (ofMem m c) m c := by
  obtain ⟨h0, h1, h2, h3, h4, h5, h6, h7⟩ := h c
  constructor
  · exact eq_rows (finite_of_olt h0)
  · exact eq_rows (finite_of_olt h1)
  · exact eq_rows (finite_of_olt h2)
  all_goals intro z; obtain rfl := Subsingleton.elim z 0
  · exact fun k => finite_of_olt h3 _
  · exact fun k => finite_of_olt h4 _
  · exact fun k => finite_of_olt h5 _
  · exact fun k e => finite_of_olt h6 _
  · exact fun e k => finite_of_olt h7 _

/-- The reference's memory holds what the kernel's does. -/
theorem at_of_args {x : In} {m : (ℓ : Loc Kernel3Ideal.nD Kernel3Ideal.τ Kernel3Ideal.sig) → Buf (Elt Ideal) ℓ}
    {m' : (ℓ : Loc Reference3Ideal.nD Reference3Ideal.τ Reference3Ideal.sig) → Buf (Elt Ideal) ℓ} {c : Dev Kernel3Ideal.nD} (h : Args x m c)
    (e0 : m' (c.tc.loc Reference3Ideal.main_arg0) = m (c.tc.loc Kernel3Ideal.main_arg0))
    (e1 : m' (c.tc.loc Reference3Ideal.main_arg1) = m (c.tc.loc Kernel3Ideal.main_arg1))
    (e2 : m' (c.tc.loc Reference3Ideal.main_arg2) = m (c.tc.loc Kernel3Ideal.main_arg2))
    (e3 : m' (c.tc.loc Reference3Ideal.main_arg3) = m (c.tc.loc Kernel3Ideal.main_arg3))
    (e4 : m' (c.tc.loc Reference3Ideal.main_arg4) = m (c.tc.loc Kernel3Ideal.main_arg4))
    (e5 : m' (c.tc.loc Reference3Ideal.main_arg5) = m (c.tc.loc Kernel3Ideal.main_arg5))
    (e6 : m' (c.tc.loc Reference3Ideal.main_arg6) = m (c.tc.loc Kernel3Ideal.main_arg6))
    (e7 : m' (c.tc.loc Reference3Ideal.main_arg7) = m (c.tc.loc Kernel3Ideal.main_arg7)) : Ref.At x (launchContents m' c) :=
  ⟨fun n k => (congrFun e0 _).trans (h.inp n k), fun n k => (congrFun e1 _).trans (h.mix n k), fun n k => (congrFun e2 _).trans (h.tgt n k),
    fun z k => (congrFun e3 _).trans (h.gp z k), fun z k => (congrFun e4 _).trans (h.g2 z k), fun z k => (congrFun e5 _).trans (h.g4 z k),
    fun z k e => (congrFun e6 _).trans (h.wu z k e), fun z e k => (congrFun e7 _).trans (h.wd z e k)⟩

theorem frame_kernel3 : quiescent_Kernel3 := fun m g _ => Kernel3.Gen.frame m g

theorem frame_kernel3Ideal : quiescent_Kernel3Ideal := fun m g _ => Kernel3Ideal.Gen.frame m g

theorem frame_kernel3Ideal_finite : quiescent_Kernel3Ideal_pre_finite_mlp := fun m g _ => Kernel3Ideal.Gen.frame m g

theorem frame_reference3Ideal : quiescent_Reference3Ideal := fun m g _ =>
  (θ_run Reference3Ideal.defs _ _).mono
    (fun r h => ⟨fun c => (h c).2.2.2.2.2.2.2.2.2.2, sem_eq_zero_of_no_sems (by decide) r.2⟩) (Reference3Ideal.Value.run m g)

theorem frame_reference3Ideal_finite : quiescent_Reference3Ideal_pre_finite_mlp := fun m g _ => frame_reference3Ideal m g trivial

theorem algebraic : algebraic_Kernel3Ideal_Reference3Ideal_pre_finite_mlp := by
  intro m g m' g' hp he
  refine ⟨_, _, _, _, _, _, _, _, _, _, Kernel3Ideal.Value.run_blocks m g,
    (θ_run Reference3Ideal.defs _ _).mono (fun r h c => ?_) (Reference3Ideal.Value.run m' g')⟩
  obtain ⟨e0, e1, e2, e3, e4, e5, e6, e7⟩ := he c
  obtain ⟨h0, h1, h2, h3, h4, h5, h6, h7, h8, h9, hk⟩ := h c
  have ha := args_of_pre hp c
  have ht := at_of_args ha e0 e1 e2 e3 e4 e5 e6 e7
  exact ⟨h0.trans ((Ref.up ht).trans (final8 ha).symm), h1.trans ((Ref.hn ht).trans (final9 ha).symm),
    h2.trans ((Ref.dout ht).trans (final10 ha).symm), h3.trans ((Ref.dpre ht).trans (final11 ha).symm),
    h4.trans ((Ref.dh ht).trans (final12 ha).symm), h5.trans ((Ref.dmix ht).trans (final13 ha).symm),
    h6.trans ((Ref.loss ht).trans (final14 ha).symm), h7.trans ((Ref.dg4 ht).trans (final15 ha).symm),
    h8.trans ((Ref.dg2 ht).trans (final16 ha).symm), h9.trans ((Ref.dgp ht).trans (final17 ha).symm), hk⟩

end Cert.Mlp

end
-- ==== Proof.InpSpec.lean ====
module

public import proofs.«01_k».proof.Proof.Norm

@[expose] public section

/-! # The in-projection's gradients, as real functions

A layer's input is normed and projected onto the columns of queries, keys, values and the three factors of a short gated convolution.
The queries and keys are rotated in the first sixteen columns of each head. The gradient of the projected row, of the normed row and
of the input, row by row of the sequence. -/

noncomputable section

namespace Cert.Inp

open Cert.Lift

/-- The finite arguments of the in-projection's pass: the gradients of its parts and of the layer's input past the norm, the input,
the gain, the weights and the convolution's taps, by row and by column. -/
structure In where
  dq : ℕ → ℕ → ℝ
  dk : ℕ → ℕ → ℝ
  dv : ℕ → ℕ → ℝ
  dgb : ℕ → ℕ → ℝ
  dy : ℕ → ℕ → ℝ
  dh : ℕ → Fin 1024 → ℝ
  inp : ℕ → Fin 1024 → ℝ
  g : Fin 1024 → ℝ
  w : Fin 1024 → ℕ → ℝ
  cw : ℕ → ℕ → ℝ
  cs : ℕ → ℕ → ℝ
  sn : ℕ → ℕ → ℝ

namespace In

variable (x : In)

/-- The gradient of a rotated row `u` before the rotation: the first eight columns of each head of 64 are turned against the next
eight. -/
def turn (n : ℕ) (u : ℕ → ℝ) (l : ℕ) : ℝ :=
  if l % 64 < 8 then u l * x.cs n (l % 64) + u (l + 8) * x.sn n (l % 64)
  else if l % 64 < 16 then u l * x.cs n (l % 64 - 8) - u (l - 8) * x.sn n (l % 64 - 8)
  else u l

/-- The normed input. -/
def hn (n : ℕ) (k : Fin 1024) : ℝ := x.inp n k * rms (x.inp n) * x.g k

/-- A column of the projection. -/
def proj (n e : ℕ) : ℝ := ∑ k, x.hn n k * x.w k e

/-- The gradient of the convolution's input. -/
def du (n c : ℕ) : ℝ := x.cw 2 c * x.dy n c + x.cw 1 c * x.dy (n + 1) c + x.cw 0 c * x.dy (n + 2) c

/-- The gradient of the projected row. -/
def dproj (n e : ℕ) : ℝ :=
  if e < 512 then x.turn n (x.dq n) e
  else if e < 640 then x.turn n (x.dk n) (e - 512)
  else if e < 768 then x.dv n (e - 640)
  else if e < 1280 then x.dgb n (e - 768)
  else if e < 1792 then x.du n (e - 1280) * x.proj n (e + 512)
  else x.du n (e - 1792) * x.proj n (e - 512)

/-- The gradient of the normed input. -/
def dhn (n : ℕ) (k : Fin 1024) : ℝ := ∑ e : Fin 2304, x.dproj n e * x.w k e

/-- The gradient of the input. -/
def dx (n : ℕ) (k : Fin 1024) : ℝ := x.dh n k + normBwd (x.inp n) (fun m => x.dhn n m * x.g m) k

/-- A row's part of the gradient of the gain. -/
def dg (n : ℕ) (k : Fin 1024) : ℝ := x.dhn n k * (x.inp n k * rms (x.inp n))

end In

end Cert.Inp

end
-- ==== Proof.InpArgs.lean ====
module

public import proofs.«01_k».proof.Proof.InpSpec

@[expose] public section

/-! # The in-projection's arguments as real numbers -/

noncomputable section

namespace Cert.Inp

open Idealize.ShloMosaic Cert.Lift

/-- An array of extended reals. -/
abbrev Arr {r : ℕ} (size : Fin r → ℕ) : Type := (⟨r, size⟩ : Shape).Idx → EReal

/-- The angle of pair `d` at row `n`. -/
def angle (n d : ℕ) : ℝ := n * Real.rpow 500000 (-(2 * d) / 16)

/-- The arguments hold the real numbers of `x`; there is nothing after the last row, and the tables are the angles'. -/
structure Args (x : In) (dq : Arr ![8192, 512]) (dk dv : Arr ![8192, 128]) (dgb dy : Arr ![8192, 512]) (dh inp : Arr ![8192, 1024])
    (g : Arr ![1, 1024]) (w : Arr ![1, 1024, 2304]) (cw : Arr ![1, 3, 512]) : Prop where
  dq : ∀ (n : Fin 8192) (l : Fin 512), dq (ix2 n l) = (x.dq n l : EReal)
  dk : ∀ (n : Fin 8192) (l : Fin 128), dk (ix2 n l) = (x.dk n l : EReal)
  dv : ∀ (n : Fin 8192) (l : Fin 128), dv (ix2 n l) = (x.dv n l : EReal)
  dgb : ∀ (n : Fin 8192) (l : Fin 512), dgb (ix2 n l) = (x.dgb n l : EReal)
  dy : ∀ (n : Fin 8192) (l : Fin 512), dy (ix2 n l) = (x.dy n l : EReal)
  dh : ∀ (n : Fin 8192) (k : Fin 1024), dh (ix2 n k) = (x.dh n k : EReal)
  inp : ∀ (n : Fin 8192) (k : Fin 1024), inp (ix2 n k) = (x.inp n k : EReal)
  g : ∀ (z : Fin 1) (k : Fin 1024), g (ix2 z k) = (x.g k : EReal)
  w : ∀ (z : Fin 1) (k : Fin 1024) (e : Fin 2304), w (ix3 z k e) = (x.w k e : EReal)
  cw : ∀ (z : Fin 1) (j : Fin 3) (l : Fin 512), cw (ix3 z j l) = (x.cw j l : EReal)
  after : ∀ n l, 8192 ≤ n → x.dy n l = 0
  cs : x.cs = fun n d => Real.cos (angle n d)
  sn : x.sn = fun n d => Real.sin (angle n d)

/-- A matrix's numbers, zeros where it has none. -/
def entries {a b : ℕ} (A : Arr ![a, b]) (n l : ℕ) : ℝ := if h : n < a ∧ l < b then (A (ix2 ⟨n, h.1⟩ ⟨l, h.2⟩)).toReal else 0

theorem entries_of {a b : ℕ} {A : Arr ![a, b]} (h : ∀ i, A i = ((A i).toReal : EReal)) (n : Fin a) (l : Fin b) : A (ix2 n l) = (entries A n l : EReal) := by
  unfold entries
  rw [dif_pos ⟨n.isLt, l.isLt⟩]
  exact h _

/-- The real numbers of finite arguments. -/
def ofArrays (dq : Arr ![8192, 512]) (dk dv : Arr ![8192, 128]) (dgb dy : Arr ![8192, 512]) (dh inp : Arr ![8192, 1024])
    (g : Arr ![1, 1024]) (w : Arr ![1, 1024, 2304]) (cw : Arr ![1, 3, 512]) : In where
  dq := entries dq
  dk := entries dk
  dv := entries dv
  dgb := entries dgb
  dy := entries dy
  dh n k := entries dh n k
  inp n k := entries inp n k
  g k := (g (ix2 0 k)).toReal
  w k e := if h : e < 2304 then (w (ix3 0 k ⟨e, h⟩)).toReal else 0
  cw j l := if h : j < 3 ∧ l < 512 then (cw (ix3 0 ⟨j, h.1⟩ ⟨l, h.2⟩)).toReal else 0
  cs n d := Real.cos (angle n d)
  sn n d := Real.sin (angle n d)

theorem args_of {dq : Arr ![8192, 512]} {dk dv : Arr ![8192, 128]} {dgb dy : Arr ![8192, 512]} {dh inp : Arr ![8192, 1024]}
    {g : Arr ![1, 1024]} {w : Arr ![1, 1024, 2304]} {cw : Arr ![1, 3, 512]}
    (h0 : ∀ i, dq i = ((dq i).toReal : EReal)) (h1 : ∀ i, dk i = ((dk i).toReal : EReal)) (h2 : ∀ i, dv i = ((dv i).toReal : EReal))
    (h3 : ∀ i, dgb i = ((dgb i).toReal : EReal)) (h4 : ∀ i, dy i = ((dy i).toReal : EReal)) (h5 : ∀ i, dh i = ((dh i).toReal : EReal))
    (h6 : ∀ i, inp i = ((inp i).toReal : EReal)) (h7 : ∀ i, g i = ((g i).toReal : EReal)) (h8 : ∀ i, w i = ((w i).toReal : EReal))
    (h9 : ∀ i, cw i = ((cw i).toReal : EReal)) : Args (ofArrays dq dk dv dgb dy dh inp g w cw) dq dk dv dgb dy dh inp g w cw where
  dq := entries_of h0
  dk := entries_of h1
  dv := entries_of h2
  dgb := entries_of h3
  dy := entries_of h4
  dh := entries_of h5
  inp := entries_of h6
  g z k := by obtain rfl := Subsingleton.elim z 0; exact h7 _
  w z k e := by
    obtain rfl := Subsingleton.elim z 0
    refine (h8 _).trans (congrArg Real.toEReal ?_)
    show _ = dite _ _ _
    rw [dif_pos e.isLt]
  cw z j l := by
    obtain rfl := Subsingleton.elim z 0
    refine (h9 _).trans (congrArg Real.toEReal ?_)
    show _ = dite _ _ _
    rw [dif_pos ⟨j.isLt, l.isLt⟩]
  after n l h := dif_neg fun h' => by omega
  cs := rfl
  sn := rfl

end Cert.Inp

end
-- ==== Proof.InpHalf.lean ====
module

public import proofs.«01_k».proof.Proof.Gen.Kernel4Ideal.Skeleton
public import Idealize.ShloMosaic.Lib.Pipeline.FrameBody
public import Idealize.ShloMosaic.Lib.WholeRead
public import Idealize.ShloMosaic.Lib.Ring
public import Idealize.ShloMosaic.Lib.Tactic

@[expose] public section

/-! # What the in-projection's call computes of the blocks of one point

A tile of 1024 rows is treated in two halves of 512. The program's text has every step of both halves, and of each head; here a step is
named once, and the equations at the end are between the texts of one step. -/

set_option maxRecDepth 16384

noncomputable section

namespace Cert.Inp

open Idealize.ShloMosaic Cert.Kernel4Ideal Cert.Kernel4Ideal.Gen

variable {F : FTy → Type} [FloatOps F]

/-- The blocks that the body reads, in the order of its operands. -/
structure Blocks (F : FTy → Type) [FloatOps F] where
  x0 : Vec F S1024x512 .bf16
  x1 : Vec F S1024x128 .f32
  x2 : Vec F S1024x128 .f32
  x3 : Vec F S1024x128 .f32
  x4 : Vec F S1024x128 .f32
  x5 : Vec F S1024x512 .bf16
  x6 : Vec F S1024x512 .bf16
  x7 : Vec F S16x512 .bf16
  x8 : Vec F S1024x512 .bf16
  x9 : Vec F S1024x512 .bf16
  x10 : Vec F S3x512 .f32
  x11 : Vec F S1024x1024 .f32
  x12 : Vec F S1024x1024 .bf16
  x13 : Vec F S1x1024 .f32
  x14 : Vec F S8x288x1024 .bf16
  x15 : Vec F S1024x48 .bf16
  x16 : Vec F S48x384 .bf16
  x17 : Vec F S1x384 .f32

/-- What a half of the tile is computed from. -/
structure Half (F : FTy → Type) [FloatOps F] where
  q : Fin 4 → Vec F S512x128 .bf16
  k0 : Vec F S512x128 .f32
  k1 : Vec F S512x128 .f32
  v0 : Vec F S512x128 .f32
  v1 : Vec F S512x128 .f32
  gb : Vec F S512x512 .bf16
  gc : Vec F S512x512 .bf16
  xin : Vec F S512x512 .bf16
  x : Vec F S512x1024 .f32
  dh : Vec F S512x1024 .bf16
  tab : Vec F S512x48 .bf16
  spread : Vec F S48x384 .bf16
  base : Vec F S1x384 .f32

namespace Half

variable (H : Half F)

/-! The three tables of the rotation. -/
abbrev tabC : FVec F S512x128 .f32 := k0_pay8 (k0_pay6 H.tab H.spread) H.base
abbrev tabA : FVec F S512x128 .f32 := k0_pay9 (k0_pay6 H.tab H.spread) H.base
abbrev tabB : FVec F S512x128 .f32 := k0_pay10 (k0_pay6 H.tab H.spread) H.base

abbrev queries (h : Fin 4) : FVec F S512x128 .bf16 := k0_pay17 H.tabC H.tabA H.tabB (H.q h)
abbrev keys : FVec F S512x128 .bf16 := k0_pay18 k0_pay5 H.tabC H.tabA H.tabB H.k0 H.k1
abbrev values : FVec F S512x128 .bf16 := k0_pay34 k0_pay5 H.v0 H.v1
abbrev gate : FVec F S512x512 .bf16 := k0_pay35 H.gb

end Half

namespace Blocks

variable (B : Blocks F)

abbrev low : Half F where
  q := fun h => (![View.ld B.x0 (Rect.unit ![0, 0] ![512, 128] inb_S1024x512_S512x128_0_0),
    View.ld B.x0 (Rect.unit ![0, 128] ![512, 128] inb_S1024x512_S512x128_0_128),
    View.ld B.x0 (Rect.unit ![0, 256] ![512, 128] inb_S1024x512_S512x128_0_256),
    View.ld B.x0 (Rect.unit ![0, 384] ![512, 128] inb_S1024x512_S512x128_0_384)] : Fin 4 → Vec F S512x128 .bf16) h
  k0 := View.ld B.x1 (Rect.unit ![0, 0] ![512, 128] inb_S1024x128_S512x128_0_0)
  k1 := View.ld B.x2 (Rect.unit ![0, 0] ![512, 128] inb_S1024x128_S512x128_0_0)
  v0 := View.ld B.x3 (Rect.unit ![0, 0] ![512, 128] inb_S1024x128_S512x128_0_0)
  v1 := View.ld B.x4 (Rect.unit ![0, 0] ![512, 128] inb_S1024x128_S512x128_0_0)
  gb := View.ld B.x5 (Rect.unit ![0, 0] ![512, 512] inb_S1024x512_S512x512_0_0)
  gc := View.ld B.x8 (Rect.unit ![0, 0] ![512, 512] inb_S1024x512_S512x512_0_0)
  xin := View.ld B.x9 (Rect.unit ![0, 0] ![512, 512] inb_S1024x512_S512x512_0_0)
  x := View.ld B.x11 (Rect.unit ![0, 0] ![512, 1024] inb_S1024x1024_S512x1024_0_0)
  dh := View.ld B.x12 (Rect.unit ![0, 0] ![512, 1024] inb_S1024x1024_S512x1024_0_0)
  tab := View.ld B.x15 (Rect.unit ![0, 0] ![512, 48] inb_S1024x48_S512x48_0_0)
  spread := View.ld B.x16 (Rect.unit ![0, 0] ![48, 384] inb_S48x384_S48x384_0_0)
  base := View.ld B.x17 (Rect.unit ![0, 0] ![1, 384] inb_S1x384_S1x384_0_0)

abbrev high : Half F where
  q := fun h => (![View.ld B.x0 (Rect.unit ![512, 0] ![512, 128] inb_S1024x512_S512x128_512_0),
    View.ld B.x0 (Rect.unit ![512, 128] ![512, 128] inb_S1024x512_S512x128_512_128),
    View.ld B.x0 (Rect.unit ![512, 256] ![512, 128] inb_S1024x512_S512x128_512_256),
    View.ld B.x0 (Rect.unit ![512, 384] ![512, 128] inb_S1024x512_S512x128_512_384)] : Fin 4 → Vec F S512x128 .bf16) h
  k0 := View.ld B.x1 (Rect.unit ![512, 0] ![512, 128] inb_S1024x128_S512x128_512_0)
  k1 := View.ld B.x2 (Rect.unit ![512, 0] ![512, 128] inb_S1024x128_S512x128_512_0)
  v0 := View.ld B.x3 (Rect.unit ![512, 0] ![512, 128] inb_S1024x128_S512x128_512_0)
  v1 := View.ld B.x4 (Rect.unit ![512, 0] ![512, 128] inb_S1024x128_S512x128_512_0)
  gb := View.ld B.x5 (Rect.unit ![512, 0] ![512, 512] inb_S1024x512_S512x512_512_0)
  gc := View.ld B.x8 (Rect.unit ![512, 0] ![512, 512] inb_S1024x512_S512x512_512_0)
  xin := View.ld B.x9 (Rect.unit ![512, 0] ![512, 512] inb_S1024x512_S512x512_512_0)
  x := View.ld B.x11 (Rect.unit ![512, 0] ![512, 1024] inb_S1024x1024_S512x1024_512_0)
  dh := View.ld B.x12 (Rect.unit ![512, 0] ![512, 1024] inb_S1024x1024_S512x1024_512_0)
  tab := View.ld B.x15 (Rect.unit ![512, 0] ![512, 48] inb_S1024x48_S512x48_512_0)
  spread := View.ld B.x16 (Rect.unit ![0, 0] ![48, 384] inb_S48x384_S48x384_0_0)
  base := View.ld B.x17 (Rect.unit ![0, 0] ![1, 384] inb_S1x384_S1x384_0_0)

/-- The gradient of the convolution's input. -/
abbrev du (i : grid0.Coords) : FVec F S1024x512 .f32 :=
  k0_pay4 i (View.ld B.x6 (Rect.unit ![0, 0] ![1024, 512] inb_S1024x512_S1024x512_0_0)) (View.ld B.x7 (Rect.unit ![0, 0] ![16, 512] inb_S16x512_S16x512_0_0))
    (View.ld B.x10 (Rect.unit ![0, 0] ![3, 512] inb_S3x512_S3x512_0_0))

/-- The stores into the gradient of the projected rows, the last one first. -/
abbrev stores (i : grid0.Coords) : List (View.Piece (Elt F) S1024x2304 .bf16) :=
  [⟨Rect.unit ![512, 1792] ![512, 512] inb_S1024x2304_S512x512_512_1792, k0_pay36 (B.du i) B.high.gc⟩,
   ⟨Rect.unit ![512, 1280] ![512, 512] inb_S1024x2304_S512x512_512_1280, k0_pay36 (B.du i) B.high.xin⟩,
   ⟨Rect.unit ![512, 768] ![512, 512] inb_S1024x2304_S512x512_512_768, B.high.gate⟩,
   ⟨Rect.unit ![512, 640] ![512, 128] inb_S1024x2304_S512x128_512_640, B.high.values⟩,
   ⟨Rect.unit ![512, 512] ![512, 128] inb_S1024x2304_S512x128_512_512, B.high.keys⟩,
   ⟨Rect.unit ![512, 384] ![512, 128] inb_S1024x2304_S512x128_512_384, B.high.queries 3⟩,
   ⟨Rect.unit ![512, 256] ![512, 128] inb_S1024x2304_S512x128_512_256, B.high.queries 2⟩,
   ⟨Rect.unit ![512, 128] ![512, 128] inb_S1024x2304_S512x128_512_128, B.high.queries 1⟩,
   ⟨Rect.unit ![512, 0] ![512, 128] inb_S1024x2304_S512x128_512_0, B.high.queries 0⟩,
   ⟨Rect.unit ![0, 1792] ![512, 512] inb_S1024x2304_S512x512_0_1792, k0_pay22 (B.du i) B.low.gc⟩,
   ⟨Rect.unit ![0, 1280] ![512, 512] inb_S1024x2304_S512x512_0_1280, k0_pay22 (B.du i) B.low.xin⟩,
   ⟨Rect.unit ![0, 768] ![512, 512] inb_S1024x2304_S512x512_0_768, B.low.gate⟩,
   ⟨Rect.unit ![0, 640] ![512, 128] inb_S1024x2304_S512x128_0_640, B.low.values⟩,
   ⟨Rect.unit ![0, 512] ![512, 128] inb_S1024x2304_S512x128_0_512, B.low.keys⟩,
   ⟨Rect.unit ![0, 384] ![512, 128] inb_S1024x2304_S512x128_0_384, B.low.queries 3⟩,
   ⟨Rect.unit ![0, 256] ![512, 128] inb_S1024x2304_S512x128_0_256, B.low.queries 2⟩,
   ⟨Rect.unit ![0, 128] ![512, 128] inb_S1024x2304_S512x128_0_128, B.low.queries 1⟩,
   ⟨Rect.unit ![0, 0] ![512, 128] inb_S1024x2304_S512x128_0_0, B.low.queries 0⟩]

/-- The gradient of the projected rows. -/
def rows (i : grid0.Coords) : Vec F S1024x2304 .bf16 := View.canon (B.stores i)

abbrev gain : Vec F S1x1024 .f32 := View.ld B.x13 (Rect.unit ![0, 0] ![1, 1024] inb_S1x1024_S1x1024_0_0)
abbrev weights : Vec F S8x288x1024 .bf16 := View.ld B.x14 (Rect.unit ![0, 0, 0] ![8, 288, 1024] inb_S8x288x1024_S8x288x1024_0_0_0)

/-! The gradient of the normed rows, by halves. -/
abbrev lowHn (i : grid0.Coords) : FVec F S512x1024 .f32 :=
  k0_pay39 B.weights (View.ld (B.rows i) (Rect.unit ![0, 0] ![512, 2304] inb_S1024x2304_S512x2304_0_0))
abbrev highHn (i : grid0.Coords) : FVec F S512x1024 .f32 :=
  k0_pay39 B.weights (View.ld (B.rows i) (Rect.unit ![512, 0] ![512, 2304] inb_S1024x2304_S512x2304_512_0))

/-- The gradient of the input's rows. -/
abbrev storesX (i : grid0.Coords) : List (View.Piece (Elt F) S1024x1024 .f32) :=
  [⟨Rect.unit ![512, 0] ![512, 1024] inb_S1024x1024_S512x1024_512_0, k0_pay1 (B.highHn i) (k0_pay47 B.high.x) (k0_pay48 B.high.x) B.high.dh B.gain⟩,
   ⟨Rect.unit ![0, 0] ![512, 1024] inb_S1024x1024_S512x1024_0_0, k0_pay1 (B.lowHn i) (k0_pay47 B.low.x) (k0_pay48 B.low.x) B.low.dh B.gain⟩]
def gradX (i : grid0.Coords) : Vec F S1024x1024 .f32 := View.canon (B.storesX i)

/-- The gain's gradient `y`, and the tile's part of it. -/
def gradGain (i : grid0.Coords) (y : Vec F S1x1024 .f32) : Vec F S1x1024 .f32 :=
  k0_pay2 (B.highHn i) (k0_pay45 (B.lowHn i) k0_pay41 B.low.x (k0_pay42 B.low.x)) (k0_pay48 B.high.x) y

end Blocks

/-! ## One step, two texts -/

section Same

variable (p : Vec F S512x48 .bf16) (e : Vec F S48x384 .bf16) (b : Vec F S1x384 .f32) (q : Vec F S512x128 .bf16)
  (c0 c1 c2 : FVec F S512x128 .f32) (v v' : Vec F S512x1024 .f32) (y : Vec F S512x1024 .bf16) (z : Vec F S1x1024 .f32)

theorem same11 : k0_pay11 (k0_pay6 p e) b q = k0_pay17 (k0_pay8 (k0_pay6 p e) b) (k0_pay9 (k0_pay6 p e) b) (k0_pay10 (k0_pay6 p e) b) q := rfl
theorem same12 : k0_pay12 (k0_pay6 p e) b q = k0_pay17 (k0_pay8 (k0_pay6 p e) b) (k0_pay9 (k0_pay6 p e) b) (k0_pay10 (k0_pay6 p e) b) q := rfl
theorem same16 : k0_pay16 (k0_pay10 (k0_pay6 p e) b) (k0_pay13 q) (k0_pay14 (k0_pay6 p e) b q) (k0_pay15 (k0_pay6 p e) b q) 8#32
    = k0_pay17 (k0_pay8 (k0_pay6 p e) b) (k0_pay9 (k0_pay6 p e) b) (k0_pay10 (k0_pay6 p e) b) q := rfl
theorem same28 : k0_pay28 c0 c1 c2 q = k0_pay17 c0 c1 c2 q := rfl
theorem same29 : k0_pay29 c0 c1 c2 q = k0_pay17 c0 c1 c2 q := rfl
theorem same31 : k0_pay31 (k0_pay30 c0 c1 c2 q) = k0_pay17 c0 c1 c2 q := rfl
theorem same32 : k0_pay32 c0 c1 c2 q = k0_pay17 c0 c1 c2 q := rfl
theorem same33 (s : IVec S512x128 1) (a a' : Vec F S512x128 .f32) : k0_pay33 s c0 c1 c2 a a' = k0_pay18 s c0 c1 c2 a a' := rfl
theorem same20 (s : IVec S512x128 1) (a a' : Vec F S512x128 .f32) : k0_pay20 s (k0_pay19 a) a' = k0_pay34 s a a' := rfl
theorem same25 : k0_pay25 p e b = k0_pay8 (k0_pay6 p e) b := rfl
theorem same26 : k0_pay26 p e b = k0_pay9 (k0_pay6 p e) b := rfl
theorem same27 : k0_pay27 p e b = k0_pay10 (k0_pay6 p e) b := rfl
theorem same21 (a : Vec F S512x512 .bf16) : k0_pay21 a = k0_pay35 a := rfl
theorem same23 (a : FVec F S1024x512 .f32) (a' : Vec F S512x512 .bf16) : k0_pay23 a a' = k0_pay22 a a' := rfl
theorem same37 (a : FVec F S1024x512 .f32) (a' : Vec F S512x512 .bf16) : k0_pay37 a a' = k0_pay36 a a' := rfl
theorem same40 (a : Vec F S8x288x1024 .bf16) (a' : Vec F S512x2304 .bf16) : k0_pay40 a a' = k0_pay39 a a' := rfl
theorem same46 : k0_pay46 v v' (k0_pay42 v') y z = k0_pay1 v (k0_pay47 v') (k0_pay48 v') y z := rfl

end Same

/-! ## The stores read back -/

section Back

variable {sp : Space}

theorem loaded {s : Shape} {e : EltTy} {r : Memref sig .tc sp s e} (h : r.IsWhole) (x : Vec F s e) (R : Rect s) :
    View.readAt (Elt F) r.view R.toLoadRect (h.unread x) = View.ld x R := funext fun j => h.readAt_unread x R.toLoadRect j

theorem back_rows (i : grid0.Coords) (B : Blocks F) (r : Memref sig .tc sp S1024x2304 .bf16) (f) :
    View.read (Elt F) r.view (r.view.writes (Elt F) f (B.stores i)) = B.rows i :=
  View.read_writes_eq_canon _ _ _ (View.cover_of_tiledBy (B.stores i) ![512, 128] (by sl_kernel_rfl))

theorem back_gradX (i : grid0.Coords) (B : Blocks F) (r : Memref sig .tc sp S1024x1024 .f32) (f) :
    View.read (Elt F) r.view (r.view.writes (Elt F) f (B.storesX i)) = B.gradX i :=
  View.read_writes_eq_canon _ _ _ (View.cover_of_tiledBy (B.storesX i) ![512, 1024] (by sl_kernel_rfl))

/-- A row's own rectangle. -/
abbrev rowRect : Rect S1x1024 := Rect.unit ![0, 0] ![1, 1024] inb_S1x1024_S1x1024_0_0

theorem rowRect_emb (y : S1x1024.Idx) : rowRect.emb y = y := by
  funext a
  refine Fin.ext ?_
  rw [Rect.emb_apply]
  match a with
  | ⟨0, _⟩ => exact (Nat.zero_add _).trans (Nat.one_mul _)
  | ⟨1, _⟩ => exact (Nat.zero_add _).trans (Nat.one_mul _)

theorem ld_row (y : Vec F S1x1024 .f32) : View.ld y rowRect = y := funext fun j => congrArg y (rowRect_emb j)

theorem back_row (w : Vec F S1x1024 .f32) (r : Memref sig .tc sp S1x1024 .f32) (f) (L : List (View.Piece (Elt F) S1x1024 .f32)) :
    View.read (Elt F) r.view (r.view.writes (Elt F) f (⟨rowRect, w⟩ :: L)) = w := funext fun y =>
  (congrArg (View.read (Elt F) r.view (r.view.writes (Elt F) f (⟨rowRect, w⟩ :: L))) (rowRect_emb y).symm).trans (View.read_writes_cons_emb _ _ _ _ _ _)

end Back

end Cert.Inp

end
-- ==== Proof.InpPay.lean ====
/-
  What the body of the in-projection's call computes of one half tile of 512 rows, its inputs being real numbers. The two halves hold
  the same steps: the lemmas for one of them serve for both.
-/
module

public import proofs.«01_k».proof.Proof.InpSpec
public import proofs.«01_k».proof.Proof.InpHalf
public import Idealize.ShloMosaic.Lib.Pointwise

@[expose] public section

noncomputable section

namespace Cert.Inp

open Idealize.ShloMosaic Cert.Kernel4Ideal Cert.Kernel4Ideal.Gen Cert.Lift

theorem ofBits_1024 : Ideal.ofBits .f32 0x44800000#32 = ((1024 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem div_1024 (x : ℝ) : Ideal.div (x : EReal) ((1024 : ℝ) : EReal) = ((x / 1024 : ℝ) : EReal) := div_real x (by norm_num)

/-! ## The rotation -/

/-- A row of 128 columns rotated by 8 columns and by 120. -/
def roll (k : ℕ) (u : Fin 128 → ℝ) (l : Fin 128) : ℝ := u ⟨(l.val + 128 - k) % 128, Nat.mod_lt _ (by norm_num)⟩

/-- A row times the first table, and its products with the other two moved over. -/
def turned (u C A B : Fin 128 → ℝ) (l : Fin 128) : ℝ := u l * C l + roll 8 (fun j => u j * A j) l + roll 120 (fun j => u j * B j) l

variable {C A B u lo hi : Fin 512 → Fin 128 → ℝ} {v40 v41 v42 : FVec Ideal S512x128 .f32}

theorem pay17 (hC : Holds v40 C) (hA : Holds v41 A) (hB : Holds v42 B) {v : Vec Ideal S512x128 .bf16} (h : Holds v fun r l => u r l * 8) :
    Holds (k0_pay17 (F := Ideal) v40 v41 v42 v) fun r => turned (u r) (C r) (A r) (B r) := by
  intro r l
  have e : ∀ y : ℝ, y * 8 * (1 / 8) = y := fun y => by ring
  unfold k0_pay17
  pointwise
  simp only [h _ _, hC _ _, hA _ _, hB _ _, ofBits_eighth, ← EReal.coe_mul, e, ← EReal.coe_add]
  rfl

/-- Whether a column is of the first head of two. -/
theorem pay5 (r : Fin 512) (l : Fin 128) : k0_pay5 (ix2 r l) = BitVec.ofBool (decide (l.val < 64)) := by
  unfold k0_pay5
  pointwise
  revert l
  decide +kernel

theorem pay18 (hC : Holds v40 C) (hA : Holds v41 A) (hB : Holds v42 B) {v v' : Vec Ideal S512x128 .f32}
    (h : ∀ r (l : Fin 128), l.val < 64 → v (ix2 r l) = (u r l : EReal)) (h' : ∀ r (l : Fin 128), ¬l.val < 64 → v' (ix2 r l) = (u r l : EReal)) :
    Holds (k0_pay18 (F := Ideal) k0_pay5 v40 v41 v42 v v') fun r => turned (u r) (C r) (A r) (B r) := by
  intro r l
  have e : ∀ l : Fin 128, Scalar.select (k0_pay5 (ix2 r l)) (v (ix2 r l)) (v' (ix2 r l)) = (u r l : EReal) := fun l => by
    rw [pay5]
    by_cases hl : l.val < 64
    · rw [decide_eq_true hl]; exact h r l hl
    · rw [decide_eq_false hl]; exact h' r l hl
  unfold k0_pay18
  pointwise
  simp only [e, hC _ _, hA _ _, hB _ _, ← EReal.coe_mul, ← EReal.coe_add]
  rfl

theorem pay34 {v v' : Vec Ideal S512x128 .f32} (h : ∀ r (l : Fin 128), l.val < 64 → v (ix2 r l) = (u r l : EReal))
    (h' : ∀ r (l : Fin 128), ¬l.val < 64 → v' (ix2 r l) = (u r l : EReal)) : Holds (k0_pay34 (F := Ideal) k0_pay5 v v') u := by
  intro r l
  unfold k0_pay34
  pointwise
  rw [pay5]
  by_cases hl : l.val < 64
  · rw [decide_eq_true hl]; exact h r l hl
  · rw [decide_eq_false hl]; exact h' r l hl

/-! ## The tables of the rotation -/

section Tables

variable {v : Vec Ideal S512x48 .bf16} {w : Vec Ideal S48x384 .bf16} {b : Vec Ideal S1x384 .f32}

theorem pay7 (r : Fin 512) (l : Fin 384) :
    k0_pay7 (F := Ideal) (k0_pay6 v w) b (ix2 r l) = ∑ d : Fin 48, v (ix2 r d) * w (ix2 d l) + b (ix2 0 l) := by
  unfold k0_pay7 k0_pay6
  pointwise

theorem pay8 (r : Fin 512) (l : Fin 128) :
    k0_pay8 (F := Ideal) (k0_pay6 v w) b (ix2 r l) = k0_pay7 (F := Ideal) (k0_pay6 v w) b (ix2 r ⟨l.val, by omega⟩) := by
  unfold k0_pay8
  pointwise

theorem pay9 (r : Fin 512) (l : Fin 128) :
    k0_pay9 (F := Ideal) (k0_pay6 v w) b (ix2 r l) = k0_pay7 (F := Ideal) (k0_pay6 v w) b (ix2 r ⟨128 + l.val, by omega⟩) := by
  unfold k0_pay9
  pointwise

theorem pay10 (r : Fin 512) (l : Fin 128) :
    k0_pay10 (F := Ideal) (k0_pay6 v w) b (ix2 r l) = k0_pay7 (F := Ideal) (k0_pay6 v w) b (ix2 r ⟨256 + l.val, by omega⟩) := by
  unfold k0_pay10
  pointwise

end Tables

/-! ## The convolution and the gates -/

theorem pay4 (i : grid0.Coords) {D : ℕ → Fin 512 → ℝ} {W : Fin 3 → Fin 512 → ℝ} {v3 : Vec Ideal S1024x512 .bf16} {v7 : Vec Ideal S16x512 .bf16}
    {v17 : Vec Ideal S3x512 .f32} (h3 : Holds v3 fun r c => D r c) (h7 : ∀ (q : Fin 16) c, (i 0).val ≠ 7 → v7 (ix2 q c) = (D (1024 + q) c : EReal))
    (h0 : ∀ (q : Fin 16) c, (i 0).val = 7 → D (1024 + q) c = 0) (hw : Holds v17 W) :
    Holds (k0_pay4 (F := Ideal) i v3 v7 v17) fun r c => W 2 c * D r c + W 1 c * D (r + 1) c + W 0 c * D (r + 2) c := by
  intro r c
  unfold k0_pay4
  have cond : Scalar.cmpi .eq (BitVec.ofNat 32 (i 0).val) 7#32 = BitVec.ofBool (decide ((i 0).val = 7)) := by
    generalize i 0 = a
    revert a
    decide +kernel
  have row : ∀ (n : ℕ) (hn : n < 1040), (if h : n < 1024 then v3 (ix2 ⟨n, h⟩ c) else
      Scalar.select (Scalar.cmpi .eq (BitVec.ofNat 32 (i 0).val) 7#32) 0 (v7 (ix2 ⟨n - 1024, by omega⟩ c))) = (D n c : EReal) := fun n hn => by
    split_ifs with h
    · exact h3 _ _
    · have hn' : 1024 + (n - 1024) = n := by omega
      rw [cond]
      by_cases hi : (i 0).val = 7
      · have := h0 ⟨n - 1024, by omega⟩ c hi
        dsimp only at this
        rw [hn'] at this
        rw [decide_eq_true hi, this]
        exact EReal.coe_zero.symm
      · have := h7 ⟨n - 1024, by omega⟩ c hi
        dsimp only at this
        rw [hn'] at this
        rw [decide_eq_false hi]
        exact this
  pointwise
  rw [row _ (Nat.mod_lt _ (by norm_num)), row _ (Nat.mod_lt _ (by norm_num)), show (r.val + 1040 - 1039) % 1040 = r + 1 by omega,
    show (r.val + 1040 - 1038) % 1040 = r + 2 by omega]
  simp only [h3 _ _, hw _ _, ← EReal.coe_mul, ← EReal.coe_add]

theorem pay22 {U : Fin 1024 → Fin 512 → ℝ} {G : Fin 512 → Fin 512 → ℝ} {v29 : FVec Ideal S1024x512 .f32} {v : Vec Ideal S512x512 .bf16}
    (hU : Holds v29 U) (h : Holds v G) : Holds (k0_pay22 (F := Ideal) v29 v) fun r c => U ⟨r, by omega⟩ c * G r c := by
  intro r c
  unfold k0_pay22
  pointwise
  simp only [hU _ _, h _ _, ← EReal.coe_mul]

theorem pay36 {U : Fin 1024 → Fin 512 → ℝ} {G : Fin 512 → Fin 512 → ℝ} {v29 : FVec Ideal S1024x512 .f32} {v : Vec Ideal S512x512 .bf16}
    (hU : Holds v29 U) (h : Holds v G) : Holds (k0_pay36 (F := Ideal) v29 v) fun r c => U ⟨512 + r, by omega⟩ c * G r c := by
  intro r c
  unfold k0_pay36
  pointwise
  simp only [hU _ _, h _ _, ← EReal.coe_mul]

theorem pay35 {G : Fin 512 → Fin 512 → ℝ} {v : Vec Ideal S512x512 .bf16} (h : Holds v G) : Holds (k0_pay35 (F := Ideal) v) G := by
  intro r c
  unfold k0_pay35
  pointwise
  exact h r c

/-! ## The weights, and the norm -/

variable {f d t : Fin 512 → Fin 1024 → ℝ} {g : Fin 1024 → ℝ}

theorem pay39 {P : Fin 512 → Fin 2304 → ℝ} {W : Fin 1024 → ℕ → ℝ} {v241 : Vec Ideal S8x288x1024 .bf16} {v : Vec Ideal S512x2304 .bf16}
    (hw : ∀ (p : Fin 8) (q : Fin 288) k, v241 (ix3 p q k) = (W k (288 * p + q) : EReal)) (h : Holds v P) :
    Holds (k0_pay39 (F := Ideal) v241 v) fun r k => ∑ e, P r e * W k e := by
  intro r k
  have at_ : ∀ (e : Fin 2304) (hp : e.val / 288 < 8) (hq : e.val % 288 < 288), v241 (ix3 ⟨e.val / 288, hp⟩ ⟨e.val % 288, hq⟩ k) = (W k e : EReal) :=
    fun e hp hq => (hw _ _ _).trans (congrArg (fun n : ℕ => (W k n : EReal)) (by dsimp only; omega))
  unfold k0_pay39 k0_pay38
  pointwise
  simp only [at_, h _ _, ← EReal.coe_mul, ← coe_sum]

theorem pay47 {v : Vec Ideal S512x1024 .f32} (h : Holds v f) (r : Fin 512) (z : Fin 1) : k0_pay47 (F := Ideal) v (ix2 r z) = (rms (f r) : EReal) := by
  have e : ((∑ m, f r m * f r m) / 1024 + eps : ℝ) = meanSq (f r) := rfl
  unfold k0_pay47
  pointwise
  simp only [h _ _, ofBits_1024, ofBits_eps, ← EReal.coe_mul, ← coe_sum, div_1024, ← EReal.coe_add, e, rsqrt_real (meanSq_pos _)]
  rfl

theorem pay48 {v : Vec Ideal S512x1024 .f32} (h : Holds v f) : Holds (k0_pay48 (F := Ideal) v) fun r k => f r k * rms (f r) := by
  intro r k
  unfold k0_pay48
  pointwise
  simp only [h _ _, pay47 h, ← EReal.coe_mul]

theorem pay1 {v249 v294 : FVec Ideal S512x1024 .f32} {v292 : FVec Ideal S512x1 .f32} {v299 : Vec Ideal S512x1024 .bf16} {v302 : Vec Ideal S1x1024 .f32}
    (h : Holds v249 d) (h1 : ∀ r z, v292 (ix2 r z) = (rms (f r) : EReal)) (h2 : Holds v294 fun r k => f r k * rms (f r)) (h3 : Holds v299 t)
    (hg : Holds v302 fun _ => g) :
    Holds (k0_pay1 (F := Ideal) v249 v292 v294 v299 v302) fun r k => t r k + normBwd (f r) (fun m => d r m * g m) k := by
  intro r k
  unfold k0_pay1
  pointwise
  simp only [h _ _, h1, h2 _ _, h3 _ _, hg _ _, ofBits_1024, ← EReal.coe_mul, ← coe_sum, ← EReal.coe_sub, div_1024, ← EReal.coe_add]
  rfl

/-- The products of two arrays, summed over the rows, added to two rows in turn. -/
theorem pay2 {v249 v294 : FVec Ideal S512x1024 .f32} {v265 : FVec Ideal S1x1024 .f32} {v317 : Vec Ideal S1x1024 .f32} (h : Holds v249 d) (h2 : Holds v294 t)
    (z : Fin 1) (k : Fin 1024) :
    k0_pay2 (F := Ideal) v249 v265 v294 v317 (ix2 z k) = v317 (ix2 z k) + (v265 (ix2 z k) + (∑ r, d r k * t r k : ℝ)) := by
  unfold k0_pay2
  pointwise
  simp only [h _ _, h2 _ _, ← EReal.coe_mul, ← coe_sum]

theorem pay45 {v246 : FVec Ideal S512x1024 .f32} {v250 : FVec Ideal S1x1024 .f32} {v : Vec Ideal S512x1024 .f32} (h : Holds v246 d) (h2 : Holds v f)
    (z : Fin 1) (k : Fin 1024) :
    k0_pay45 (F := Ideal) v246 v250 v (k0_pay42 v) (ix2 z k) = v250 (ix2 z k) + (∑ r, d r k * (f r k * rms (f r)) : ℝ) := by
  have e : k0_pay44 (F := Ideal) v (k0_pay42 v) = k0_pay48 v := rfl
  unfold k0_pay45
  rw [e]
  pointwise
  simp only [h _ _, pay48 h2 _ _, ← EReal.coe_mul, ← coe_sum]

theorem pay41 (i : S1x1024.Idx) : k0_pay41 (F := Ideal) i = 0 := Ideal.ofBits_zero_f32

end Cert.Inp

end
-- ==== Proof.InpHost.lean ====
module

public import proofs.«01_k».proof.Proof.InpPay
public import proofs.«01_k».proof.Proof.Gen.Kernel4Ideal.Frame.Runs
public import Idealize.ShloMosaic.Lib.Pointwise

@[expose] public section

/-! # What the operands of the in-projection's call hold

The host forms them of the arguments: the queries' gradient eight times, each key and value head twice over the lanes, the two gates of the
convolution by a projection of the normed input, the weights transposed, and the rotation's angles by their cosines and sines. -/

noncomputable section

namespace Cert.Inp.Host

open Idealize.ShloMosaic Idealize.ShloMosaic.TcCoe Idealize.ShloMosaic.StableHlo Idealize.SL.Sem Cert.Kernel4Ideal Cert.Kernel4Ideal.Gen Cert.Lift

def normed (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf
      (broadcastInDim S8192x1 ![0] bcast_S8192_S8192x1_0 (Host.reduceAdd (mulf x x) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 g)
/-- The last 1024 columns of the normed input's projection. -/
def gates (x : FVec Ideal S8192x1024 .f32) (g : FVec Ideal S1x1024 .f32) (w : FVec Ideal S1x1024x2304 .f32) : FVec Ideal S8192x1024 .f32 :=
  Host.dotGeneral (φ₁ := .f32) (φ₂ := .f32) dot_S8192x1024_S1024x1024_S8192x1024_1_0_0_1_n_n none (normed x g)
    (extractStridedSlice S1024x1024 ![0, 1280] (shapeCast S1024x2304 w shapeCasts_S1x1024x2304_S1024x2304) slices_S1024x2304_S1024x1024_0_1280)
def twice (off : Fin 2 → ℕ) (hs : S8192x128.Slices off S8192x64) (a : FVec Ideal S8192x128 .f32) : FVec Ideal S8192x128 .f32 :=
  concatenate S8192x128 1 [⟨S8192x64, extractStridedSlice S8192x64 off a hs⟩, ⟨S8192x64, extractStridedSlice S8192x64 off a hs⟩]
    concatenates_S8192x64_S8192x64_S8192x128_d1
def eightfold (a : FVec Ideal S8192x512 .f32) : FVec Ideal S8192x512 .bf16 :=
  truncf .bf16 (mulf a (broadcastInDim S8192x512 ![] bcast_S_S8192x512 (constant S_ .f32 0x41000000#32))) bitsLt_bf16_f32
def columns (w : FVec Ideal S1x1024x2304 .f32) : FVec Ideal S8x288x1024 .bf16 :=
  shapeCast S8x288x1024 (truncf .bf16 (transpose S2304x1024 [1, 0] (shapeCast S1024x2304 w shapeCasts_S1x1024x2304_S1024x2304) transposes_S1024x2304_S2304x1024_1_0)
    bitsLt_bf16_f32 : FVec Ideal S2304x1024 .bf16) shapeCasts_S2304x1024_S8x288x1024
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
            (mulf (broadcastInDim S8 ![] bcast_S_S8 (constant S_ .f32 0x40000000#32)) (sitofp .f32 (iotaInDim S8 32 0)))))
          (broadcastInDim S8 ![] bcast_S_S8 (constant S_ .f32 0x41800000#32))))))
def table : FVec Ideal S8192x16 .f32 :=
  concatenate S8192x16 1 [⟨S8192x8, Host.cos angles⟩, ⟨S8192x8, Host.sin angles⟩] concatenates_S8192x8_S8192x8_S8192x16_d1
/-- A table in three pieces: its value in the narrow format, what that leaves, and the rest. -/
def split (p : FVec Ideal S8192x16 .f32) : FVec Ideal S8192x48 .bf16 :=
  truncf .bf16 (concatenate S8192x48 1 [⟨S8192x16, extf .f32 (truncf .bf16 p bitsLt_bf16_f32) bitsLt_bf16_f32⟩,
    ⟨S8192x16, extf .f32 (truncf .bf16 (subf p (extf .f32 (truncf .bf16 p bitsLt_bf16_f32) bitsLt_bf16_f32)) bitsLt_bf16_f32) bitsLt_bf16_f32⟩,
    ⟨S8192x16, subf (subf p (extf .f32 (truncf .bf16 p bitsLt_bf16_f32) bitsLt_bf16_f32))
      (extf .f32 (truncf .bf16 (subf p (extf .f32 (truncf .bf16 p bitsLt_bf16_f32) bitsLt_bf16_f32)) bitsLt_bf16_f32) bitsLt_bf16_f32)⟩]
    concatenates_S8192x16_S8192x16_S8192x16_S8192x48_d1 : FVec Ideal S8192x48 .f32) bitsLt_bf16_f32

section

variable (W : Valuation τ sig (Elt Ideal))

set_option maxRecDepth 8192 in
set_option maxHeartbeats 4000000 in
theorem heads_eq : after hostOps0 W (Proc.devRef .tc main_v17) = eightfold (W (Proc.devRef .tc main_arg0))
    ∧ after hostOps0 W (Proc.devRef .tc main_v19) = twice ![0, 0] slices_S8192x128_S8192x64_0_0 (W (Proc.devRef .tc main_arg1))
    ∧ after hostOps0 W (Proc.devRef .tc main_v21) = twice ![0, 64] slices_S8192x128_S8192x64_0_64 (W (Proc.devRef .tc main_arg1))
    ∧ after hostOps0 W (Proc.devRef .tc main_v23) = twice ![0, 0] slices_S8192x128_S8192x64_0_0 (W (Proc.devRef .tc main_arg2))
    ∧ after hostOps0 W (Proc.devRef .tc main_v25) = twice ![0, 64] slices_S8192x128_S8192x64_0_64 (W (Proc.devRef .tc main_arg2)) := by
  simp only [hostOps0]
  after_results_simp
  refine ⟨?_, ?_, ?_, ?_, ?_⟩ <;> first | trivial | rfl

set_option maxRecDepth 8192 in
set_option maxHeartbeats 4000000 in
theorem casts_eq : after hostOps0 W (Proc.devRef .tc main_v26) = (truncf .bf16 (W (Proc.devRef .tc main_arg3) : FVec Ideal S8192x512 .f32) bitsLt_bf16_f32 : FVec Ideal S8192x512 .bf16)
    ∧ after hostOps0 W (Proc.devRef .tc main_v27) = (truncf .bf16 (W (Proc.devRef .tc main_arg4) : FVec Ideal S8192x512 .f32) bitsLt_bf16_f32 : FVec Ideal S8192x512 .bf16)
    ∧ after hostOps0 W (Proc.devRef .tc main_v32) = shapeCast S3x512 (W (Proc.devRef .tc main_arg9)) shapeCasts_S1x3x512_S3x512
    ∧ after hostOps0 W (Proc.devRef .tc main_v33) = (truncf .bf16 (W (Proc.devRef .tc main_arg5) : FVec Ideal S8192x1024 .f32) bitsLt_bf16_f32 : FVec Ideal S8192x1024 .bf16)
    ∧ after hostOps0 W (Proc.devRef .tc main_v37) = columns (W (Proc.devRef .tc main_arg8)) := by
  simp only [hostOps0]
  after_results_simp
  refine ⟨?_, ?_, ?_, ?_, ?_⟩ <;> first | trivial | rfl

set_option maxRecDepth 8192 in
set_option maxHeartbeats 4000000 in
theorem gates_eq : after hostOps0 W (Proc.devRef .tc main_v29) = (truncf .bf16 (extractStridedSlice S8192x512 ![0, 0]
      (gates (W (Proc.devRef .tc main_arg6)) (W (Proc.devRef .tc main_arg7)) (W (Proc.devRef .tc main_arg8))) slices_S8192x1024_S8192x512_0_0) bitsLt_bf16_f32 : FVec Ideal S8192x512 .bf16)
    ∧ after hostOps0 W (Proc.devRef .tc main_v31) = (truncf .bf16 (extractStridedSlice S8192x512 ![0, 512]
      (gates (W (Proc.devRef .tc main_arg6)) (W (Proc.devRef .tc main_arg7)) (W (Proc.devRef .tc main_arg8))) slices_S8192x1024_S8192x512_0_512) bitsLt_bf16_f32 : FVec Ideal S8192x512 .bf16) := by
  simp only [hostOps0]
  after_results_simp
  refine ⟨?_, ?_⟩ <;> rfl

set_option maxRecDepth 8192 in
set_option maxHeartbeats 4000000 in
theorem pieces_eq : after hostOps0 W (Proc.devRef .tc main_v65) = split table := by
  simp only [hostOps0]
  after_results_simp
  all_goals rfl

set_option maxRecDepth 8192 in
set_option maxHeartbeats 4000000 in
theorem literals_eq : after hostOps0 W (Proc.devRef .tc main_cst) = (fun i => FloatOps.ofBits .bf16 (lit0 (S48x384.rowMajor i)) : FVec Ideal S48x384 .bf16)
    ∧ after hostOps0 W (Proc.devRef .tc main_cst_0) = (fun i => FloatOps.ofBits .f32 (lit1 (S1x384.rowMajor i)) : FVec Ideal S1x384 .f32)
    ∧ after hostOps0 W (Proc.devRef .tc main_arg6) = W (Proc.devRef .tc main_arg6)
    ∧ after hostOps0 W (Proc.devRef .tc main_arg7) = W (Proc.devRef .tc main_arg7) := by
  simp only [hostOps0]
  after_results_simp
  refine ⟨?_, ?_, ?_, ?_⟩ <;> first | trivial | rfl

end

end Cert.Inp.Host

end
-- ==== Proof.InpRead.lean ====
module

public import proofs.«01_k».proof.Proof.InpArgs
public import proofs.«01_k».proof.Proof.InpHost

@[expose] public section

/-! # The operands of the in-projection's call, over the reals -/

noncomputable section

namespace Cert.Inp.Host

open Idealize.ShloMosaic Cert.Kernel4Ideal Cert.Kernel4Ideal.Gen Cert.Lift

theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_base : Ideal.ofBits .f32 0x48F42400#32 = ((500000 : ℝ) : EReal) := by
  simp [Ideal.ofBits, Ideal.ieee, -EReal.coe_mul]; norm_num

section

variable {x : In} {dq : Arr ![8192, 512]} {dk dv : Arr ![8192, 128]} {dgb dy : Arr ![8192, 512]} {dh inp : Arr ![8192, 1024]}
  {g : Arr ![1, 1024]} {w : Arr ![1, 1024, 2304]} {cw : Arr ![1, 3, 512]} (h : Args x dq dk dv dgb dy dh inp g w cw) (n : Fin 8192)
include h

theorem eightfold_at (l : Fin 512) : eightfold dq (ix2 n l) = ((x.dq n l * 8 : ℝ) : EReal) := by
  unfold eightfold
  pointwise
  rw [h.dq, ofBits_8, EReal.coe_mul]

theorem normed_at (k : Fin 1024) : normed inp g (ix2 n k) = (x.hn n k : EReal) := by
  have e : ((∑ m, x.inp n m * x.inp n m) / 1024 + eps : ℝ) = meanSq (x.inp n) := rfl
  unfold normed
  pointwise
  simp only [h.inp _ _, h.g _ _, ofBits_1024, ofBits_eps, ← EReal.coe_mul, ← coe_sum, div_1024, ← EReal.coe_add, e, rsqrt_real (meanSq_pos _)]
  rfl

theorem gates_at (e : Fin 1024) : gates inp g w (ix2 n e) = (x.proj n (1280 + e) : EReal) := by
  unfold gates
  pointwise
  simp only [normed_at h, h.w _ _ _, ← EReal.coe_mul, ← coe_sum]
  rfl

theorem columns_at (p : Fin 8) (q : Fin 288) (k : Fin 1024) : columns w (ix3 p q k) = (x.w k (288 * p + q) : EReal) := by
  unfold columns
  pointwise
  rw [h.w]
  refine congrArg (fun e => (x.w k e : EReal)) ?_
  dsimp only
  omega

end

theorem twice_low {a : Arr ![8192, 128]} {f : ℕ → ℕ → ℝ} (ha : ∀ (n : Fin 8192) (l : Fin 128), a (ix2 n l) = (f n l : EReal)) (n : Fin 8192) (l : Fin 128) (hl : l.val < 64) :
    twice ![0, 0] slices_S8192x128_S8192x64_0_0 a (ix2 n l) = (f n l : EReal) := by
  unfold twice
  pointwise
  rw [dif_pos hl, ha]

theorem twice_high {a : Arr ![8192, 128]} {f : ℕ → ℕ → ℝ} (ha : ∀ (n : Fin 8192) (l : Fin 128), a (ix2 n l) = (f n l : EReal)) (n : Fin 8192) (l : Fin 128) (hl : ¬l.val < 64) :
    twice ![0, 64] slices_S8192x128_S8192x64_0_64 a (ix2 n l) = (f n l : EReal) := by
  unfold twice
  pointwise
  split_ifs with h2
  · rw [ha]
    refine congrArg (fun l => (f n l : EReal)) ?_
    show 64 + (l.val - 64) = l.val; omega
  · exact absurd rfl h2

theorem sitofp_at (k : ℕ) (hk : k < 2 ^ 30) : FloatOps.sitofp (F := Ideal) .f32 (BitVec.ofNat 32 k) = ((k : ℝ) : EReal) := by
  have e : (BitVec.ofNat 32 k).toInt = (k : ℤ) := by
    rw [BitVec.toInt_eq_toNat_cond, BitVec.toNat_ofNat]
    split_ifs <;> omega
  show (((BitVec.ofNat 32 k).toInt : ℝ) : EReal) = _
  rw [e, Int.cast_natCast]

theorem angles_at (n : Fin 8192) (d : Fin 8) : angles (ix2 n d) = (angle n d : EReal) := by
  unfold angles
  pointwise
  rw [sitofp_at _ (by omega), sitofp_at _ (by omega), ofBits_base, ofBits_2, ofBits_16, ← EReal.coe_mul, ← EReal.coe_neg, div_real _ (by norm_num)]
  exact (EReal.coe_mul _ _).symm

theorem table_at (n : Fin 8192) (d : Fin 16) : table (ix2 n d) = ((if d.val < 8 then Real.cos (angle n d) else Real.sin (angle n (d - 8)) : ℝ) : EReal) := by
  unfold table
  pointwise
  split_ifs with hd hz
  · rw [angles_at]; rfl
  · rw [angles_at]; rfl
  · exact absurd rfl hz

theorem split_at {p : FVec Ideal S8192x16 .f32} {f : Fin 8192 → Fin 16 → ℝ} (hp : ∀ n d, p (ix2 n d) = (f n d : EReal)) (n : Fin 8192) (d : Fin 48) :
    split p (ix2 n d) = ((if h : d.val < 16 then f n ⟨d, h⟩ else 0 : ℝ) : EReal) := by
  unfold split
  pointwise
  have z : ∀ y : ℝ, (y : EReal) - y = 0 := fun y => by rw [← EReal.coe_sub, sub_self]; rfl
  simp only [hp, z, sub_zero]
  split_ifs <;> rfl

end Cert.Inp.Host

end
-- ==== Proof.InpTable.lean ====
module

public import proofs.«01_k».proof.Proof.InpRead
public import proofs.«01_k».proof.Proof.InpPay

@[expose] public section

/-! # The rotation's tables

The call spreads each row's eight cosines and eight sines over the 128 columns of two heads by a product with a matrix of ones, minus
ones and zeros. Turning a row by the tables is the rotation's gradient. -/

noncomputable section

namespace Cert.Inp

open Idealize.ShloMosaic Cert.Kernel4Ideal Cert.Kernel4Ideal.Gen Cert.Lift

/-- The entries of the matrix and of the row that is added to it, by their bits. -/
def spreadBits (d l : ℕ) : BitVec 16 :=
  if l < 128 then if l % 64 < 16 ∧ d = l % 8 then 0x3F80#16 else 0#16
  else if l < 256 then if l % 64 < 8 ∧ d = 8 + l % 8 then 0xBF80#16 else 0#16
  else if 8 ≤ l % 64 ∧ l % 64 < 16 ∧ d = 8 + l % 8 then 0x3F80#16 else 0#16

def baseBits (l : ℕ) : BitVec 32 := if l < 128 ∧ 16 ≤ l % 64 then 0x3F800000#32 else 0#32

set_option maxRecDepth 16384 in
theorem lit0_eq : ∀ (d : Fin 16) (l : Fin 384), lit0 (S48x384.rowMajor (ix2 ⟨d.val, by omega⟩ l)) = spreadBits d l := by decide +kernel

set_option maxRecDepth 16384 in
theorem lit1_eq : ∀ l : Fin 384, lit1 (S1x384.rowMajor (ix2 0 l)) = baseBits l := by decide +kernel

/-- A row's cosines and sines, as the call is given them. -/
def In.pieces (x : In) (n d : ℕ) : ℝ := if d < 8 then x.cs n d else if d < 16 then x.sn n (d - 8) else 0

/-! The three tables, by row and column. -/
def In.tabC (x : In) (n l : ℕ) : ℝ := if l % 64 < 16 then x.cs n (l % 8) else 1
def In.tabA (x : In) (n l : ℕ) : ℝ := if l % 64 < 8 then -x.sn n (l % 8) else 0
def In.tabB (x : In) (n l : ℕ) : ℝ := if 8 ≤ l % 64 ∧ l % 64 < 16 then x.sn n (l % 8) else 0

theorem ofBits_bf16_one : Ideal.ofBits .bf16 0x3F80#16 = ((1 : ℝ) : EReal) := by
  simp [Ideal.ofBits, Ideal.ieee, -EReal.coe_mul]; norm_num
theorem ofBits_bf16_neg : Ideal.ofBits .bf16 0xBF80#16 = ((-1 : ℝ) : EReal) := by
  simp [Ideal.ofBits, Ideal.ieee, -EReal.coe_mul]; norm_num
theorem ofBits_bf16_zero : Ideal.ofBits .bf16 0#16 = ((0 : ℝ) : EReal) := by
  simp [Ideal.ofBits, Ideal.ieee, -EReal.coe_mul]
theorem ofBits_f32_one : Ideal.ofBits .f32 0x3F800000#32 = ((1 : ℝ) : EReal) := by
  simp [Ideal.ofBits, Ideal.ieee, -EReal.coe_mul]; norm_num
theorem ofBits_f32_zero : Ideal.ofBits .f32 0#32 = ((0 : ℝ) : EReal) := by
  simp [Ideal.ofBits, Ideal.ieee, -EReal.coe_mul]

/-- A sum of products, all but one of them zero. -/
theorem sum_pick {p e : Fin 48 → EReal} {f : ℝ} (k : Fin 48) (P : Prop) [Decidable P] (s : ℝ) (hp : p k = (f : EReal)) (he : e k = ((if P then s else 0 : ℝ) : EReal))
    (h0 : ∀ d, d ≠ k → p d * e d = 0) : ∑ d, p d * e d = ((if P then f * s else 0 : ℝ) : EReal) := by
  rw [Finset.sum_eq_single k (fun d _ hd => h0 d hd) (fun h => absurd (Finset.mem_univ k) h), hp, he, ← EReal.coe_mul]
  split_ifs <;> simp

section

variable {x : In} {v : Vec Ideal S512x48 .bf16} {w : Vec Ideal S48x384 .bf16} {b : Vec Ideal S1x384 .f32} {n : Fin 512 → ℕ}
  (hv : ∀ r d, v (ix2 r d) = (x.pieces (n r) d.val : EReal)) (hw : ∀ i, w i = Ideal.ofBits .bf16 (lit0 (S48x384.rowMajor i)))
  (hb : ∀ i, b i = Ideal.ofBits .f32 (lit1 (S1x384.rowMajor i)))
include hv hw hb

theorem entry (d : Fin 48) (hd : d.val < 16) (l : Fin 384) : w (ix2 d l) = Ideal.ofBits .bf16 (spreadBits d l) := by
  rw [hw, ← lit0_eq ⟨d, hd⟩ l]

theorem zero_of (r : Fin 512) (l : Fin 384) (k d : Fin 48) (hk : d ≠ k) (h : ∀ d : ℕ, d ≠ k → spreadBits d l = 0#16) : v (ix2 r d) * w (ix2 d l) = 0 := by
  by_cases hd : d.val < 16
  · rw [entry hv hw hb d hd, h d (fun e => hk (Fin.ext e)), ofBits_bf16_zero]; simp
  · rw [hv, In.pieces, if_neg (by omega), if_neg hd]; simp

theorem tabC_at (r : Fin 512) (l : Fin 128) : k0_pay8 (F := Ideal) (k0_pay6 v w) b (ix2 r l) = (x.tabC (n r) l : EReal) := by
  rw [pay8, pay7, sum_pick (f := x.cs (n r) (l % 8)) ⟨l % 8, by omega⟩ (l.val % 64 < 16) 1 (by rw [hv, In.pieces, if_pos (by dsimp only; omega)])
    (by
      rw [entry hv hw hb _ (by dsimp only; omega), spreadBits, if_pos l.isLt]
      by_cases hl : l.val % 64 < 16
      · rw [if_pos ⟨hl, rfl⟩, if_pos hl, ofBits_bf16_one]
      · rw [if_neg (fun e => hl e.1), if_neg hl, ofBits_bf16_zero])
    (fun d hd => zero_of hv hw hb r _ _ d hd fun d hd => by rw [spreadBits, if_pos l.isLt, if_neg (fun e => hd e.2)]),
    hb, lit1_eq, baseBits, In.tabC]
  have := l.isLt
  by_cases hl : l.val % 64 < 16
  · rw [if_pos hl, if_pos hl, if_neg (by dsimp only; omega), ofBits_f32_zero, ← EReal.coe_add]; simp
  · rw [if_neg hl, if_neg hl, if_pos (by dsimp only; omega), ofBits_f32_one, ← EReal.coe_add]; simp

theorem tabA_at (r : Fin 512) (l : Fin 128) : k0_pay9 (F := Ideal) (k0_pay6 v w) b (ix2 r l) = (x.tabA (n r) l : EReal) := by
  have hl := l.isLt
  have hz : b (ix2 0 ⟨128 + l.val, by omega⟩) = ((0 : ℝ) : EReal) := by rw [hb, lit1_eq, baseBits, if_neg (by dsimp only; omega), ofBits_f32_zero]
  have e64 : (128 + l.val) % 64 = l.val % 64 := by omega
  have e8 : (128 + l.val) % 8 = l.val % 8 := by omega
  rw [pay9, pay7, sum_pick (f := x.sn (n r) (l % 8)) ⟨8 + l % 8, by omega⟩ (l.val % 64 < 8) (-1)
    (by rw [hv, In.pieces, if_neg (by dsimp only; omega), if_pos (by dsimp only; omega)]; dsimp only; rw [Nat.add_sub_cancel_left])
    (by
      rw [entry hv hw hb _ (by dsimp only; omega), spreadBits, if_neg (by dsimp only; omega), if_pos (by dsimp only; omega)]
      dsimp only
      rw [e64, e8]
      by_cases hl : l.val % 64 < 8
      · rw [if_pos ⟨hl, rfl⟩, if_pos hl, ofBits_bf16_neg]
      · rw [if_neg (fun e => hl e.1), if_neg hl, ofBits_bf16_zero])
    (fun d hd => zero_of hv hw hb r _ _ d hd fun d hd => by
      rw [spreadBits, if_neg (by dsimp only; omega), if_pos (by dsimp only; omega), if_neg]
      dsimp only at hd ⊢
      rw [e8]
      exact fun e => hd e.2),
    hz, ← EReal.coe_add, In.tabA]
  split_ifs <;> simp

theorem tabB_at (r : Fin 512) (l : Fin 128) : k0_pay10 (F := Ideal) (k0_pay6 v w) b (ix2 r l) = (x.tabB (n r) l : EReal) := by
  have hl := l.isLt
  have hz : b (ix2 0 ⟨256 + l.val, by omega⟩) = ((0 : ℝ) : EReal) := by rw [hb, lit1_eq, baseBits, if_neg (by dsimp only; omega), ofBits_f32_zero]
  have e64 : (256 + l.val) % 64 = l.val % 64 := by omega
  have e8 : (256 + l.val) % 8 = l.val % 8 := by omega
  rw [pay10, pay7, sum_pick (f := x.sn (n r) (l % 8)) ⟨8 + l % 8, by omega⟩ (8 ≤ l.val % 64 ∧ l.val % 64 < 16) 1
    (by rw [hv, In.pieces, if_neg (by dsimp only; omega), if_pos (by dsimp only; omega)]; dsimp only; rw [Nat.add_sub_cancel_left])
    (by
      rw [entry hv hw hb _ (by dsimp only; omega), spreadBits, if_neg (by dsimp only; omega), if_neg (by dsimp only; omega)]
      dsimp only
      rw [e64, e8]
      by_cases hl : 8 ≤ l.val % 64 ∧ l.val % 64 < 16
      · rw [if_pos ⟨hl.1, hl.2, rfl⟩, if_pos hl, ofBits_bf16_one]
      · rw [if_neg (fun e => hl ⟨e.1, e.2.1⟩), if_neg hl, ofBits_bf16_zero])
    (fun d hd => zero_of hv hw hb r _ _ d hd fun d hd => by
      rw [spreadBits, if_neg (by dsimp only; omega), if_neg (by dsimp only; omega), if_neg]
      dsimp only at hd ⊢
      rw [e8]
      exact fun e => hd e.2.2),
    hz, ← EReal.coe_add, In.tabB]
  split_ifs <;> simp

end

/-- Turning a pair of heads by the tables. -/
theorem turned_eq (x : In) (n : ℕ) (u : ℕ → ℝ) (off : ℕ) (ho : off % 128 = 0) (l : Fin 128) :
    turned (fun l => u (off + l)) (fun l => x.tabC n l) (fun l => x.tabA n l) (fun l => x.tabB n l) l = x.turn n u (off + l) := by
  obtain ⟨l, hl⟩ := l
  have e64 : (off + l) % 64 = l % 64 := by omega
  simp only [turned, roll, In.turn, e64]
  by_cases h8 : l % 64 < 8
  · have ea : ¬(l + 128 - 8) % 128 % 64 < 8 := by omega
    have eb : (8 ≤ (l + 128 - 120) % 128 % 64 ∧ (l + 128 - 120) % 128 % 64 < 16) := by omega
    have e1 : (l + 128 - 120) % 128 = l + 8 := by omega
    have e2 : (l + 8) % 8 = l % 64 := by omega
    have e3 : l % 8 = l % 64 := by omega
    rw [In.tabA, if_neg ea, In.tabB, if_pos eb, In.tabC, if_pos (by omega), if_pos h8, e1, e2, e3, Nat.add_assoc]
    ring
  · by_cases h16 : l % 64 < 16
    · have ea : (l + 128 - 8) % 128 % 64 < 8 := by omega
      have eb : ¬(8 ≤ (l + 128 - 120) % 128 % 64 ∧ (l + 128 - 120) % 128 % 64 < 16) := by omega
      have e1 : (l + 128 - 8) % 128 = l - 8 := by omega
      have e2 : (l - 8) % 8 = l % 64 - 8 := by omega
      have e3 : l % 8 = l % 64 - 8 := by omega
      have e4 : off + l - 8 = off + (l - 8) := by omega
      rw [In.tabA, if_pos ea, In.tabB, if_neg eb, In.tabC, if_pos h16, if_neg h8, if_pos h16, e1, e2, e3, e4]
      ring
    · have ea : ¬(l + 128 - 8) % 128 % 64 < 8 := by omega
      have eb : ¬(8 ≤ (l + 128 - 120) % 128 % 64 ∧ (l + 128 - 120) % 128 % 64 < 16) := by omega
      rw [In.tabA, if_neg ea, In.tabB, if_neg eb, In.tabC, if_neg h16, if_neg h8, if_neg h16]
      ring

end Cert.Inp

end
-- ==== Proof.InpTile.lean ====
module

public import proofs.«01_k».proof.Proof.InpTable
public import Idealize.ShloMosaic.Lib.Pipeline.ReadBack

@[expose] public section

/-! # What the in-projection's call computes of a tile, over the reals -/

set_option maxRecDepth 16384

noncomputable section

namespace Cert.Inp

open Idealize.ShloMosaic Cert.Kernel4Ideal Cert.Kernel4Ideal.Gen Cert.Lift

/-! ## The gradient of the projected row, by parts -/

namespace In

variable (x : In) (n : ℕ)

theorem dproj_q (e : ℕ) (h : e < 512) : x.dproj n e = x.turn n (x.dq n) e := by
  unfold dproj; rw [if_pos h]
theorem dproj_k (l : ℕ) (h : l < 128) : x.dproj n (512 + l) = x.turn n (x.dk n) l := by
  unfold dproj; rw [if_neg (by omega), if_pos (by omega), Nat.add_sub_cancel_left]
theorem dproj_v (l : ℕ) (h : l < 128) : x.dproj n (640 + l) = x.dv n l := by
  unfold dproj; rw [if_neg (by omega), if_neg (by omega), if_pos (by omega), Nat.add_sub_cancel_left]
theorem dproj_gb (l : ℕ) (h : l < 512) : x.dproj n (768 + l) = x.dgb n l := by
  unfold dproj; rw [if_neg (by omega), if_neg (by omega), if_neg (by omega), if_pos (by omega), Nat.add_sub_cancel_left]
theorem dproj_gc (l : ℕ) (h : l < 512) : x.dproj n (1280 + l) = x.du n l * x.proj n (1792 + l) := by
  have e : 1280 + l + 512 = 1792 + l := by omega
  unfold dproj; rw [if_neg (by omega), if_neg (by omega), if_neg (by omega), if_neg (by omega), if_pos (by omega), Nat.add_sub_cancel_left, e]
theorem dproj_xin (l : ℕ) (h : l < 512) : x.dproj n (1792 + l) = x.du n l * x.proj n (1280 + l) := by
  have e : 1792 + l - 512 = 1280 + l := by omega
  unfold dproj; rw [if_neg (by omega), if_neg (by omega), if_neg (by omega), if_neg (by omega), if_neg (by omega), Nat.add_sub_cancel_left, e]

end In

/-! ## Rows and columns of a block -/

section Loads

variable {R C p q n k : ℕ} {e : EltTy}

theorem emb_at (inb) (r : Fin p) (l : Fin q) (hr : n + r < R) (hl : k + l < C) :
    (Rect.unit (s := ⟨2, ![R, C]⟩) ![n, k] ![p, q] inb).emb (ix2 r l) = ix2 ⟨n + r, hr⟩ ⟨k + l, hl⟩ := by
  funext a
  apply Fin.ext
  rw [Rect.emb_apply]
  match a with
  | ⟨0, _⟩ => show n + 1 * r.val = n + r.val; omega
  | ⟨1, _⟩ => show k + 1 * l.val = k + l.val; omega

theorem fits (inb : ∀ a, (![n, k] : Fin 2 → ℕ) a + (![p, q] : Fin 2 → ℕ) a ≤ (![R, C] : Fin 2 → ℕ) a) : n + p ≤ R ∧ k + q ≤ C := ⟨inb 0, inb 1⟩

/-- The rows from `n` on, at the columns of `P`. -/
theorem ld_part {X : (⟨2, ![R, C]⟩ : Shape).Idx → EReal} {f : ℕ → Fin C → ℝ} {P : Fin C → Prop} {b : ℕ} (inb) (hn : n + p ≤ R)
    (hX : ∀ (r : Fin R) l, P l → X (ix2 r l) = (f (b + r) l : EReal)) (r : Fin p) (l : Fin C) (hl : P l) :
    X ((Rect.unit (s := ⟨2, ![R, C]⟩) ![n, 0] ![p, C] inb).emb (ix2 r l)) = (f (b + n + r) l : EReal) := by
  rw [emb_at inb r l (by omega) (by omega), hX _ _ (by rwa [show (⟨0 + l.val, _⟩ : Fin C) = l from Fin.ext (Nat.zero_add _)])]
  refine congrArg Real.toEReal (congrArg₂ f (Nat.add_assoc _ _ _).symm (Fin.ext (Nat.zero_add _)))

theorem ld_rows {X : (⟨2, ![R, C]⟩ : Shape).Idx → EReal} {f : ℕ → Fin C → ℝ} {b : ℕ} (inb) (hn : n + p ≤ R) (hX : Holds X fun r l => f (b + r) l) :
    Holds (fun y => X ((Rect.unit (s := ⟨2, ![R, C]⟩) ![n, 0] ![p, C] inb).emb y)) fun (r : Fin p) l => f (b + n + r) l :=
  fun r l => ld_part (P := fun _ => True) inb hn (fun r l _ => hX r l) r l trivial

theorem ld_cols {X : (⟨2, ![R, C]⟩ : Shape).Idx → EReal} {f : ℕ → ℕ → ℝ} {b : ℕ} (inb) (hn : n + p ≤ R) (hk : k + q ≤ C)
    (hX : Holds X fun r l => f (b + r) l) :
    Holds (fun y => X ((Rect.unit (s := ⟨2, ![R, C]⟩) ![n, k] ![p, q] inb).emb y)) fun (r : Fin p) (l : Fin q) => f (b + n + r) (k + l) := fun r l => by
  dsimp only
  rw [emb_at inb r l (by omega) (by omega)]
  exact (hX _ _).trans (congrArg (fun n => (f n (k + l) : EReal)) (Nat.add_assoc b n r).symm)

/-- What a part leaves in its rows and columns of a tile. -/
theorem at_cols {X : (⟨2, ![p, q]⟩ : Shape).Idx → EReal} {f : ℕ → ℕ → ℝ} {b : ℕ} (inb) (hn : n + p ≤ R) (hk : k + q ≤ C)
    (hX : Holds X fun r c => f (b + n + r) (k + c)) (y : (⟨2, ![p, q]⟩ : Shape).Idx) :
    X y = (fun i : (⟨2, ![R, C]⟩ : Shape).Idx => (f (b + (i 0).val) (i 1).val : EReal)) ((Rect.unit (s := ⟨2, ![R, C]⟩) ![n, k] ![p, q] inb).emb y) := by
  obtain ⟨r, l, rfl⟩ : ∃ (r : Fin p) (l : Fin q), y = ix2 r l := ⟨y 0, y 1, eq_ix2 y⟩
  rw [emb_at inb r l (by omega) (by omega)]
  exact (hX r l).trans (congrArg (fun n => (f n (k + l) : EReal)) (Nat.add_assoc b n r))

theorem at_rows {X : (⟨2, ![p, C]⟩ : Shape).Idx → EReal} {f : ℕ → Fin C → ℝ} {b : ℕ} (inb) (hn : n + p ≤ R)
    (hX : Holds X fun r c => f (b + n + r) c) (y : (⟨2, ![p, C]⟩ : Shape).Idx) :
    X y = (fun i : (⟨2, ![R, C]⟩ : Shape).Idx => (f (b + (i 0).val) (i 1) : EReal)) ((Rect.unit (s := ⟨2, ![R, C]⟩) ![n, 0] ![p, C] inb).emb y) := by
  obtain ⟨r, l, rfl⟩ : ∃ (r : Fin p) (l : Fin C), y = ix2 r l := ⟨y 0, y 1, eq_ix2 y⟩
  rw [emb_at inb r l (by omega) (by omega)]
  exact (hX r l).trans (congrArg Real.toEReal (congrArg₂ f (Nat.add_assoc b n r) (Fin.ext (Nat.zero_add _).symm)))

end Loads

/-! ## A half of a tile -/

namespace Half

/-- The half's blocks hold the rows from `b` on of the finite arrays `x`. -/
structure Of (H : Half Ideal) (x : In) (b : ℕ) : Prop where
  q : ∀ h : Fin 4, Holds (H.q h) fun r l => x.dq (b + r) (128 * h + l) * 8
  k0 : ∀ r (l : Fin 128), l.val < 64 → H.k0 (ix2 r l) = (x.dk (b + r.val) l : EReal)
  k1 : ∀ r (l : Fin 128), ¬l.val < 64 → H.k1 (ix2 r l) = (x.dk (b + r.val) l : EReal)
  v0 : ∀ r (l : Fin 128), l.val < 64 → H.v0 (ix2 r l) = (x.dv (b + r.val) l : EReal)
  v1 : ∀ r (l : Fin 128), ¬l.val < 64 → H.v1 (ix2 r l) = (x.dv (b + r.val) l : EReal)
  gb : Holds H.gb fun r l => x.dgb (b + r) l
  gc : Holds H.gc fun r l => x.proj (b + r) (1280 + l)
  xin : Holds H.xin fun r l => x.proj (b + r) (1792 + l)
  inp : Holds H.x fun r k => x.inp (b + r) k
  dh : Holds H.dh fun r k => x.dh (b + r) k
  tab : ∀ r d, H.tab (ix2 r d) = (x.pieces (b + r.val) d.val : EReal)
  spread : ∀ i, H.spread i = Ideal.ofBits .bf16 (lit0 (S48x384.rowMajor i))
  base : ∀ i, H.base i = Ideal.ofBits .f32 (lit1 (S1x384.rowMajor i))

variable {H : Half Ideal} {x : In} {b : ℕ} (o : H.Of x b)
include o

theorem c_at : Holds H.tabC fun r l => x.tabC (b + r) l := tabC_at (n := fun r => b + r) o.tab o.spread o.base
theorem a_at : Holds H.tabA fun r l => x.tabA (b + r) l := tabA_at (n := fun r => b + r) o.tab o.spread o.base
theorem b_at : Holds H.tabB fun r l => x.tabB (b + r) l := tabB_at (n := fun r => b + r) o.tab o.spread o.base

theorem queries_at (h : Fin 4) : Holds (H.queries h) fun r l => x.dproj (b + r) (128 * h + l) := fun r l => by
  dsimp only
  rw [x.dproj_q _ _ (by omega), ← turned_eq x _ _ (128 * h) (by omega) l]
  exact pay17 (c_at o) (a_at o) (b_at o) (u := fun r l => x.dq (b + r) (128 * h + l)) (o.q h) r l

theorem keys_at : Holds H.keys fun r l => x.dproj (b + r) (512 + l) := fun r l => by
  have e := turned_eq x (b + r) (x.dk (b + r)) 0 rfl l
  simp only [Nat.zero_add] at e
  dsimp only
  rw [x.dproj_k _ _ l.isLt, ← e]
  exact pay18 (c_at o) (a_at o) (b_at o) (u := fun r l => x.dk (b + r) l) o.k0 o.k1 r l

theorem values_at : Holds H.values fun r l => x.dproj (b + r) (640 + l) := fun r l => by
  dsimp only
  rw [x.dproj_v _ _ l.isLt]
  exact pay34 (u := fun r l => x.dv (b + r) l) o.v0 o.v1 r l

theorem gate_at : Holds H.gate fun r l => x.dproj (b + r) (768 + l) := fun r l => by
  dsimp only
  rw [x.dproj_gb _ _ l.isLt]
  exact pay35 o.gb r l

end Half

/-! ## A tile -/

namespace Blocks

/-- The blocks hold the rows from `b` on of the finite arrays `x`. -/
structure Of (B : Blocks Ideal) (x : In) (b : ℕ) (i : grid0.Coords) : Prop where
  x0 : Holds B.x0 fun r l => x.dq (b + r) l * 8
  x1 : ∀ r (l : Fin 128), l.val < 64 → B.x1 (ix2 r l) = (x.dk (b + r.val) l : EReal)
  x2 : ∀ r (l : Fin 128), ¬l.val < 64 → B.x2 (ix2 r l) = (x.dk (b + r.val) l : EReal)
  x3 : ∀ r (l : Fin 128), l.val < 64 → B.x3 (ix2 r l) = (x.dv (b + r.val) l : EReal)
  x4 : ∀ r (l : Fin 128), ¬l.val < 64 → B.x4 (ix2 r l) = (x.dv (b + r.val) l : EReal)
  x5 : Holds B.x5 fun r l => x.dgb (b + r) l
  x6 : Holds B.x6 fun r l => x.dy (b + r) l
  x7 : ∀ (q : Fin 16) l, (i 0).val ≠ 7 → B.x7 (ix2 q l) = (x.dy (b + (1024 + q.val)) l.val : EReal)
  last : ∀ (q : Fin 16) (l : Fin 512), (i 0).val = 7 → x.dy (b + (1024 + q)) l = 0
  x8 : Holds B.x8 fun r l => x.proj (b + r) (1280 + l)
  x9 : Holds B.x9 fun r l => x.proj (b + r) (1792 + l)
  x10 : Holds B.x10 fun j l => x.cw j l
  x11 : Holds B.x11 fun r k => x.inp (b + r) k
  x12 : Holds B.x12 fun r k => x.dh (b + r) k
  x13 : Holds B.x13 fun _ k => x.g k
  x14 : ∀ (p : Fin 8) (q : Fin 288) k, B.x14 (ix3 p q k) = (x.w k (288 * p + q) : EReal)
  x15 : Holds B.x15 fun r d => x.pieces (b + r) d
  x16 : ∀ i, B.x16 i = Ideal.ofBits .bf16 (lit0 (S48x384.rowMajor i))
  x17 : ∀ i, B.x17 i = Ideal.ofBits .f32 (lit1 (S1x384.rowMajor i))

variable {B : Blocks Ideal} {x : In} {b : ℕ} {i : grid0.Coords} (o : B.Of x b i)
include o

theorem low_of : B.low.Of x b where
  q := Fin.cases (ld_cols (f := fun n l => x.dq n l * 8) (k := 0) (n := 0) inb_S1024x512_S512x128_0_0 (by decide) (by decide) o.x0)
    (Fin.cases (ld_cols (f := fun n l => x.dq n l * 8) (k := 128) (n := 0) inb_S1024x512_S512x128_0_128 (by decide) (by decide) o.x0)
    (Fin.cases (ld_cols (f := fun n l => x.dq n l * 8) (k := 256) (n := 0) inb_S1024x512_S512x128_0_256 (by decide) (by decide) o.x0)
    (Fin.cases (ld_cols (f := fun n l => x.dq n l * 8) (k := 384) (n := 0) inb_S1024x512_S512x128_0_384 (by decide) (by decide) o.x0) nofun)))
  k0 := ld_part (f := fun n (l : Fin 128) => x.dk n l) (P := fun l => l.val < 64) (n := 0) inb_S1024x128_S512x128_0_0 (by decide) o.x1
  k1 := ld_part (f := fun n (l : Fin 128) => x.dk n l) (P := fun l => ¬l.val < 64) (n := 0) inb_S1024x128_S512x128_0_0 (by decide) o.x2
  v0 := ld_part (f := fun n (l : Fin 128) => x.dv n l) (P := fun l => l.val < 64) (n := 0) inb_S1024x128_S512x128_0_0 (by decide) o.x3
  v1 := ld_part (f := fun n (l : Fin 128) => x.dv n l) (P := fun l => ¬l.val < 64) (n := 0) inb_S1024x128_S512x128_0_0 (by decide) o.x4
  gb := ld_rows (f := fun n (l : Fin 512) => x.dgb n l) (n := 0) inb_S1024x512_S512x512_0_0 (by decide) o.x5
  gc := ld_rows (f := fun n (l : Fin 512) => x.proj n (1280 + l)) (n := 0) inb_S1024x512_S512x512_0_0 (by decide) o.x8
  xin := ld_rows (f := fun n (l : Fin 512) => x.proj n (1792 + l)) (n := 0) inb_S1024x512_S512x512_0_0 (by decide) o.x9
  inp := ld_rows (f := x.inp) (n := 0) inb_S1024x1024_S512x1024_0_0 (by decide) o.x11
  dh := ld_rows (f := x.dh) (n := 0) inb_S1024x1024_S512x1024_0_0 (by decide) o.x12
  tab := ld_rows (f := fun n (d : Fin 48) => x.pieces n d) (n := 0) inb_S1024x48_S512x48_0_0 (by decide) o.x15
  spread i := (congrArg B.x16 ((congrArg _ (eq_ix2 i)).trans ((emb_at _ _ _ (by omega) (by omega)).trans (congrArg₂ ix2 (Fin.ext (Nat.zero_add _)) (Fin.ext (Nat.zero_add _)))))).trans
    ((congrArg B.x16 (eq_ix2 i).symm).trans (o.x16 i))
  base i := (congrArg B.x17 ((congrArg _ (eq_ix2 i)).trans ((emb_at _ _ _ (by omega) (by omega)).trans (congrArg₂ ix2 (Fin.ext (Nat.zero_add _)) (Fin.ext (Nat.zero_add _)))))).trans
    ((congrArg B.x17 (eq_ix2 i).symm).trans (o.x17 i))

theorem high_of : B.high.Of x (b + 512) where
  q := Fin.cases (ld_cols (f := fun n l => x.dq n l * 8) (k := 0) (n := 512) inb_S1024x512_S512x128_512_0 (by decide) (by decide) o.x0)
    (Fin.cases (ld_cols (f := fun n l => x.dq n l * 8) (k := 128) (n := 512) inb_S1024x512_S512x128_512_128 (by decide) (by decide) o.x0)
    (Fin.cases (ld_cols (f := fun n l => x.dq n l * 8) (k := 256) (n := 512) inb_S1024x512_S512x128_512_256 (by decide) (by decide) o.x0)
    (Fin.cases (ld_cols (f := fun n l => x.dq n l * 8) (k := 384) (n := 512) inb_S1024x512_S512x128_512_384 (by decide) (by decide) o.x0) nofun)))
  k0 := ld_part (f := fun n (l : Fin 128) => x.dk n l) (P := fun l => l.val < 64) (n := 512) inb_S1024x128_S512x128_512_0 (by decide) o.x1
  k1 := ld_part (f := fun n (l : Fin 128) => x.dk n l) (P := fun l => ¬l.val < 64) (n := 512) inb_S1024x128_S512x128_512_0 (by decide) o.x2
  v0 := ld_part (f := fun n (l : Fin 128) => x.dv n l) (P := fun l => l.val < 64) (n := 512) inb_S1024x128_S512x128_512_0 (by decide) o.x3
  v1 := ld_part (f := fun n (l : Fin 128) => x.dv n l) (P := fun l => ¬l.val < 64) (n := 512) inb_S1024x128_S512x128_512_0 (by decide) o.x4
  gb := ld_rows (f := fun n (l : Fin 512) => x.dgb n l) (n := 512) inb_S1024x512_S512x512_512_0 (by decide) o.x5
  gc := ld_rows (f := fun n (l : Fin 512) => x.proj n (1280 + l)) (n := 512) inb_S1024x512_S512x512_512_0 (by decide) o.x8
  xin := ld_rows (f := fun n (l : Fin 512) => x.proj n (1792 + l)) (n := 512) inb_S1024x512_S512x512_512_0 (by decide) o.x9
  inp := ld_rows (f := x.inp) (n := 512) inb_S1024x1024_S512x1024_512_0 (by decide) o.x11
  dh := ld_rows (f := x.dh) (n := 512) inb_S1024x1024_S512x1024_512_0 (by decide) o.x12
  tab := ld_rows (f := fun n (d : Fin 48) => x.pieces n d) (n := 512) inb_S1024x48_S512x48_512_0 (by decide) o.x15
  spread := (low_of o).spread
  base := (low_of o).base

theorem du_at : Holds (B.du i) fun r l => x.du (b + r) l :=
  pay4 i (D := fun n l => x.dy (b + n) l) (W := fun j l => x.cw j l)
    (ld_rows (f := fun n (l : Fin 512) => x.dy n l) (n := 0) inb_S1024x512_S1024x512_0_0 (by decide) o.x6)
    (fun q l h => (ld_part (f := fun n (l : Fin 512) => x.dy (b + 1024 + n) l) (P := fun _ => True) (b := 0) (n := 0) inb_S16x512_S16x512_0_0 (by decide)
      (fun q l _ => (o.x7 q l h).trans (by rw [Nat.zero_add, Nat.add_assoc b])) q l trivial).trans (by rw [Nat.add_assoc b]; simp only [Nat.zero_add]))
    o.last
    (fun j l => (ld_rows (f := fun n (l : Fin 512) => x.cw n l) (b := 0) (n := 0) inb_S3x512_S3x512_0_0 (by decide)
      (fun j l => (o.x10 j l).trans (by simp only [Nat.zero_add])) j l).trans (by simp only [Nat.zero_add]))

theorem rows_at (y : S1024x2304.Idx) : B.rows i y = (x.dproj (b + (y 0).val) (y 1).val : EReal) := by
  have L := low_of o
  have H := high_of o
  have U := du_at o
  refine View.canon_append_of_piecesOf (Val := Elt Ideal) (e := .bf16) (fun y : S1024x2304.Idx => (x.dproj (b + (y 0).val) (y 1).val : EReal)) []
    (B.stores i) ⟨?_, ?_, ?_, ?_, ?_, ?_, ?_, ?_, ?_, ?_, ?_, ?_, ?_, ?_, ?_, ?_, ?_, ?_, trivial⟩ y (View.cover_of_tiledBy (B.stores i) ![512, 128] (by sl_kernel_rfl) y)
  · exact at_cols (n := 512) (k := 1792) inb_S1024x2304_S512x512_512_1792 (by decide) (by decide) fun r c => by
      dsimp only; rw [x.dproj_xin _ _ c.isLt, Nat.add_assoc b]; exact (pay36 U H.gc r c).trans (by dsimp only; rw [Nat.add_assoc b])
  · exact at_cols (n := 512) (k := 1280) inb_S1024x2304_S512x512_512_1280 (by decide) (by decide) fun r c => by
      dsimp only; rw [x.dproj_gc _ _ c.isLt, Nat.add_assoc b]; exact (pay36 U H.xin r c).trans (by dsimp only; rw [Nat.add_assoc b])
  · exact at_cols (n := 512) (k := 768) inb_S1024x2304_S512x512_512_768 (by decide) (by decide) (Half.gate_at H)
  · exact at_cols (n := 512) (k := 640) inb_S1024x2304_S512x128_512_640 (by decide) (by decide) (Half.values_at H)
  · exact at_cols (n := 512) (k := 512) inb_S1024x2304_S512x128_512_512 (by decide) (by decide) (Half.keys_at H)
  · exact at_cols (n := 512) (k := 384) inb_S1024x2304_S512x128_512_384 (by decide) (by decide) (Half.queries_at H 3)
  · exact at_cols (n := 512) (k := 256) inb_S1024x2304_S512x128_512_256 (by decide) (by decide) (Half.queries_at H 2)
  · exact at_cols (n := 512) (k := 128) inb_S1024x2304_S512x128_512_128 (by decide) (by decide) (Half.queries_at H 1)
  · exact at_cols (n := 512) (k := 0) inb_S1024x2304_S512x128_512_0 (by decide) (by decide) (Half.queries_at H 0)
  · exact at_cols (n := 0) (k := 1792) inb_S1024x2304_S512x512_0_1792 (by decide) (by decide) fun r c => by
      dsimp only; rw [x.dproj_xin _ _ c.isLt]; exact pay22 U L.gc r c
  · exact at_cols (n := 0) (k := 1280) inb_S1024x2304_S512x512_0_1280 (by decide) (by decide) fun r c => by
      dsimp only; rw [x.dproj_gc _ _ c.isLt]; exact pay22 U L.xin r c
  · exact at_cols (n := 0) (k := 768) inb_S1024x2304_S512x512_0_768 (by decide) (by decide) (Half.gate_at L)
  · exact at_cols (n := 0) (k := 640) inb_S1024x2304_S512x128_0_640 (by decide) (by decide) (Half.values_at L)
  · exact at_cols (n := 0) (k := 512) inb_S1024x2304_S512x128_0_512 (by decide) (by decide) (Half.keys_at L)
  · exact at_cols (n := 0) (k := 384) inb_S1024x2304_S512x128_0_384 (by decide) (by decide) (Half.queries_at L 3)
  · exact at_cols (n := 0) (k := 256) inb_S1024x2304_S512x128_0_256 (by decide) (by decide) (Half.queries_at L 2)
  · exact at_cols (n := 0) (k := 128) inb_S1024x2304_S512x128_0_128 (by decide) (by decide) (Half.queries_at L 1)
  · exact at_cols (n := 0) (k := 0) inb_S1024x2304_S512x128_0_0 (by decide) (by decide) (Half.queries_at L 0)

theorem weights_at (p : Fin 8) (q : Fin 288) (k : Fin 1024) : B.weights (ix3 p q k) = (x.w k (288 * p + q) : EReal) := by
  refine (congrArg B.x14 ?_).trans (o.x14 p q k)
  funext a
  refine Fin.ext ?_
  match a with
  | ⟨0, _⟩ => show 0 + 1 * p.val = p.val; omega
  | ⟨1, _⟩ => show 0 + 1 * q.val = q.val; omega
  | ⟨2, _⟩ => show 0 + 1 * k.val = k.val; omega

theorem gain_at : Holds B.gain fun _ k => x.g k := ld_rows (f := fun _ k => x.g k) (b := 0) (n := 0) inb_S1x1024_S1x1024_0_0 (by decide) o.x13

theorem lowHn_at : Holds (B.lowHn i) fun r k => x.dhn (b + r) k :=
  pay39 (weights_at o) (ld_rows (f := fun n (e : Fin 2304) => x.dproj n e) (n := 0) inb_S1024x2304_S512x2304_0_0 (by decide) fun r e => rows_at o (ix2 r e))
theorem highHn_at : Holds (B.highHn i) fun r k => x.dhn (b + 512 + r) k :=
  pay39 (weights_at o) (ld_rows (f := fun n (e : Fin 2304) => x.dproj n e) (n := 512) inb_S1024x2304_S512x2304_512_0 (by decide) fun r e => rows_at o (ix2 r e))

theorem gradX_at (y : S1024x1024.Idx) : B.gradX i y = (x.dx (b + (y 0).val) (y 1) : EReal) := by
  have L := low_of o
  have H := high_of o
  refine View.canon_append_of_piecesOf (Val := Elt Ideal) (e := .f32) (fun y : S1024x1024.Idx => (x.dx (b + (y 0).val) (y 1) : EReal)) []
    (B.storesX i) ⟨?_, ?_, trivial⟩ y (View.cover_of_tiledBy (B.storesX i) ![512, 1024] (by sl_kernel_rfl) y)
  · exact at_rows (n := 512) inb_S1024x1024_S512x1024_512_0 (by decide) (pay1 (highHn_at o) (pay47 H.inp) (pay48 H.inp) H.dh (gain_at o))
  · exact at_rows (n := 0) inb_S1024x1024_S512x1024_0_0 (by decide) (pay1 (lowHn_at o) (pay47 L.inp) (pay48 L.inp) L.dh (gain_at o))

theorem gradGain_at (y : Vec Ideal S1x1024 .f32) (z : Fin 1) (k : Fin 1024) :
    B.gradGain i y (ix2 z k) = y (ix2 z k) + (∑ r : Fin 1024, x.dg (b + r) k : ℝ) := by
  have L := low_of o
  have H := high_of o
  have e : ∑ r : Fin 512, x.dg (b + r) k + ∑ r : Fin 512, x.dg (b + 512 + r) k = ∑ r : Fin 1024, x.dg (b + r) k := by
    refine (Eq.trans (Fin.sum_univ_add (a := 512) (b := 512) fun r => x.dg (b + r) k) (congrArg₂ (· + ·) rfl ?_)).symm
    exact Finset.sum_congr rfl fun r _ => congrArg (fun n => x.dg n k) (Nat.add_assoc b 512 r).symm
  refine (pay2 (highHn_at o) (pay48 H.inp) z k).trans (congrArg (y (ix2 z k) + ·) ?_)
  rw [pay45 (lowHn_at o) L.inp, pay41, zero_add, ← EReal.coe_add]
  exact congrArg Real.toEReal e

end Blocks

end Cert.Inp

end
-- ==== Proof.InpInputs.lean ====
module

public import proofs.«01_k».proof.Proof.InpHalf
public import proofs.«01_k».proof.Proof.Gen.Kernel4Ideal.Frame.Runs

@[expose] public section

/-! # The operands of the in-projection's backward call, as its body finds them -/

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- The point is the first of the grid, as the body computes it. -/
abbrev First (i : grid0.Coords) : Prop := Scalar.cmpi .ne (Scalar.extui (Scalar.cmpi .eq (BitVec.ofNat 32 (i 0).val) 0#32)) 0#32 = 1#1

/-- The operands, each at its block. -/
def inputs (c : Dev nD) (arg1 : Memref sig .tc .vmem S1024x512 .bf16) (arg2 : Memref sig .tc .vmem S1024x128 .f32) (arg3 : Memref sig .tc .vmem S1024x128 .f32) (arg4 : Memref sig .tc .vmem S1024x128 .f32) (arg5 : Memref sig .tc .vmem S1024x128 .f32) (arg6 : Memref sig .tc .vmem S1024x512 .bf16) (arg7 : Memref sig .tc .vmem S1024x512 .bf16) (arg8 : Memref sig .tc .vmem S16x512 .bf16) (arg9 : Memref sig .tc .vmem S1024x512 .bf16) (arg10 : Memref sig .tc .vmem S1024x512 .bf16) (arg11 : Memref sig .tc .vmem S3x512 .f32) (arg12 : Memref sig .tc .vmem S1024x1024 .f32) (arg13 : Memref sig .tc .vmem S1024x1024 .bf16) (arg14 : Memref sig .tc .vmem S1x1024 .f32) (arg15 : Memref sig .tc .vmem S8x288x1024 .bf16) (arg16 : Memref sig .tc .vmem S1024x48 .bf16) (arg17 : Memref sig .tc .vmem S48x384 .bf16) (arg18 : Memref sig .tc .vmem S1x384 .f32) (B : Blocks F) : sProp 𝕄 :=
  iprop(owns (c : Thread nD τ) arg1 fullShare B.x0 ∗ owns (c : Thread nD τ) arg2 fullShare B.x1 ∗ owns (c : Thread nD τ) arg3 fullShare B.x2 ∗ owns (c : Thread nD τ) arg4 fullShare B.x3 ∗ owns (c : Thread nD τ) arg5 fullShare B.x4 ∗ owns (c : Thread nD τ) arg6 fullShare B.x5 ∗ owns (c : Thread nD τ) arg7 fullShare B.x6 ∗ owns (c : Thread nD τ) arg8 fullShare B.x7 ∗ owns (c : Thread nD τ) arg9 fullShare B.x8 ∗ owns (c : Thread nD τ) arg10 fullShare B.x9 ∗ owns (c : Thread nD τ) arg11 fullShare B.x10 ∗ owns (c : Thread nD τ) arg12 fullShare B.x11 ∗ owns (c : Thread nD τ) arg13 fullShare B.x12 ∗ owns (c : Thread nD τ) arg14 fullShare B.x13 ∗ owns (c : Thread nD τ) arg15 fullShare B.x14 ∗ owns (c : Thread nD τ) arg16 fullShare B.x15 ∗ owns (c : Thread nD τ) arg17 fullShare B.x16 ∗ owns (c : Thread nD τ) arg18 fullShare B.x17)

end Cert.Inp

end
-- ==== Proof.InpRun.lean ====
module

public import proofs.«01_k».proof.Proof.InpInputs
public import proofs.«01_k».proof.Proof.Gen.Kernel4Ideal.Frame.Runs

@[expose] public section

/-! # The body of the in-projection's backward call, run at a later point -/

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (c : Dev nD) (i : grid0.Coords) (arg1 : Memref sig .tc .vmem S1024x512 .bf16) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S3x512 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S8x288x1024 .bf16) (harg15 : arg15.IsWhole) (arg16 : Memref sig .tc .vmem S1024x48 .bf16) (harg16 : arg16.IsWhole) (arg17 : Memref sig .tc .vmem S48x384 .bf16) (harg17 : arg17.IsWhole) (arg18 : Memref sig .tc .vmem S1x384 .f32) (harg18 : arg18.IsWhole) (arg19 : Memref sig .tc .vmem S1024x2304 .bf16) (harg19 : arg19.IsWhole) (arg20 : Memref sig .tc .vmem S1024x1024 .f32) (harg20 : arg20.IsWhole) (arg21 : Memref sig .tc .vmem S1x1024 .f32) (harg21 : arg21.IsWhole)
  (B : Blocks F)

set_option maxHeartbeats 8000000 in
/-- A later point, the gain's gradient at `y` before it. -/
theorem run_next (hc : ¬First i) (y : Vec F S1x1024 .f32) (E : Set ℕ) (K : PUnit → sProp 𝕄) :
    iprop(inputs c arg1 arg2 arg3 arg4 arg5 arg6 arg7 arg8 arg9 arg10 arg11 arg12 arg13 arg14 arg15 arg16 arg17 arg18 B ∗ (∃ d, owns (c : Thread nD τ) arg19 fullShare d) ∗ (∃ d, owns (c : Thread nD τ) arg20 fullShare d) ∗ owns (c : Thread nD τ) arg21 fullShare y
        ∗ (iprop(inputs c arg1 arg2 arg3 arg4 arg5 arg6 arg7 arg8 arg9 arg10 arg11 arg12 arg13 arg14 arg15 arg16 arg17 arg18 B ∗ owns (c : Thread nD τ) arg19 fullShare (B.rows i) ∗ owns (c : Thread nD τ) arg20 fullShare (B.gradX i) ∗ owns (c : Thread nD τ) arg21 fullShare (B.gradGain i y)) -∗ K ⟨⟩))
      ⊢ wp frame (wpE (defs₀ (F := F)) Variants.none c none) E (cc0_in_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_in_proj_bwd_eq_skeleton]; unfold cc0_in_proj_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, -, H18⟩, ⟨%d19, %f19, -, H19⟩, ⟨%f20, %hf20, H20⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg21.eq_unread hf20
  sl_exec (disch := sl_exact hc)
  sl_step
  iapply Hk
  isplitl [H0 H1 H2 H3 H4 H5 H6 H7 H8 H9 H10 H11 H12 H13 H14 H15 H16 H17]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists _; isplitr; · ipureintro; exact harg18.read_unread _
    iexact H17
  isplitl [H18]
  · iexists _; isplitr
    swap; · iexact H18
    ipureintro
    refine Eq.trans (congrArg (fun L => View.read (Elt F) arg19.view (arg19.view.writes (Elt F) f18 L)) (?_ : _ = B.stores i)) (back_rows i B arg19 f18)
    delta run_next.sl.v0 run_next.sl.v1 run_next.sl.v2 run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.v244 run_next.sl.v247 run_next.sl.H18_18
    simp only [loaded, same11, same12, same16, same20, same21, same23, same25, same26, same27, same28, same29, same31, same32, same33, same37]
    rfl
  isplitl [H19]
  · iexists _; isplitr
    swap; · iexact H19
    ipureintro
    refine Eq.trans (congrArg (fun L => View.read (Elt F) arg20.view (arg20.view.writes (Elt F) f19 L)) (?_ : _ = B.storesX i)) (back_gradX i B arg20 f19)
    delta run_next.sl.v0 run_next.sl.v1 run_next.sl.v2 run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.v244 run_next.sl.v247 run_next.sl.H18_18
    simp only [loaded, View.readCov_eq_canon', same11, same12, same16, same20, same21, same23, same25, same26, same27, same28, same29, same31, same32, same33, same37, same40, same46]
    rfl
  iexists _; isplitr
  swap; · iexact H20
  ipureintro
  refine (back_row _ arg21 _ _).trans ?_
  delta run_next.sl.v0 run_next.sl.v1 run_next.sl.v2 run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.v244 run_next.sl.v247 run_next.sl.H18_18
  simp only [loaded, ld_row, View.readCov_eq_canon', same11, same12, same16, same20, same21, same23, same25, same26, same27, same28, same29, same31, same32, same33, same37, same40, same46]
  rfl

end Cert.Inp

end
-- ==== Proof.InpRunFirst.lean ====
module

public import proofs.«01_k».proof.Proof.InpInputs
public import proofs.«01_k».proof.Proof.Gen.Kernel4Ideal.Frame.Runs

@[expose] public section

/-! # The body of the in-projection's backward call, run at the first point -/

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (c : Dev nD) (i : grid0.Coords) (arg1 : Memref sig .tc .vmem S1024x512 .bf16) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S3x512 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S8x288x1024 .bf16) (harg15 : arg15.IsWhole) (arg16 : Memref sig .tc .vmem S1024x48 .bf16) (harg16 : arg16.IsWhole) (arg17 : Memref sig .tc .vmem S48x384 .bf16) (harg17 : arg17.IsWhole) (arg18 : Memref sig .tc .vmem S1x384 .f32) (harg18 : arg18.IsWhole) (arg19 : Memref sig .tc .vmem S1024x2304 .bf16) (harg19 : arg19.IsWhole) (arg20 : Memref sig .tc .vmem S1024x1024 .f32) (harg20 : arg20.IsWhole) (arg21 : Memref sig .tc .vmem S1x1024 .f32) (harg21 : arg21.IsWhole)
  (B : Blocks F)

theorem canon_row (w : Vec F S1x1024 .f32) : (fun j => View.canon (Val := Elt F) (e := .f32) [⟨rowRect, w⟩] (rowRect.toLoadRect.idx j)) = w :=
  funext fun j => View.canon_cons_emb _ _ _ j

set_option maxHeartbeats 8000000 in
/-- The first point of the grid: the gain's gradient starts from zeros. -/
theorem run_first (hc : First i) (E : Set ℕ) (K : PUnit → sProp 𝕄) :
    iprop(inputs c arg1 arg2 arg3 arg4 arg5 arg6 arg7 arg8 arg9 arg10 arg11 arg12 arg13 arg14 arg15 arg16 arg17 arg18 B ∗ (∃ d, owns (c : Thread nD τ) arg19 fullShare d) ∗ (∃ d, owns (c : Thread nD τ) arg20 fullShare d) ∗ (∃ d, owns (c : Thread nD τ) arg21 fullShare d)
        ∗ (iprop(inputs c arg1 arg2 arg3 arg4 arg5 arg6 arg7 arg8 arg9 arg10 arg11 arg12 arg13 arg14 arg15 arg16 arg17 arg18 B ∗ owns (c : Thread nD τ) arg19 fullShare (B.rows i) ∗ owns (c : Thread nD τ) arg20 fullShare (B.gradX i) ∗ owns (c : Thread nD τ) arg21 fullShare (B.gradGain i k0_pay3)) -∗ K ⟨⟩))
      ⊢ wp frame (wpE (defs₀ (F := F)) Variants.none c none) E (cc0_in_proj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_in_proj_bwd_eq_skeleton]; unfold cc0_in_proj_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, -, H18⟩, ⟨%d19, %f19, -, H19⟩, ⟨%d20, %f20, -, H20⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec (disch := sl_exact hc)
  sl_step
  iapply Hk
  isplitl [H0 H1 H2 H3 H4 H5 H6 H7 H8 H9 H10 H11 H12 H13 H14 H15 H16 H17]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists _; isplitr; · ipureintro; exact harg18.read_unread _
    iexact H17
  isplitl [H18]
  · iexists _; isplitr
    swap; · iexact H18
    ipureintro
    refine Eq.trans (congrArg (fun L => View.read (Elt F) arg19.view (arg19.view.writes (Elt F) f18 L)) (?_ : _ = B.stores i)) (back_rows i B arg19 f18)
    delta run_first.sl.v0 run_first.sl.v1 run_first.sl.v2 run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.v244 run_first.sl.v247 run_first.sl.H18_18
    simp only [loaded, same11, same12, same16, same20, same21, same23, same25, same26, same27, same28, same29, same31, same32, same33, same37]
    rfl
  isplitl [H19]
  · iexists _; isplitr
    swap; · iexact H19
    ipureintro
    refine Eq.trans (congrArg (fun L => View.read (Elt F) arg20.view (arg20.view.writes (Elt F) f19 L)) (?_ : _ = B.storesX i)) (back_gradX i B arg20 f19)
    delta run_first.sl.v0 run_first.sl.v1 run_first.sl.v2 run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.v244 run_first.sl.v247 run_first.sl.H18_18
    simp only [loaded, View.readCov_eq_canon', same11, same12, same16, same20, same21, same23, same25, same26, same27, same28, same29, same31, same32, same33, same37, same40, same46]
    rfl
  iexists _; isplitr
  swap; · iexact H20
  ipureintro
  refine (back_row _ arg21 _ _).trans ?_
  delta run_first.sl.H20_1 run_first.sl.v317 run_first.sl.v0 run_first.sl.v1 run_first.sl.v2 run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.v244 run_first.sl.v247 run_first.sl.H18_18
  simp only [loaded, ld_row, View.readCov_eq_canon', same11, same12, same16, same20, same21, same23, same25, same26, same27, same28, same29, same31, same32, same33, same37, same40, same46]
  exact congrArg (B.gradGain i) (canon_row k0_pay3)

end Cert.Inp

end
-- ==== Proof.InpFrame.lean ====
module

public import proofs.«01_k».proof.Proof.InpRun
public import proofs.«01_k».proof.Proof.InpRunFirst
public import Idealize.ShloMosaic.Lib.Claim

@[expose] public section

/-! # The run of the in-projection's backward call, over any float values -/

set_option maxRecDepth 16384

noncomputable section

namespace Cert.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin grid0.N, First (grid0.coords t) ↔ t.val = 0 := by decide +kernel

/-- Point `n` of the grid. -/
def pt (n : ℕ) : Fin grid0.N := ⟨n % 8, lt_of_lt_of_eq (Nat.mod_lt n (by decide)) N_0.symm⟩
theorem pt_val (t : Fin grid0.N) : pt t.val = t := Fin.ext (Nat.mod_eq_of_lt (lt_of_lt_of_eq t.isLt N_0))

/-- The operands' blocks at point `t`. -/
def blocks (c : Dev nD) (t : Fin grid0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The gain's gradient after point `n`. -/
def gainAfter (c : Dev nD) : ℕ → Vec F S1x1024 .f32
  | 0 => (blocks m c (pt 0)).gradGain (grid0.coords (pt 0)) k0_pay3
  | n + 1 => (blocks m c (pt (n + 1))).gradGain (grid0.coords (pt (n + 1))) (gainAfter c n)

theorem gain_first (c : Dev nD) (t : Fin grid0.N) (h : t.val = 0) : gainAfter m c t.val = (blocks m c t).gradGain (grid0.coords t) k0_pay3 := by
  obtain rfl : t = pt 0 := (pt_val t).symm.trans (congrArg pt h)
  rfl
theorem gain_next (c : Dev nD) (t : Fin grid0.N) (h : ¬t.val = 0) :
    gainAfter m c t.val = (blocks m c t).gradGain (grid0.coords t) (gainAfter m c (t.val - 1)) := by
  obtain ⟨n, hn⟩ : ∃ n, t.val = n + 1 := ⟨t.val - 1, by omega⟩
  obtain rfl : t = pt (n + 1) := (pt_val t).symm.trans (congrArg pt hn)
  rw [hn]
  rfl

/-- The proof data: each operand's buffer at its block, the results' at what the points so far have left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (blocks m c t).rows (grid0.coords t)
    | ⟨19, _⟩ => (blocks m c t).gradX (grid0.coords t)
    | ⟨20, _⟩ => gainAfter m c t.val
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = (blocks m c t).rows (grid0.coords t) := by dsimp only [dats]
theorem after_19 (c : Dev nD) (t : Fin cfg0.N) : (dats m 0 c).after 19 t = (blocks m c t).gradX (grid0.coords t) := by dsimp only [dats]
theorem after_20 (c : Dev nD) (t : Fin cfg0.N) : (dats m 0 c).after 20 t = gainAfter m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_20 (c : Dev nD) (t : Fin cfg0.N) (h : ¬t.val = 0) (d) : (dats m 0 c).before 20 t d = gainAfter m c (t.val - 1) := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20]
  by_cases h0 : t.val = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (run_first c (grid0.coords t) _ _ _ _ _ _ _ _ _ _ _ _ _ _ _ _ _ _ _ _ _ _ _ _ _ _ _ _ _ _ _ _ _ _ _ _ _ _ _ _ _ _ (blocks m c t) ((first_iff t).mpr h0) Set.univ _)
    isplitl [H0 H1 H2 H3 H4 H5 H6 H7 H8 H9 H10 H11 H12 H13 H14 H15 H16 H17]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [H18]; · iexists _; iexact H18
    isplitl [H19]; · iexists _; iexact H19
    isplitl [H20]; · iexists _; iexact H20
    iintro ⟨Hi, H18, H19, H20⟩
    rw [← gain_first m c t h0]
    unfold inputs
    icases Hi with ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · simp only [before_20 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (run_next c (grid0.coords t) _ _ _ _ _ _ _ _ _ _ _ _ _ _ _ _ _ _ _ _ _ _ _ _ _ _ _ _ _ _ _ _ _ _ _ _ _ _ _ _ _ _ (blocks m c t) (fun h => h0 ((first_iff t).mp h)) (gainAfter m c (t.val - 1)) Set.univ _)
    isplitl [H0 H1 H2 H3 H4 H5 H6 H7 H8 H9 H10 H11 H12 H13 H14 H15 H16 H17]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [H18]; · iexists _; iexact H18
    isplitl [H19]; · iexists _; iexact H19
    isplitl [H20]; · iexact H20
    iintro ⟨Hi, H18, H19, H20⟩
    rw [← gain_next m c t h0]
    unfold inputs
    icases Hi with ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiescent m ρ)

theorem frame_kernelIdeal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_arrays m ρ)) ((θ_run defs _ _).mono (fun _ h => h.2) (run_quiescent m ρ))

end Cert.Inp

end
-- ==== Proof.InpBlocks.lean ====
module

public import proofs.«01_k».proof.Proof.InpTile
public import proofs.«01_k».proof.Proof.InpFrame
public import Idealize.ShloMosaic.Lib.Pipeline.Value
public import Idealize.ShloMosaic.Lib.Pipeline.ValueKit.Point

@[expose] public section

/-! # What the blocks of the in-projection's call hold

At grid point `t` the call reads rows `1024 t` to `1024 t + 1023` of the arrays of rows and sixteen rows of the gates' gradient after
them, and the whole gains, taps, weights and literals. -/

noncomputable section

namespace Cert.Inp

open Idealize.ShloMosaic Idealize.ShloMosaic.TcCoe Idealize.SL.Sem Cert.Kernel4Ideal Cert.Kernel4Ideal.Gen Cert.Lift

/-- The memory's arguments hold the real numbers of `x`. -/
abbrev Holding (x : In) (m : (ℓ : Loc nD τ sig) → Buf (Elt Ideal) ℓ) (c : Dev nD) : Prop :=
  Args x (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))

theorem idxRow : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_8.index t 0 = t.val ∧ win0_8.index t 1 = 0)
    ∧ (win0_9.index t 0 = t.val ∧ win0_9.index t 1 = 0) ∧ (win0_11.index t 0 = t.val ∧ win0_11.index t 1 = 0)
    ∧ (win0_12.index t 0 = t.val ∧ win0_12.index t 1 = 0) ∧ (win0_15.index t 0 = t.val ∧ win0_15.index t 1 = 0) :=
  (by decide +kernel : ∀ t : Fin grid0.N, _)
theorem idxWhole : ∀ t : Fin cfg0.N, (∀ a, win0_10.index t a = 0) ∧ (∀ a, win0_13.index t a = 0) ∧ (∀ a, win0_14.index t a = 0)
    ∧ (∀ a, win0_16.index t a = 0) ∧ (∀ a, win0_17.index t a = 0) :=
  (by decide +kernel : ∀ t : Fin grid0.N, _)
theorem idxNext : ∀ t : Fin cfg0.N, t.val ≠ 7 → win0_7.index t 0 = 64 * (t.val + 1) ∧ win0_7.index t 1 = 0 :=
  (by decide +kernel : ∀ t : Fin grid0.N, _)
theorem coord : ∀ t : Fin cfg0.N, (grid0.coords t 0).val = t.val :=
  (by decide +kernel : ∀ t : Fin grid0.N, _)

theorem point_lt (t : Fin cfg0.N) : t.val < 8 := lt_of_lt_of_eq t.isLt Gen.N_0

/-- Row `r` of the tile of point `t`. -/
abbrev row (t : Fin cfg0.N) (r : Fin 1024) : Fin 8192 := ⟨1024 * t.val + r.val, by have := point_lt t; omega⟩

section

variable (m : (ℓ : Loc nD τ sig) → Buf (Elt Ideal) ℓ) (c : Dev nD) (t : Fin cfg0.N)

theorem blk0 (r : Fin 1024) (l : Fin 512) : iblk m c 0 t (ix2 r l) = V m c main_v17 (ix2 (row t r) l) := by
  generalize hW : V m c = W
  unfold iblk
  rw [hW]
  blk_ext! [idxRow t]
theorem blk1 (r : Fin 1024) (l : Fin 128) : iblk m c 1 t (ix2 r l) = V m c main_v19 (ix2 (row t r) l) := by
  generalize hW : V m c = W
  unfold iblk
  rw [hW]
  blk_ext! [idxRow t]
theorem blk2 (r : Fin 1024) (l : Fin 128) : iblk m c 2 t (ix2 r l) = V m c main_v21 (ix2 (row t r) l) := by
  generalize hW : V m c = W
  unfold iblk
  rw [hW]
  blk_ext! [idxRow t]
theorem blk3 (r : Fin 1024) (l : Fin 128) : iblk m c 3 t (ix2 r l) = V m c main_v23 (ix2 (row t r) l) := by
  generalize hW : V m c = W
  unfold iblk
  rw [hW]
  blk_ext! [idxRow t]
theorem blk4 (r : Fin 1024) (l : Fin 128) : iblk m c 4 t (ix2 r l) = V m c main_v25 (ix2 (row t r) l) := by
  generalize hW : V m c = W
  unfold iblk
  rw [hW]
  blk_ext! [idxRow t]
theorem blk5 (r : Fin 1024) (l : Fin 512) : iblk m c 5 t (ix2 r l) = V m c main_v26 (ix2 (row t r) l) := by
  generalize hW : V m c = W
  unfold iblk
  rw [hW]
  blk_ext! [idxRow t]
theorem blk6 (r : Fin 1024) (l : Fin 512) : iblk m c 6 t (ix2 r l) = V m c main_v27 (ix2 (row t r) l) := by
  generalize hW : V m c = W
  unfold iblk
  rw [hW]
  blk_ext! [idxRow t]
theorem blk8 (r : Fin 1024) (l : Fin 512) : iblk m c 8 t (ix2 r l) = V m c main_v29 (ix2 (row t r) l) := by
  generalize hW : V m c = W
  unfold iblk
  rw [hW]
  blk_ext! [idxRow t]
theorem blk9 (r : Fin 1024) (l : Fin 512) : iblk m c 9 t (ix2 r l) = V m c main_v31 (ix2 (row t r) l) := by
  generalize hW : V m c = W
  unfold iblk
  rw [hW]
  blk_ext! [idxRow t]
theorem blk11 (r : Fin 1024) (l : Fin 1024) : iblk m c 11 t (ix2 r l) = V m c main_arg6 (ix2 (row t r) l) := by
  generalize hW : V m c = W
  unfold iblk
  rw [hW]
  blk_ext! [idxRow t]
theorem blk12 (r : Fin 1024) (l : Fin 1024) : iblk m c 12 t (ix2 r l) = V m c main_v33 (ix2 (row t r) l) := by
  generalize hW : V m c = W
  unfold iblk
  rw [hW]
  blk_ext! [idxRow t]
theorem blk15 (r : Fin 1024) (l : Fin 48) : iblk m c 15 t (ix2 r l) = V m c main_v65 (ix2 (row t r) l) := by
  generalize hW : V m c = W
  unfold iblk
  rw [hW]
  blk_ext! [idxRow t]
theorem blk10 (r : Fin 3) (l : Fin 512) : iblk m c 10 t (ix2 r l) = V m c main_v32 (ix2 r l) := by
  generalize hW : V m c = W
  unfold iblk
  rw [hW]
  blk_ext! [idxWhole t]
theorem blk13 (r : Fin 1) (l : Fin 1024) : iblk m c 13 t (ix2 r l) = V m c main_arg7 (ix2 r l) := by
  generalize hW : V m c = W
  unfold iblk
  rw [hW]
  blk_ext! [idxWhole t]
theorem blk16 (r : Fin 48) (l : Fin 384) : iblk m c 16 t (ix2 r l) = V m c main_cst (ix2 r l) := by
  generalize hW : V m c = W
  unfold iblk
  rw [hW]
  blk_ext! [idxWhole t]
theorem blk17 (r : Fin 1) (l : Fin 384) : iblk m c 17 t (ix2 r l) = V m c main_cst_0 (ix2 r l) := by
  generalize hW : V m c = W
  unfold iblk
  rw [hW]
  blk_ext! [idxWhole t]
theorem blk14 (p : Fin 8) (q : Fin 288) (k : Fin 1024) : iblk m c 14 t (ix3 p q k) = V m c main_v37 (ix3 p q k) := by
  generalize hW : V m c = W
  unfold iblk
  rw [hW]
  blk_ext! [idxWhole t]
theorem blk7 (ht : t.val ≠ 7) (q : Fin 16) (l : Fin 512) :
    iblk m c 7 t (ix2 q l) = V m c main_v27 (ix2 ⟨1024 * t.val + (1024 + q.val), by have := point_lt t; omega⟩ l) := by
  generalize hW : V m c = W
  unfold iblk
  rw [hW]
  blk_ext! [idxNext t ht]

end

section

variable {x : In} {m : (ℓ : Loc nD τ sig) → Buf (Elt Ideal) ℓ} {c : Dev nD} (h : Holding x m c)
include h

theorem gate_of (off : Fin 2 → ℕ) (hs) (n : Fin 8192) (l : Fin 512) (a : ℕ) (ha : off = ![0, a]) (hl : a + 512 ≤ 1024) :
    extractStridedSlice (α := EReal) S8192x512 off (Host.gates (m (c.tc.loc main_arg6)) (m (c.tc.loc main_arg7)) (m (c.tc.loc main_arg8))) hs (ix2 n l)
      = (x.proj n (1280 + a + l) : EReal) := by
  subst ha
  pointwise
  rw [Host.gates_at h]
  exact congrArg (fun e => (x.proj n e : EReal)) (Nat.add_assoc 1280 a l).symm

theorem pieces_at (n : Fin 8192) (d : Fin 48) : V m c main_v65 (ix2 n d) = (x.pieces n d : EReal) := by
  refine (congrFun (Host.pieces_eq fun b => m (c, b)) (ix2 n d)).trans ((Host.split_at Host.table_at n d).trans (congrArg Real.toEReal ?_))
  rw [In.pieces, h.cs, h.sn]
  split_ifs <;> first | rfl | omega

theorem dq_at (n : Fin 8192) (l : Fin 512) : V m c main_v17 (ix2 n l) = ((x.dq n l * 8 : ℝ) : EReal) :=
  (congrFun (Host.heads_eq fun b => m (c, b)).1 (ix2 n l)).trans (Host.eightfold_at h n l)
theorem dk0_at (n : Fin 8192) (l : Fin 128) (hl : l.val < 64) : V m c main_v19 (ix2 n l) = (x.dk n l : EReal) :=
  (congrFun (Host.heads_eq fun b => m (c, b)).2.1 (ix2 n l)).trans (Host.twice_low h.dk n l hl)
theorem dk1_at (n : Fin 8192) (l : Fin 128) (hl : ¬l.val < 64) : V m c main_v21 (ix2 n l) = (x.dk n l : EReal) :=
  (congrFun (Host.heads_eq fun b => m (c, b)).2.2.1 (ix2 n l)).trans (Host.twice_high h.dk n l hl)
theorem dv0_at (n : Fin 8192) (l : Fin 128) (hl : l.val < 64) : V m c main_v23 (ix2 n l) = (x.dv n l : EReal) :=
  (congrFun (Host.heads_eq fun b => m (c, b)).2.2.2.1 (ix2 n l)).trans (Host.twice_low h.dv n l hl)
theorem dv1_at (n : Fin 8192) (l : Fin 128) (hl : ¬l.val < 64) : V m c main_v25 (ix2 n l) = (x.dv n l : EReal) :=
  (congrFun (Host.heads_eq fun b => m (c, b)).2.2.2.2 (ix2 n l)).trans (Host.twice_high h.dv n l hl)
theorem dgb_at (n : Fin 8192) (l : Fin 512) : V m c main_v26 (ix2 n l) = (x.dgb n l : EReal) :=
  (congrFun (Host.casts_eq fun b => m (c, b)).1 (ix2 n l)).trans (h.dgb n l)
theorem dy_at (n : Fin 8192) (l : Fin 512) : V m c main_v27 (ix2 n l) = (x.dy n l : EReal) :=
  (congrFun (Host.casts_eq fun b => m (c, b)).2.1 (ix2 n l)).trans (h.dy n l)
theorem gc_at (n : Fin 8192) (l : Fin 512) : V m c main_v29 (ix2 n l) = (x.proj n (1280 + l) : EReal) :=
  (congrFun (Host.gates_eq fun b => m (c, b)).1 (ix2 n l)).trans (gate_of h ![0, 0] slices_S8192x1024_S8192x512_0_0 n l 0 rfl (by decide))
theorem xin_at (n : Fin 8192) (l : Fin 512) : V m c main_v31 (ix2 n l) = (x.proj n (1792 + l) : EReal) :=
  (congrFun (Host.gates_eq fun b => m (c, b)).2 (ix2 n l)).trans (gate_of h ![0, 512] slices_S8192x1024_S8192x512_0_512 n l 512 rfl (by decide))
theorem taps_at (j : Fin 3) (l : Fin 512) : V m c main_v32 (ix2 j l) = (x.cw j l : EReal) := by
  refine (congrFun (Host.casts_eq fun b => m (c, b)).2.2.1 (ix2 j l)).trans ?_
  pointwise
  exact h.cw _ _ _
theorem inp_at (n : Fin 8192) (k : Fin 1024) : V m c main_arg6 (ix2 n k) = (x.inp n k : EReal) :=
  (congrFun (Host.literals_eq fun b => m (c, b)).2.2.1 (ix2 n k)).trans (h.inp n k)
theorem dh_at (n : Fin 8192) (k : Fin 1024) : V m c main_v33 (ix2 n k) = (x.dh n k : EReal) :=
  (congrFun (Host.casts_eq fun b => m (c, b)).2.2.2.1 (ix2 n k)).trans (h.dh n k)
theorem g_at (z : Fin 1) (k : Fin 1024) : V m c main_arg7 (ix2 z k) = (x.g k : EReal) :=
  (congrFun (Host.literals_eq fun b => m (c, b)).2.2.2 (ix2 z k)).trans (h.g z k)
theorem w_at (p : Fin 8) (q : Fin 288) (k : Fin 1024) : V m c main_v37 (ix3 p q k) = (x.w k (288 * p + q) : EReal) :=
  (congrFun (Host.casts_eq fun b => m (c, b)).2.2.2.2 (ix3 p q k)).trans (Host.columns_at h p q k)
omit h in
theorem spread_at (i : S48x384.Idx) : V m c main_cst i = Ideal.ofBits .bf16 (lit0 (S48x384.rowMajor i)) :=
  congrFun (Host.literals_eq fun b => m (c, b)).1 i
omit h in
theorem base_at (i : S1x384.Idx) : V m c main_cst_0 i = Ideal.ofBits .f32 (lit1 (S1x384.rowMajor i)) :=
  congrFun (Host.literals_eq fun b => m (c, b)).2.1 i

theorem x0_of (t : Fin cfg0.N) : Holds (blocks m c t).x0 fun r l => x.dq (1024 * t.val + r) l * 8 :=
  fun r l => (blk0 m c t r l).trans (dq_at h _ l)
theorem x1_of (t : Fin cfg0.N) : ∀ r (l : Fin 128), l.val < 64 → (blocks m c t).x1 (ix2 r l) = (x.dk (1024 * t.val + r.val) l : EReal) :=
  fun r l hl => (blk1 m c t r l).trans (dk0_at h _ l hl)
theorem x2_of (t : Fin cfg0.N) : ∀ r (l : Fin 128), ¬l.val < 64 → (blocks m c t).x2 (ix2 r l) = (x.dk (1024 * t.val + r.val) l : EReal) :=
  fun r l hl => (blk2 m c t r l).trans (dk1_at h _ l hl)
theorem x3_of (t : Fin cfg0.N) : ∀ r (l : Fin 128), l.val < 64 → (blocks m c t).x3 (ix2 r l) = (x.dv (1024 * t.val + r.val) l : EReal) :=
  fun r l hl => (blk3 m c t r l).trans (dv0_at h _ l hl)
theorem x4_of (t : Fin cfg0.N) : ∀ r (l : Fin 128), ¬l.val < 64 → (blocks m c t).x4 (ix2 r l) = (x.dv (1024 * t.val + r.val) l : EReal) :=
  fun r l hl => (blk4 m c t r l).trans (dv1_at h _ l hl)
theorem x5_of (t : Fin cfg0.N) : Holds (blocks m c t).x5 fun r l => x.dgb (1024 * t.val + r) l :=
  fun r l => (blk5 m c t r l).trans (dgb_at h _ l)
theorem x6_of (t : Fin cfg0.N) : Holds (blocks m c t).x6 fun r l => x.dy (1024 * t.val + r) l :=
  fun r l => (blk6 m c t r l).trans (dy_at h _ l)
theorem x7_of (t : Fin cfg0.N) : ∀ (q : Fin 16) l, (grid0.coords t 0).val ≠ 7 → (blocks m c t).x7 (ix2 q l) = (x.dy (1024 * t.val + (1024 + q.val)) l.val : EReal) :=
  fun q l ht => (blk7 m c t (fun e => ht ((coord t).trans e)) q l).trans (dy_at h _ l)
theorem last_of (t : Fin cfg0.N) : ∀ (q : Fin 16) (l : Fin 512), (grid0.coords t 0).val = 7 → x.dy (1024 * t.val + (1024 + q)) l = 0 :=
  fun q l ht => h.after _ _ (by have := (coord t).symm.trans ht; omega)
theorem x8_of (t : Fin cfg0.N) : Holds (blocks m c t).x8 fun r l => x.proj (1024 * t.val + r) (1280 + l) :=
  fun r l => (blk8 m c t r l).trans (gc_at h _ l)
theorem x9_of (t : Fin cfg0.N) : Holds (blocks m c t).x9 fun r l => x.proj (1024 * t.val + r) (1792 + l) :=
  fun r l => (blk9 m c t r l).trans (xin_at h _ l)
theorem x10_of (t : Fin cfg0.N) : Holds (blocks m c t).x10 fun j l => x.cw j l :=
  fun j l => (blk10 m c t j l).trans (taps_at h j l)
theorem x11_of (t : Fin cfg0.N) : Holds (blocks m c t).x11 fun r k => x.inp (1024 * t.val + r) k :=
  fun r k => (blk11 m c t r k).trans (inp_at h _ k)
theorem x12_of (t : Fin cfg0.N) : Holds (blocks m c t).x12 fun r k => x.dh (1024 * t.val + r) k :=
  fun r k => (blk12 m c t r k).trans (dh_at h _ k)
theorem x13_of (t : Fin cfg0.N) : Holds (blocks m c t).x13 fun _ k => x.g k :=
  fun z k => (blk13 m c t z k).trans (g_at h z k)
theorem x14_of (t : Fin cfg0.N) : ∀ (p : Fin 8) (q : Fin 288) k, (blocks m c t).x14 (ix3 p q k) = (x.w k (288 * p + q) : EReal) :=
  fun p q k => (blk14 m c t p q k).trans (w_at h p q k)
theorem x15_of (t : Fin cfg0.N) : Holds (blocks m c t).x15 fun r d => x.pieces (1024 * t.val + r) d :=
  fun r d => (blk15 m c t r d).trans (pieces_at h _ d)
omit h in
theorem whole16 {f : S48x384.Idx → EReal} (hf : ∀ i, V m c main_cst i = f i) (t : Fin cfg0.N) (i : S48x384.Idx) : iblk m c 16 t i = f i := by
  rw [eq_ix2 i]
  exact (blk16 m c t _ _).trans (hf _)
omit h in
theorem whole17 {f : S1x384.Idx → EReal} (hf : ∀ i, V m c main_cst_0 i = f i) (t : Fin cfg0.N) (i : S1x384.Idx) : iblk m c 17 t i = f i := by
  rw [eq_ix2 i]
  exact (blk17 m c t _ _).trans (hf _)

set_option maxHeartbeats 4000000 in
theorem blocks_of (t : Fin cfg0.N) : (blocks m c t).Of x (1024 * t) (grid0.coords t) where
  x0 := x0_of h t
  x1 := x1_of h t
  x2 := x2_of h t
  x3 := x3_of h t
  x4 := x4_of h t
  x5 := x5_of h t
  x6 := x6_of h t
  x7 := x7_of h t
  last := last_of h t
  x8 := x8_of h t
  x9 := x9_of h t
  x10 := x10_of h t
  x11 := x11_of h t
  x12 := x12_of h t
  x13 := x13_of h t
  x14 := x14_of h t
  x15 := x15_of h t
  x16 := whole16 (m := m) (c := c) (f := fun i => Ideal.ofBits .bf16 (lit0 (S48x384.rowMajor i))) spread_at t
  x17 := whole17 (m := m) (c := c) (f := fun i => Ideal.ofBits .f32 (lit1 (S1x384.rowMajor i))) base_at t

end

end Cert.Inp

end
-- ==== Proof.InpSums.lean ====
module

public import proofs.«01_k».proof.Proof.InpBlocks

@[expose] public section

/-! # What the in-projection's call leaves in its result arrays -/

noncomputable section

namespace Cert.Inp

open Idealize.ShloMosaic Idealize.ShloMosaic.TcCoe Idealize.SL.Sem Cert.Kernel4Ideal Cert.Kernel4Ideal.Gen Cert.Lift

theorem idxOut : ∀ t : Fin cfg0.N, (win0_18.index t 0 = t.val ∧ win0_18.index t 1 = 0) ∧ (win0_19.index t 0 = t.val ∧ win0_19.index t 1 = 0) :=
  (by decide +kernel : ∀ t : Fin grid0.N, _)

/-- The gain's gradient over the first `n` tiles. -/
def gainUpTo (x : In) (n : ℕ) (k : Fin 1024) : ℝ := ∑ r ∈ Finset.range (1024 * n), x.dg r k

theorem gain_add (x : In) (n : ℕ) (k : Fin 1024) : gainUpTo x (n + 1) k = gainUpTo x n k + ∑ r : Fin 1024, x.dg (1024 * n + r) k := by
  unfold gainUpTo
  rw [Nat.mul_succ, Finset.sum_range_add, Finset.sum_range (n := 1024)]

section

variable {x : In} {m : (ℓ : Loc nD τ sig) → Buf (Elt Ideal) ℓ} {c : Dev nD} (h : Holding x m c)
include h

set_option maxHeartbeats 2000000 in
theorem final18 : (dats m 0 c).arrAt 18 cfg0.N = fun i => (x.dproj (i 0).val (i 1).val : EReal) := by
  refine (dats m 0 c).arrAt_eq_of_covers 18 _ (by decide +kernel) fun t hf y => ?_
  rw [after_18]
  refine (Blocks.rows_at (blocks_of h t) y).trans ?_
  refine congrArg Real.toEReal (congrArg₂ x.dproj ?_ ?_)
  · refine Eq.symm ?_
    blk_simp [idxOut t]
    exact congrArg (· + _) (Nat.mul_comm _ _)
  · refine Eq.symm ?_
    blk_simp [idxOut t]

set_option maxHeartbeats 2000000 in
theorem final19 : (dats m 0 c).arrAt 19 cfg0.N = fun i => (x.dx (i 0).val (i 1) : EReal) := by
  refine (dats m 0 c).arrAt_eq_of_covers 19 _ (by decide +kernel) fun t hf y => ?_
  rw [after_19]
  refine (Blocks.gradX_at (blocks_of h t) y).trans ?_
  refine congrArg Real.toEReal (congrArg₂ x.dx ?_ (Fin.ext ?_))
  · refine Eq.symm ?_
    blk_simp [idxOut t]
    exact congrArg (· + _) (Nat.mul_comm _ _)
  · refine Eq.symm ?_
    blk_simp [idxOut t]

theorem gain_at (n : ℕ) (hn : n < 8) (z : Fin 1) (k : Fin 1024) : gainAfter m c n (ix2 z k) = (gainUpTo x (n + 1) k : EReal) := by
  have hp : ∀ n, n < 8 → (pt n).val = n := fun n hn => Nat.mod_eq_of_lt hn
  induction n with
  | zero =>
    refine (Blocks.gradGain_at (blocks_of h (pt 0)) (k0_pay3 (F := Ideal)) z k).trans ?_
    rw [show k0_pay3 (F := Ideal) (ix2 z k) = 0 from Ideal.ofBits_zero_f32, zero_add, gain_add, hp 0 hn]
    exact congrArg Real.toEReal (by simp [gainUpTo])
  | succ n ih =>
    refine (Blocks.gradGain_at (blocks_of h (pt (n + 1))) (gainAfter m c n) z k).trans ?_
    rw [ih (by omega), gain_add x (n + 1), hp (n + 1) hn, EReal.coe_add]

theorem final20 : (dats m 0 c).arrAt 20 cfg0.N = fun i => ((∑ n : Fin 8192, x.dg n (i 1) : ℝ) : EReal) := by
  refine (dats m 0 c).arrAt_eq_of_after_last 20 ⟨7, by decide⟩ (by decide +kernel) _ fun j => ?_
  rw [after_20]
  refine (congrArg (gainAfter m c 7) (eq_ix2 j)).trans ((gain_at h 7 (by decide) _ _).trans (congrArg Real.toEReal ?_))
  exact Finset.sum_range (n := 8192) fun n => x.dg n (j 1)

end

end Cert.Inp

end
-- ==== Proof.InpRef.lean ====
/-
  The reference's gradients of the in-projection, read element by element and found to be those of `InpSpec`.
-/
module

public import proofs.«01_k».proof.Proof.InpArgs
public import proofs.«01_k».proof.Proof.Gen.Reference4Ideal.Run
public import Idealize.ShloMosaic.Lib.Pointwise

@[expose] public section

noncomputable section

namespace Cert.Inp.Ref

open Idealize.ShloMosaic Idealize.ShloMosaic.TcCoe Idealize.SL.Sem Cert.Reference4Ideal Cert.Reference4Ideal.Gen Cert.Reference4Ideal.Value Cert.Lift

/-- The contents `V` of the reference's buffers hold the arguments `x`. -/
abbrev At (x : In) (V : Valuation τ sig (Elt Ideal)) : Prop :=
  Args x (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9))

theorem ofBits_1024 : Ideal.ofBits .f32 0x44800000#32 = ((1024 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_base : Ideal.ofBits .f32 0x48F42400#32 = ((500000 : ℝ) : EReal) := by
  simp [Ideal.ofBits, Ideal.ieee, -EReal.coe_mul]; norm_num
theorem div_1024 (x : ℝ) : Ideal.div (x : EReal) ((1024 : ℝ) : EReal) = ((x / 1024 : ℝ) : EReal) := div_real x (by norm_num)

variable {x : In} {V : Valuation τ sig (Elt Ideal)}

/-! ## The angles -/

theorem sitofp_at (k : ℕ) (hk : k < 2 ^ 30) : FloatOps.sitofp (F := Ideal) .f32 (BitVec.ofNat 32 k) = ((k : ℝ) : EReal) := by
  have e : (BitVec.ofNat 32 k).toInt = (k : ℤ) := by
    rw [BitVec.toInt_eq_toNat_cond, BitVec.toNat_ofNat]
    split_ifs <;> omega
  show (((BitVec.ofNat 32 k).toInt : ℝ) : EReal) = _
  rw [e, Int.cast_natCast]

theorem r15 (n : Fin 8192) (d : Fin 8) : res_main_v15 V (ix2 n d) = (angle n d : EReal) := by
  unfold res_main_v15
  pointwise
  rw [sitofp_at _ (by omega), sitofp_at _ (by omega), ofBits_base, ofBits_2, ofBits_16, ← EReal.coe_mul, ← EReal.coe_neg, div_real _ (by norm_num)]
  exact (EReal.coe_mul _ _).symm

variable (h : At x V) (n : Fin 8192)
include h

theorem r17 (z : Fin 1) (d : Fin 8) : res_main_v17 V (ix3 n z d) = (x.cs n d : EReal) := by
  unfold res_main_v17
  pointwise
  rw [r15, h.cs]; rfl

theorem r19 (z : Fin 1) (d : Fin 8) : res_main_v19 V (ix3 n z d) = (x.sn n d : EReal) := by
  unfold res_main_v19
  pointwise
  rw [r15, h.sn]; rfl

/-! ## Forward -/

theorem r27 (z : Fin 1) : res_main_v27 V (ix2 n z) = (meanSq (x.inp n) : EReal) := by
  unfold res_main_v27
  pointwise
  simp only [h.inp _ _, ofBits_1024, ofBits_eps, ← EReal.coe_mul, ← coe_sum, div_1024, ← EReal.coe_add]
  rfl

theorem r28 (z : Fin 1) : res_main_v28 V (ix2 n z) = (rms (x.inp n) : EReal) := by
  unfold res_main_v28
  pointwise
  rw [r27 h, rsqrt_real (meanSq_pos _)]; rfl

theorem r33 (k : Fin 1024) : res_main_v33 V (ix2 n k) = ((x.inp n k * rms (x.inp n) : ℝ) : EReal) := by
  unfold res_main_v33
  pointwise
  rw [h.inp, r28 h, ← EReal.coe_mul]

omit n in
theorem r34 (z : Fin 1) (k : Fin 1024) : res_main_v34 V (ix2 z k) = (x.g k : EReal) := by
  unfold res_main_v34
  pointwise
  exact h.g _ _

omit n in
theorem r37 (k : Fin 1024) (e : Fin 2304) : res_main_v37 V (ix2 k e) = (x.w k e : EReal) := by
  unfold res_main_v37
  pointwise
  exact h.w _ _ _

theorem r38 (e : Fin 2304) : res_main_v38 V (ix2 n e) = (x.proj n e : EReal) := by
  unfold res_main_v38
  pointwise
  simp only [r33 h, r34 h, r37 h, ← EReal.coe_mul, ← coe_sum]
  rfl

theorem r43 (l : Fin 512) : res_main_v43 V (ix2 n l) = (x.proj n (1280 + l) : EReal) := by
  unfold res_main_v43
  pointwise
  exact r38 h n _

theorem r44 (l : Fin 512) : res_main_v44 V (ix2 n l) = (x.proj n (1792 + l) : EReal) := by
  unfold res_main_v44
  pointwise
  exact r38 h n _

/-! ## The convolution -/

omit n in
theorem r87 (z : Fin 1) (l : Fin 512) : res_main_v87 V (ix2 z l) = (x.cw 0 l : EReal) := by
  unfold res_main_v87 res_main_v80
  pointwise
  exact h.cw _ _ _

omit n in
theorem r95 (z : Fin 1) (l : Fin 512) : res_main_v95 V (ix2 z l) = (x.cw 1 l : EReal) := by
  unfold res_main_v95 res_main_v80
  pointwise
  exact h.cw _ _ _

omit n in
theorem r102 (z : Fin 1) (l : Fin 512) : res_main_v102 V (ix2 z l) = (x.cw 2 l : EReal) := by
  unfold res_main_v102 res_main_v80
  pointwise
  exact h.cw _ _ _

theorem r120 (l : Fin 512) : res_main_v120 V (ix2 n l) = (x.du n l : EReal) := by
  have e1 : ¬2 + n.val < 8193 → x.dy (n + 1) l = 0 := fun hn => h.after _ _ (by omega)
  have e2 : ¬2 + n.val < 8192 → x.dy (n + 2) l = 0 := fun hn => h.after _ _ (by omega)
  unfold res_main_v120 res_main_v118 res_main_v106
  pointwise
  simp only [h.dy _ _, r102 h, r95 h, r87 h, ← EReal.coe_mul]
  unfold In.du
  split_ifs with h1 h2 h2
  · rw [← EReal.coe_add, ← EReal.coe_add]
    refine congrArg Real.toEReal ?_
    rw [show 2 + n.val - 1 = n + 1 by omega, Nat.add_comm 2 n.val]
    simp only [mul_comm]
  · rw [e2 fun hn => h2 (Fin.forall_fin_two.mpr ⟨⟨Nat.zero_le _, Nat.mod_one _, (Nat.div_one _).trans_lt hn⟩,
      ⟨Nat.zero_le _, Nat.mod_one _, (Nat.div_one _).trans_lt l.isLt⟩⟩), ← EReal.coe_add, ← EReal.coe_zero, ← EReal.coe_add]
    refine congrArg Real.toEReal ?_
    rw [show 2 + n.val - 1 = n + 1 by omega, mul_zero]
    simp only [mul_comm]
  · exact absurd (Fin.forall_fin_two.mp h2).1.2.2 (fun hn => h1 (Fin.forall_fin_two.mpr ⟨⟨by show 1 ≤ 2 + n.val; omega, Nat.mod_one _,
      by show (2 + n.val - 1) / (0 + 1) < 8192; have : (2 + n.val - 0) / (0 + 1) < 8192 := hn; omega⟩,
      ⟨Nat.zero_le _, Nat.mod_one _, (Nat.div_one _).trans_lt l.isLt⟩⟩))
  · rw [e2 fun hn => h2 (Fin.forall_fin_two.mpr ⟨⟨Nat.zero_le _, Nat.mod_one _, (Nat.div_one _).trans_lt hn⟩,
      ⟨Nat.zero_le _, Nat.mod_one _, (Nat.div_one _).trans_lt l.isLt⟩⟩),
      e1 fun hn => h1 (Fin.forall_fin_two.mpr ⟨⟨by show 1 ≤ 2 + n.val; omega, Nat.mod_one _, by show (2 + n.val - 1) / (0 + 1) < 8192; omega⟩,
      ⟨Nat.zero_le _, Nat.mod_one _, (Nat.div_one _).trans_lt l.isLt⟩⟩), ← EReal.coe_zero, ← EReal.coe_add, ← EReal.coe_add]
    refine congrArg Real.toEReal ?_
    rw [mul_zero, mul_zero, mul_comm]

/-! ## The projected row's gradient -/

theorem r145 (p : Fin 8) (d : Fin 64) : res_main_v145 V (ix3 n p d) = (x.dq n (p * 64 + d) : EReal) := by
  unfold res_main_v145
  pointwise
  exact h.dq _ _

theorem r149 (p : Fin 8) (d : Fin 8) : res_main_v149 V (ix3 n p d) = (x.dq n (p * 64 + d) : EReal) := by
  unfold res_main_v149 res_main_v146
  pointwise
  exact r145 h _ _ _

theorem r150 (p : Fin 8) (d : Fin 8) : res_main_v150 V (ix3 n p d) = (x.dq n (p * 64 + (8 + d)) : EReal) := by
  unfold res_main_v150 res_main_v146
  pointwise
  exact r145 h _ _ _

theorem r123 (p : Fin 2) (d : Fin 64) : res_main_v123 V (ix3 n p d) = (x.dk n (p * 64 + d) : EReal) := by
  unfold res_main_v123
  pointwise
  exact h.dk _ _

theorem r127 (p : Fin 2) (d : Fin 8) : res_main_v127 V (ix3 n p d) = (x.dk n (p * 64 + d) : EReal) := by
  unfold res_main_v127 res_main_v124
  pointwise
  exact r123 h _ _ _

theorem r128 (p : Fin 2) (d : Fin 8) : res_main_v128 V (ix3 n p d) = (x.dk n (p * 64 + (8 + d)) : EReal) := by
  unfold res_main_v128 res_main_v124
  pointwise
  exact r123 h _ _ _

omit h in
/-- A place of a head holds one of three padded pieces: past the sixteenth column, the second eight columns, the first. -/
theorem turn_of {P Q R : Prop} [Decidable P] [Decidable Q] [Decidable R] {A : P → EReal} {B : Q → EReal} {C : R → EReal} {u : ℕ → ℝ} {l : ℕ}
    (hP : P ↔ 16 ≤ l % 64) (hQ : Q ↔ 8 ≤ l % 64 ∧ l % 64 < 16) (hR : R ↔ l % 64 < 8) (hA : ∀ p, A p = (u l : EReal))
    (hB : ∀ q, 8 ≤ l % 64 → B q = ((u l * x.cs n (l % 64 - 8) + -u (l - 8) * x.sn n (l % 64 - 8) : ℝ) : EReal))
    (hC : ∀ r, l % 64 < 8 → C r = ((u (l + 8) * x.sn n (l % 64) + u l * x.cs n (l % 64) : ℝ) : EReal)) :
    ((if p : P then A p else 0) + (if q : Q then B q else 0)) + (if r : R then C r else 0) = (x.turn n u l : EReal) := by
  unfold In.turn
  by_cases h1 : l % 64 < 8
  · rw [dif_neg fun p => by have := hP.mp p; omega, dif_neg fun q => by have := hQ.mp q; omega, dif_pos (hR.mpr h1), hC _ h1, if_pos h1,
      zero_add, zero_add, add_comm]
  · rw [if_neg h1, dif_neg (c := R) fun r => h1 (hR.mp r)]
    by_cases h2 : l % 64 < 16
    · rw [dif_neg fun p => by have := hP.mp p; omega, dif_pos (hQ.mpr ⟨by omega, h2⟩), hB _ (by omega), if_pos h2, zero_add, add_zero, neg_mul, ← sub_eq_add_neg]
    · rw [dif_pos (hP.mpr (by omega)), dif_neg fun q => by have := hQ.mp q; omega, hA, if_neg h2, add_zero, add_zero]

omit h n in
theorem three {p : Fin 3 → Prop} (h0 : p 0) (h1 : p 1) (h2 : p 2) (a : Fin 3) : p a := by
  fin_cases a
  exacts [h0, h1, h2]

omit h n in
theorem second_of {a b c s : EReal} {p q y z : ℝ} (ha : a = p) (hb : b = q) (hc : c = y) (hs : s = z) :
    a * c + -b * s = ((p * y + -q * z : ℝ) : EReal) := by
  rw [ha, hb, hc, hs, ← EReal.coe_neg, ← EReal.coe_mul, ← EReal.coe_mul, ← EReal.coe_add]

omit h n in
theorem first_of {a b c s : EReal} {p q y z : ℝ} (ha : a = p) (hb : b = q) (hc : c = y) (hs : s = z) :
    a * s + b * c = ((p * z + q * y : ℝ) : EReal) := by
  rw [ha, hb, hc, hs, ← EReal.coe_mul, ← EReal.coe_mul, ← EReal.coe_add]

omit h n in
/-- A number at a place written in another way. -/
theorem moved {v : EReal} {u : ℕ → ℝ} {k : ℕ} (hv : v = (u k : EReal)) {l : ℕ} (hl : l = k) : v = (u l : EReal) := hl ▸ hv

set_option maxHeartbeats 2000000 in
theorem r167 (e : Fin 2304) : res_main_v167 V (ix2 n e) = (x.dproj n e : EReal) := by
  have hn := n.isLt
  unfold res_main_v167
  pointwise
  unfold In.dproj
  by_cases h0 : e.val < 512
  · refine (dif_pos (show e.val < 512 by omega)).trans (Eq.trans ?_ (congrArg Real.toEReal (if_pos h0)).symm)
    refine turn_of n (u := x.dq n) (l := e.val) (by omega) ⟨fun q => ?_, fun q => ?_⟩ ⟨fun q => ?_, fun q => ?_⟩ (fun p => ?_) (fun q hl => ?_) (fun r hl => ?_)
    · have : 8 ≤ e.val % 64 ∧ (e.val % 64 - 8) % (0 + 1) = 0 ∧ (e.val % 64 - 8) / (0 + 1) < 8 := q 2
      omega
    · exact three (show 0 ≤ n.val ∧ (n.val - 0) % (0 + 1) = 0 ∧ (n.val - 0) / (0 + 1) < 8192 by omega)
        (show 0 ≤ e.val / 64 ∧ (e.val / 64 - 0) % (0 + 1) = 0 ∧ (e.val / 64 - 0) / (0 + 1) < 8 by omega)
        (show 8 ≤ e.val % 64 ∧ (e.val % 64 - 8) % (0 + 1) = 0 ∧ (e.val % 64 - 8) / (0 + 1) < 8 by omega)
    · have : 0 ≤ e.val % 64 ∧ (e.val % 64 - 0) % (0 + 1) = 0 ∧ (e.val % 64 - 0) / (0 + 1) < 8 := q 2
      omega
    · exact three (show 0 ≤ n.val ∧ (n.val - 0) % (0 + 1) = 0 ∧ (n.val - 0) / (0 + 1) < 8192 by omega)
        (show 0 ≤ e.val / 64 ∧ (e.val / 64 - 0) % (0 + 1) = 0 ∧ (e.val / 64 - 0) / (0 + 1) < 8 by omega)
        (show 0 ≤ e.val % 64 ∧ (e.val % 64 - 0) % (0 + 1) = 0 ∧ (e.val % 64 - 0) / (0 + 1) < 8 by omega)
    · exact moved (r145 h n _ _) (by show e.val = e.val / 64 * 64 + (16 + (e.val % 64 - 16)); omega)
    · exact second_of (moved (r150 h n _ _) (by show e.val = e.val / 64 * 64 + (8 + (e.val % 64 - 8)); omega))
        (moved (r149 h n _ _) (by show e.val - 8 = e.val / 64 * 64 + (e.val % 64 - 8); omega)) (r17 h n _ _) (r19 h n _ _)
    · exact first_of (moved (r150 h n _ _) (by show e.val + 8 = e.val / 64 * 64 + (8 + e.val % 64); omega))
        (moved (r149 h n _ _) (by show e.val = e.val / 64 * 64 + e.val % 64; omega)) (r17 h n _ _) (r19 h n _ _)
  refine (dif_neg (show ¬e.val < 512 by omega)).trans (Eq.trans ?_ (congrArg Real.toEReal (if_neg h0)).symm)
  by_cases h1 : e.val < 640
  · refine (dif_pos (show e.val - 512 < 128 by omega)).trans (Eq.trans ?_ (congrArg Real.toEReal (if_pos h1)).symm)
    refine turn_of n (u := x.dk n) (l := e.val - 512) (by omega) ⟨fun q => ?_, fun q => ?_⟩ ⟨fun q => ?_, fun q => ?_⟩ (fun p => ?_) (fun q hl => ?_) (fun r hl => ?_)
    · have : 8 ≤ (e.val - 512) % 64 ∧ ((e.val - 512) % 64 - 8) % (0 + 1) = 0 ∧ ((e.val - 512) % 64 - 8) / (0 + 1) < 8 := q 2
      omega
    · exact three (show 0 ≤ n.val ∧ (n.val - 0) % (0 + 1) = 0 ∧ (n.val - 0) / (0 + 1) < 8192 by omega)
        (show 0 ≤ (e.val - 512) / 64 ∧ ((e.val - 512) / 64 - 0) % (0 + 1) = 0 ∧ ((e.val - 512) / 64 - 0) / (0 + 1) < 2 by omega)
        (show 8 ≤ (e.val - 512) % 64 ∧ ((e.val - 512) % 64 - 8) % (0 + 1) = 0 ∧ ((e.val - 512) % 64 - 8) / (0 + 1) < 8 by omega)
    · have : 0 ≤ (e.val - 512) % 64 ∧ ((e.val - 512) % 64 - 0) % (0 + 1) = 0 ∧ ((e.val - 512) % 64 - 0) / (0 + 1) < 8 := q 2
      omega
    · exact three (show 0 ≤ n.val ∧ (n.val - 0) % (0 + 1) = 0 ∧ (n.val - 0) / (0 + 1) < 8192 by omega)
        (show 0 ≤ (e.val - 512) / 64 ∧ ((e.val - 512) / 64 - 0) % (0 + 1) = 0 ∧ ((e.val - 512) / 64 - 0) / (0 + 1) < 2 by omega)
        (show 0 ≤ (e.val - 512) % 64 ∧ ((e.val - 512) % 64 - 0) % (0 + 1) = 0 ∧ ((e.val - 512) % 64 - 0) / (0 + 1) < 8 by omega)
    · exact moved (r123 h n _ _) (by show (e.val - 512) = (e.val - 512) / 64 * 64 + (16 + ((e.val - 512) % 64 - 16)); omega)
    · exact second_of (moved (r128 h n _ _) (by show (e.val - 512) = (e.val - 512) / 64 * 64 + (8 + ((e.val - 512) % 64 - 8)); omega))
        (moved (r127 h n _ _) (by show (e.val - 512) - 8 = (e.val - 512) / 64 * 64 + ((e.val - 512) % 64 - 8); omega)) (r17 h n _ _) (r19 h n _ _)
    · exact first_of (moved (r128 h n _ _) (by show (e.val - 512) + 8 = (e.val - 512) / 64 * 64 + (8 + (e.val - 512) % 64); omega))
        (moved (r127 h n _ _) (by show (e.val - 512) = (e.val - 512) / 64 * 64 + (e.val - 512) % 64; omega)) (r17 h n _ _) (r19 h n _ _)
  refine (dif_neg (show ¬e.val - 512 < 128 by omega)).trans (Eq.trans ?_ (congrArg Real.toEReal (if_neg h1)).symm)
  by_cases h2 : e.val < 768
  · refine (dif_pos (show e.val - 512 - 128 < 128 by omega)).trans (Eq.trans ?_ (congrArg Real.toEReal (if_pos h2)).symm)
    rw [h.dv]
    exact congrArg (fun l => (x.dv n l : EReal)) (by show e.val - 512 - 128 = e.val - 640; omega)
  refine (dif_neg (show ¬e.val - 512 - 128 < 128 by omega)).trans (Eq.trans ?_ (congrArg Real.toEReal (if_neg h2)).symm)
  by_cases h3 : e.val < 1280
  · refine (dif_pos (show e.val - 512 - 128 - 128 < 512 by omega)).trans (Eq.trans ?_ (congrArg Real.toEReal (if_pos h3)).symm)
    rw [h.dgb]
    exact congrArg (fun l => (x.dgb n l : EReal)) (by show e.val - 512 - 128 - 128 = e.val - 768; omega)
  refine (dif_neg (show ¬e.val - 512 - 128 - 128 < 512 by omega)).trans (Eq.trans ?_ (congrArg Real.toEReal (if_neg h3)).symm)
  by_cases h4 : e.val < 1792
  · refine (dif_pos (show e.val - 512 - 128 - 128 - 512 < 512 by omega)).trans (Eq.trans ?_ (congrArg Real.toEReal (if_pos h4)).symm)
    rw [r120 h, r44 h, ← EReal.coe_mul]
    exact congrArg Real.toEReal (congrArg₂ (fun a b => x.du n a * x.proj n b) (by show e.val - 512 - 128 - 128 - 512 = e.val - 1280; omega)
      (by show 1792 + (e.val - 512 - 128 - 128 - 512) = e.val + 512; omega))
  refine (dif_neg (show ¬e.val - 512 - 128 - 128 - 512 < 512 by omega)).trans (Eq.trans ?_ (congrArg Real.toEReal (if_neg h4)).symm)
  rw [r120 h, r43 h, ← EReal.coe_mul, mul_comm]
  exact congrArg Real.toEReal (congrArg₂ (fun a b => x.du n a * x.proj n b) (by show e.val - 512 - 128 - 128 - 512 - 512 = e.val - 1792; omega)
    (by show 1280 + (e.val - 512 - 128 - 128 - 512 - 512) = e.val - 512; omega))

theorem r168 (k : Fin 1024) : res_main_v168 V (ix2 n k) = (x.dhn n k : EReal) := by
  unfold res_main_v168
  pointwise
  simp only [r167 h, r37 h, ← EReal.coe_mul, ← coe_sum]
  rfl

theorem r173 (k : Fin 1024) : res_main_v173 V (ix2 n k) = ((x.dhn n k * x.g k : ℝ) : EReal) := by
  unfold res_main_v173
  pointwise
  rw [r168 h, r34 h, ← EReal.coe_mul]

omit h n in
theorem ofBits_neg_half : Ideal.ofBits .f32 0xBF000000#32 = ((-(1 / 2) : ℝ) : EReal) := by
  simp [Ideal.ofBits, Ideal.ieee, -EReal.coe_mul]; norm_num

theorem r184 (k : Fin 1024) : res_main_v184 V (ix2 n k) = (slope (x.inp n) (fun m => x.dhn n m * x.g m) : EReal) := by
  unfold res_main_v184
  pointwise
  simp only [h.inp _ _, r173 h _ _, r28 h _ _, r27 h _ _, ofBits_1024, ofBits_neg_half, div_real _ (meanSq_pos _).ne', ← EReal.coe_mul, ← coe_sum, div_1024,
    Finset.univ_unique, Finset.sum_singleton]
  rfl

/-! ## The results -/

omit h n in
/-- Matrices agree that do so at each place. -/
theorem ext2 {α : Type} {a b : ℕ} {f g : (⟨2, ![a, b]⟩ : Shape).Idx → α} (h : ∀ i j, f (ix2 i j) = g (ix2 i j)) : f = g :=
  funext fun i => eq_ix2 i ▸ h (i 0) (i 1)

omit n in
theorem gradProj : (truncf .bf16 (res_main_v167 V) bitsLt_bf16_f32 : FVec Ideal S8192x2304 .bf16)
    = fun i : S8192x2304.Idx => (x.dproj (i 0).val (i 1).val : EReal) :=
  ext2 fun n e => by
    pointwise
    exact r167 h n e

omit n in
theorem gradX : (addf (V (Proc.devRef .tc main_arg5)) (addf (addf (mulf (res_main_v173 V) (broadcastInDim S8192x1024 ![0, 1] bcast_S8192x1_S8192x1024_0_1 (res_main_v28 V))) (mulf (V (Proc.devRef .tc main_arg6)) (res_main_v184 V))) (mulf (res_main_v184 V) (V (Proc.devRef .tc main_arg6)))) : FVec Ideal S8192x1024 .f32)
    = fun i : S8192x1024.Idx => (x.dx (i 0).val (i 1) : EReal) :=
  ext2 fun n k => by
    pointwise
    rw [h.dh, r173 h, r28 h, h.inp, r184 h]
    simp only [← EReal.coe_mul, ← EReal.coe_add]
    rw [add_assoc]
    exact congrArg Real.toEReal (congrArg (x.dh n k + ·) (normBwd_chain (x.inp n) (fun m => x.dhn n m * x.g m) k))

omit n in
set_option maxRecDepth 8192 in
theorem gradGain : (broadcastInDim S1x1024 ![1] bcast_S1024_S1x1024_1 (Host.reduceAdd (shapeCast _ (Host.reduceAdd (mulf (res_main_v33 V) (res_main_v168 V)) (constant S_ .f32 0x00000000#32) reducesTo_S8192x1024_S1024_d0 h_S_) shapeCasts_S1024_S1x1024) (constant S_ .f32 0x00000000#32) reducesTo_S1x1024_S1024_d0 h_S_) : FVec Ideal S1x1024 .f32)
    = fun i : S1x1024.Idx => ((∑ n : Fin 8192, x.dg n (i 1) : ℝ) : EReal) :=
  ext2 fun z k => by
    pointwise
    simp only [r33 h _ _, r168 h _ _, ← EReal.coe_mul, ← coe_sum, Finset.univ_unique, Finset.sum_singleton]
    exact congrArg Real.toEReal (Finset.sum_congr rfl fun n _ => mul_comm _ _)

end Cert.Inp.Ref

end
-- ==== Proof.InpClaim.lean ====
/-
  The in-projection's call and the reference's gradients give the same results, from the same finite arguments.
-/
module

public import proofs.«01_k».proof.Defs
public import proofs.«01_k».proof.Proof.InpSums
public import proofs.«01_k».proof.Proof.InpRef
public import proofs.«01_k».proof.Proof.Gen.Kernel4
public import proofs.«01_k».proof.Proof.Gen.Pre_finite_inp
public import Idealize.ShloMosaic.Lib.Claim
public import Idealize.ShloMosaic.Lib.Quiescent

@[expose] public section

noncomputable section

namespace Cert.Inp

open Idealize.ShloMosaic Idealize.ShloMosaic.TcCoe Idealize.ShloMosaic.StableHlo Idealize.SL.Sem Cert.Lift

/-- What the finite arguments are in the memory. -/
def ofMem (m : (ℓ : Loc Kernel4Ideal.nD Kernel4Ideal.τ Kernel4Ideal.sig) → Buf (Elt Ideal) ℓ) (c : Dev Kernel4Ideal.nD) : In :=
  ofArrays (m (c.tc.loc Kernel4Ideal.main_arg0)) (m (c.tc.loc Kernel4Ideal.main_arg1)) (m (c.tc.loc Kernel4Ideal.main_arg2))
    (m (c.tc.loc Kernel4Ideal.main_arg3)) (m (c.tc.loc Kernel4Ideal.main_arg4)) (m (c.tc.loc Kernel4Ideal.main_arg5))
    (m (c.tc.loc Kernel4Ideal.main_arg6)) (m (c.tc.loc Kernel4Ideal.main_arg7)) (m (c.tc.loc Kernel4Ideal.main_arg8))
    (m (c.tc.loc Kernel4Ideal.main_arg9))

theorem holding_of_pre {m : (ℓ : Loc Kernel4Ideal.nD Kernel4Ideal.τ Kernel4Ideal.sig) → Buf (Elt Ideal) ℓ}
    (h : Pre_Kernel4Ideal_finite_inp m) (c : Dev Kernel4Ideal.nD) : Holding (ofMem m c) m c := by
  obtain ⟨h0, h1, h2, h3, h4, h5, h6, h7, h8, h9⟩ := h c
  exact args_of (finite_of_olt h0) (finite_of_olt h1) (finite_of_olt h2) (finite_of_olt h3) (finite_of_olt h4) (finite_of_olt h5)
    (finite_of_olt h6) (finite_of_olt h7) (finite_of_olt h8) (finite_of_olt h9)

/-- The reference's memory holds what the kernel's does. -/
theorem at_of_holding {x : In} {m : (ℓ : Loc Kernel4Ideal.nD Kernel4Ideal.τ Kernel4Ideal.sig) → Buf (Elt Ideal) ℓ}
    {m' : (ℓ : Loc Reference4Ideal.nD Reference4Ideal.τ Reference4Ideal.sig) → Buf (Elt Ideal) ℓ} {c : Dev Kernel4Ideal.nD} (h : Holding x m c)
    (e0 : m' (c.tc.loc Reference4Ideal.main_arg0) = m (c.tc.loc Kernel4Ideal.main_arg0))
    (e1 : m' (c.tc.loc Reference4Ideal.main_arg1) = m (c.tc.loc Kernel4Ideal.main_arg1))
    (e2 : m' (c.tc.loc Reference4Ideal.main_arg2) = m (c.tc.loc Kernel4Ideal.main_arg2))
    (e3 : m' (c.tc.loc Reference4Ideal.main_arg3) = m (c.tc.loc Kernel4Ideal.main_arg3))
    (e4 : m' (c.tc.loc Reference4Ideal.main_arg4) = m (c.tc.loc Kernel4Ideal.main_arg4))
    (e5 : m' (c.tc.loc Reference4Ideal.main_arg5) = m (c.tc.loc Kernel4Ideal.main_arg5))
    (e6 : m' (c.tc.loc Reference4Ideal.main_arg6) = m (c.tc.loc Kernel4Ideal.main_arg6))
    (e7 : m' (c.tc.loc Reference4Ideal.main_arg7) = m (c.tc.loc Kernel4Ideal.main_arg7))
    (e8 : m' (c.tc.loc Reference4Ideal.main_arg8) = m (c.tc.loc Kernel4Ideal.main_arg8))
    (e9 : m' (c.tc.loc Reference4Ideal.main_arg9) = m (c.tc.loc Kernel4Ideal.main_arg9)) : Ref.At x (launchContents m' c) where
  dq n l := (congrFun e0 _).trans (h.dq n l)
  dk n l := (congrFun e1 _).trans (h.dk n l)
  dv n l := (congrFun e2 _).trans (h.dv n l)
  dgb n l := (congrFun e3 _).trans (h.dgb n l)
  dy n l := (congrFun e4 _).trans (h.dy n l)
  dh n k := (congrFun e5 _).trans (h.dh n k)
  inp n k := (congrFun e6 _).trans (h.inp n k)
  g z k := (congrFun e7 _).trans (h.g z k)
  w z k e := (congrFun e8 _).trans (h.w z k e)
  cw z j l := (congrFun e9 _).trans (h.cw z j l)
  after := h.after
  cs := h.cs
  sn := h.sn

/-- The frame of the program with no rule applied, over the floats' bits. -/
def Quiet : Prop :=
  ∀ (m : (ℓ : Loc Kernel4Ideal.nD Kernel4Ideal.τ Kernel4Ideal.sig) → Buf (Elt Bits) ℓ) (g : Dev Kernel4Ideal.nD → PrngReg), True →
    θ_run (Kernel4Ideal.defs (F := Bits)) (onTc (τ := Kernel4Ideal.τ) (Kernel4Ideal.main (F := Bits))) ⟨m, fun _ => 0, g⟩ (fun r => (∀ c : Dev Kernel4Ideal.nD,
      r.2.mem ((c.tc : Thread Kernel4Ideal.nD Kernel4Ideal.τ).loc Kernel4Ideal.main_arg0) = m ((c.tc : Thread Kernel4Ideal.nD Kernel4Ideal.τ).loc Kernel4Ideal.main_arg0)
      ∧ r.2.mem ((c.tc : Thread Kernel4Ideal.nD Kernel4Ideal.τ).loc Kernel4Ideal.main_arg1) = m ((c.tc : Thread Kernel4Ideal.nD Kernel4Ideal.τ).loc Kernel4Ideal.main_arg1)
      ∧ r.2.mem ((c.tc : Thread Kernel4Ideal.nD Kernel4Ideal.τ).loc Kernel4Ideal.main_arg2) = m ((c.tc : Thread Kernel4Ideal.nD Kernel4Ideal.τ).loc Kernel4Ideal.main_arg2)
      ∧ r.2.mem ((c.tc : Thread Kernel4Ideal.nD Kernel4Ideal.τ).loc Kernel4Ideal.main_arg3) = m ((c.tc : Thread Kernel4Ideal.nD Kernel4Ideal.τ).loc Kernel4Ideal.main_arg3)
      ∧ r.2.mem ((c.tc : Thread Kernel4Ideal.nD Kernel4Ideal.τ).loc Kernel4Ideal.main_arg4) = m ((c.tc : Thread Kernel4Ideal.nD Kernel4Ideal.τ).loc Kernel4Ideal.main_arg4)
      ∧ r.2.mem ((c.tc : Thread Kernel4Ideal.nD Kernel4Ideal.τ).loc Kernel4Ideal.main_arg5) = m ((c.tc : Thread Kernel4Ideal.nD Kernel4Ideal.τ).loc Kernel4Ideal.main_arg5)
      ∧ r.2.mem ((c.tc : Thread Kernel4Ideal.nD Kernel4Ideal.τ).loc Kernel4Ideal.main_arg6) = m ((c.tc : Thread Kernel4Ideal.nD Kernel4Ideal.τ).loc Kernel4Ideal.main_arg6)
      ∧ r.2.mem ((c.tc : Thread Kernel4Ideal.nD Kernel4Ideal.τ).loc Kernel4Ideal.main_arg7) = m ((c.tc : Thread Kernel4Ideal.nD Kernel4Ideal.τ).loc Kernel4Ideal.main_arg7)
      ∧ r.2.mem ((c.tc : Thread Kernel4Ideal.nD Kernel4Ideal.τ).loc Kernel4Ideal.main_arg8) = m ((c.tc : Thread Kernel4Ideal.nD Kernel4Ideal.τ).loc Kernel4Ideal.main_arg8)
      ∧ r.2.mem ((c.tc : Thread Kernel4Ideal.nD Kernel4Ideal.τ).loc Kernel4Ideal.main_arg9) = m ((c.tc : Thread Kernel4Ideal.nD Kernel4Ideal.τ).loc Kernel4Ideal.main_arg9))
      ∧ r.2.sem = fun _ => 0)

/-- The two programs have the same text. -/
theorem quiet_eq : Quiet = quiescent_Kernel4 := by sl_kernel_rfl

theorem frame_kernel4 : quiescent_Kernel4 := Eq.mp quiet_eq fun m g _ => frame_kernelIdeal m g

theorem frame_kernel4Ideal : quiescent_Kernel4Ideal := fun m g _ => frame_kernelIdeal m g

theorem frame_kernel4Ideal_finite : quiescent_Kernel4Ideal_pre_finite_inp := fun m g _ => frame_kernelIdeal m g

theorem frame_reference4Ideal : quiescent_Reference4Ideal := fun m g _ =>
  (θ_run Reference4Ideal.defs _ _).mono
    (fun r h => ⟨fun c => (h c).2.2.2, sem_eq_zero_of_no_sems (by decide) r.2⟩) (Reference4Ideal.Value.run m g)

theorem frame_reference4Ideal_finite : quiescent_Reference4Ideal_pre_finite_inp := fun m g _ => frame_reference4Ideal m g trivial

/-! ## The results, as arrays -/

def dProj (x : In) : FVec Ideal Kernel4Ideal.S8192x2304 .bf16 := fun i => (x.dproj (i 0).val (i 1).val : EReal)
def dInput (x : In) : FVec Ideal Kernel4Ideal.S8192x1024 .f32 := fun i => (x.dx (i 0).val (i 1) : EReal)
def dGain (x : In) : FVec Ideal Kernel4Ideal.S1x1024 .f32 := fun i => ((∑ n : Fin 8192, x.dg n (i 1) : ℝ) : EReal)

section

open Kernel4Ideal Kernel4Ideal.Gen

variable {x : In} {m : (ℓ : Loc nD τ sig) → Buf (Elt Ideal) ℓ} {c : Dev nD} (hx : Holding x m c) {r : PUnit × MemSt nD τ sig (Elt Ideal)}
  (h : Pipeline.FramePost cfgs (dats m) 0 (V m) r)
include hx h

theorem left_proj : r.2.mem ((c.tc : Thread nD τ).loc main_v66_0) = dProj x := by
  have e : r.2.mem ((c.tc : Thread nD τ).loc main_v66_0) = (dats m 0 c).arrAt 18 cfg0.N := (h c).1 18
  exact e.trans (final18 hx)
theorem left_input : r.2.mem ((c.tc : Thread nD τ).loc main_v66_1) = dInput x := by
  have e : r.2.mem ((c.tc : Thread nD τ).loc main_v66_1) = (dats m 0 c).arrAt 19 cfg0.N := (h c).1 19
  exact e.trans (final19 hx)
theorem left_gain : r.2.mem ((c.tc : Thread nD τ).loc main_v66_2) = dGain x := by
  have e : r.2.mem ((c.tc : Thread nD τ).loc main_v66_2) = (dats m 0 c).arrAt 20 cfg0.N := (h c).1 20
  exact e.trans (final20 hx)

end

theorem algebraic : algebraic_Kernel4Ideal_Reference4Ideal_pre_finite_inp := by
  intro m g m' g' hp he
  have ha := holding_of_pre hp
  refine ⟨fun c => dProj (ofMem m c), fun c => dInput (ofMem m c), fun c => dGain (ofMem m c), ?_, ?_⟩
  · refine (θ_run Kernel4Ideal.defs _ _).mono (fun r h c => ?_) (θ_run_and (run_arrays m g) (frame_kernelIdeal m g))
    exact ⟨left_proj (ha c) h.1, left_input (ha c) h.1, left_gain (ha c) h.1, h.2.1 c⟩
  refine (θ_run Reference4Ideal.defs _ _).mono (fun r h c => ?_) (Reference4Ideal.Value.run m' g')
  obtain ⟨e0, e1, e2, e3, e4, e5, e6, e7, e8, e9⟩ := he c
  obtain ⟨h0, h1, h2, hk⟩ := h c
  have ht := at_of_holding (ha c) e0 e1 e2 e3 e4 e5 e6 e7 e8 e9
  exact ⟨h0.trans (Ref.gradProj ht), h1.trans (Ref.gradX ht), h2.trans (Ref.gradGain ht), hk⟩

end Cert.Inp

end
-- ==== Proof.MixFwdPay.lean ====
/-
  The mixer's forward call: what it computes, as functions of the extended reals, and what its body computes of one tile of
  1024 rows.
-/
module

public import proofs.«01_k».proof.Proof.Gen.Kernel5Ideal.Skeleton
public import Idealize.ShloMosaic.Lib.Pointwise

@[expose] public section

noncomputable section

namespace Cert.MixFwd

open Idealize.ShloMosaic Cert.Kernel5Ideal Cert.Kernel5Ideal.Gen

/-- A sequence moved down by `k` rows, zeros before its first row. -/
def shift (U : ℕ → Fin 512 → EReal) (k n : ℕ) (l : Fin 512) : EReal := if n < k then 0 else U (n - k) l

/-- The convolution of a sequence with three rows of weights. -/
def conv (U : ℕ → Fin 512 → EReal) (w : Fin 3 → Fin 512 → EReal) (n : ℕ) (l : Fin 512) : EReal :=
  w 0 l * shift U 2 n l + w 1 l * shift U 1 n l + w 2 l * U n l

/-- A row divided by its root mean square and scaled. -/
def norm (v g : Fin 512 → EReal) (l : Fin 512) : EReal :=
  v l * Ideal.rsqrt (Ideal.div (∑ m, v m * v m) (Ideal.ofBits .f32 0x44000000#32) + Ideal.ofBits .f32 0x358637BD#32) * g l

/-- The arguments, by row. -/
structure In where
  attn : ℕ → Fin 512 → EReal
  gb : ℕ → Fin 512 → EReal
  gc : ℕ → Fin 512 → EReal
  xin : ℕ → Fin 512 → EReal
  w : Fin 3 → Fin 512 → EReal
  ga : Fin 512 → EReal
  gcn : Fin 512 → EReal
  wo : Fin 1024 → Fin 1024 → EReal

namespace In

variable (x : In)

/-- What the convolution is taken of. -/
def u (n : ℕ) (l : Fin 512) : EReal := x.gc n l * x.xin n l

/-- The gated convolution. -/
def z (n : ℕ) (l : Fin 512) : EReal := x.gb n l * conv x.u x.w n l

/-- The two normed halves, side by side. -/
def mixed (n : ℕ) (e : Fin 1024) : EReal :=
  if h : e.val < 512 then norm (x.attn n) x.ga ⟨e, h⟩ else norm (x.z n) x.gcn ⟨e - 512, by omega⟩

/-- The mixed activations. -/
def mix (n : ℕ) (k : Fin 1024) : EReal := ∑ e, x.mixed n e * x.wo e k

end In

/-- Set at the first point only. -/
def first (i : grid0.Coords) : BitVec 1 := Scalar.cmpi CmpIPredicate.eq (BitVec.ofNat 32 (i 0).val) 0#32

/-- The tile at row `b` of the sequence `U`, a product of two arrays of which the call reads the tile and, unless it is the
    first tile, the sixteen rows before it. -/
structure Tile (U : ℕ → Fin 512 → EReal) (b : ℕ) (c : BitVec 1) (v1 v3 : Vec Ideal S1024x512 .bf16) (v5 v7 : Vec Ideal S16x512 .bf16) : Prop where
  own : ∀ (r : Fin 1024) (l : Fin 512), v1 (ix2 r l) * v3 (ix2 r l) = U (b + r) l
  first : c = 1#1 → b = 0
  before : c ≠ 1#1 → 16 ≤ b ∧ ∀ (i : Fin 16) (l : Fin 512), v5 (ix2 i l) * v7 (ix2 i l) = U (b - 16 + i) l

variable {U : ℕ → Fin 512 → EReal} {b : ℕ} {c : BitVec 1} {v1 v3 : Vec Ideal S1024x512 .bf16} {v5 v7 : Vec Ideal S16x512 .bf16}

/-- Row `n` of the tile with the sixteen rows before it. -/
theorem row_at (h : Tile U b c v1 v3 v5 v7) (n k : ℕ) (r : Fin 1024) (l : Fin 512) (hk : k ≤ 16) (hn : n + k = 16 + r.val) :
    (if h : n < 16 then Scalar.select c 0 (v5 (ix2 ⟨n, h⟩ l) * v7 (ix2 ⟨n, h⟩ l))
      else v1 (ix2 ⟨n - 16, by omega⟩ l) * v3 (ix2 ⟨n - 16, by omega⟩ l)) = shift U k (b + r) l := by
  unfold shift
  split
  · rename_i hlt
    by_cases hc : c = 1#1
    · rw [if_pos (by have := h.first hc; omega), hc]
      rfl
    · obtain ⟨hb, h'⟩ := h.before hc
      rw [if_neg (by omega), ValueIdx.eq_zero_of_ne_one hc]
      refine (h' ⟨n, hlt⟩ l).trans (congrArg (fun j => U j l) ?_)
      dsimp only
      omega
  · rw [if_neg (by omega)]
    refine (h.own ⟨n - 16, by omega⟩ l).trans (congrArg (fun j => U j l) ?_)
    dsimp only
    omega

theorem pay1 {i : grid0.Coords} {v35 : Vec Ideal S1024x512 .bf16} {v9 : Vec Ideal S3x512 .f32} (h : Tile U b (first i) v1 v3 v5 v7)
    (r : Fin 1024) (l : Fin 512) :
    k0_pay1 (F := Ideal) i v1 v3 v5 v7 v9 v35 (ix2 r l) = v35 (ix2 r l) * conv U (fun j l => v9 (ix2 j l)) (b + r) l := by
  unfold k0_pay1
  pointwise
  rw [h.own]
  unfold conv
  rw [← row_at h ((16 + r.val + 1040 - 2) % 1040) 2 r l (by omega) (by omega),
    ← row_at h ((16 + r.val + 1040 - 1) % 1040) 1 r l (by omega) (by omega)]
  rfl

theorem pay3 (v39 : Vec Ideal S1024x512 .bf16) (v52 : Vec Ideal S1x512 .f32) (r : Fin 1024) (l : Fin 512) :
    k0_pay3 (F := Ideal) (k0_pay2 v39) v52 (ix2 r l) = norm (fun l => v39 (ix2 r l)) (fun l => v52 (ix2 (0 : Fin 1) l)) l := by
  unfold k0_pay3 k0_pay2
  pointwise
  rfl

theorem pay4 (v38 : FVec Ideal S1024x512 .f32) (v67 : Vec Ideal S1x512 .f32) (r : Fin 1024) (l : Fin 512) :
    k0_pay4 (F := Ideal) v38 v67 (ix2 r l) = norm (fun l => v38 (ix2 r l)) (fun l => v67 (ix2 (0 : Fin 1) l)) l := by
  unfold k0_pay4
  pointwise
  rfl

theorem pay5 (v72 : Vec Ideal S1024x1024 .bf16) (v74 : Vec Ideal S8x128x1024 .bf16) (r k : Fin 1024) :
    k0_pay5 (F := Ideal) v72 v74 (ix2 r k) = ∑ e : Fin 1024, v72 (ix2 r e) * v74 (ix3 ⟨e / 128, by omega⟩ ⟨e % 128, by omega⟩ k) := by
  unfold k0_pay5
  pointwise

end Cert.MixFwd

end
-- ==== Proof.MixFwdOut.lean ====
/-
  What the mixer's forward call leaves in its result arrays: the normed halves and the mixed activations, by row.
-/
module

public import proofs.«01_k».proof.Proof.MixFwdPay
public import proofs.«01_k».proof.Proof.Gen.Kernel5Ideal.Frame
public import Idealize.ShloMosaic.Lib.Pipeline.Value
public import Idealize.ShloMosaic.Lib.Pipeline.ValueKit.Point
public import Idealize.ShloMosaic.Lib.Pipeline.ReadBack

@[expose] public section

noncomputable section

namespace Cert.MixFwd

open Idealize.ShloMosaic Idealize.ShloMosaic.TcCoe Idealize.SL.Sem Cert.Kernel5Ideal Cert.Kernel5Ideal.Gen

/-- The memory's arguments are the arrays `x`. -/
structure Args (x : In) (m : (ℓ : Loc nD τ sig) → Buf (Elt Ideal) ℓ) (c : Dev nD) : Prop where
  attn : ∀ (n : Fin 8192) (l : Fin 512), m (c.tc.loc main_arg0) (ix2 n l) = x.attn n l
  gb : ∀ (n : Fin 8192) (l : Fin 512), m (c.tc.loc main_arg1) (ix2 n l) = x.gb n l
  gc : ∀ (n : Fin 8192) (l : Fin 512), m (c.tc.loc main_arg2) (ix2 n l) = x.gc n l
  xin : ∀ (n : Fin 8192) (l : Fin 512), m (c.tc.loc main_arg3) (ix2 n l) = x.xin n l
  w : ∀ (z : Fin 1) (j : Fin 3) (l : Fin 512), m (c.tc.loc main_arg4) (ix3 z j l) = x.w j l
  ga : ∀ (z : Fin 1) (l : Fin 512), m (c.tc.loc main_arg5) (ix2 z l) = x.ga l
  gcn : ∀ (z : Fin 1) (l : Fin 512), m (c.tc.loc main_arg6) (ix2 z l) = x.gcn l
  wo : ∀ (z : Fin 1) (e k : Fin 1024), m (c.tc.loc main_arg7) (ix3 z e k) = x.wo e k

theorem idxRow : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem idxHalo : ∀ t : Fin cfg0.N, (win0_4.index t 0 = 64 * t.val - 1 ∧ win0_4.index t 1 = 0)
    ∧ (win0_5.index t 0 = 64 * t.val - 1 ∧ win0_5.index t 1 = 0) :=
  (by decide +kernel : ∀ t : Fin grid0.N, _)

theorem idxWhole : ∀ t : Fin cfg0.N, (∀ a, win0_6.index t a = 0) ∧ (∀ a, win0_7.index t a = 0) ∧ (∀ a, win0_8.index t a = 0)
    ∧ (∀ a, win0_9.index t a = 0) :=
  (by decide +kernel : ∀ t : Fin grid0.N, _)

theorem idxOut : ∀ t : Fin cfg0.N, (win0_10.index t 0 = t.val ∧ win0_10.index t 1 = 0) ∧ (win0_11.index t 0 = t.val ∧ win0_11.index t 1 = 0) :=
  (by decide +kernel : ∀ t : Fin grid0.N, _)

theorem point_lt (t : Fin cfg0.N) : t.val < 8 := lt_of_lt_of_eq t.isLt Gen.N_0

theorem first_iff : ∀ t : Fin cfg0.N, first (grid0.coords t) = 1#1 ↔ t.val = 0 := (by decide +kernel : ∀ t : Fin grid0.N, _)

section Blocks

variable {x : In} {m : (ℓ : Loc nD τ sig) → Buf (Elt Ideal) ℓ} {c : Dev nD} (h : Args x m c) (t : Fin cfg0.N)

include h

theorem blk0 (r : Fin 1024) (l : Fin 512) : iblk m c 0 t (ix2 r l) = x.attn (1024 * t + r) l := by
  have := point_lt t
  rw [← h.attn ⟨1024 * t + r, by omega⟩ l]
  blk_ext! [iblk, V, idxRow t]

theorem blk1 (r : Fin 1024) (l : Fin 512) : iblk m c 1 t (ix2 r l) = x.gb (1024 * t + r) l := by
  have := point_lt t
  rw [← h.gb ⟨1024 * t + r, by omega⟩ l]
  blk_ext! [iblk, V, idxRow t]

theorem blk2 (r : Fin 1024) (l : Fin 512) : iblk m c 2 t (ix2 r l) = x.gc (1024 * t + r) l := by
  have := point_lt t
  rw [← h.gc ⟨1024 * t + r, by omega⟩ l]
  blk_ext! [iblk, V, idxRow t]

theorem blk3 (r : Fin 1024) (l : Fin 512) : iblk m c 3 t (ix2 r l) = x.xin (1024 * t + r) l := by
  have := point_lt t
  rw [← h.xin ⟨1024 * t + r, by omega⟩ l]
  blk_ext! [iblk, V, idxRow t]

theorem blk4 (h0 : t.val ≠ 0) (r : Fin 16) (l : Fin 512) : iblk m c 4 t (ix2 r l) = x.gc (1024 * t - 16 + r) l := by
  have := point_lt t
  rw [← h.gc ⟨1024 * t - 16 + r, by omega⟩ l]
  blk_ext! [iblk, V, idxHalo t]

theorem blk5 (h0 : t.val ≠ 0) (r : Fin 16) (l : Fin 512) : iblk m c 5 t (ix2 r l) = x.xin (1024 * t - 16 + r) l := by
  have := point_lt t
  rw [← h.xin ⟨1024 * t - 16 + r, by omega⟩ l]
  blk_ext! [iblk, V, idxHalo t]

theorem blk6 (j : Fin 3) (l : Fin 512) : iblk m c 6 t (ix2 j l) = x.w j l := by
  rw [← h.w 0 j l]
  blk_ext! [iblk, V, idxWhole t]

theorem blk7 (z : Fin 1) (l : Fin 512) : iblk m c 7 t (ix2 z l) = x.ga l := by
  rw [← h.ga z l]
  blk_ext! [iblk, V, idxWhole t]

theorem blk8 (z : Fin 1) (l : Fin 512) : iblk m c 8 t (ix2 z l) = x.gcn l := by
  rw [← h.gcn z l]
  blk_ext! [iblk, V, idxWhole t]

theorem blk9 (p : Fin 8) (q : Fin 128) (k : Fin 1024) : iblk m c 9 t (ix3 p q k) = x.wo ⟨128 * p + q, by omega⟩ k := by
  rw [← h.wo 0 ⟨128 * p + q, by omega⟩ k]
  blk_ext! [iblk, V, idxWhole t]

/-- The tile of the convolution's input at a point. -/
theorem tile : Tile x.u (1024 * t) (first (grid0.coords t)) (iblk m c 2 t) (iblk m c 3 t) (iblk m c 4 t) (iblk m c 5 t) where
  own r l := by rw [blk2 h t r l, blk3 h t r l]; rfl
  first h1 := by rw [(first_iff t).mp h1]
  before h1 := by
    have h0 : t.val ≠ 0 := fun h0 => h1 ((first_iff t).mpr h0)
    refine ⟨by omega, fun i l => ?_⟩
    rw [blk4 h t h0 i l, blk5 h t h0 i l]
    rfl

end Blocks

section Terms

variable (m : (ℓ : Loc nD τ sig) → Buf (Elt Ideal) ℓ) (c : Dev nD) (t : Fin cfg0.N)

/-- The two halves that the body stores. -/
abbrev left : FVec Ideal S1024x512 .bf16 := k0_pay3 (F := Ideal) (k0_pay2 (iblk m c 0 t)) (iblk m c 7 t)
abbrev right : FVec Ideal S1024x512 .bf16 := k0_pay4 (F := Ideal)
  (k0_pay1 (grid0.coords t) (iblk m c 2 t) (iblk m c 3 t) (iblk m c 4 t) (iblk m c 5 t) (iblk m c 6 t) (iblk m c 1 t)) (iblk m c 8 t)

/-- The tile that holds them. -/
def both : Vec Ideal S1024x1024 .bf16 :=
  View.canon (Val := Elt Ideal) (e := .bf16) [⟨Rect.unit ![0, 512] ![1024, 512] inb_S1024x1024_S1024x512_0_512, right m c t⟩,
    ⟨Rect.unit ![0, 0] ![1024, 512] inb_S1024x1024_S1024x512_0_0, left m c t⟩]

/-- A load of the whole tile. -/
theorem read_all {sig : RefSig} {κ : Kind} {sp : Space} (v : View sig κ sp S1024x1024 .bf16) (L : List (View.Piece (Elt Ideal) S1024x1024 .bf16)) (inb) :
    v.readCov L (Rect.unit (s := S1024x1024) ![0, 0] ![1024, 1024] inb).toLoadRect = View.canon L := by
  rw [View.readCov_eq_canon']
  funext y
  refine congrArg (View.canon L) (funext fun a => Fin.ext ?_)
  fin_cases a
  · show 0 + 1 * (y 0).val = (y 0).val
    omega
  · show 0 + 1 * (y 1).val = (y 1).val
    omega

theorem outs11 : (outsAt0 m c t).2 = both m c t := by
  unfold outsAt0 both
  frame_out

theorem outs10 : (outsAt0 m c t).1 = k0_pay5 (F := Ideal) (both m c t) (iblk m c 9 t) := by
  unfold outsAt0 both
  frame_out
  exact congrArg (fun X => k0_pay5 (F := Ideal) X (iblk m c 9 t)) (read_all _ _ _)

end Terms

/-- What a store leaves in its columns of a tile. -/
theorem at_cols {X : S1024x512.Idx → EReal} {f : Fin 1024 → Fin 1024 → EReal} {k : ℕ} (hk : k + 512 ≤ 1024)
    (hX : ∀ (r : Fin 1024) (l : Fin 512), X (ix2 r l) = f r ⟨k + l, by omega⟩) (inb) (y : S1024x512.Idx) :
    X y = (fun i : S1024x1024.Idx => f (i 0) (i 1)) ((Rect.unit (s := S1024x1024) ![0, k] ![1024, 512] inb).emb y) := by
  refine (congrArg X (eq_ix2 y)).trans ((hX _ _).trans (congrArg₂ f (Fin.ext ?_) (Fin.ext ?_)))
  · show (y 0).val = 0 + 1 * (y 0).val
    omega
  · show k + (y 1).val = k + 1 * (y 1).val
    omega

section Results

variable {x : In} {m : (ℓ : Loc nD τ sig) → Buf (Elt Ideal) ℓ} {c : Dev nD} (h : Args x m c)

include h

theorem left_at (t : Fin cfg0.N) (r : Fin 1024) (l : Fin 512) : left m c t (ix2 r l) = x.mixed (1024 * t + r) ⟨0 + l, by omega⟩ := by
  refine (pay3 _ _ r l).trans (Eq.trans ?_ (dif_pos (show 0 + l.val < 512 by omega)).symm)
  simp only [blk0 h t, blk7 h t, Nat.zero_add]

theorem right_at (t : Fin cfg0.N) (r : Fin 1024) (l : Fin 512) : right m c t (ix2 r l) = x.mixed (1024 * t + r) ⟨512 + l, by omega⟩ := by
  refine (pay4 _ _ r l).trans (Eq.trans ?_ (dif_neg (show ¬ 512 + l.val < 512 by omega)).symm)
  simp only [pay1 (tile h t), blk1 h t, blk6 h t, blk8 h t, Nat.add_sub_cancel_left]
  rfl

theorem both_at (t : Fin cfg0.N) (y : S1024x1024.Idx) : both m c t y = x.mixed (1024 * t + (y 0).val) (y 1) :=
  View.canon_append_of_piecesOf (Val := Elt Ideal) (e := .bf16) (fun i : S1024x1024.Idx => x.mixed (1024 * t + (i 0).val) (i 1)) [] [_, _]
    ⟨at_cols (f := fun r e => x.mixed (1024 * t + r) e) (by omega) (right_at h t) inb_S1024x1024_S1024x512_0_512,
      at_cols (f := fun r e => x.mixed (1024 * t + r) e) (by omega) (left_at h t) inb_S1024x1024_S1024x512_0_0, trivial⟩ y
    (View.cover_of_tiled_head _ _ _ rfl y)

theorem mix_at (t : Fin cfg0.N) (y : S1024x1024.Idx) :
    k0_pay5 (F := Ideal) (both m c t) (iblk m c 9 t) y = x.mix (1024 * t + (y 0).val) (y 1) := by
  refine (congrArg _ (eq_ix2 y)).trans ((pay5 _ _ (y 0) (y 1)).trans (Finset.sum_congr rfl fun e _ => congrArg₂ (· * ·) (both_at h t _) ?_))
  refine (blk9 h t _ _ _).trans (congrArg (fun e => x.wo e (y 1)) (Fin.ext ?_))
  exact Nat.div_add_mod e.val 128

omit h in
/-- An entry of a tile of rows, at the place of its index in the array. -/
theorem at_row {X : S1024x1024.Idx → EReal} {f : ℕ → Fin 1024 → EReal} {b : ℕ} (hX : ∀ y, X y = f (1024 * b + (y 0).val) (y 1)) (y : S1024x1024.Idx)
    (i : S8192x1024.Idx) (h0 : (i 0).val = b * 1024 + (y 0).val) (h1 : (i 1).val = (y 1).val) : X y = f (i 0).val (i 1) := by
  rw [hX, h0, Nat.mul_comm b]
  exact congrArg (f _) (Fin.ext h1).symm

theorem final10 : (dats m 0 c).arrAt 10 cfg0.N = fun i => x.mix (i 0).val (i 1) := by
  refine (dats m 0 c).arrAt_eq_of_covers 10 _ (by decide +kernel) fun t hf y => ?_
  rw [after0_10, outs10]
  have key := mix_at h t
  generalize k0_pay5 (F := Ideal) (both m c t) (iblk m c 9 t) = X at key ⊢
  exact at_row key y _ (by blk_simp [idxOut t]) (by blk_simp [idxOut t])

theorem final11 : (dats m 0 c).arrAt 11 cfg0.N = fun i => x.mixed (i 0).val (i 1) := by
  refine (dats m 0 c).arrAt_eq_of_covers 11 _ (by decide +kernel) fun t hf y => ?_
  rw [after0_11, outs11]
  have key := both_at h t
  generalize both m c t = X at key ⊢
  exact at_row key y _ (by blk_simp [idxOut t]) (by blk_simp [idxOut t])

end Results

end Cert.MixFwd

end
-- ==== Proof.MixFwdRef.lean ====
/-
  The reference's forward pass of the mixer, read element by element.
-/
module

public import proofs.«01_k».proof.Proof.MixFwdPay
public import proofs.«01_k».proof.Proof.Gen.Reference5Ideal.Run

@[expose] public section

noncomputable section

namespace Cert.MixFwd.Ref

open Idealize.ShloMosaic Idealize.ShloMosaic.TcCoe Idealize.SL.Sem Cert.Reference5Ideal Cert.Reference5Ideal.Gen Cert.Reference5Ideal.Value

/-- The terms of the reference's results: a matrix whose rows are normed, … -/
def normed (A : FVec Ideal S8192x512 .f32) (g : FVec Ideal S1x512 .f32) : FVec Ideal S8192x512 .f32 :=
  mulf (mulf A (broadcastInDim S8192x512 ![0, 1] bcast_S8192x1_S8192x512_0_1 (Host.rsqrt (addf (Host.divf (broadcastInDim S8192x1 ![0]
    bcast_S8192_S8192x1_0 (Host.reduceAdd (mulf A A) (constant S_ .f32 0x00000000#32) reducesTo_S8192x512_S8192_d1 h_S_))
    (broadcastInDim S8192x1 ![] bcast_S_S8192x1 (constant S_ .f32 0x44000000#32)))
    (broadcastInDim S8192x1 ![] bcast_S_S8192x1 (constant S_ .f32 0x358637BD#32))))))
    (broadcastInDim S8192x512 ![0, 1] bcast_S1x512_S8192x512_0_1 (broadcastInDim S1x512 ![1] bcast_S512_S1x512_1 (shapeCast _ g shapeCasts_S1x512_S512)))

/-- … a matrix after two rows of zeros, … -/
def padded (A : FVec Ideal S8192x512 .f32) : FVec Ideal S8194x512 .f32 :=
  concatenate S8194x512 0 [⟨S2x512, (broadcastInDim S2x512 ![] bcast_S_S2x512 (constant S_ .f32 0x00000000#32))⟩, ⟨S8192x512, A⟩]
    concatenates_S2x512_S8192x512_S8194x512_d0

/-- … a row of the weights at every row, … -/
def spread (k : Fin 2 → ℕ) (hs : S3x512.Slices k S1x512) (W : FVec Ideal S1x3x512 .f32) : FVec Ideal S8192x512 .f32 :=
  broadcastInDim S8192x512 ![0, 1] bcast_S1x512_S8192x512_0_1 (broadcastInDim S1x512 ![1] bcast_S512_S1x512_1
    (shapeCast _ (extractStridedSlice S1x512 k (shapeCast S3x512 W shapeCasts_S1x3x512_S3x512) hs) shapeCasts_S1x512_S512))

/-- … and the convolution of a padded matrix. -/
def conved (P : FVec Ideal S8194x512 .f32) (w0 w1 w2 : FVec Ideal S8192x512 .f32) : FVec Ideal S8192x512 .f32 :=
  addf (addf (addf (broadcastInDim S8192x512 ![] bcast_S_S8192x512 (constant S_ .f32 0x00000000#32))
    (mulf (extractStridedSlice S8192x512 ![0, 0] P slices_S8194x512_S8192x512_0_0) w0))
    (mulf (extractStridedSlice S8192x512 ![1, 0] P slices_S8194x512_S8192x512_1_0) w1))
    (mulf (extractStridedSlice S8192x512 ![2, 0] P slices_S8194x512_S8192x512_2_0) w2)

/-- Two matrices side by side. -/
def beside (A B : FVec Ideal S8192x512 .f32) : FVec Ideal S8192x1024 .f32 :=
  concatenate S8192x1024 1 [⟨S8192x512, A⟩, ⟨S8192x512, B⟩] concatenates_S8192x512_S8192x512_S8192x1024_d1

/-- The product of a matrix with the weights. -/
def times (A : FVec Ideal S8192x1024 .f32) (W : FVec Ideal S1x1024x1024 .f32) : FVec Ideal S8192x1024 .f32 :=
  Host.dotGeneral dot_S8192x1024_S1024x1024_S8192x1024_1_0_0_1_n_n none A
    ((shapeCast S1024x1024 W shapeCasts_S1x1024x1024_S1024x1024 : FVec Ideal S1024x1024 .f32))

section Terms

variable (A B : FVec Ideal S8192x512 .f32)

theorem normed_at (g : FVec Ideal S1x512 .f32) (n : Fin 8192) (l : Fin 512) :
    normed A g (ix2 n l) = norm (fun l => A (ix2 n l)) (fun l => g (ix2 (0 : Fin 1) l)) l := by
  unfold normed
  pointwise
  rfl

theorem padded_at (n : Fin 8194) (k : ℕ) (r : Fin 8192) (l : Fin 512) (hk : k ≤ 2) (hn : n.val + k = 2 + r.val) (U : ℕ → Fin 512 → EReal)
    (hA : ∀ (n : Fin 8192) (l : Fin 512), A (ix2 n l) = U n l) : padded A (ix2 n l) = shift U k r l := by
  unfold padded
  pointwise
  unfold shift
  split
  · exact (if_pos (by omega)).symm
  · exact (hA ⟨n - 2, by omega⟩ l).trans (Eq.trans (congrArg (fun j => U j l) (show n.val - 2 = r.val - k by omega)) (if_neg (by omega)).symm)

theorem spread0 (W : FVec Ideal S1x3x512 .f32) (n : Fin 8192) (l : Fin 512) :
    spread ![0, 0] slices_S3x512_S1x512_0_0 W (ix2 n l) = W (ix3 (0 : Fin 1) (0 : Fin 3) l) := by
  unfold spread
  pointwise

theorem spread1 (W : FVec Ideal S1x3x512 .f32) (n : Fin 8192) (l : Fin 512) :
    spread ![1, 0] slices_S3x512_S1x512_1_0 W (ix2 n l) = W (ix3 (0 : Fin 1) (1 : Fin 3) l) := by
  unfold spread
  pointwise

theorem spread2 (W : FVec Ideal S1x3x512 .f32) (n : Fin 8192) (l : Fin 512) :
    spread ![2, 0] slices_S3x512_S1x512_2_0 W (ix2 n l) = W (ix3 (0 : Fin 1) (2 : Fin 3) l) := by
  unfold spread
  pointwise

theorem conved_at (w0 w1 w2 : FVec Ideal S8192x512 .f32) (n : Fin 8192) (l : Fin 512) (U : ℕ → Fin 512 → EReal) (w : Fin 3 → Fin 512 → EReal)
    (hA : ∀ (n : Fin 8192) (l : Fin 512), A (ix2 n l) = U n l) (h0 : w0 (ix2 n l) = w 0 l) (h1 : w1 (ix2 n l) = w 1 l) (h2 : w2 (ix2 n l) = w 2 l) :
    conved (padded A) w0 w1 w2 (ix2 n l) = conv U w n l := by
  unfold conved
  pointwise
  rw [h0, h1, h2, padded_at A _ 2 n l (by omega) (by dsimp only; omega) U hA, padded_at A _ 1 n l (by omega) (by dsimp only; omega) U hA,
    padded_at A _ 0 n l (by omega) (by dsimp only; omega) U hA]
  unfold conv
  rw [show shift U 0 n l = U n l from if_neg (by omega)]
  simp only [mul_comm, zero_add]

theorem beside_at (n : Fin 8192) (e : Fin 1024) :
    beside A B (ix2 n e) = if h : e.val < 512 then A (ix2 n ⟨e, h⟩) else B (ix2 n ⟨e - 512, by omega⟩) := by
  unfold beside
  pointwise

theorem times_at (A : FVec Ideal S8192x1024 .f32) (W : FVec Ideal S1x1024x1024 .f32) (n : Fin 8192) (k : Fin 1024) :
    times A W (ix2 n k) = ∑ e : Fin 1024, A (ix2 n e) * W (ix3 (0 : Fin 1) e k) := by
  unfold times
  pointwise

end Terms

/-- The memory's arguments are the arrays `x`. -/
structure At (x : In) (m : (ℓ : Loc nD τ sig) → Buf (Elt Ideal) ℓ) (c : Dev nD) : Prop where
  attn : ∀ (n : Fin 8192) (l : Fin 512), m (c.tc.loc main_arg0) (ix2 n l) = x.attn n l
  gb : ∀ (n : Fin 8192) (l : Fin 512), m (c.tc.loc main_arg1) (ix2 n l) = x.gb n l
  gc : ∀ (n : Fin 8192) (l : Fin 512), m (c.tc.loc main_arg2) (ix2 n l) = x.gc n l
  xin : ∀ (n : Fin 8192) (l : Fin 512), m (c.tc.loc main_arg3) (ix2 n l) = x.xin n l
  w : ∀ (z : Fin 1) (j : Fin 3) (l : Fin 512), m (c.tc.loc main_arg4) (ix3 z j l) = x.w j l
  ga : ∀ (z : Fin 1) (l : Fin 512), m (c.tc.loc main_arg5) (ix2 z l) = x.ga l
  gcn : ∀ (z : Fin 1) (l : Fin 512), m (c.tc.loc main_arg6) (ix2 z l) = x.gcn l
  wo : ∀ (z : Fin 1) (e k : Fin 1024), m (c.tc.loc main_arg7) (ix3 z e k) = x.wo e k

variable {x : In} {m : (ℓ : Loc nD τ sig) → Buf (Elt Ideal) ℓ} {c : Dev nD} (h : At x m c)

include h

/-- The two normed halves, as the reference has them. -/
def cat (m : (ℓ : Loc nD τ sig) → Buf (Elt Ideal) ℓ) (c : Dev nD) : FVec Ideal S8192x1024 .f32 :=
  beside (normed (m (c.tc.loc main_arg0)) (m (c.tc.loc main_arg5)))
    (normed (mulf (m (c.tc.loc main_arg1)) (conved (padded (mulf (m (c.tc.loc main_arg2)) (m (c.tc.loc main_arg3))))
      (spread ![0, 0] slices_S3x512_S1x512_0_0 (m (c.tc.loc main_arg4))) (spread ![1, 0] slices_S3x512_S1x512_1_0 (m (c.tc.loc main_arg4)))
      (spread ![2, 0] slices_S3x512_S1x512_2_0 (m (c.tc.loc main_arg4))))) (m (c.tc.loc main_arg6)))

omit h in
theorem out1_eq : res_main_v59 m c = truncf .bf16 (cat m c) bitsLt_bf16_f32 := rfl

omit h in
theorem out0_eq : res_main_v58 m c = truncf .bf16 (times (cat m c) (m (c.tc.loc main_arg7))) bitsLt_bf16_f32 := rfl

theorem cat_at (n : Fin 8192) (e : Fin 1024) : cat m c (ix2 n e) = x.mixed n e := by
  refine (beside_at _ _ n e).trans ?_
  unfold In.mixed
  split
  · refine (normed_at _ _ n _).trans ?_
    simp only [h.attn n _, h.ga 0 _]
  · refine (normed_at _ _ n _).trans ?_
    refine congrArg₂ (fun v g => norm v g _) (funext fun l => ?_) (funext fun l => h.gcn 0 l)
    refine congrArg₂ (· * ·) (h.gb n l) (conved_at _ _ _ _ n l x.u x.w (fun n l => congrArg₂ (· * ·) (h.gc n l) (h.xin n l)) ?_ ?_ ?_)
    · exact (spread0 _ n l).trans (h.w 0 0 l)
    · exact (spread1 _ n l).trans (h.w 0 1 l)
    · exact (spread2 _ n l).trans (h.w 0 2 l)

theorem mixed : res_main_v59 m c = fun i : S8192x1024.Idx => x.mixed (i 0).val (i 1) := by
  funext i
  rw [out1_eq, eq_ix2 i]
  exact cat_at h _ _

theorem mix : res_main_v58 m c = fun i : S8192x1024.Idx => x.mix (i 0).val (i 1) := by
  funext i
  obtain ⟨n, k, rfl⟩ : ∃ (n : Fin 8192) (k : Fin 1024), i = ix2 n k := ⟨_, _, eq_ix2 i⟩
  rw [out0_eq]
  exact (times_at _ _ n k).trans (Finset.sum_congr rfl fun e _ => congrArg₂ (· * ·) (cat_at h n e) (h.wo 0 e k))

end Cert.MixFwd.Ref

end
-- ==== Proof.MixFwdClaim.lean ====
/-
  The mixer's forward call and the reference's pass give the same results, from the same arguments.
-/
module

public import proofs.«01_k».proof.Defs
public import proofs.«01_k».proof.Proof.MixFwdOut
public import proofs.«01_k».proof.Proof.MixFwdRef
public import proofs.«01_k».proof.Proof.Gen.Kernel5.Frame
public import proofs.«01_k».proof.Proof.Gen.Kernel5Ideal.Value
public import Idealize.ShloMosaic.Lib.Claim
public import Idealize.ShloMosaic.Lib.Quiescent

@[expose] public section

noncomputable section

namespace Cert.MixFwd

open Idealize.ShloMosaic Idealize.ShloMosaic.TcCoe Idealize.SL.Sem

/-- The rows of a matrix, zeros after its last. -/
def rowsOf (A : (⟨2, ![8192, 512]⟩ : Shape).Idx → EReal) (n : ℕ) (l : Fin 512) : EReal := if h : n < 8192 then A (ix2 ⟨n, h⟩ l) else 0

theorem eq_rowsOf (A : (⟨2, ![8192, 512]⟩ : Shape).Idx → EReal) (n : Fin 8192) (l : Fin 512) : A (ix2 n l) = rowsOf A n l := by
  unfold rowsOf
  rw [dif_pos n.isLt]

/-- What the arguments are in the memory. -/
def ofMem (m : (ℓ : Loc Kernel5Ideal.nD Kernel5Ideal.τ Kernel5Ideal.sig) → Buf (Elt Ideal) ℓ) (c : Dev Kernel5Ideal.nD) : In where
  attn := rowsOf (m (c.tc.loc Kernel5Ideal.main_arg0))
  gb := rowsOf (m (c.tc.loc Kernel5Ideal.main_arg1))
  gc := rowsOf (m (c.tc.loc Kernel5Ideal.main_arg2))
  xin := rowsOf (m (c.tc.loc Kernel5Ideal.main_arg3))
  w j l := m (c.tc.loc Kernel5Ideal.main_arg4) (ix3 (0 : Fin 1) j l)
  ga l := m (c.tc.loc Kernel5Ideal.main_arg5) (ix2 (0 : Fin 1) l)
  gcn l := m (c.tc.loc Kernel5Ideal.main_arg6) (ix2 (0 : Fin 1) l)
  wo e k := m (c.tc.loc Kernel5Ideal.main_arg7) (ix3 (0 : Fin 1) e k)

theorem args (m : (ℓ : Loc Kernel5Ideal.nD Kernel5Ideal.τ Kernel5Ideal.sig) → Buf (Elt Ideal) ℓ) (c : Dev Kernel5Ideal.nD) : Args (ofMem m c) m c := by
  constructor
  · exact eq_rowsOf _
  · exact eq_rowsOf _
  · exact eq_rowsOf _
  · exact eq_rowsOf _
  all_goals intro z; obtain rfl := Subsingleton.elim z 0
  · exact fun j l => rfl
  · exact fun l => rfl
  · exact fun l => rfl
  · exact fun e k => rfl

theorem frame_kernel5 : quiescent_Kernel5 := fun m g _ => Kernel5.Gen.frame m g

theorem frame_kernel5Ideal : quiescent_Kernel5Ideal := fun m g _ => Kernel5Ideal.Gen.frame m g

theorem frame_reference5Ideal : quiescent_Reference5Ideal := fun m g _ =>
  (θ_run Reference5Ideal.defs _ _).mono
    (fun r h => ⟨fun c => (h c).2.2, sem_eq_zero_of_no_sems (by decide) r.2⟩) (Reference5Ideal.Value.run m g)

theorem algebraic : algebraic_Kernel5Ideal_Reference5Ideal := by
  intro m g m' g' _ he
  refine ⟨_, _, Kernel5Ideal.Value.run_blocks m g, (θ_run Reference5Ideal.defs _ _).mono (fun r h c => ?_) (Reference5Ideal.Value.run m' g')⟩
  obtain ⟨e0, e1, e2, e3, e4, e5, e6, e7⟩ := he c
  obtain ⟨h0, h1, hk⟩ := h c
  have ha := args m c
  have ht : Ref.At (ofMem m c) m' c :=
    ⟨fun n l => (congrFun e0 _).trans (ha.attn n l), fun n l => (congrFun e1 _).trans (ha.gb n l), fun n l => (congrFun e2 _).trans (ha.gc n l),
      fun n l => (congrFun e3 _).trans (ha.xin n l), fun z j l => (congrFun e4 _).trans (ha.w z j l), fun z l => (congrFun e5 _).trans (ha.ga z l),
      fun z l => (congrFun e6 _).trans (ha.gcn z l), fun z e k => (congrFun e7 _).trans (ha.wo z e k)⟩
  exact ⟨h0.trans ((Ref.mix ht).trans (final10 ha).symm), h1.trans ((Ref.mixed ht).trans (final11 ha).symm), hk⟩

end Cert.MixFwd

end
-- ==== Proof.lean ====
/-
  The proof of `Cert.Claim`, assembled: the frame of each program and, for each of the layer's gradient calls and the
  mixer's forward call, the equality of its results with the reference's.
-/
module

public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2.Skeleton
public import proofs.«01_k».proof.Proof.Gen.Kernel2.Launch
public import proofs.«01_k».proof.Proof.Gen.Kernel2.Frame
public import proofs.«01_k».proof.Proof.Gen.Reference2Ideal.Run
public import proofs.«01_k».proof.Proof.Gen.Pre_finite_attn
public import proofs.«01_k».proof.Defs
public import proofs.«01_k».proof.Proof.Gen.Kernel.Frame
public import proofs.«01_k».proof.Proof.MixClaim
public import proofs.«01_k».proof.Proof.AttnClaim
public import proofs.«01_k».proof.Proof.MlpClaim
public import proofs.«01_k».proof.Proof.InpClaim
public import proofs.«01_k».proof.Proof.MixFwdClaim

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_mix.Gen.facts, Cert.Pre_finite_attn.Gen.facts, Cert.Pre_finite_mlp.Gen.facts, Cert.Pre_finite_inp.Gen.facts,
    fun m g _ => Cert.Kernel.Gen.frame m g,
    Cert.Mix.frame_kernelIdeal, Cert.Mix.frame_kernelIdeal_finite,
    Cert.Mix.frame_referenceIdeal, Cert.Mix.frame_referenceIdeal_finite,
    Cert.Attn.frame_kernel2, Cert.Attn.frame_kernel2Ideal, Cert.Attn.frame_kernel2Ideal_finite,
    Cert.Attn.frame_reference2Ideal, Cert.Attn.frame_reference2Ideal_finite,
    Cert.Mlp.frame_kernel3, Cert.Mlp.frame_kernel3Ideal, Cert.Mlp.frame_kernel3Ideal_finite,
    Cert.Mlp.frame_reference3Ideal, Cert.Mlp.frame_reference3Ideal_finite,
    Cert.Inp.frame_kernel4, Cert.Inp.frame_kernel4Ideal, Cert.Inp.frame_kernel4Ideal_finite,
    Cert.Inp.frame_reference4Ideal, Cert.Inp.frame_reference4Ideal_finite,
    Cert.MixFwd.frame_kernel5, Cert.MixFwd.frame_kernel5Ideal, Cert.MixFwd.frame_reference5Ideal,
    trivial, Cert.Mix.algebraic, Cert.Attn.preserves, Cert.Attn.algebraic, trivial, Cert.Mlp.algebraic,
    trivial, Cert.Inp.algebraic, trivial, Cert.MixFwd.algebraic⟩

end Cert.Proof

end
